-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_u [hPre_finite_u : Cert.Pre_finite_u.Facts] (m : (ℓ : Loc Cert.KernelIdeal.nD Cert.KernelIdeal.τ Cert.KernelIdeal.sig) → Buf (Elt Ideal) ℓ) : Prop :=
  ∀ c : Dev Cert.KernelIdeal.nD,
    (Cert.Pre_finite_u.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_u [hPre_finite_u : Cert.Pre_finite_u.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_u.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_u [hKernelIdeal : Cert.KernelIdeal.Facts] [hPre_finite_u : Cert.Pre_finite_u.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_u m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_u [hReferenceIdeal : Cert.ReferenceIdeal.Facts] [hPre_finite_u : Cert.Pre_finite_u.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_u m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal_pre_finite_u [hKernelIdeal : Cert.KernelIdeal.Facts] [hReferenceIdeal : Cert.ReferenceIdeal.Facts] [hPre_finite_u : Cert.Pre_finite_u.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_u m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v8)) (v3 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v8) = v2 c
          ∧ r.2.mem ((c.tc : Thread Cert.Kernel2Ideal.nD Cert.Kernel2Ideal.τ).loc Cert.Kernel2Ideal.main_v10) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v6) = v1 c
          ∧ r.2.mem ((c.tc : Thread Cert.Reference2Ideal.nD Cert.Reference2Ideal.τ).loc Cert.Reference2Ideal.main_v12) = v2 c
          ∧ r.2.mem ((c.tc : Thread Cert.Reference2Ideal.nD Cert.Reference2Ideal.τ).loc Cert.Reference2Ideal.main_v14) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v11) = v1 c
          ∧ r.2.mem ((c.tc : Thread Cert.Reference4Ideal.nD Cert.Reference4Ideal.τ).loc Cert.Reference4Ideal.main_v12) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_v15) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_v13) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_v9) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v20) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_u : Cert.Pre_finite_u.Facts),
    quiescent_Kernel (hKernel := hKernel)
    ∧ quiescent_KernelIdeal (hKernelIdeal := hKernelIdeal)
    ∧ quiescent_KernelIdeal_pre_finite_u (hKernelIdeal := hKernelIdeal) (hPre_finite_u := hPre_finite_u)
    ∧ quiescent_ReferenceIdeal (hReferenceIdeal := hReferenceIdeal)
    ∧ quiescent_ReferenceIdeal_pre_finite_u (hReferenceIdeal := hReferenceIdeal) (hPre_finite_u := hPre_finite_u)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_u (hKernelIdeal := hKernelIdeal) (hReferenceIdeal := hReferenceIdeal) (hPre_finite_u := hPre_finite_u)
    ∧ preserves_Kernel3_Kernel3Ideal
    ∧ algebraic_Kernel3Ideal_Reference3Ideal (hKernel3Ideal := hKernel3Ideal) (hReference3Ideal := hReference3Ideal)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_u.lean ====
abbrev S4x2048x2048 : Shape := ⟨3, ![4, 2048, 2048]⟩
abbrev S1x4x512x512 : Shape := ⟨4, ![1, 4, 512, 512]⟩
abbrev S1x2048 : Shape := ⟨2, ![1, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel

variable [Facts]

def fn {F : FTy → Type} [FloatOps F] (main_arg0 : FVec F S4x2048x2048 .f32) (main_arg1 : FVec F S4x2048x2048 .bf16) (main_arg2 : FVec F S1x4x512x512 .f32) (main_arg3 : FVec F S1x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  main_v3
-- ==== Kernel.lean ====
abbrev S4x2048x2048 : Shape := ⟨3, ![4, 2048, 2048]⟩
abbrev S1x4x512x512 : Shape := ⟨4, ![1, 4, 512, 512]⟩
abbrev S1x2048 : Shape := ⟨2, ![1, 2048]⟩
abbrev S4x512x512 : Shape := ⟨3, ![4, 512, 512]⟩
abbrev S2048 : Shape := ⟨1, ![2048]⟩
abbrev S1x512x2048 : Shape := ⟨3, ![1, 512, 2048]⟩
abbrev S1x16x2048 : Shape := ⟨3, ![1, 16, 2048]⟩
abbrev S1x528x2048 : Shape := ⟨3, ![1, 528, 2048]⟩
abbrev S1x512x1 : Shape := ⟨3, ![1, 512, 1]⟩
abbrev S1x512x512 : Shape := ⟨3, ![1, 512, 512]⟩
abbrev S512x512 : Shape := ⟨2, ![512, 512]⟩
abbrev S1x512 : Shape := ⟨2, ![1, 512]⟩
abbrev S1x1x512 : Shape := ⟨3, ![1, 1, 512]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .bf16⟩
  | .hbm, ⟨2, _⟩ => ⟨S1x4x512x512, .f32⟩
  | .hbm, ⟨3, _⟩ => ⟨S1x2048, .f32⟩
  | .hbm, ⟨4, _⟩ => ⟨S4x512x512, .f32⟩
  | .hbm, ⟨5, _⟩ => ⟨S4x512x512, .bf16⟩
  | .hbm, ⟨6, _⟩ => ⟨S2048, .f32⟩
  | .hbm, ⟨7, _⟩ => ⟨S1x2048, .f32⟩
  | .hbm, ⟨8, _⟩ => ⟨S4x2048x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x512x2048, .bf16⟩
  | .local _ .vmem, ⟨5, _⟩ => ⟨S1x512x2048, .bf16⟩
  | .local _ .vmem, ⟨6, _⟩ => ⟨S4x512x512, .bf16⟩
  | .local _ .vmem, ⟨7, _⟩ => ⟨S1x2048, .f32⟩
  | .local _ .vmem, ⟨8, _⟩ => ⟨S1x512x2048, .bf16⟩
  | .local _ .vmem, ⟨9, _⟩ => ⟨S1x512x2048, .bf16⟩
  | .local _ .vmem, ⟨10, _⟩ => ⟨S1x528x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x2048x2048 : Shape := ⟨3, ![4, 2048, 2048]⟩
abbrev S1x4x512x512 : Shape := ⟨4, ![1, 4, 512, 512]⟩
abbrev S1x2048 : Shape := ⟨2, ![1, 2048]⟩
abbrev S4x512x512 : Shape := ⟨3, ![4, 512, 512]⟩
abbrev S2048 : Shape := ⟨1, ![2048]⟩
abbrev S_ : Shape := ⟨0, ![]⟩
abbrev S4x1x2048 : Shape := ⟨3, ![4, 1, 2048]⟩
abbrev S4x2049x2048 : Shape := ⟨3, ![4, 2049, 2048]⟩
abbrev S2048x1 : Shape := ⟨2, ![2048, 1]⟩
abbrev S2048x2 : Shape := ⟨2, ![2048, 2]⟩
abbrev S4x2048x512 : Shape := ⟨3, ![4, 2048, 512]⟩
abbrev S1x2048x1 : Shape := ⟨3, ![1, 2048, 1]⟩
abbrev S1x512x512 : Shape := ⟨3, ![1, 512, 512]⟩
abbrev S512x512 : Shape := ⟨2, ![512, 512]⟩
abbrev S1x1x2048 : Shape := ⟨3, ![1, 1, 2048]⟩

abbrev nBuf : Space → Nat
  | .hbm => 234
  | .vmem => 0
  | .smem => 0
  | _ => 0

abbrev hbmTy0_0 (i : Nat) : BufTy := match i % 128 with
  | 0 => ⟨S4x2048x2048, .f32⟩
  | 1 => ⟨S4x2048x2048, .bf16⟩
  | 2 => ⟨S1x4x512x512, .f32⟩
  | 3 => ⟨S1x2048, .f32⟩
  | 4 => ⟨S4x512x512, .f32⟩
  | 5 => ⟨S2048, .f32⟩
  | 6 => ⟨S_, .f32⟩
  | 7 => ⟨S4x1x2048, .f32⟩
  | 8 => ⟨S_, .f32⟩
  | 9 => ⟨S_, .f32⟩
  | 10 => ⟨S4x2048x2048, .f32⟩
  | 11 => ⟨S4x2049x2048, .f32⟩
  | 12 => ⟨S2048, .i32⟩
  | 13 => ⟨S_, .i32⟩
  | 14 => ⟨S2048, .i32⟩
  | 15 => ⟨S2048, .i32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i32⟩
  | 28 => ⟨S_, .i32⟩
  | 29 => ⟨S2048, .i32⟩
  | 30 => ⟨S2048, .i32⟩
  | 31 => ⟨S_, .i32⟩
  | 32 => ⟨S2048, .i32⟩
  | 33 => ⟨S2048, .i32⟩
  | 34 => ⟨S2048, .f32⟩
  | 35 => ⟨S_, .i32⟩
  | 36 => ⟨S2048, .i32⟩
  | 37 => ⟨S2048, .i32⟩
  | 38 => ⟨S_, .i32⟩
  | 39 => ⟨S2048, .i32⟩
  | 40 => ⟨S2048, .i1⟩
  | 41 => ⟨S_, .i32⟩
  | 42 => ⟨S2048, .i32⟩
  | 43 => ⟨S2048, .i32⟩
  | 44 => ⟨S2048, .i32⟩
  | 45 => ⟨S2048x1, .i32⟩
  | 46 => ⟨S_, .i32⟩
  | 47 => ⟨S2048x1, .i32⟩
  | 48 => ⟨S2048x2, .i32⟩
  | 49 => ⟨S4x2048x512, .f32⟩
  | 50 => ⟨S_, .i32⟩
  | 51 => ⟨S2048, .i32⟩
  | 52 => ⟨S2048, .i1⟩
  | 53 => ⟨S_, .i32⟩
  | 54 => ⟨S2048, .i32⟩
  | 55 => ⟨S2048, .i32⟩
  | 56 => ⟨S2048, .i32⟩
  | 57 => ⟨S2048x1, .i32⟩
  | 58 => ⟨S_, .i32⟩
  | 59 => ⟨S2048x1, .i32⟩
  | 60 => ⟨S2048x2, .i32⟩
  | 61 => ⟨S4x2048x512, .f32⟩
  | 62 => ⟨S4x2048x512, .f32⟩
  | 63 => ⟨S1x2048x1, .f32⟩
  | 64 => ⟨S4x2048x512, .f32⟩
  | 65 => ⟨S4x2048x512, .f32⟩
  | 66 => ⟨S4x2048x512, .f32⟩
  | 67 => ⟨S4x2048x512, .f32⟩
  | 68 => ⟨S1x512x512, .f32⟩
  | 69 => ⟨S512x512, .f32⟩
  | 70 => ⟨S4x2048x512, .f32⟩
  | 71 => ⟨S_, .i32⟩
  | 72 => ⟨S2048, .i32⟩
  | 73 => ⟨S2048, .i32⟩
  | 74 => ⟨S_, .i32⟩
  | 75 => ⟨S2048, .i32⟩
  | 76 => ⟨S2048, .i32⟩
  | 77 => ⟨S_, .i32⟩
  | 78 => ⟨S2048, .i32⟩
  | 79 => ⟨S2048, .i32⟩
  | 80 => ⟨S_, .i32⟩
  | 81 => ⟨S2048, .i32⟩
  | 82 => ⟨S2048, .i32⟩
  | 83 => ⟨S_, .i32⟩
  | 84 => ⟨S2048, .i32⟩
  | 85 => ⟨S2048, .i32⟩
  | 86 => ⟨S2048, .f32⟩
  | 87 => ⟨S_, .i32⟩
  | 88 => ⟨S2048, .i32⟩
  | 89 => ⟨S2048, .i32⟩
  | 90 => ⟨S_, .i32⟩
  | 91 => ⟨S2048, .i32⟩
  | 92 => ⟨S2048, .i1⟩
  | 93 => ⟨S_, .i32⟩
  | 94 => ⟨S2048, .i32⟩
  | 95 => ⟨S2048, .i32⟩
  | 96 => ⟨S2048, .i32⟩
  | 97 => ⟨S2048x1, .i32⟩
  | 98 => ⟨S_, .i32⟩
  | 99 => ⟨S2048x1, .i32⟩
  | 100 => ⟨S2048x2, .i32⟩
  | 101 => ⟨S4x2048x512, .f32⟩
  | 102 => ⟨S_, .i32⟩
  | 103 => ⟨S2048, .i32⟩
  | 104 => ⟨S2048, .i1⟩
  | 105 => ⟨S_, .i32⟩
  | 106 => ⟨S2048, .i32⟩
  | 107 => ⟨S2048, .i32⟩
  | 108 => ⟨S2048, .i32⟩
  | 109 => ⟨S2048x1, .i32⟩
  | 110 => ⟨S_, .i32⟩
  | 111 => ⟨S2048x1, .i32⟩
  | 112 => ⟨S2048x2, .i32⟩
  | 113 => ⟨S4x2048x512, .f32⟩
  | 114 => ⟨S4x2048x512, .f32⟩
  | 115 => ⟨S1x2048x1, .f32⟩
  | 116 => ⟨S4x2048x512, .f32⟩
  | 117 => ⟨S4x2048x512, .f32⟩
  | 118 => ⟨S4x2048x512, .f32⟩
  | 119 => ⟨S4x2048x512, .f32⟩
  | 120 => ⟨S1x512x512, .f32⟩
  | 121 => ⟨S512x512, .f32⟩
  | 122 => ⟨S4x2048x512, .f32⟩
  | 123 => ⟨S_, .i32⟩
  | 124 => ⟨S2048, .i32⟩
  | 125 => ⟨S2048, .i32⟩
  | 126 => ⟨S_, .i32⟩
  | 127 => ⟨S2048, .i32⟩
  | _ => ⟨S4x2048x2048, .f32⟩

abbrev hbmTy0_1 (i : Nat) : BufTy := match i % 128 with
  | 0 => ⟨S2048, .i32⟩
  | 1 => ⟨S_, .i32⟩
  | 2 => ⟨S2048, .i32⟩
  | 3 => ⟨S2048, .i32⟩
  | 4 => ⟨S_, .i32⟩
  | 5 => ⟨S2048, .i32⟩
  | 6 => ⟨S2048, .i32⟩
  | 7 => ⟨S_, .i32⟩
  | 8 => ⟨S2048, .i32⟩
  | 9 => ⟨S2048, .i32⟩
  | 10 => ⟨S2048, .f32⟩
  | 11 => ⟨S_, .i32⟩
  | 12 => ⟨S2048, .i32⟩
  | 13 => ⟨S2048, .i32⟩
  | 14 => ⟨S_, .i32⟩
  | 15 => ⟨S2048, .i32⟩
  | 16 => ⟨S2048, .i1⟩
  | 17 => ⟨S_, .i32⟩
  | 18 => ⟨S2048, .i32⟩
  | 19 => ⟨S2048, .i32⟩
  | 20 => ⟨S2048, .i32⟩
  | 21 => ⟨S2048x1, .i32⟩
  | 22 => ⟨S_, .i32⟩
  | 23 => ⟨S2048x1, .i32⟩
  | 24 => ⟨S2048x2, .i32⟩
  | 25 => ⟨S4x2048x512, .f32⟩
  | 26 => ⟨S_, .i32⟩
  | 27 => ⟨S2048, .i32⟩
  | 28 => ⟨S2048, .i1⟩
  | 29 => ⟨S_, .i32⟩
  | 30 => ⟨S2048, .i32⟩
  | 31 => ⟨S2048, .i32⟩
  | 32 => ⟨S2048, .i32⟩
  | 33 => ⟨S2048x1, .i32⟩
  | 34 => ⟨S_, .i32⟩
  | 35 => ⟨S2048x1, .i32⟩
  | 36 => ⟨S2048x2, .i32⟩
  | 37 => ⟨S4x2048x512, .f32⟩
  | 38 => ⟨S4x2048x512, .f32⟩
  | 39 => ⟨S1x2048x1, .f32⟩
  | 40 => ⟨S4x2048x512, .f32⟩
  | 41 => ⟨S4x2048x512, .f32⟩
  | 42 => ⟨S4x2048x512, .f32⟩
  | 43 => ⟨S4x2048x512, .f32⟩
  | 44 => ⟨S1x512x512, .f32⟩
  | 45 => ⟨S512x512, .f32⟩
  | 46 => ⟨S4x2048x512, .f32⟩
  | 47 => ⟨S_, .i32⟩
  | 48 => ⟨S2048, .i32⟩
  | 49 => ⟨S2048, .i32⟩
  | 50 => ⟨S_, .i32⟩
  | 51 => ⟨S2048, .i32⟩
  | 52 => ⟨S2048, .i32⟩
  | 53 => ⟨S_, .i32⟩
  | 54 => ⟨S2048, .i32⟩
  | 55 => ⟨S2048, .i32⟩
  | 56 => ⟨S_, .i32⟩
  | 57 => ⟨S2048, .i32⟩
  | 58 => ⟨S2048, .i32⟩
  | 59 => ⟨S_, .i32⟩
  | 60 => ⟨S2048, .i32⟩
  | 61 => ⟨S2048, .i32⟩
  | 62 => ⟨S2048, .f32⟩
  | 63 => ⟨S_, .i32⟩
  | 64 => ⟨S2048, .i32⟩
  | 65 => ⟨S2048, .i32⟩
  | 66 => ⟨S_, .i32⟩
  | 67 => ⟨S2048, .i32⟩
  | 68 => ⟨S2048, .i1⟩
  | 69 => ⟨S_, .i32⟩
  | 70 => ⟨S2048, .i32⟩
  | 71 => ⟨S2048, .i32⟩
  | 72 => ⟨S2048, .i32⟩
  | 73 => ⟨S2048x1, .i32⟩
  | 74 => ⟨S_, .i32⟩
  | 75 => ⟨S2048x1, .i32⟩
  | 76 => ⟨S2048x2, .i32⟩
  | 77 => ⟨S4x2048x512, .f32⟩
  | 78 => ⟨S_, .i32⟩
  | 79 => ⟨S2048, .i32⟩
  | 80 => ⟨S2048, .i1⟩
  | 81 => ⟨S_, .i32⟩
  | 82 => ⟨S2048, .i32⟩
  | 83 => ⟨S2048, .i32⟩
  | 84 => ⟨S2048, .i32⟩
  | 85 => ⟨S2048x1, .i32⟩
  | 86 => ⟨S_, .i32⟩
  | 87 => ⟨S2048x1, .i32⟩
  | 88 => ⟨S2048x2, .i32⟩
  | 89 => ⟨S4x2048x512, .f32⟩
  | 90 => ⟨S4x2048x512, .f32⟩
  | 91 => ⟨S1x2048x1, .f32⟩
  | 92 => ⟨S4x2048x512, .f32⟩
  | 93 => ⟨S4x2048x512, .f32⟩
  | 94 => ⟨S4x2048x512, .f32⟩
  | 95 => ⟨S4x2048x512, .f32⟩
  | 96 => ⟨S1x512x512, .f32⟩
  | 97 => ⟨S512x512, .f32⟩
  | 98 => ⟨S4x2048x512, .f32⟩
  | 99 => ⟨S4x2048x2048, .f32⟩
  | 100 => ⟨S1x1x2048, .f32⟩
  | 101 => ⟨S4x2048x2048, .f32⟩
  | 102 => ⟨S4x2048x2048, .f32⟩
  | 103 => ⟨S4x2048x2048, .f32⟩
  | 104 => ⟨S4x2048x2048, .f32⟩
  | 105 => ⟨S4x2048x2048, .bf16⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_call0_call0_cst : Ref sig .tc := ⟨.hbm, 8, rfl⟩
abbrev main_call0_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_c_7 : Ref sig .tc := ⟨.hbm, 38, rfl⟩
abbrev main_v23 : Ref sig .tc := ⟨.hbm, 39, rfl⟩
abbrev main_v24 : Ref sig .tc := ⟨.hbm, 40, rfl⟩
abbrev main_c_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_10 : Ref sig .tc := ⟨.hbm, 50, rfl⟩
abbrev main_v32 : Ref sig .tc := ⟨.hbm, 51, rfl⟩
abbrev main_v33 : Ref sig .tc := ⟨.hbm, 52, rfl⟩
abbrev main_c_11 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_12 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_13 : Ref sig .tc := ⟨.hbm, 71, rfl⟩
abbrev main_v50 : Ref sig .tc := ⟨.hbm, 72, rfl⟩
abbrev main_v51 : Ref sig .tc := ⟨.hbm, 73, rfl⟩
abbrev main_c_14 : Ref sig .tc := ⟨.hbm, 74, rfl⟩
abbrev main_v52 : Ref sig .tc := ⟨.hbm, 75, rfl⟩
abbrev main_v53 : Ref sig .tc := ⟨.hbm, 76, rfl⟩
abbrev main_c_15 : Ref sig .tc := ⟨.hbm, 77, rfl⟩
abbrev main_v54 : Ref sig .tc := ⟨.hbm, 78, rfl⟩
abbrev main_v55 : Ref sig .tc := ⟨.hbm, 79, rfl⟩
abbrev main_c_16 : Ref sig .tc := ⟨.hbm, 80, rfl⟩
abbrev main_v56 : Ref sig .tc := ⟨.hbm, 81, rfl⟩
abbrev main_v57 : Ref sig .tc := ⟨.hbm, 82, rfl⟩
abbrev main_c_17 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_18 : Ref sig .tc := ⟨.hbm, 87, rfl⟩
abbrev main_v61 : Ref sig .tc := ⟨.hbm, 88, rfl⟩
abbrev main_v62 : Ref sig .tc := ⟨.hbm, 89, rfl⟩
abbrev main_c_19 : Ref sig .tc := ⟨.hbm, 90, rfl⟩
abbrev main_v63 : Ref sig .tc := ⟨.hbm, 91, rfl⟩
abbrev main_v64 : Ref sig .tc := ⟨.hbm, 92, rfl⟩
abbrev main_c_20 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_21 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_22 : Ref sig .tc := ⟨.hbm, 102, rfl⟩
abbrev main_v72 : Ref sig .tc := ⟨.hbm, 103, rfl⟩
abbrev main_v73 : Ref sig .tc := ⟨.hbm, 104, rfl⟩
abbrev main_c_23 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_24 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_25 : Ref sig .tc := ⟨.hbm, 123, rfl⟩
abbrev main_v90 : Ref sig .tc := ⟨.hbm, 124, rfl⟩
abbrev main_v91 : Ref sig .tc := ⟨.hbm, 125, rfl⟩
abbrev main_c_26 : Ref sig .tc := ⟨.hbm, 126, rfl⟩
abbrev main_v92 : Ref sig .tc := ⟨.hbm, 127, rfl⟩
abbrev main_v93 : Ref sig .tc := ⟨.hbm, 128, rfl⟩
abbrev main_c_27 : Ref sig .tc := ⟨.hbm, 129, rfl⟩
abbrev main_v94 : Ref sig .tc := ⟨.hbm, 130, rfl⟩
abbrev main_v95 : Ref sig .tc := ⟨.hbm, 131, rfl⟩
abbrev main_c_28 : Ref sig .tc := ⟨.hbm, 132, rfl⟩
abbrev main_v96 : Ref sig .tc := ⟨.hbm, 133, rfl⟩
abbrev main_v97 : Ref sig .tc := ⟨.hbm, 134, rfl⟩
abbrev main_c_29 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_c_30 : Ref sig .tc := ⟨.hbm, 139, rfl⟩
abbrev main_v101 : Ref sig .tc := ⟨.hbm, 140, rfl⟩
abbrev main_v102 : Ref sig .tc := ⟨.hbm, 141, rfl⟩
abbrev main_c_31 : Ref sig .tc := ⟨.hbm, 142, rfl⟩
abbrev main_v103 : Ref sig .tc := ⟨.hbm, 143, rfl⟩
abbrev main_v104 : Ref sig .tc := ⟨.hbm, 144, rfl⟩
abbrev main_c_32 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_33 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_c_34 : Ref sig .tc := ⟨.hbm, 154, rfl⟩
abbrev main_v112 : Ref sig .tc := ⟨.hbm, 155, rfl⟩
abbrev main_v113 : Ref sig .tc := ⟨.hbm, 156, rfl⟩
abbrev main_c_35 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_c_36 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c_37 : Ref sig .tc := ⟨.hbm, 175, rfl⟩
abbrev main_v130 : Ref sig .tc := ⟨.hbm, 176, rfl⟩
abbrev main_v131 : Ref sig .tc := ⟨.hbm, 177, rfl⟩
abbrev main_c_38 : Ref sig .tc := ⟨.hbm, 178, rfl⟩
abbrev main_v132 : Ref sig .tc := ⟨.hbm, 179, rfl⟩
abbrev main_v133 : Ref sig .tc := ⟨.hbm, 180, rfl⟩
abbrev main_c_39 : Ref sig .tc := ⟨.hbm, 181, rfl⟩
abbrev main_v134 : Ref sig .tc := ⟨.hbm, 182, rfl⟩
abbrev main_v135 : Ref sig .tc := ⟨.hbm, 183, rfl⟩
abbrev main_c_40 : Ref sig .tc := ⟨.hbm, 184, rfl⟩
abbrev main_v136 : Ref sig .tc := ⟨.hbm, 185, rfl⟩
abbrev main_v137 : Ref sig .tc := ⟨.hbm, 186, rfl⟩
abbrev main_c_41 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_c_42 : Ref sig .tc := ⟨.hbm, 191, rfl⟩
abbrev main_v141 : Ref sig .tc := ⟨.hbm, 192, rfl⟩
abbrev main_v142 : Ref sig .tc := ⟨.hbm, 193, rfl⟩
abbrev main_c_43 : Ref sig .tc := ⟨.hbm, 194, rfl⟩
abbrev main_v143 : Ref sig .tc := ⟨.hbm, 195, rfl⟩
abbrev main_v144 : Ref sig .tc := ⟨.hbm, 196, rfl⟩
abbrev main_c_44 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_c_45 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_c_46 : Ref sig .tc := ⟨.hbm, 206, rfl⟩
abbrev main_v152 : Ref sig .tc := ⟨.hbm, 207, rfl⟩
abbrev main_v153 : Ref sig .tc := ⟨.hbm, 208, rfl⟩
abbrev main_c_47 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_c_48 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩

abbrev nD : Nat := 1
abbrev τ : Topo := Topo.v7x

variable {F : FTy → Type} [FloatOps F]
-- ==== Kernel3.lean ====
abbrev S16x8192x128 : Shape := ⟨3, ![16, 8192, 128]⟩
abbrev S8192x2048 : Shape := ⟨2, ![8192, 2048]⟩
abbrev S1x4096x4096 : Shape := ⟨3, ![1, 4096, 4096]⟩
abbrev S4x2048x4096 : Shape := ⟨3, ![4, 2048, 4096]⟩
abbrev S4096 : Shape := ⟨1, ![4096]⟩
abbrev S4096x4096 : Shape := ⟨2, ![4096, 4096]⟩
abbrev S8192x4096 : Shape := ⟨2, ![8192, 4096]⟩
abbrev S1x4096 : Shape := ⟨2, ![1, 4096]⟩
abbrev S16x512x128 : Shape := ⟨3, ![16, 512, 128]⟩
abbrev S512x2048 : Shape := ⟨2, ![512, 2048]⟩
abbrev S4096x1024 : Shape := ⟨2, ![4096, 1024]⟩
abbrev S512x1024 : Shape := ⟨2, ![512, 1024]⟩
abbrev S512x4096 : Shape := ⟨2, ![512, 4096]⟩
abbrev S1x512x128 : Shape := ⟨3, ![1, 512, 128]⟩
abbrev S512x128 : Shape := ⟨2, ![512, 128]⟩
abbrev S512x1 : Shape := ⟨2, ![512, 1]⟩
abbrev S512 : Shape := ⟨1, ![512]⟩
abbrev S1x1024 : Shape := ⟨2, ![1, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16x8192x128, .bf16⟩
  | .hbm, ⟨1, _⟩ => ⟨S8192x2048, .bf16⟩
  | .hbm, ⟨2, _⟩ => ⟨S1x4096x4096, .f32⟩
  | .hbm, ⟨3, _⟩ => ⟨S4x2048x4096, .f32⟩
  | .hbm, ⟨4, _⟩ => ⟨S4096, .f32⟩
  | .hbm, ⟨5, _⟩ => ⟨S4096x4096, .f32⟩
  | .hbm, ⟨6, _⟩ => ⟨S4096x4096, .bf16⟩
  | .hbm, ⟨7, _⟩ => ⟨S8192x4096, .f32⟩
  | .hbm, ⟨8, _⟩ => ⟨S1x4096, .f32⟩
  | .hbm, ⟨9, _⟩ => ⟨S8192x4096, .f32⟩
  | .local _ .vmem, ⟨0, _⟩ => ⟨S16x512x128, .bf16⟩
  | .local _ .vmem, ⟨1, _⟩ => ⟨S16x512x128, .bf16⟩
  | .local _ .vmem, ⟨2, _⟩ => ⟨S512x2048, .bf16⟩
  | .local _ .vmem, ⟨3, _⟩ => ⟨S512x2048, .bf16⟩
  | .local _ .vmem, ⟨4, _⟩ => ⟨S4096x1024, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S1x4096, .f32⟩
  | .local _ .vmem, ⟨9, _⟩ => ⟨S512x4096, .f32⟩
  | .local _ .vmem, ⟨10, _⟩ => ⟨S512x4096, .f32⟩
  | .local _ .vmem, ⟨11, _⟩ => ⟨S512x4096, .bf16⟩
  | _, _ => ⟨S16x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c0_i32_6 : BitVec 32 := 0#32
  let v10 : BitVec 1 := Scalar.cmpi .eq arg1 c0_i32_6
  let v11 : BitVec 32 := Scalar.extui v10
  let c0_i32_7 : BitVec 32 := 0#32
  let v12 : BitVec 1 := Scalar.cmpi .ne v11 c0_i32_7
  v12

def k0_cond3 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def k0_cond4 (i : grid0.Coords) : BitVec 1 :=
  let arg1 : BitVec 32 := BitVec.ofNat 32 (i 1).val
  let c2_i32 : BitVec 32 := 2#32
  let v16 : BitVec 1 := Scalar.cmpi .eq arg1 c2_i32
  let v17 : BitVec 32 := Scalar.extui v16
  let c0_i32_9 : BitVec 32 := 0#32
  let v18 : BitVec 1 := Scalar.cmpi .ne v17 c0_i32_9
  v18

def k0_cond5 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_10 : BitVec 32 := 0#32
  let v21 : BitVec 1 := Scalar.cmpi .ne v20 c0_i32_10
  v21

def k0_cond6 (i : grid0.Coords) : BitVec 1 :=
  let arg1 : BitVec 32 := BitVec.ofNat 32 (i 1).val
  let c3_i32_11 : BitVec 32 := 3#32
  let v22 : BitVec 1 := Scalar.cmpi .eq arg1 c3_i32_11
  let v23 : BitVec 32 := Scalar.extui v22
  let c0_i32_12 : BitVec 32 := 0#32
  let v24 : BitVec 1 := Scalar.cmpi .ne v23 c0_i32_12
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16x8192x128 : Shape := ⟨3, ![16, 8192, 128]⟩
abbrev S8192x2048 : Shape := ⟨2, ![8192, 2048]⟩
abbrev S1x4096x4096 : Shape := ⟨3, ![1, 4096, 4096]⟩
abbrev S4x2048x4096 : Shape := ⟨3, ![4, 2048, 4096]⟩
abbrev S4096 : Shape := ⟨1, ![4096]⟩
abbrev S4096x4096 : Shape := ⟨2, ![4096, 4096]⟩
abbrev S8192x16x128 : Shape := ⟨3, ![8192, 16, 128]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 31
  | .vmem => 0
  | .smem => 0
  | _ => 0

abbrev bufTy : (tb : Table) → Fin (tcTables nBuf tb) → BufTy
  | .hbm, ⟨0, _⟩ => ⟨S16x8192x128, .bf16⟩
  | .hbm, ⟨1, _⟩ => ⟨S8192x2048, .bf16⟩
  | .hbm, ⟨2, _⟩ => ⟨S1x4096x4096, .f32⟩
  | .hbm, ⟨3, _⟩ => ⟨S4x2048x4096, .f32⟩
  | .hbm, ⟨4, _⟩ => ⟨S4096, .f32⟩
  | .hbm, ⟨5, _⟩ => ⟨S4096x4096, .f32⟩
  | .hbm, ⟨6, _⟩ => ⟨S16x8192x128, .f32⟩
  | .hbm, ⟨7, _⟩ => ⟨S8192x16x128, .f32⟩
  | .hbm, ⟨8, _⟩ => ⟨S4x2048x2048, .f32⟩
  | .hbm, ⟨9, _⟩ => ⟨S8192x2048, .f32⟩
  | .hbm, ⟨10, _⟩ => ⟨S4x2048x2048, .f32⟩
  | .hbm, ⟨11, _⟩ => ⟨S4x2048x4096, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x4096, .f32⟩
  | .hbm, ⟨26, _⟩ => ⟨S4x2048x4096, .f32⟩
  | .hbm, ⟨27, _⟩ => ⟨S1x1x4096, .f32⟩
  | .hbm, ⟨28, _⟩ => ⟨S4x2048x4096, .f32⟩
  | .hbm, ⟨29, _⟩ => ⟨S4x2048x4096, .f32⟩
  | .hbm, ⟨30, _⟩ => ⟨S8192x4096, .f32⟩
  | _, _ => ⟨S16x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel2.lean ====
abbrev S8192x4096 : Shape := ⟨2, ![8192, 4096]⟩
abbrev S256x4096 : Shape := ⟨2, ![256, 4096]⟩
abbrev S1x4096x13472 : Shape := ⟨3, ![1, 4096, 13472]⟩
abbrev S1x32x15x2048 : Shape := ⟨4, ![1, 32, 15, 2048]⟩
abbrev S4096x13472 : Shape := ⟨2, ![4096, 13472]⟩
abbrev S13472x4096 : Shape := ⟨2, ![13472, 4096]⟩
abbrev S8192x2048 : Shape := ⟨2, ![8192, 2048]⟩
abbrev S256x2048 : Shape := ⟨2, ![256, 2048]⟩
abbrev S1024x4096 : Shape := ⟨2, ![1024, 4096]⟩
abbrev S1024x512 : Shape := ⟨2, ![1024, 512]⟩
abbrev S256x512 : Shape := ⟨2, ![256, 512]⟩
abbrev S512x4096 : Shape := ⟨2, ![512, 4096]⟩
abbrev S1 : Shape := ⟨1, ![1]⟩
abbrev S_ : Shape := ⟨0, ![]⟩
abbrev S32x15x2048 : Shape := ⟨3, ![32, 15, 2048]⟩
abbrev S32x8x2048 : Shape := ⟨3, ![32, 8, 2048]⟩
abbrev S32x23x2048 : Shape := ⟨3, ![32, 23, 2048]⟩
abbrev S4x2048x2048 : Shape := ⟨3, ![4, 2048, 2048]⟩
abbrev S4x15x2048 : Shape := ⟨3, ![4, 15, 2048]⟩
abbrev S1x4x15x2048 : Shape := ⟨4, ![1, 4, 15, 2048]⟩

abbrev nBuf : Space → Nat
  | .hbm => 16
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S1x4096x13472, .f32⟩
  | .hbm, ⟨3, _⟩ => ⟨S1x32x15x2048, .f32⟩
  | .hbm, ⟨4, _⟩ => ⟨S4096x13472, .f32⟩
  | .hbm, ⟨5, _⟩ => ⟨S13472x4096, .f32⟩
  | .hbm, ⟨6, _⟩ => ⟨S8192x2048, .f32⟩
  | .hbm, ⟨7, _⟩ => ⟨S256x2048, .f32⟩
  | .hbm, ⟨8, _⟩ => ⟨S32x15x2048, .f32⟩
  | .hbm, ⟨9, _⟩ => ⟨S32x8x2048, .f32⟩
  | .hbm, ⟨10, _⟩ => ⟨S32x23x2048, .f32⟩
  | .hbm, ⟨11, _⟩ => ⟨S4x2048x2048, .f32⟩
  | .hbm, ⟨12, _⟩ => ⟨S4x15x2048, .f32⟩
  | .hbm, ⟨13, _⟩ => ⟨S1x4x15x2048, .f32⟩
  | .hbm, ⟨14, _⟩ => ⟨S32x15x2048, .f32⟩
  | .hbm, ⟨15, _⟩ => ⟨S1x32x15x2048, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S1024x512, .f32⟩
  | .local _ .vmem, ⟨4, _⟩ => ⟨S1024x512, .f32⟩
  | .local _ .vmem, ⟨5, _⟩ => ⟨S256x512, .f32⟩
  | .local _ .vmem, ⟨6, _⟩ => ⟨S256x512, .f32⟩
  | .local _ .vmem, ⟨7, _⟩ => ⟨S512x4096, .f32⟩
  | .local _ .vmem, ⟨8, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c9376_i32 : BitVec 32 := 9376#32
  c9376_i32
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let c9376_i32 : BitVec 32 := 9376#32
  let arg0 : BitVec 32 := BitVec.ofNat 32 (i 0).val
  let c512_i32 : BitVec 32 := 512#32
  let v21 : BitVec 32 := Scalar.muli arg0 c512_i32
  let v22 : BitVec 32 := Scalar.addi c9376_i32 v21
  v22
def k0_off1 (i : grid0.Coords) : Fin 2 → Nat :=
  let c9376_i32 : BitVec 32 := 9376#32
  let arg0 : BitVec 32 := BitVec.ofNat 32 (i 0).val
  let c512_i32 : BitVec 32 := 512#32
  let v21 : BitVec 32 := Scalar.muli arg0 c512_i32
  let v22 : BitVec 32 := Scalar.addi c9376_i32 v21
  let v23 : BitVec 32 := v22
  let c0_i32_16 : BitVec 32 := 0#32
  ![v23.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c4_i32 : BitVec 32 := 4#32
  let v10 : BitVec 1 := Scalar.cmpi .slt v9 c4_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult3 (i : grid0.Coords) : BitVec 32 :=
  let c9376_i32 : BitVec 32 := 9376#32
  let arg0 : BitVec 32 := BitVec.ofNat 32 (i 0).val
  let c1_i32_13 : BitVec 32 := 1#32
  let v21 : BitVec 32 := Scalar.addi arg0 c1_i32_13
  let c512_i32 : BitVec 32 := 512#32
  let v22 : BitVec 32 := Scalar.muli v21 c512_i32
  let v23 : BitVec 32 := Scalar.addi c9376_i32 v22
  v23
def k0_off2 (i : grid0.Coords) : Fin 2 → Nat :=
  let c9376_i32 : BitVec 32 := 9376#32
  let arg0 : BitVec 32 := BitVec.ofNat 32 (i 0).val
  let c1_i32_13 : BitVec 32 := 1#32
  let v21 : BitVec 32 := Scalar.addi arg0 c1_i32_13
  let c512_i32 : BitVec 32 := 512#32
  let v22 : BitVec 32 := Scalar.muli v21 c512_i32
  let v23 : BitVec 32 := Scalar.addi c9376_i32 v22
  let v24 : BitVec 32 := v23
  let c0_i32_17 : BitVec 32 := 0#32
  ![v24.toNat, 0]
def k0_cond4 (i : grid0.Coords) : BitVec 1 :=
  let arg1 : BitVec 32 := BitVec.ofNat 32 (i 1).val
  let c0_i32_11 : BitVec 32 := 0#32
  let v18 : BitVec 1 := Scalar.cmpi .eq arg1 c0_i32_11
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S8192x4096 : Shape := ⟨2, ![8192, 4096]⟩
abbrev S256x4096 : Shape := ⟨2, ![256, 4096]⟩
abbrev S1x4096x13472 : Shape := ⟨3, ![1, 4096, 13472]⟩
abbrev S1x32x15x2048 : Shape := ⟨4, ![1, 32, 15, 2048]⟩
abbrev S4096x13472 : Shape := ⟨2, ![4096, 13472]⟩
abbrev S8192x13472 : Shape := ⟨2, ![8192, 13472]⟩
abbrev S256x13472 : Shape := ⟨2, ![256, 13472]⟩
abbrev S8192x2048 : Shape := ⟨2, ![8192, 2048]⟩
abbrev S256x2048 : Shape := ⟨2, ![256, 2048]⟩
abbrev S4x2048x2048 : Shape := ⟨3, ![4, 2048, 2048]⟩
abbrev S32x15x2048 : Shape := ⟨3, ![32, 15, 2048]⟩
abbrev S32x8x2048 : Shape := ⟨3, ![32, 8, 2048]⟩
abbrev S32x23x2048 : Shape := ⟨3, ![32, 23, 2048]⟩
abbrev S4x15x2048 : Shape := ⟨3, ![4, 15, 2048]⟩
abbrev S1x4x15x2048 : Shape := ⟨4, ![1, 4, 15, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S1x4096x13472, .f32⟩
  | .hbm, ⟨3, _⟩ => ⟨S1x32x15x2048, .f32⟩
  | .hbm, ⟨4, _⟩ => ⟨S4096x13472, .f32⟩
  | .hbm, ⟨5, _⟩ => ⟨S8192x4096, .f32⟩
  | .hbm, ⟨6, _⟩ => ⟨S8192x13472, .f32⟩
  | .hbm, ⟨7, _⟩ => ⟨S256x4096, .f32⟩
  | .hbm, ⟨8, _⟩ => ⟨S256x13472, .f32⟩
  | .hbm, ⟨9, _⟩ => ⟨S8192x2048, .f32⟩
  | .hbm, ⟨10, _⟩ => ⟨S256x2048, .f32⟩
  | .hbm, ⟨11, _⟩ => ⟨S4x2048x2048, .f32⟩
  | .hbm, ⟨12, _⟩ => ⟨S32x15x2048, .f32⟩
  | .hbm, ⟨13, _⟩ => ⟨S32x8x2048, .f32⟩
  | .hbm, ⟨14, _⟩ => ⟨S32x23x2048, .f32⟩
  | .hbm, ⟨15, _⟩ => ⟨S4x15x2048, .f32⟩
  | .hbm, ⟨16, _⟩ => ⟨S1x4x15x2048, .f32⟩
  | .hbm, ⟨17, _⟩ => ⟨S32x15x2048, .f32⟩
  | .hbm, ⟨18, _⟩ => ⟨S1x32x15x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel4.lean ====
abbrev S8192x4096 : Shape := ⟨2, ![8192, 4096]⟩
abbrev S256x4096 : Shape := ⟨2, ![256, 4096]⟩
abbrev S1x4096x13472 : Shape := ⟨3, ![1, 4096, 13472]⟩
abbrev S4096x13472 : Shape := ⟨2, ![4096, 13472]⟩
abbrev S13472x4096 : Shape := ⟨2, ![13472, 4096]⟩
abbrev S32768x128 : Shape := ⟨2, ![32768, 128]⟩
abbrev S4x8192x128 : Shape := ⟨3, ![4, 8192, 128]⟩
abbrev S1024x128 : Shape := ⟨2, ![1024, 128]⟩
abbrev S1024x4096 : Shape := ⟨2, ![1024, 4096]⟩
abbrev S4096x128 : Shape := ⟨2, ![4096, 128]⟩
abbrev S4x1024x128 : Shape := ⟨3, ![4, 1024, 128]⟩
abbrev S512x4096 : Shape := ⟨2, ![512, 4096]⟩
abbrev S1 : Shape := ⟨1, ![1]⟩
abbrev S_ : Shape := ⟨0, ![]⟩
abbrev S1024x512 : Shape := ⟨2, ![1024, 512]⟩
abbrev S1x1024x128 : Shape := ⟨3, ![1, 1024, 128]⟩
abbrev S256x512 : Shape := ⟨2, ![256, 512]⟩
abbrev S256x128 : Shape := ⟨2, ![256, 128]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S1x4096x13472, .f32⟩
  | .hbm, ⟨3, _⟩ => ⟨S4096x13472, .f32⟩
  | .hbm, ⟨4, _⟩ => ⟨S13472x4096, .f32⟩
  | .hbm, ⟨5, _⟩ => ⟨S32768x128, .f32⟩
  | .hbm, ⟨6, _⟩ => ⟨S4x8192x128, .bf16⟩
  | .hbm, ⟨7, _⟩ => ⟨S1024x128, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S4096x128, .f32⟩
  | .local _ .vmem, ⟨4, _⟩ => ⟨S4096x128, .f32⟩
  | .local _ .vmem, ⟨5, _⟩ => ⟨S4x1024x128, .bf16⟩
  | .local _ .vmem, ⟨6, _⟩ => ⟨S4x1024x128, .bf16⟩
  | .local _ .vmem, ⟨7, _⟩ => ⟨S1024x128, .f32⟩
  | .local _ .vmem, ⟨8, _⟩ => ⟨S512x4096, .f32⟩
  | .local _ .vmem, ⟨9, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c2048_i32 : BitVec 32 := 2048#32
  c2048_i32
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let c2048_i32 : BitVec 32 := 2048#32
  let arg0 : BitVec 32 := BitVec.ofNat 32 (i 0).val
  let c512_i32 : BitVec 32 := 512#32
  let v48 : BitVec 32 := Scalar.muli arg0 c512_i32
  let v49 : BitVec 32 := Scalar.addi c2048_i32 v48
  v49
def k0_off1 (i : grid0.Coords) : Fin 2 → Nat :=
  let c2048_i32 : BitVec 32 := 2048#32
  let arg0 : BitVec 32 := BitVec.ofNat 32 (i 0).val
  let c512_i32 : BitVec 32 := 512#32
  let v48 : BitVec 32 := Scalar.muli arg0 c512_i32
  let v49 : BitVec 32 := Scalar.addi c2048_i32 v48
  let v50 : BitVec 32 := v49
  let c0_i32_32 : BitVec 32 := 0#32
  ![v50.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c1_i32_5 : BitVec 32 := 1#32
  let v10 : BitVec 1 := Scalar.cmpi .slt v9 c1_i32_5
  let v11 : BitVec 1 := Scalar.andi v8 v10
  let v12 : BitVec 32 := Scalar.extui v11
  let c0_i32_6 : BitVec 32 := 0#32
  let v13 : BitVec 1 := Scalar.cmpi .ne v12 c0_i32_6
  v13

def k0_mult3 (i : grid0.Coords) : BitVec 32 :=
  let c2048_i32 : BitVec 32 := 2048#32
  let arg0 : BitVec 32 := BitVec.ofNat 32 (i 0).val
  let c1_i32_29 : BitVec 32 := 1#32
  let v48 : BitVec 32 := Scalar.addi arg0 c1_i32_29
  let c512_i32 : BitVec 32 := 512#32
  let v49 : BitVec 32 := Scalar.muli v48 c512_i32
  let v50 : BitVec 32 := Scalar.addi c2048_i32 v49
  v50
def k0_off2 (i : grid0.Coords) : Fin 2 → Nat :=
  let c2048_i32 : BitVec 32 := 2048#32
  let arg0 : BitVec 32 := BitVec.ofNat 32 (i 0).val
  let c1_i32_29 : BitVec 32 := 1#32
  let v48 : BitVec 32 := Scalar.addi arg0 c1_i32_29
  let c512_i32 : BitVec 32 := 512#32
  let v49 : BitVec 32 := Scalar.muli v48 c512_i32
  let v50 : BitVec 32 := Scalar.addi c2048_i32 v49
  let v51 : BitVec 32 := v50
  let c0_i32_33 : BitVec 32 := 0#32
  ![v51.toNat, 0]
def k0_cond4 (i : grid0.Coords) : BitVec 1 :=
  let arg1 : BitVec 32 := BitVec.ofNat 32 (i 1).val
  let c0_i32_27 : BitVec 32 := 0#32
  let v45 : BitVec 1 := Scalar.cmpi .eq arg1 c0_i32_27
  let v46 : BitVec 32 := Scalar.extui v45
  let c0_i32_28 : BitVec 32 := 0#32
  let v47 : BitVec 1 := Scalar.cmpi .ne v46 c0_i32_28
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference4Ideal.lean ====
abbrev S8192x4096 : Shape := ⟨2, ![8192, 4096]⟩
abbrev S256x4096 : Shape := ⟨2, ![256, 4096]⟩
abbrev S1x4096x13472 : Shape := ⟨3, ![1, 4096, 13472]⟩
abbrev S4096x13472 : Shape := ⟨2, ![4096, 13472]⟩
abbrev S8192x13472 : Shape := ⟨2, ![8192, 13472]⟩
abbrev S256x13472 : Shape := ⟨2, ![256, 13472]⟩
abbrev S8192x512 : Shape := ⟨2, ![8192, 512]⟩
abbrev S8192x4x128 : Shape := ⟨3, ![8192, 4, 128]⟩
abbrev S256x512 : Shape := ⟨2, ![256, 512]⟩
abbrev S256x4x128 : Shape := ⟨3, ![256, 4, 128]⟩
abbrev S32768x128 : Shape := ⟨2, ![32768, 128]⟩
abbrev S4x8192x128 : Shape := ⟨3, ![4, 8192, 128]⟩
abbrev S1024x128 : Shape := ⟨2, ![1024, 128]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S1x4096x13472, .f32⟩
  | .hbm, ⟨3, _⟩ => ⟨S4096x13472, .f32⟩
  | .hbm, ⟨4, _⟩ => ⟨S8192x4096, .f32⟩
  | .hbm, ⟨5, _⟩ => ⟨S8192x13472, .f32⟩
  | .hbm, ⟨6, _⟩ => ⟨S256x4096, .f32⟩
  | .hbm, ⟨7, _⟩ => ⟨S256x13472, .f32⟩
  | .hbm, ⟨8, _⟩ => ⟨S8192x512, .f32⟩
  | .hbm, ⟨9, _⟩ => ⟨S8192x4x128, .f32⟩
  | .hbm, ⟨10, _⟩ => ⟨S256x512, .f32⟩
  | .hbm, ⟨11, _⟩ => ⟨S256x4x128, .f32⟩
  | .hbm, ⟨12, _⟩ => ⟨S32768x128, .f32⟩
  | .hbm, ⟨13, _⟩ => ⟨S8192x4x128, .bf16⟩
  | .hbm, ⟨14, _⟩ => ⟨S4x8192x128, .bf16⟩
  | .hbm, ⟨15, _⟩ => ⟨S1024x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel6.lean ====
abbrev S8192x4096 : Shape := ⟨2, ![8192, 4096]⟩
abbrev S256x4096 : Shape := ⟨2, ![256, 4096]⟩
abbrev S1x4096x13472 : Shape := ⟨3, ![1, 4096, 13472]⟩
abbrev S4096x13472 : Shape := ⟨2, ![4096, 13472]⟩
abbrev S13472x4096 : Shape := ⟨2, ![13472, 4096]⟩
abbrev S32x8192x128 : Shape := ⟨3, ![32, 8192, 128]⟩
abbrev S32x256x128 : Shape := ⟨3, ![32, 256, 128]⟩
abbrev S2048x4096 : Shape := ⟨2, ![2048, 4096]⟩
abbrev S4x2048x128 : Shape := ⟨3, ![4, 2048, 128]⟩
abbrev S4x256x128 : Shape := ⟨3, ![4, 256, 128]⟩
abbrev S512x4096 : Shape := ⟨2, ![512, 4096]⟩
abbrev S1 : Shape := ⟨1, ![1]⟩
abbrev S_ : Shape := ⟨0, ![]⟩
abbrev S2048x512 : Shape := ⟨2, ![2048, 512]⟩
abbrev S2048x128 : Shape := ⟨2, ![2048, 128]⟩
abbrev S1x2048x128 : Shape := ⟨3, ![1, 2048, 128]⟩
abbrev S256x512 : Shape := ⟨2, ![256, 512]⟩
abbrev S256x128 : Shape := ⟨2, ![256, 128]⟩
abbrev S1x256x128 : Shape := ⟨3, ![1, 256, 128]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S1x4096x13472, .f32⟩
  | .hbm, ⟨3, _⟩ => ⟨S4096x13472, .f32⟩
  | .hbm, ⟨4, _⟩ => ⟨S13472x4096, .f32⟩
  | .hbm, ⟨5, _⟩ => ⟨S32x8192x128, .bf16⟩
  | .hbm, ⟨6, _⟩ => ⟨S32x256x128, .f32⟩
  | .local _ .vmem, ⟨0, _⟩ => ⟨S2048x4096, .bf16⟩
  | .local _ .vmem, ⟨1, _⟩ => ⟨S2048x4096, .bf16⟩
  | .local _ .vmem, ⟨2, _⟩ => ⟨S256x4096, .bf16⟩
  | .local _ .vmem, ⟨3, _⟩ => ⟨S4x2048x128, .bf16⟩
  | .local _ .vmem, ⟨4, _⟩ => ⟨S4x2048x128, .bf16⟩
  | .local _ .vmem, ⟨5, _⟩ => ⟨S4x256x128, .f32⟩
  | .local _ .vmem, ⟨6, _⟩ => ⟨S4x256x128, .f32⟩
  | .local _ .vmem, ⟨7, _⟩ => ⟨S512x4096, .f32⟩
  | .local _ .vmem, ⟨8, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c5120_i32 : BitVec 32 := 5120#32
  c5120_i32
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let c5120_i32 : BitVec 32 := 5120#32
  let arg0 : BitVec 32 := BitVec.ofNat 32 (i 0).val
  let c512_i32 : BitVec 32 := 512#32
  let v42 : BitVec 32 := Scalar.muli arg0 c512_i32
  let v43 : BitVec 32 := Scalar.addi c5120_i32 v42
  v43
def k0_off1 (i : grid0.Coords) : Fin 2 → Nat :=
  let c5120_i32 : BitVec 32 := 5120#32
  let arg0 : BitVec 32 := BitVec.ofNat 32 (i 0).val
  let c512_i32 : BitVec 32 := 512#32
  let v42 : BitVec 32 := Scalar.muli arg0 c512_i32
  let v43 : BitVec 32 := Scalar.addi c5120_i32 v42
  let v44 : BitVec 32 := v43
  let c0_i32_24 : BitVec 32 := 0#32
  ![v44.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c8_i32 : BitVec 32 := 8#32
  let v10 : BitVec 1 := Scalar.cmpi .slt v9 c8_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult3 (i : grid0.Coords) : BitVec 32 :=
  let c5120_i32 : BitVec 32 := 5120#32
  let arg0 : BitVec 32 := BitVec.ofNat 32 (i 0).val
  let c1_i32_21 : BitVec 32 := 1#32
  let v42 : BitVec 32 := Scalar.addi arg0 c1_i32_21
  let c512_i32 : BitVec 32 := 512#32
  let v43 : BitVec 32 := Scalar.muli v42 c512_i32
  let v44 : BitVec 32 := Scalar.addi c5120_i32 v43
  v44
def k0_off2 (i : grid0.Coords) : Fin 2 → Nat :=
  let c5120_i32 : BitVec 32 := 5120#32
  let arg0 : BitVec 32 := BitVec.ofNat 32 (i 0).val
  let c1_i32_21 : BitVec 32 := 1#32
  let v42 : BitVec 32 := Scalar.addi arg0 c1_i32_21
  let c512_i32 : BitVec 32 := 512#32
  let v43 : BitVec 32 := Scalar.muli v42 c512_i32
  let v44 : BitVec 32 := Scalar.addi c5120_i32 v43
  let v45 : BitVec 32 := v44
  let c0_i32_25 : BitVec 32 := 0#32
  ![v45.toNat, 0]
def k0_cond4 (i : grid0.Coords) : BitVec 1 :=
  let arg1 : BitVec 32 := BitVec.ofNat 32 (i 1).val
  let c0_i32_19 : BitVec 32 := 0#32
  let v39 : BitVec 1 := Scalar.cmpi .eq arg1 c0_i32_19
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference6Ideal.lean ====
abbrev S8192x4096 : Shape := ⟨2, ![8192, 4096]⟩
abbrev S256x4096 : Shape := ⟨2, ![256, 4096]⟩
abbrev S1x4096x13472 : Shape := ⟨3, ![1, 4096, 13472]⟩
abbrev S4096x13472 : Shape := ⟨2, ![4096, 13472]⟩
abbrev S8192x13472 : Shape := ⟨2, ![8192, 13472]⟩
abbrev S256x13472 : Shape := ⟨2, ![256, 13472]⟩
abbrev S8192x32x128 : Shape := ⟨3, ![8192, 32, 128]⟩
abbrev S_ : Shape := ⟨0, ![]⟩
abbrev S256x32x128 : Shape := ⟨3, ![256, 32, 128]⟩
abbrev S32x8192x128 : Shape := ⟨3, ![32, 8192, 128]⟩
abbrev S32x256x128 : Shape := ⟨3, ![32, 256, 128]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S1x4096x13472, .f32⟩
  | .hbm, ⟨3, _⟩ => ⟨S4096x13472, .f32⟩
  | .hbm, ⟨4, _⟩ => ⟨S8192x4096, .f32⟩
  | .hbm, ⟨5, _⟩ => ⟨S8192x13472, .f32⟩
  | .hbm, ⟨6, _⟩ => ⟨S256x4096, .f32⟩
  | .hbm, ⟨7, _⟩ => ⟨S256x13472, .f32⟩
  | .hbm, ⟨8, _⟩ => ⟨S8192x4096, .f32⟩
  | .hbm, ⟨9, _⟩ => ⟨S8192x32x128, .f32⟩
  | .hbm, ⟨10, _⟩ => ⟨S_, .f32⟩
  | .hbm, ⟨11, _⟩ => ⟨S8192x32x128, .f32⟩
  | .hbm, ⟨12, _⟩ => ⟨S8192x32x128, .f32⟩
  | .hbm, ⟨13, _⟩ => ⟨S256x4096, .f32⟩
  | .hbm, ⟨14, _⟩ => ⟨S256x32x128, .f32⟩
  | .hbm, ⟨15, _⟩ => ⟨S_, .f32⟩
  | .hbm, ⟨16, _⟩ => ⟨S256x32x128, .f32⟩
  | .hbm, ⟨17, _⟩ => ⟨S256x32x128, .f32⟩
  | .hbm, ⟨18, _⟩ => ⟨S8192x32x128, .bf16⟩
  | .hbm, ⟨19, _⟩ => ⟨S32x8192x128, .bf16⟩
  | .hbm, ⟨20, _⟩ => ⟨S32x256x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel5.lean ====
abbrev S8192x4096 : Shape := ⟨2, ![8192, 4096]⟩
abbrev S256x4096 : Shape := ⟨2, ![256, 4096]⟩
abbrev S1x4096x13472 : Shape := ⟨3, ![1, 4096, 13472]⟩
abbrev S4096x13472 : Shape := ⟨2, ![4096, 13472]⟩
abbrev S13472x4096 : Shape := ⟨2, ![13472, 4096]⟩
abbrev S8192x256 : Shape := ⟨2, ![8192, 256]⟩
abbrev S8192x128 : Shape := ⟨2, ![8192, 128]⟩
abbrev S256x256 : Shape := ⟨2, ![256, 256]⟩
abbrev S1024x4096 : Shape := ⟨2, ![1024, 4096]⟩
abbrev S1024x256 : Shape := ⟨2, ![1024, 256]⟩
abbrev S1024x128 : Shape := ⟨2, ![1024, 128]⟩
abbrev S1 : Shape := ⟨1, ![1]⟩
abbrev S_ : Shape := ⟨0, ![]⟩
abbrev S128x4096 : Shape := ⟨2, ![128, 4096]⟩
abbrev S256x128 : Shape := ⟨2, ![256, 128]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S1x4096x13472, .f32⟩
  | .hbm, ⟨3, _⟩ => ⟨S4096x13472, .f32⟩
  | .hbm, ⟨4, _⟩ => ⟨S13472x4096, .f32⟩
  | .hbm, ⟨5, _⟩ => ⟨S8192x256, .f32⟩
  | .hbm, ⟨6, _⟩ => ⟨S8192x128, .bf16⟩
  | .hbm, ⟨7, _⟩ => ⟨S256x256, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S1024x256, .f32⟩
  | .local _ .vmem, ⟨4, _⟩ => ⟨S1024x256, .f32⟩
  | .local _ .vmem, ⟨5, _⟩ => ⟨S1024x128, .bf16⟩
  | .local _ .vmem, ⟨6, _⟩ => ⟨S1024x128, .bf16⟩
  | .local _ .vmem, ⟨7, _⟩ => ⟨S256x256, .f32⟩
  | .local _ .vmem, ⟨8, _⟩ => ⟨S256x4096, .f32⟩
  | .local _ .vmem, ⟨9, _⟩ => ⟨S256x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c9216_i32 : BitVec 32 := 9216#32
  c9216_i32
def k0_mult2 : BitVec 32 :=
  let c9248_i32 : BitVec 32 := 9248#32
  c9248_i32
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult3 (i : grid0.Coords) : BitVec 32 :=
  let c9216_i32 : BitVec 32 := 9216#32
  let arg0 : BitVec 32 := BitVec.ofNat 32 (i 0).val
  let c128_i32 : BitVec 32 := 128#32
  let v29 : BitVec 32 := Scalar.muli arg0 c128_i32
  let v30 : BitVec 32 := Scalar.addi c9216_i32 v29
  v30
def k0_mult4 (i : grid0.Coords) : BitVec 32 :=
  let c9248_i32 : BitVec 32 := 9248#32
  let arg0 : BitVec 32 := BitVec.ofNat 32 (i 0).val
  let c128_i32_17 : BitVec 32 := 128#32
  let v32 : BitVec 32 := Scalar.muli arg0 c128_i32_17
  let v33 : BitVec 32 := Scalar.addi c9248_i32 v32
  v33
def k0_off1 (i : grid0.Coords) (c9216_i32 : BitVec 32) : Fin 2 → Nat :=
  let arg0 : BitVec 32 := BitVec.ofNat 32 (i 0).val
  let c128_i32 : BitVec 32 := 128#32
  let v29 : BitVec 32 := Scalar.muli arg0 c128_i32
  let v30 : BitVec 32 := Scalar.addi c9216_i32 v29
  let v31 : BitVec 32 := v30
  let c0_i32_21 : BitVec 32 := 0#32
  ![v31.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c1_i32_5 : BitVec 32 := 1#32
  let v10 : BitVec 1 := Scalar.cmpi .slt v9 c1_i32_5
  let v11 : BitVec 1 := Scalar.andi v8 v10
  let v12 : BitVec 32 := Scalar.extui v11
  let c0_i32_6 : BitVec 32 := 0#32
  let v13 : BitVec 1 := Scalar.cmpi .ne v12 c0_i32_6
  v13

def k0_mult5 (i : grid0.Coords) : BitVec 32 :=
  let c9216_i32 : BitVec 32 := 9216#32
  let arg0 : BitVec 32 := BitVec.ofNat 32 (i 0).val
  let c1_i32_17 : BitVec 32 := 1#32
  let v29 : BitVec 32 := Scalar.addi arg0 c1_i32_17
  let c128_i32 : BitVec 32 := 128#32
  let v30 : BitVec 32 := Scalar.muli v29 c128_i32
  let v31 : BitVec 32 := Scalar.addi c9216_i32 v30
  v31
def k0_mult6 (i : grid0.Coords) : BitVec 32 :=
  let c9248_i32 : BitVec 32 := 9248#32
  let arg0 : BitVec 32 := BitVec.ofNat 32 (i 0).val
  let c1_i32_17 : BitVec 32 := 1#32
  let v29 : BitVec 32 := Scalar.addi arg0 c1_i32_17
  let c128_i32_18 : BitVec 32 := 128#32
  let v33 : BitVec 32 := Scalar.muli v29 c128_i32_18
  let v34 : BitVec 32 := Scalar.addi c9248_i32 v33
  v34
def k0_off2 (i : grid0.Coords) (c9216_i32 : BitVec 32) : Fin 2 → Nat :=
  let arg0 : BitVec 32 := BitVec.ofNat 32 (i 0).val
  let c1_i32_17 : BitVec 32 := 1#32
  let v29 : BitVec 32 := Scalar.addi arg0 c1_i32_17
  let c128_i32 : BitVec 32 := 128#32
  let v30 : BitVec 32 := Scalar.muli v29 c128_i32
  let v31 : BitVec 32 := Scalar.addi c9216_i32 v30
  let v32 : BitVec 32 := v31
  let c0_i32_22 : BitVec 32 := 0#32
  ![v32.toNat, 0]
def k0_cond4 (i : grid0.Coords) : BitVec 1 :=
  let arg1 : BitVec 32 := BitVec.ofNat 32 (i 1).val
  let c0_i32_15 : BitVec 32 := 0#32
  let v26 : BitVec 1 := Scalar.cmpi .eq arg1 c0_i32_15
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference5Ideal.lean ====
abbrev S8192x4096 : Shape := ⟨2, ![8192, 4096]⟩
abbrev S256x4096 : Shape := ⟨2, ![256, 4096]⟩
abbrev S1x4096x13472 : Shape := ⟨3, ![1, 4096, 13472]⟩
abbrev S4096x13472 : Shape := ⟨2, ![4096, 13472]⟩
abbrev S8192x13472 : Shape := ⟨2, ![8192, 13472]⟩
abbrev S256x13472 : Shape := ⟨2, ![256, 13472]⟩
abbrev S8192x128 : Shape := ⟨2, ![8192, 128]⟩
abbrev S_ : Shape := ⟨0, ![]⟩
abbrev S256x128 : Shape := ⟨2, ![256, 128]⟩
abbrev S8192x256 : Shape := ⟨2, ![8192, 256]⟩
abbrev S256x256 : Shape := ⟨2, ![256, 256]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S1x4096x13472, .f32⟩
  | .hbm, ⟨3, _⟩ => ⟨S4096x13472, .f32⟩
  | .hbm, ⟨4, _⟩ => ⟨S8192x4096, .f32⟩
  | .hbm, ⟨5, _⟩ => ⟨S8192x13472, .f32⟩
  | .hbm, ⟨6, _⟩ => ⟨S256x4096, .f32⟩
  | .hbm, ⟨7, _⟩ => ⟨S256x13472, .f32⟩
  | .hbm, ⟨8, _⟩ => ⟨S8192x128, .f32⟩
  | .hbm, ⟨9, _⟩ => ⟨S_, .f32⟩
  | .hbm, ⟨10, _⟩ => ⟨S8192x128, .f32⟩
  | .hbm, ⟨11, _⟩ => ⟨S8192x128, .f32⟩
  | .hbm, ⟨12, _⟩ => ⟨S256x128, .f32⟩
  | .hbm, ⟨13, _⟩ => ⟨S_, .f32⟩
  | .hbm, ⟨14, _⟩ => ⟨S256x128, .f32⟩
  | .hbm, ⟨15, _⟩ => ⟨S256x128, .f32⟩
  | .hbm, ⟨16, _⟩ => ⟨S8192x128, .f32⟩
  | .hbm, ⟨17, _⟩ => ⟨S256x128, .f32⟩
  | .hbm, ⟨18, _⟩ => ⟨S8192x256, .f32⟩
  | .hbm, ⟨19, _⟩ => ⟨S8192x128, .bf16⟩
  | .hbm, ⟨20, _⟩ => ⟨S256x256, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel7.lean ====
abbrev S8192x4096 : Shape := ⟨2, ![8192, 4096]⟩
abbrev S256x4096 : Shape := ⟨2, ![256, 4096]⟩
abbrev S1x4096x13472 : Shape := ⟨3, ![1, 4096, 13472]⟩
abbrev S4096x13472 : Shape := ⟨2, ![4096, 13472]⟩
abbrev S13472x4096 : Shape := ⟨2, ![13472, 4096]⟩
abbrev S16x8192x128 : Shape := ⟨3, ![16, 8192, 128]⟩
abbrev S16x256x128 : Shape := ⟨3, ![16, 256, 128]⟩
abbrev S2048x4096 : Shape := ⟨2, ![2048, 4096]⟩
abbrev S4x2048x128 : Shape := ⟨3, ![4, 2048, 128]⟩
abbrev S4x256x128 : Shape := ⟨3, ![4, 256, 128]⟩
abbrev S512x4096 : Shape := ⟨2, ![512, 4096]⟩
abbrev S1 : Shape := ⟨1, ![1]⟩
abbrev S_ : Shape := ⟨0, ![]⟩
abbrev S2048x512 : Shape := ⟨2, ![2048, 512]⟩
abbrev S2048x128 : Shape := ⟨2, ![2048, 128]⟩
abbrev S1x2048x128 : Shape := ⟨3, ![1, 2048, 128]⟩
abbrev S256x512 : Shape := ⟨2, ![256, 512]⟩
abbrev S256x128 : Shape := ⟨2, ![256, 128]⟩
abbrev S1x256x128 : Shape := ⟨3, ![1, 256, 128]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S1x4096x13472, .f32⟩
  | .hbm, ⟨3, _⟩ => ⟨S4096x13472, .f32⟩
  | .hbm, ⟨4, _⟩ => ⟨S13472x4096, .f32⟩
  | .hbm, ⟨5, _⟩ => ⟨S16x8192x128, .bf16⟩
  | .hbm, ⟨6, _⟩ => ⟨S16x256x128, .f32⟩
  | .local _ .vmem, ⟨0, _⟩ => ⟨S2048x4096, .bf16⟩
  | .local _ .vmem, ⟨1, _⟩ => ⟨S2048x4096, .bf16⟩
  | .local _ .vmem, ⟨2, _⟩ => ⟨S256x4096, .bf16⟩
  | .local _ .vmem, ⟨3, _⟩ => ⟨S4x2048x128, .bf16⟩
  | .local _ .vmem, ⟨4, _⟩ => ⟨S4x2048x128, .bf16⟩
  | .local _ .vmem, ⟨5, _⟩ => ⟨S4x256x128, .f32⟩
  | .local _ .vmem, ⟨6, _⟩ => ⟨S4x256x128, .f32⟩
  | .local _ .vmem, ⟨7, _⟩ => ⟨S512x4096, .f32⟩
  | .local _ .vmem, ⟨8, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_21 : BitVec 32 := 0#32
  c0_i32_21
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let c0_i32_21 : BitVec 32 := 0#32
  let arg0 : BitVec 32 := BitVec.ofNat 32 (i 0).val
  let c512_i32 : BitVec 32 := 512#32
  let v42 : BitVec 32 := Scalar.muli arg0 c512_i32
  let v43 : BitVec 32 := Scalar.addi c0_i32_21 v42
  v43
def k0_off1 (i : grid0.Coords) : Fin 2 → Nat :=
  let c0_i32_21 : BitVec 32 := 0#32
  let arg0 : BitVec 32 := BitVec.ofNat 32 (i 0).val
  let c512_i32 : BitVec 32 := 512#32
  let v42 : BitVec 32 := Scalar.muli arg0 c512_i32
  let v43 : BitVec 32 := Scalar.addi c0_i32_21 v42
  let v44 : BitVec 32 := v43
  let c0_i32_25 : BitVec 32 := 0#32
  ![v44.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c4_i32 : BitVec 32 := 4#32
  let v10 : BitVec 1 := Scalar.cmpi .slt v9 c4_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult3 (i : grid0.Coords) : BitVec 32 :=
  let c0_i32_22 : BitVec 32 := 0#32
  let arg0 : BitVec 32 := BitVec.ofNat 32 (i 0).val
  let c1_i32_21 : BitVec 32 := 1#32
  let v42 : BitVec 32 := Scalar.addi arg0 c1_i32_21
  let c512_i32 : BitVec 32 := 512#32
  let v43 : BitVec 32 := Scalar.muli v42 c512_i32
  let v44 : BitVec 32 := Scalar.addi c0_i32_22 v43
  v44
def k0_off2 (i : grid0.Coords) : Fin 2 → Nat :=
  let c0_i32_22 : BitVec 32 := 0#32
  let arg0 : BitVec 32 := BitVec.ofNat 32 (i 0).val
  let c1_i32_21 : BitVec 32 := 1#32
  let v42 : BitVec 32 := Scalar.addi arg0 c1_i32_21
  let c512_i32 : BitVec 32 := 512#32
  let v43 : BitVec 32 := Scalar.muli v42 c512_i32
  let v44 : BitVec 32 := Scalar.addi c0_i32_22 v43
  let v45 : BitVec 32 := v44
  let c0_i32_26 : BitVec 32 := 0#32
  ![v45.toNat, 0]
def k0_cond4 (i : grid0.Coords) : BitVec 1 :=
  let arg1 : BitVec 32 := BitVec.ofNat 32 (i 1).val
  let c0_i32_19 : BitVec 32 := 0#32
  let v39 : BitVec 1 := Scalar.cmpi .eq arg1 c0_i32_19
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference7Ideal.lean ====
abbrev S8192x4096 : Shape := ⟨2, ![8192, 4096]⟩
abbrev S256x4096 : Shape := ⟨2, ![256, 4096]⟩
abbrev S1x4096x13472 : Shape := ⟨3, ![1, 4096, 13472]⟩
abbrev S4096x13472 : Shape := ⟨2, ![4096, 13472]⟩
abbrev S8192x13472 : Shape := ⟨2, ![8192, 13472]⟩
abbrev S256x13472 : Shape := ⟨2, ![256, 13472]⟩
abbrev S8192x2048 : Shape := ⟨2, ![8192, 2048]⟩
abbrev S8192x16x128 : Shape := ⟨3, ![8192, 16, 128]⟩
abbrev S_ : Shape := ⟨0, ![]⟩
abbrev S256x2048 : Shape := ⟨2, ![256, 2048]⟩
abbrev S256x16x128 : Shape := ⟨3, ![256, 16, 128]⟩
abbrev S16x8192x128 : Shape := ⟨3, ![16, 8192, 128]⟩
abbrev S16x256x128 : Shape := ⟨3, ![16, 256, 128]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S1x4096x13472, .f32⟩
  | .hbm, ⟨3, _⟩ => ⟨S4096x13472, .f32⟩
  | .hbm, ⟨4, _⟩ => ⟨S8192x4096, .f32⟩
  | .hbm, ⟨5, _⟩ => ⟨S8192x13472, .f32⟩
  | .hbm, ⟨6, _⟩ => ⟨S256x4096, .f32⟩
  | .hbm, ⟨7, _⟩ => ⟨S256x13472, .f32⟩
  | .hbm, ⟨8, _⟩ => ⟨S8192x2048, .f32⟩
  | .hbm, ⟨9, _⟩ => ⟨S8192x16x128, .f32⟩
  | .hbm, ⟨10, _⟩ => ⟨S_, .f32⟩
  | .hbm, ⟨11, _⟩ => ⟨S8192x16x128, .f32⟩
  | .hbm, ⟨12, _⟩ => ⟨S8192x16x128, .f32⟩
  | .hbm, ⟨13, _⟩ => ⟨S256x2048, .f32⟩
  | .hbm, ⟨14, _⟩ => ⟨S256x16x128, .f32⟩
  | .hbm, ⟨15, _⟩ => ⟨S_, .f32⟩
  | .hbm, ⟨16, _⟩ => ⟨S256x16x128, .f32⟩
  | .hbm, ⟨17, _⟩ => ⟨S256x16x128, .f32⟩
  | .hbm, ⟨18, _⟩ => ⟨S8192x16x128, .bf16⟩
  | .hbm, ⟨19, _⟩ => ⟨S16x8192x128, .bf16⟩
  | .hbm, ⟨20, _⟩ => ⟨S16x256x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel8.lean ====
abbrev S8192x4096 : Shape := ⟨2, ![8192, 4096]⟩
abbrev S256x4096 : Shape := ⟨2, ![256, 4096]⟩
abbrev S1x4096x13472 : Shape := ⟨3, ![1, 4096, 13472]⟩
abbrev S4096x13472 : Shape := ⟨2, ![4096, 13472]⟩
abbrev S13472x4096 : Shape := ⟨2, ![13472, 4096]⟩
abbrev S16x8192x128 : Shape := ⟨3, ![16, 8192, 128]⟩
abbrev S16x256x128 : Shape := ⟨3, ![16, 256, 128]⟩
abbrev S2048x4096 : Shape := ⟨2, ![2048, 4096]⟩
abbrev S4x2048x128 : Shape := ⟨3, ![4, 2048, 128]⟩
abbrev S4x256x128 : Shape := ⟨3, ![4, 256, 128]⟩
abbrev S512x4096 : Shape := ⟨2, ![512, 4096]⟩
abbrev S1 : Shape := ⟨1, ![1]⟩
abbrev S_ : Shape := ⟨0, ![]⟩
abbrev S2048x512 : Shape := ⟨2, ![2048, 512]⟩
abbrev S2048x128 : Shape := ⟨2, ![2048, 128]⟩
abbrev S1x2048x128 : Shape := ⟨3, ![1, 2048, 128]⟩
abbrev S256x512 : Shape := ⟨2, ![256, 512]⟩
abbrev S256x128 : Shape := ⟨2, ![256, 128]⟩
abbrev S1x256x128 : Shape := ⟨3, ![1, 256, 128]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S1x4096x13472, .f32⟩
  | .hbm, ⟨3, _⟩ => ⟨S4096x13472, .f32⟩
  | .hbm, ⟨4, _⟩ => ⟨S13472x4096, .f32⟩
  | .hbm, ⟨5, _⟩ => ⟨S16x8192x128, .bf16⟩
  | .hbm, ⟨6, _⟩ => ⟨S16x256x128, .f32⟩
  | .local _ .vmem, ⟨0, _⟩ => ⟨S2048x4096, .bf16⟩
  | .local _ .vmem, ⟨1, _⟩ => ⟨S2048x4096, .bf16⟩
  | .local _ .vmem, ⟨2, _⟩ => ⟨S256x4096, .bf16⟩
  | .local _ .vmem, ⟨3, _⟩ => ⟨S4x2048x128, .bf16⟩
  | .local _ .vmem, ⟨4, _⟩ => ⟨S4x2048x128, .bf16⟩
  | .local _ .vmem, ⟨5, _⟩ => ⟨S4x256x128, .f32⟩
  | .local _ .vmem, ⟨6, _⟩ => ⟨S4x256x128, .f32⟩
  | .local _ .vmem, ⟨7, _⟩ => ⟨S512x4096, .f32⟩
  | .local _ .vmem, ⟨8, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c3072_i32 : BitVec 32 := 3072#32
  c3072_i32
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let c3072_i32 : BitVec 32 := 3072#32
  let arg0 : BitVec 32 := BitVec.ofNat 32 (i 0).val
  let c512_i32 : BitVec 32 := 512#32
  let v42 : BitVec 32 := Scalar.muli arg0 c512_i32
  let v43 : BitVec 32 := Scalar.addi c3072_i32 v42
  v43
def k0_off1 (i : grid0.Coords) : Fin 2 → Nat :=
  let c3072_i32 : BitVec 32 := 3072#32
  let arg0 : BitVec 32 := BitVec.ofNat 32 (i 0).val
  let c512_i32 : BitVec 32 := 512#32
  let v42 : BitVec 32 := Scalar.muli arg0 c512_i32
  let v43 : BitVec 32 := Scalar.addi c3072_i32 v42
  let v44 : BitVec 32 := v43
  let c0_i32_23 : BitVec 32 := 0#32
  ![v44.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c4_i32 : BitVec 32 := 4#32
  let v10 : BitVec 1 := Scalar.cmpi .slt v9 c4_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult3 (i : grid0.Coords) : BitVec 32 :=
  let c3072_i32 : BitVec 32 := 3072#32
  let arg0 : BitVec 32 := BitVec.ofNat 32 (i 0).val
  let c1_i32_20 : BitVec 32 := 1#32
  let v42 : BitVec 32 := Scalar.addi arg0 c1_i32_20
  let c512_i32 : BitVec 32 := 512#32
  let v43 : BitVec 32 := Scalar.muli v42 c512_i32
  let v44 : BitVec 32 := Scalar.addi c3072_i32 v43
  v44
def k0_off2 (i : grid0.Coords) : Fin 2 → Nat :=
  let c3072_i32 : BitVec 32 := 3072#32
  let arg0 : BitVec 32 := BitVec.ofNat 32 (i 0).val
  let c1_i32_20 : BitVec 32 := 1#32
  let v42 : BitVec 32 := Scalar.addi arg0 c1_i32_20
  let c512_i32 : BitVec 32 := 512#32
  let v43 : BitVec 32 := Scalar.muli v42 c512_i32
  let v44 : BitVec 32 := Scalar.addi c3072_i32 v43
  let v45 : BitVec 32 := v44
  let c0_i32_24 : BitVec 32 := 0#32
  ![v45.toNat, 0]
def k0_cond4 (i : grid0.Coords) : BitVec 1 :=
  let arg1 : BitVec 32 := BitVec.ofNat 32 (i 1).val
  let c0_i32_18 : BitVec 32 := 0#32
  let v39 : BitVec 1 := Scalar.cmpi .eq arg1 c0_i32_18
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference8Ideal.lean ====
abbrev S8192x4096 : Shape := ⟨2, ![8192, 4096]⟩
abbrev S256x4096 : Shape := ⟨2, ![256, 4096]⟩
abbrev S1x4096x13472 : Shape := ⟨3, ![1, 4096, 13472]⟩
abbrev S4096x13472 : Shape := ⟨2, ![4096, 13472]⟩
abbrev S8192x13472 : Shape := ⟨2, ![8192, 13472]⟩
abbrev S256x13472 : Shape := ⟨2, ![256, 13472]⟩
abbrev S8192x2048 : Shape := ⟨2, ![8192, 2048]⟩
abbrev S_ : Shape := ⟨0, ![]⟩
abbrev S8192x16x128 : Shape := ⟨3, ![8192, 16, 128]⟩
abbrev S256x2048 : Shape := ⟨2, ![256, 2048]⟩
abbrev S256x16x128 : Shape := ⟨3, ![256, 16, 128]⟩
abbrev S16x8192x128 : Shape := ⟨3, ![16, 8192, 128]⟩
abbrev S16x256x128 : Shape := ⟨3, ![16, 256, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S1x4096x13472, .f32⟩
  | .hbm, ⟨3, _⟩ => ⟨S4096x13472, .f32⟩
  | .hbm, ⟨4, _⟩ => ⟨S8192x4096, .f32⟩
  | .hbm, ⟨5, _⟩ => ⟨S8192x13472, .f32⟩
  | .hbm, ⟨6, _⟩ => ⟨S256x4096, .f32⟩
  | .hbm, ⟨7, _⟩ => ⟨S256x13472, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x16x128, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S256x16x128, .f32⟩
  | .hbm, ⟨30, _⟩ => ⟨S8192x16x128, .bf16⟩
  | .hbm, ⟨31, _⟩ => ⟨S16x8192x128, .bf16⟩
  | .hbm, ⟨32, _⟩ => ⟨S16x256x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel9.lean ====
abbrev S8192x4096 : Shape := ⟨2, ![8192, 4096]⟩
abbrev S256x4096 : Shape := ⟨2, ![256, 4096]⟩
abbrev S1x4096x13472 : Shape := ⟨3, ![1, 4096, 13472]⟩
abbrev S4096x13472 : Shape := ⟨2, ![4096, 13472]⟩
abbrev S13472x4096 : Shape := ⟨2, ![13472, 4096]⟩
abbrev S8192x2048 : Shape := ⟨2, ![8192, 2048]⟩
abbrev S256x2048 : Shape := ⟨2, ![256, 2048]⟩
abbrev S2048x4096 : Shape := ⟨2, ![2048, 4096]⟩
abbrev S2048x512 : Shape := ⟨2, ![2048, 512]⟩
abbrev S256x512 : Shape := ⟨2, ![256, 512]⟩
abbrev S512x4096 : Shape := ⟨2, ![512, 4096]⟩
abbrev S1 : Shape := ⟨1, ![1]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S1x4096x13472, .f32⟩
  | .hbm, ⟨3, _⟩ => ⟨S4096x13472, .f32⟩
  | .hbm, ⟨4, _⟩ => ⟨S13472x4096, .f32⟩
  | .hbm, ⟨5, _⟩ => ⟨S8192x2048, .bf16⟩
  | .hbm, ⟨6, _⟩ => ⟨S256x2048, .f32⟩
  | .local _ .vmem, ⟨0, _⟩ => ⟨S2048x4096, .bf16⟩
  | .local _ .vmem, ⟨1, _⟩ => ⟨S2048x4096, .bf16⟩
  | .local _ .vmem, ⟨2, _⟩ => ⟨S256x4096, .bf16⟩
  | .local _ .vmem, ⟨3, _⟩ => ⟨S2048x512, .bf16⟩
  | .local _ .vmem, ⟨4, _⟩ => ⟨S2048x512, .bf16⟩
  | .local _ .vmem, ⟨5, _⟩ => ⟨S256x512, .f32⟩
  | .local _ .vmem, ⟨6, _⟩ => ⟨S256x512, .f32⟩
  | .local _ .vmem, ⟨7, _⟩ => ⟨S512x4096, .f32⟩
  | .local _ .vmem, ⟨8, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c11424_i32 : BitVec 32 := 11424#32
  c11424_i32
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_mult2 (i : grid0.Coords) : BitVec 32 :=
  let c11424_i32 : BitVec 32 := 11424#32
  let arg0 : BitVec 32 := BitVec.ofNat 32 (i 0).val
  let c512_i32 : BitVec 32 := 512#32
  let v24 : BitVec 32 := Scalar.muli arg0 c512_i32
  let v25 : BitVec 32 := Scalar.addi c11424_i32 v24
  v25
def k0_off1 (i : grid0.Coords) : Fin 2 → Nat :=
  let c11424_i32 : BitVec 32 := 11424#32
  let arg0 : BitVec 32 := BitVec.ofNat 32 (i 0).val
  let c512_i32 : BitVec 32 := 512#32
  let v24 : BitVec 32 := Scalar.muli arg0 c512_i32
  let v25 : BitVec 32 := Scalar.addi c11424_i32 v24
  let v26 : BitVec 32 := v25
  let c0_i32_16 : BitVec 32 := 0#32
  ![v26.toNat, 0]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let arg0 : BitVec 32 := BitVec.ofNat 32 (i 0).val
  let c1_i32_4 : BitVec 32 := 1#32
  let v9 : BitVec 32 := Scalar.addi arg0 c1_i32_4
  let c4_i32 : BitVec 32 := 4#32
  let v10 : BitVec 1 := Scalar.cmpi .slt v9 c4_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult3 (i : grid0.Coords) : BitVec 32 :=
  let c11424_i32 : BitVec 32 := 11424#32
  let arg0 : BitVec 32 := BitVec.ofNat 32 (i 0).val
  let c1_i32_13 : BitVec 32 := 1#32
  let v24 : BitVec 32 := Scalar.addi arg0 c1_i32_13
  let c512_i32 : BitVec 32 := 512#32
  let v25 : BitVec 32 := Scalar.muli v24 c512_i32
  let v26 : BitVec 32 := Scalar.addi c11424_i32 v25
  v26
def k0_off2 (i : grid0.Coords) : Fin 2 → Nat :=
  let c11424_i32 : BitVec 32 := 11424#32
  let arg0 : BitVec 32 := BitVec.ofNat 32 (i 0).val
  let c1_i32_13 : BitVec 32 := 1#32
  let v24 : BitVec 32 := Scalar.addi arg0 c1_i32_13
  let c512_i32 : BitVec 32 := 512#32
  let v25 : BitVec 32 := Scalar.muli v24 c512_i32
  let v26 : BitVec 32 := Scalar.addi c11424_i32 v25
  let v27 : BitVec 32 := v26
  let c0_i32_17 : BitVec 32 := 0#32
  ![v27.toNat, 0]
def k0_cond4 (i : grid0.Coords) : BitVec 1 :=
  let arg1 : BitVec 32 := BitVec.ofNat 32 (i 1).val
  let c0_i32_11 : BitVec 32 := 0#32
  let v21 : BitVec 1 := Scalar.cmpi .eq arg1 c0_i32_11
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference9Ideal.lean ====
abbrev S8192x4096 : Shape := ⟨2, ![8192, 4096]⟩
abbrev S256x4096 : Shape := ⟨2, ![256, 4096]⟩
abbrev S1x4096x13472 : Shape := ⟨3, ![1, 4096, 13472]⟩
abbrev S4096x13472 : Shape := ⟨2, ![4096, 13472]⟩
abbrev S8192x13472 : Shape := ⟨2, ![8192, 13472]⟩
abbrev S256x13472 : Shape := ⟨2, ![256, 13472]⟩
abbrev S8192x2048 : Shape := ⟨2, ![8192, 2048]⟩
abbrev S_ : Shape := ⟨0, ![]⟩
abbrev S256x2048 : Shape := ⟨2, ![256, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S256x4096, .bf16⟩
  | .hbm, ⟨2, _⟩ => ⟨S1x4096x13472, .f32⟩
  | .hbm, ⟨3, _⟩ => ⟨S4096x13472, .f32⟩
  | .hbm, ⟨4, _⟩ => ⟨S8192x4096, .f32⟩
  | .hbm, ⟨5, _⟩ => ⟨S8192x13472, .f32⟩
  | .hbm, ⟨6, _⟩ => ⟨S256x4096, .f32⟩
  | .hbm, ⟨7, _⟩ => ⟨S256x13472, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Kernel10.lean ====
abbrev S16x256x128 : Shape := ⟨3, ![16, 256, 128]⟩
abbrev S256x2048 : Shape := ⟨2, ![256, 2048]⟩
abbrev S1x4096x4096 : Shape := ⟨3, ![1, 4096, 4096]⟩
abbrev S32x8x4096 : Shape := ⟨3, ![32, 8, 4096]⟩
abbrev S4096 : Shape := ⟨1, ![4096]⟩
abbrev S4096x4096 : Shape := ⟨2, ![4096, 4096]⟩
abbrev S256x4096 : Shape := ⟨2, ![256, 4096]⟩
abbrev S1x4096 : Shape := ⟨2, ![1, 4096]⟩
abbrev S4096x1024 : Shape := ⟨2, ![4096, 1024]⟩
abbrev S256x1024 : Shape := ⟨2, ![256, 1024]⟩
abbrev S1x256x128 : Shape := ⟨3, ![1, 256, 128]⟩
abbrev S256x128 : Shape := ⟨2, ![256, 128]⟩
abbrev S256x1 : Shape := ⟨2, ![256, 1]⟩
abbrev S256 : Shape := ⟨1, ![256]⟩
abbrev S1x1024 : Shape := ⟨2, ![1, 1024]⟩

abbrev nBuf : Space → Nat
  | .hbm => 10
  | .vmem => 9
  | .smem => 0
  | _ => 0

abbrev bufTy : (tb : Table) → Fin (tcTables nBuf tb) → BufTy
  | .hbm, ⟨0, _⟩ => ⟨S16x256x128, .f32⟩
  | .hbm, ⟨1, _⟩ => ⟨S256x2048, .f32⟩
  | .hbm, ⟨2, _⟩ => ⟨S1x4096x4096, .f32⟩
  | .hbm, ⟨3, _⟩ => ⟨S32x8x4096, .f32⟩
  | .hbm, ⟨4, _⟩ => ⟨S4096, .f32⟩
  | .hbm, ⟨5, _⟩ => ⟨S4096x4096, .f32⟩
  | .hbm, ⟨6, _⟩ => ⟨S4096x4096, .bf16⟩
  | .hbm, ⟨7, _⟩ => ⟨S256x4096, .f32⟩
  | .hbm, ⟨8, _⟩ => ⟨S1x4096, .f32⟩
  | .hbm, ⟨9, _⟩ => ⟨S256x4096, .f32⟩
  | .local _ .vmem, ⟨0, _⟩ => ⟨S16x256x128, .f32⟩
  | .local _ .vmem, ⟨1, _⟩ => ⟨S256x2048, .f32⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | .local _ .vmem, ⟨6, _⟩ => ⟨S1x4096, .f32⟩
  | .local _ .vmem, ⟨7, _⟩ => ⟨S256x4096, .f32⟩
  | .local _ .vmem, ⟨8, _⟩ => ⟨S256x4096, .bf16⟩
  | _, _ => ⟨S16x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c0_i32_6 : BitVec 32 := 0#32
  let v10 : BitVec 1 := Scalar.cmpi .eq arg1 c0_i32_6
  let v11 : BitVec 32 := Scalar.extui v10
  let c0_i32_7 : BitVec 32 := 0#32
  let v12 : BitVec 1 := Scalar.cmpi .ne v11 c0_i32_7
  v12

def k0_cond3 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def k0_cond4 (i : grid0.Coords) : BitVec 1 :=
  let arg1 : BitVec 32 := BitVec.ofNat 32 (i 1).val
  let c2_i32 : BitVec 32 := 2#32
  let v16 : BitVec 1 := Scalar.cmpi .eq arg1 c2_i32
  let v17 : BitVec 32 := Scalar.extui v16
  let c0_i32_9 : BitVec 32 := 0#32
  let v18 : BitVec 1 := Scalar.cmpi .ne v17 c0_i32_9
  v18

def k0_cond5 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_10 : BitVec 32 := 0#32
  let v21 : BitVec 1 := Scalar.cmpi .ne v20 c0_i32_10
  v21

def k0_cond6 (i : grid0.Coords) : BitVec 1 :=
  let arg1 : BitVec 32 := BitVec.ofNat 32 (i 1).val
  let c3_i32_11 : BitVec 32 := 3#32
  let v22 : BitVec 1 := Scalar.cmpi .eq arg1 c3_i32_11
  let v23 : BitVec 32 := Scalar.extui v22
  let c0_i32_12 : BitVec 32 := 0#32
  let v24 : BitVec 1 := Scalar.cmpi .ne v23 c0_i32_12
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S16x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference10Ideal.lean ====
abbrev S16x256x128 : Shape := ⟨3, ![16, 256, 128]⟩
abbrev S256x2048 : Shape := ⟨2, ![256, 2048]⟩
abbrev S1x4096x4096 : Shape := ⟨3, ![1, 4096, 4096]⟩
abbrev S32x8x4096 : Shape := ⟨3, ![32, 8, 4096]⟩
abbrev S4096 : Shape := ⟨1, ![4096]⟩
abbrev S4096x4096 : Shape := ⟨2, ![4096, 4096]⟩
abbrev S256x16x128 : Shape := ⟨3, ![256, 16, 128]⟩
abbrev S32x8x2048 : Shape := ⟨3, ![32, 8, 2048]⟩
abbrev S_ : Shape := ⟨0, ![]⟩
abbrev S32x8 : Shape := ⟨2, ![32, 8]⟩
abbrev S32x8x1 : Shape := ⟨3, ![32, 8, 1]⟩
abbrev S1x1x4096 : Shape := ⟨3, ![1, 1, 4096]⟩
abbrev S256x4096 : Shape := ⟨2, ![256, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16x256x128, .f32⟩
  | .hbm, ⟨1, _⟩ => ⟨S256x2048, .f32⟩
  | .hbm, ⟨2, _⟩ => ⟨S1x4096x4096, .f32⟩
  | .hbm, ⟨3, _⟩ => ⟨S32x8x4096, .f32⟩
  | .hbm, ⟨4, _⟩ => ⟨S4096, .f32⟩
  | .hbm, ⟨5, _⟩ => ⟨S4096x4096, .f32⟩
  | .hbm, ⟨6, _⟩ => ⟨S256x16x128, .f32⟩
  | .hbm, ⟨7, _⟩ => ⟨S32x8x2048, .f32⟩
  | .hbm, ⟨8, _⟩ => ⟨S32x8x2048, .f32⟩
  | .hbm, ⟨9, _⟩ => ⟨S32x8x4096, .f32⟩
  | .hbm, ⟨10, _⟩ => ⟨S32x8x4096, .f32⟩
  | .hbm, ⟨11, _⟩ => ⟨S32x8x4096, .f32⟩
  | .hbm, ⟨12, _⟩ => ⟨S32x8x4096, .f32⟩
  | .hbm, ⟨13, _⟩ => ⟨S_, .f32⟩
  | .hbm, ⟨14, _⟩ => ⟨S32x8, .f32⟩
  | .hbm, ⟨15, _⟩ => ⟨S32x8x1, .f32⟩
  | .hbm, ⟨16, _⟩ => ⟨S_, .f32⟩
  | .hbm, ⟨17, _⟩ => ⟨S32x8x1, .f32⟩
  | .hbm, ⟨18, _⟩ => ⟨S32x8x1, .f32⟩
  | .hbm, ⟨19, _⟩ => ⟨S_, .f32⟩
  | .hbm, ⟨20, _⟩ => ⟨S32x8x1, .f32⟩
  | .hbm, ⟨21, _⟩ => ⟨S32x8x1, .f32⟩
  | .hbm, ⟨22, _⟩ => ⟨S32x8x1, .f32⟩
  | .hbm, ⟨23, _⟩ => ⟨S32x8x4096, .f32⟩
  | .hbm, ⟨24, _⟩ => ⟨S32x8x4096, .f32⟩
  | .hbm, ⟨25, _⟩ => ⟨S1x1x4096, .f32⟩
  | .hbm, ⟨26, _⟩ => ⟨S32x8x4096, .f32⟩
  | .hbm, ⟨27, _⟩ => ⟨S32x8x4096, .f32⟩
  | .hbm, ⟨28, _⟩ => ⟨S256x4096, .f32⟩
  | _, _ => ⟨S16x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Trailing.lean ====
/- Trailing sums: the sum of the last `w` terms of a sequence up to position `t`, and the difference of two running
   sums it equals when every term is finite; the running sum jnp's `cumsum(axis=1)` of a rank-3 array prints as; the
   two-index gather that reads rows of the running sum. -/
module

public import proofs.«01_k».proof.ReferenceIdeal
public import proofs.«01_k».proof.Proof.Gen.ReferenceIdeal
public import Idealize.ShloMosaic.Lib.Pipeline.Value
public import Idealize.ShloMosaic.Lib.ValueIdx
public import Idealize.ShloMosaic.Lib.Pointwise
public import Idealize.ShloMosaic.PureOps.Ideal.Laws

@[expose] public section

set_option maxRecDepth 16384

noncomputable section

namespace Cert.Trailing

open Idealize.ShloMosaic

/-- The sum of the terms at `t, t - 1, …, t - (w - 1)`, positions below zero counting as zero. -/
def trail (X : ℕ → EReal) (t w : ℕ) : EReal := ∑ j ∈ Finset.range w, if j ≤ t then X (t - j) else 0

/-- The sum of the terms at `0, …, n - 1`. -/
def prefixSum (X : ℕ → EReal) (n : ℕ) : EReal := ∑ s ∈ Finset.range n, X s

/-- A running sum is the running sum up to `w` places earlier and the `w` terms since. -/
theorem prefixSum_eq (X : ℕ → EReal) (t w : ℕ) : prefixSum X (t + 1) = prefixSum X (t + 1 - w) + trail X t w := by
  induction w with
  | zero => simp [trail]
  | succ w ih =>
    rw [ih]
    unfold trail prefixSum
    rw [Finset.sum_range_succ (fun j => if j ≤ t then X (t - j) else 0)]
    by_cases h : w ≤ t
    · rw [if_pos h, show t + 1 - w = (t - w) + 1 by omega, show t + 1 - (w + 1) = t - w by omega, Finset.sum_range_succ]
      ac_rfl
    · rw [if_neg h, show t + 1 - w = 0 by omega, show t + 1 - (w + 1) = 0 by omega]
      simp

/-- A sum of finite extended reals is finite. -/
theorem prefixSum_finite (X : ℕ → EReal) (hX : ∀ s, X s ≠ ⊤ ∧ X s ≠ ⊥) (n : ℕ) : prefixSum X n ≠ ⊤ ∧ prefixSum X n ≠ ⊥ := by
  induction n with
  | zero => simp [prefixSum]
  | succ n ih =>
    unfold prefixSum at ih ⊢
    rw [Finset.sum_range_succ]
    exact ⟨EReal.add_ne_top ih.1 (hX n).1, by simp [EReal.add_eq_bot_iff, ih.2, (hX n).2]⟩

/-- The difference of two running sums of finite terms is the trailing sum between them. -/
theorem prefixSum_sub (X : ℕ → EReal) (hX : ∀ s, X s ≠ ⊤ ∧ X s ≠ ⊥) (t w : ℕ) :
    prefixSum X (t + 1) - prefixSum X (t + 1 - w) = trail X t w := by
  rw [prefixSum_eq X t w]
  have h := prefixSum_finite X hX (t + 1 - w)
  lift prefixSum X (t + 1 - w) to ℝ using h with a
  generalize trail X t w = b
  induction b with
  | bot => simp
  | top => simp
  | coe b => rw [← EReal.coe_add, ← EReal.coe_sub]; congr 1; ring

/-- A left fold of additions is the initial value and the sum of what was added. -/
theorem foldl_add_eq {ι : Type} (g : ι → EReal) (L : List ι) (v : EReal) :
    L.foldl (fun r n => r + g n) v = v + (L.map g).sum := by
  induction L generalizing v with
  | nil => simp
  | cons a L ih => rw [List.foldl_cons, ih, List.map_cons, List.sum_cons, add_assoc]

/-- The indices of a `[1, N, 1]` window are its middle coordinate. -/
def windowEquiv (N : ℕ) : Fin N ≃ (⟨3, ![1, N, 1]⟩ : Shape).Idx where
  toFun k := ix3 (0 : Fin 1) k (0 : Fin 1)
  invFun w := w 1
  left_inv k := rfl
  right_inv w := by
    funext a
    match a with
    | ⟨0, _⟩ => exact Subsingleton.elim (α := Fin 1) _ _
    | ⟨1, _⟩ => rfl
    | ⟨2, _⟩ => exact Subsingleton.elim (α := Fin 1) _ _

/-- Row `b`, column `c` of a rank-3 array as a sequence along its middle axis, zero past its end. -/
def line {A N C : ℕ} (x : (⟨3, ![A, N, C]⟩ : Shape).Idx → EReal) (b : Fin A) (c : Fin C) (s : ℕ) : EReal :=
  if h : s < N then x (ix3 b ⟨s, h⟩ c) else 0

/-- A window of `N` positions ending at position `t` holds the sequence up to `t`, padded below. -/
theorem sum_window (X : ℕ → EReal) (N t : ℕ) (ht : t < N) :
    (∑ k ∈ Finset.range N, if N - 1 ≤ t + k then X (t + k - (N - 1)) else 0) = prefixSum X (t + 1) := by
  obtain ⟨a, rfl⟩ : ∃ a, N = a + (t + 1) := ⟨N - (t + 1), by omega⟩
  rw [Finset.sum_range_add, Finset.sum_eq_zero, zero_add, prefixSum]
  · refine Finset.sum_congr rfl fun k hk => ?_
    rw [if_pos (by omega)]
    congr 1; omega
  · intro k hk
    rw [Finset.mem_range] at hk
    rw [if_neg (by omega)]

/-- jnp's `cumsum(axis=1)` of a rank-3 array, as it prints (a window of the whole middle axis, padded low by one less),
    read at `(b, t, c)`: the sum of row `b`, column `c` up to and with `t`. -/
theorem running_sum {A N C : ℕ} (x : (⟨3, ![A, N, C]⟩ : Shape).Idx → EReal)
    (h : (⟨3, ![A, N, C]⟩ : Shape).ReduceWindows ![1, N, 1] ![1, 1, 1] ![0, N - 1, 0] ![0, 0, 0] ⟨3, ![A, N, C]⟩)
    (b : Fin A) (t : Fin N) (c : Fin C) :
    Ideal.hostReduceWindowAdd ![1, N, 1] ![1, 1, 1] ![0, N - 1, 0] ![0, 0, 0] h x 0 (ix3 b t c)
      = prefixSum (line x b c) (t.val + 1) := by
  unfold Ideal.hostReduceWindowAdd Host.reduceWindow
  refine (foldl_add_eq _ _ _).trans ?_
  rw [zero_add, ← sum_window (line x b c) N t.val t.isLt, ← List.ofFn_eq_map, List.sum_ofFn,
    ← Equiv.sum_comp ((windowEquiv N).trans (⟨3, ![1, N, 1]⟩ : Shape).rowMajor), Finset.sum_range]
  refine Finset.sum_congr rfl fun k _ => ?_
  have ht := t.isLt; have hk := k.isLt; have hb := b.isLt; have hc := c.isLt
  simp only [Equiv.trans_apply, Equiv.symm_apply_apply]
  by_cases hle : N - 1 ≤ t.val + k.val
  · have hl : line x b c (t.val + k.val - (N - 1)) = x (ix3 b ⟨t.val + k.val - (N - 1), by omega⟩ c) := dif_pos _
    rw [if_pos hle, hl]
    refine Eq.trans (dif_pos fun a => ?_) ?_
    rotate_left
    · congr 1
      funext a
      refine Fin.ext ?_
      match a with
      | ⟨0, _⟩ => show b.val * 1 + 0 - 0 = b.val; omega
      | ⟨1, _⟩ => show t.val * 1 + k.val - (N - 1) = t.val + k.val - (N - 1); omega
      | ⟨2, _⟩ => show c.val * 1 + 0 - 0 = c.val; omega
    · match a with
      | ⟨0, _⟩ => show 0 ≤ b.val * 1 + 0 ∧ b.val * 1 + 0 - 0 < A; omega
      | ⟨1, _⟩ => show N - 1 ≤ t.val * 1 + k.val ∧ t.val * 1 + k.val - (N - 1) < N; omega
      | ⟨2, _⟩ => show 0 ≤ c.val * 1 + 0 ∧ c.val * 1 + 0 - 0 < C; omega
  · rw [if_neg hle, dif_neg]
    intro hin
    have h1 : N - 1 ≤ t.val * 1 + k.val ∧ _ := hin 1
    omega

open Cert.ReferenceIdeal in
/-- The gather of `x[:, r, c0 : c0 + 512]` with a row `r` and a first column `c0` per position, read at `(b, t, c)`. -/
theorem gather_rows {α : Type} (x : S4x2049x2048.Idx → α) (idx : IVec S2048x2 32) (b : Fin 4) (t : Fin 2048) (c : Fin 512)
    (r : Fin 2049) (q : Fin 2048) (hr : min (idx (ix2 t (0 : Fin 2))).toInt.toNat 2048 = r.val)
    (hq : min (idx (ix2 t (1 : Fin 2))).toInt.toNat 1536 + c.val = q.val) :
    Host.gather gather_S4x2049x2048_S2048x2_S4x2048x512_02_1_n_n_12_1_41512 x idx (ix3 b t c) = x (ix3 b r q) := by
  unfold Host.gather
  congr 1
  have hs : ∀ k : Fin 2, gather_S4x2049x2048_S2048x2_S4x2048x512_02_1_n_n_12_1_41512.siIdx (ix3 b t c) k = ix2 t k := by
    intro k
    funext a
    refine Fin.ext ?_
    match a with
    | ⟨0, _⟩ => rfl
    | ⟨1, _⟩ => rfl
  have h0 : GatherDims.start gather_S4x2049x2048_S2048x2_S4x2048x512_02_1_n_n_12_1_41512 (ix3 b t c) idx (0 : Fin 3) = 0 := by
    unfold GatherDims.start
    exact dif_neg (by decide)
  have h1 : GatherDims.start gather_S4x2049x2048_S2048x2_S4x2048x512_02_1_n_n_12_1_41512 (ix3 b t c) idx (1 : Fin 3) = r.val := by
    unfold GatherDims.start
    refine (dif_pos (by decide)).trans (Eq.trans ?_ hr)
    rw [← hs 0]
    rfl
  have h2 : GatherDims.start gather_S4x2049x2048_S2048x2_S4x2048x512_02_1_n_n_12_1_41512 (ix3 b t c) idx (2 : Fin 3) + c.val = q.val := by
    unfold GatherDims.start
    refine Eq.trans (congrArg (· + c.val) (dif_pos (by decide))) (Eq.trans ?_ hq)
    rw [← hs 1]
    rfl
  funext a
  refine Fin.ext ?_
  show GatherDims.start _ _ idx a + GatherDims.batchCoord _ _ a + GatherDims.offCoord _ _ a = _
  rw [GatherDims.batchCoord_eq_zero _ _ _ List.not_mem_nil, Nat.add_zero]
  match a with
  | ⟨0, _⟩ => exact (congrArg (· + _) h0).trans (Nat.zero_add _)
  | ⟨1, _⟩ => exact (congrArg (· + _) h1).trans rfl
  | ⟨2, _⟩ => exact h2

end Cert.Trailing

end
-- ==== Proof.RefValue.lean ====
/- The reference's pooled mixing, read at an index: per group of 512 channels the trailing mean of the group's window,
   less the row itself, times the group's matrix, scaled and gated. -/
module

public import proofs.«01_k».proof.Proof.Gen.ReferenceIdeal.Read
public import proofs.«01_k».proof.Proof.Trailing

@[expose] public section

set_option maxRecDepth 16384

noncomputable section

namespace Cert.RefValue

open Idealize.ShloMosaic Cert.ReferenceIdeal Cert.ReferenceIdeal.Read Cert.Trailing

/-- The number of rows a window of `w` holds at position `t`, as the word both programs convert. -/
def count (w t : ℕ) : EReal := FloatOps.sitofp (F := Ideal) FTy.f32 (IntOp.minsi (BitVec.ofNat 32 (t + 1)) (BitVec.ofNat 32 w))

/-- Channel `o + j` of the trailing mean over `w` rows at position `t`, less the row itself. -/
def centred (u : S4x2048x2048.Idx → EReal) (w o : ℕ) (ho : o + 512 ≤ 2048) (b : Fin 4) (t : Fin 2048) (j : Fin 512) : EReal :=
  Ideal.div (trail (line u b ⟨o + j.val, by omega⟩) t.val w) (count w t.val) - u (ix3 b t ⟨o + j.val, by omega⟩)

/-- The pooled mixing at batch `b`, position `t`, group `g` (window `w`, first channel `o`), channel `k` of the group. -/
def mixed (u : S4x2048x2048.Idx → EReal) (gb : S4x2048x2048.Idx → EReal) (wp : S1x4x512x512.Idx → EReal)
    (ps : S1x2048.Idx → EReal) (w o : ℕ) (ho : o + 512 ≤ 2048) (g : Fin 4) (b : Fin 4) (t : Fin 2048) (k : Fin 512) : EReal :=
  (∑ j : Fin 512, centred u w o ho b t j * wp (ix4 (0 : Fin 1) g j k)) * ps (ix2 (0 : Fin 1) ⟨o + k.val, by omega⟩)
    * gb (ix3 b t ⟨o + k.val, by omega⟩)

/-- The word of the row after position `t`, as the reference's index arithmetic wraps it. -/
def upper (t : ℕ) : BitVec 32 :=
  let p := IntOp.addi (IntOp.addi (0#32) (BitVec.ofNat 32 t)) 1#32
  Scalar.select (IntOp.cmpi CmpIPredicate.slt p 0#32) (IntOp.addi p 2049#32) p

/-- The word of the row `w` before the one after position `t`, not below zero. -/
def lower (w : BitVec 32) (t : ℕ) : BitVec 32 :=
  let p := IntOp.maxsi (IntOp.subi (IntOp.addi (IntOp.addi (0#32) (BitVec.ofNat 32 t)) 1#32) w) 0#32
  Scalar.select (IntOp.cmpi CmpIPredicate.slt p 0#32) (IntOp.addi p 2049#32) p

/-- The word counting the rows up to position `t`. -/
theorem next_word (t : ℕ) : IntOp.addi (IntOp.addi (0#32) (IntOp.addi (0#32) (BitVec.ofNat 32 t))) 1#32 = BitVec.ofNat 32 (t + 1) := by
  simp [IntOp.addi, BitVec.ofNat_add]

/-- The upper row of every position. -/
theorem upper_eq : ∀ t : Fin 2048, min (upper t.val).toInt.toNat 2048 = t.val + 1 := by decide +kernel

/-- The lower row of every position, for the four windows. -/
theorem lower_eq : ∀ w ∈ [2, 4, 8, 16], ∀ t : Fin 2048, min (lower (BitVec.ofNat 32 w) t.val).toInt.toNat 2048 = t.val + 1 - w := by
  decide +kernel

/-- The running sum with a zero row in front, read at row `n`: the sum of the rows before `n`. -/
theorem cumulative (u : FVec Ideal S4x2048x2048 .f32) (b : Fin 4) (n : Fin 2049) (c : Fin 2048) :
    val_main_v4 (F := Ideal) u (ix3 b n c) = prefixSum (line (A := 4) (N := 2048) (C := 2048) u b c) n.val := by
  pointwise [val_main_v4, val_main_v2, val_main_cst]
  split
  · next h => rw [show n.val = 0 by omega]; simp [prefixSum]
  · next h =>
    have hn := n.isLt
    have e := running_sum (A := 4) (N := 2048) (C := 2048) u
      Cert.ReferenceIdeal.Gen.reduceWindows_S4x2048x2048_S4x2048x2048_w1s1p0_0_w2048s1p2047_0_w1s1p0_0 b ⟨n.val - 1, by omega⟩ c
    refine Eq.trans ?_ (e.trans (congrArg _ (show n.val - 1 + 1 = n.val by omega)))
    have hz : val_main_call0_call0_v0 (F := Ideal) (Shape.Idx.first Cert.ReferenceIdeal.Gen.h_S_) = 0 := by
      pointwise [val_main_call0_call0_v0, val_main_call0_call0_cst]
    unfold val_main_v3 Host.reduceWindowAdd
    rw [hz]
    rfl

/-- The difference of the two gathered running sums is the trailing sum of the group's window. -/
theorem window_sum (u : FVec Ideal S4x2048x2048 .f32) (hu : ∀ i, u i ≠ ⊤ ∧ u i ≠ ⊥) (w o : ℕ) (ho : o + 512 ≤ 2048)
    (i₁ i₂ : IVec S2048x2 32) (h₁ : ∀ t : Fin 2048, min (i₁ (ix2 t (0 : Fin 2))).toInt.toNat 2048 = t.val + 1)
    (c₁ : ∀ t : Fin 2048, min (i₁ (ix2 t (1 : Fin 2))).toInt.toNat 1536 = o)
    (h₂ : ∀ t : Fin 2048, min (i₂ (ix2 t (0 : Fin 2))).toInt.toNat 2048 = t.val + 1 - w)
    (c₂ : ∀ t : Fin 2048, min (i₂ (ix2 t (1 : Fin 2))).toInt.toNat 1536 = o) (b : Fin 4) (t : Fin 2048) (j : Fin 512) :
    Host.gather gather_S4x2049x2048_S2048x2_S4x2048x512_02_1_n_n_12_1_41512 (val_main_v4 (F := Ideal) u) i₁ (ix3 b t j)
      - Host.gather gather_S4x2049x2048_S2048x2_S4x2048x512_02_1_n_n_12_1_41512 (val_main_v4 (F := Ideal) u) i₂ (ix3 b t j)
      = trail (line (A := 4) (N := 2048) (C := 2048) u b ⟨o + j.val, by omega⟩) t.val w := by
  have ht := t.isLt
  rw [gather_rows _ i₁ b t j ⟨t.val + 1, by omega⟩ ⟨o + j.val, by omega⟩ (h₁ t) (by rw [c₁ t]),
    gather_rows _ i₂ b t j ⟨t.val + 1 - w, by omega⟩ ⟨o + j.val, by omega⟩ (h₂ t) (by rw [c₂ t])]
  rw [cumulative, cumulative]
  refine prefixSum_sub _ (fun s => ?_) t.val w
  unfold line
  split
  · exact hu _
  · simp

/-- The first group's centred trailing mean. -/
theorem centred_0 (u : FVec Ideal S4x2048x2048 .f32) (hu : ∀ i, u i ≠ ⊤ ∧ u i ≠ ⊥) (b : Fin 4) (t : Fin 2048) (j : Fin 512) :
    val_main_v46 (F := Ideal) u (ix3 b t j) = centred u 2 0 (by omega) b t j := by
  have h : (val_main_v31 (F := Ideal) u (ix3 b t j) : EReal) - (val_main_v40 (F := Ideal) u (ix3 b t j) : EReal)
      = trail (line (A := 4) (N := 2048) (C := 2048) u b ⟨0 + j.val, by omega⟩) t.val 2 := window_sum u hu 2 0 (by omega) (val_main_v30 (F := Ideal)) (val_main_v39 (F := Ideal))
    (fun t => by refine Eq.trans (congrArg (fun z : BitVec 32 => min z.toInt.toNat 2048) ?_) (upper_eq t); pointwise [upper, val_main_v30, val_main_v28, val_main_v27, val_main_v26, val_main_v25, val_main_v24, val_main_v23, val_main_v22, val_main_v21,
      val_main_c_6, val_main_c_7, val_main_c_8, val_main_v7, val_main_v6, val_main_v5, val_main_c])
    (fun t => by pointwise [val_main_v30, val_main_v29, val_main_c_9]; rfl)
    (fun t => by refine Eq.trans (congrArg (fun z : BitVec 32 => min z.toInt.toNat 2048) ?_) (lower_eq 2 (by decide) t); pointwise [lower, val_main_v39, val_main_v37, val_main_v36, val_main_v35, val_main_v34, val_main_v33, val_main_v32,
      val_main_c_1, val_main_c_2, val_main_c_3, val_main_c_10, val_main_c_11, val_main_v15, val_main_v14, val_main_v13, val_main_v12, val_main_v11, val_main_v10, val_main_v7, val_main_v6, val_main_v5, val_main_c])
    (fun t => by pointwise [val_main_v39, val_main_v38, val_main_c_12]; rfl) b t j
  have hc : val_main_v20 (F := Ideal) (ix1 t) = count 2 t.val := by
    unfold count
    pointwise [val_main_v20, val_main_v19, val_main_v18, val_main_v17, val_main_v16, val_main_c_4, val_main_c_5, val_main_v9, val_main_v8, val_main_v5, val_main_v7, val_main_v6, val_main_c, val_main_c_0]
    rw [next_word]
  pointwise [val_main_v46, val_main_v44, val_main_v45, val_main_v41, val_main_v43, val_main_v42]
  unfold centred
  rw [hc, ← h]
  simp only [Nat.zero_add]

/-- The second group's centred trailing mean. -/
theorem centred_1 (u : FVec Ideal S4x2048x2048 .f32) (hu : ∀ i, u i ≠ ⊤ ∧ u i ≠ ⊥) (b : Fin 4) (t : Fin 2048) (j : Fin 512) :
    val_main_v86 (F := Ideal) u (ix3 b t j) = centred u 4 512 (by omega) b t j := by
  have h : (val_main_v71 (F := Ideal) u (ix3 b t j) : EReal) - (val_main_v80 (F := Ideal) u (ix3 b t j) : EReal)
      = trail (line (A := 4) (N := 2048) (C := 2048) u b ⟨512 + j.val, by omega⟩) t.val 4 := window_sum u hu 4 512 (by omega) (val_main_v70 (F := Ideal)) (val_main_v79 (F := Ideal))
    (fun t => by refine Eq.trans (congrArg (fun z : BitVec 32 => min z.toInt.toNat 2048) ?_) (upper_eq t); pointwise [upper, val_main_v70, val_main_v68, val_main_v67, val_main_v66, val_main_v65, val_main_v64, val_main_v63, val_main_v62, val_main_v61,
      val_main_c_18, val_main_c_19, val_main_c_20, val_main_v7, val_main_v6, val_main_v5, val_main_c])
    (fun t => by pointwise [val_main_v70, val_main_v69, val_main_c_21]; rfl)
    (fun t => by refine Eq.trans (congrArg (fun z : BitVec 32 => min z.toInt.toNat 2048) ?_) (lower_eq 4 (by decide) t); pointwise [lower, val_main_v79, val_main_v77, val_main_v76, val_main_v75, val_main_v74, val_main_v73, val_main_v72,
      val_main_c_13, val_main_c_14, val_main_c_15, val_main_c_22, val_main_c_23, val_main_v55, val_main_v54, val_main_v53, val_main_v52, val_main_v51, val_main_v50, val_main_v7, val_main_v6, val_main_v5, val_main_c])
    (fun t => by pointwise [val_main_v79, val_main_v78, val_main_c_24]; rfl) b t j
  have hc : val_main_v60 (F := Ideal) (ix1 t) = count 4 t.val := by
    unfold count
    pointwise [val_main_v60, val_main_v59, val_main_v58, val_main_v57, val_main_v56, val_main_c_16, val_main_c_17, val_main_v9, val_main_v8, val_main_v5, val_main_v7, val_main_v6, val_main_c, val_main_c_0]
    rw [next_word]
  pointwise [val_main_v86, val_main_v84, val_main_v85, val_main_v81, val_main_v83, val_main_v82]
  unfold centred
  rw [hc, ← h]

/-- The third group's centred trailing mean. -/
theorem centred_2 (u : FVec Ideal S4x2048x2048 .f32) (hu : ∀ i, u i ≠ ⊤ ∧ u i ≠ ⊥) (b : Fin 4) (t : Fin 2048) (j : Fin 512) :
    val_main_v126 (F := Ideal) u (ix3 b t j) = centred u 8 1024 (by omega) b t j := by
  have h : (val_main_v111 (F := Ideal) u (ix3 b t j) : EReal) - (val_main_v120 (F := Ideal) u (ix3 b t j) : EReal)
      = trail (line (A := 4) (N := 2048) (C := 2048) u b ⟨1024 + j.val, by omega⟩) t.val 8 := window_sum u hu 8 1024 (by omega) (val_main_v110 (F := Ideal)) (val_main_v119 (F := Ideal))
    (fun t => by refine Eq.trans (congrArg (fun z : BitVec 32 => min z.toInt.toNat 2048) ?_) (upper_eq t); pointwise [upper, val_main_v110, val_main_v108, val_main_v107, val_main_v106, val_main_v105, val_main_v104, val_main_v103, val_main_v102, val_main_v101,
      val_main_c_30, val_main_c_31, val_main_c_32, val_main_v7, val_main_v6, val_main_v5, val_main_c])
    (fun t => by pointwise [val_main_v110, val_main_v109, val_main_c_33]; rfl)
    (fun t => by refine Eq.trans (congrArg (fun z : BitVec 32 => min z.toInt.toNat 2048) ?_) (lower_eq 8 (by decide) t); pointwise [lower, val_main_v119, val_main_v117, val_main_v116, val_main_v115, val_main_v114, val_main_v113, val_main_v112,
      val_main_c_25, val_main_c_26, val_main_c_27, val_main_c_34, val_main_c_35, val_main_v95, val_main_v94, val_main_v93, val_main_v92, val_main_v91, val_main_v90, val_main_v7, val_main_v6, val_main_v5, val_main_c])
    (fun t => by pointwise [val_main_v119, val_main_v118, val_main_c_36]; rfl) b t j
  have hc : val_main_v100 (F := Ideal) (ix1 t) = count 8 t.val := by
    unfold count
    pointwise [val_main_v100, val_main_v99, val_main_v98, val_main_v97, val_main_v96, val_main_c_28, val_main_c_29, val_main_v9, val_main_v8, val_main_v5, val_main_v7, val_main_v6, val_main_c, val_main_c_0]
    rw [next_word]
  pointwise [val_main_v126, val_main_v124, val_main_v125, val_main_v121, val_main_v123, val_main_v122]
  unfold centred
  rw [hc, ← h]

/-- The fourth group's centred trailing mean. -/
theorem centred_3 (u : FVec Ideal S4x2048x2048 .f32) (hu : ∀ i, u i ≠ ⊤ ∧ u i ≠ ⊥) (b : Fin 4) (t : Fin 2048) (j : Fin 512) :
    val_main_v166 (F := Ideal) u (ix3 b t j) = centred u 16 1536 (by omega) b t j := by
  have h : (val_main_v151 (F := Ideal) u (ix3 b t j) : EReal) - (val_main_v160 (F := Ideal) u (ix3 b t j) : EReal)
      = trail (line (A := 4) (N := 2048) (C := 2048) u b ⟨1536 + j.val, by omega⟩) t.val 16 := window_sum u hu 16 1536 (by omega) (val_main_v150 (F := Ideal)) (val_main_v159 (F := Ideal))
    (fun t => by refine Eq.trans (congrArg (fun z : BitVec 32 => min z.toInt.toNat 2048) ?_) (upper_eq t); pointwise [upper, val_main_v150, val_main_v148, val_main_v147, val_main_v146, val_main_v145, val_main_v144, val_main_v143, val_main_v142, val_main_v141,
      val_main_c_42, val_main_c_43, val_main_c_44, val_main_v7, val_main_v6, val_main_v5, val_main_c])
    (fun t => by pointwise [val_main_v150, val_main_v149, val_main_c_45]; rfl)
    (fun t => by refine Eq.trans (congrArg (fun z : BitVec 32 => min z.toInt.toNat 2048) ?_) (lower_eq 16 (by decide) t); pointwise [lower, val_main_v159, val_main_v157, val_main_v156, val_main_v155, val_main_v154, val_main_v153, val_main_v152,
      val_main_c_37, val_main_c_38, val_main_c_39, val_main_c_46, val_main_c_47, val_main_v135, val_main_v134, val_main_v133, val_main_v132, val_main_v131, val_main_v130, val_main_v7, val_main_v6, val_main_v5, val_main_c])
    (fun t => by pointwise [val_main_v159, val_main_v158, val_main_c_48]; rfl) b t j
  have hc : val_main_v140 (F := Ideal) (ix1 t) = count 16 t.val := by
    unfold count
    pointwise [val_main_v140, val_main_v139, val_main_v138, val_main_v137, val_main_v136, val_main_c_40, val_main_c_41, val_main_v9, val_main_v8, val_main_v5, val_main_v7, val_main_v6, val_main_c, val_main_c_0]
    rw [next_word]
  pointwise [val_main_v166, val_main_v164, val_main_v165, val_main_v161, val_main_v163, val_main_v162]
  unfold centred
  rw [hc, ← h]

/-- The reference's result at batch `b`, position `t` and each group's channel `k`. -/
theorem result (u : FVec Ideal S4x2048x2048 .f32) (gb : FVec Ideal S4x2048x2048 .bf16) (wp : FVec Ideal S1x4x512x512 .f32)
    (ps : FVec Ideal S1x2048 .f32) (hu : ∀ i, u i ≠ ⊤ ∧ u i ≠ ⊥) (b : Fin 4) (t : Fin 2048) (k : Fin 512) :
    val_main_v176 (F := Ideal) u gb wp ps (ix3 b t ⟨0 + k.val, by omega⟩) = mixed u gb wp ps 2 0 (by omega) 0 b t k
    ∧ val_main_v176 (F := Ideal) u gb wp ps (ix3 b t ⟨512 + k.val, by omega⟩) = mixed u gb wp ps 4 512 (by omega) 1 b t k
    ∧ val_main_v176 (F := Ideal) u gb wp ps (ix3 b t ⟨1024 + k.val, by omega⟩) = mixed u gb wp ps 8 1024 (by omega) 2 b t k
    ∧ val_main_v176 (F := Ideal) u gb wp ps (ix3 b t ⟨1536 + k.val, by omega⟩) = mixed u gb wp ps 16 1536 (by omega) 3 b t k := by
  have hk := k.isLt
  refine ⟨?_, ?_, ?_, ?_⟩
  all_goals
    pointwise [val_main_v176, val_main_v175, val_main_v174, val_main_v173, val_main_v172, val_main_v171, val_main_v170, val_main_v169,
      val_main_v168, val_main_v167, val_main_v129, val_main_v128, val_main_v127, val_main_v89, val_main_v88, val_main_v87, val_main_v49,
      val_main_v48, val_main_v47, val_main_v1, val_main_v0, mixed]
  · simp only [centred_0 u hu]
  · simp only [centred_1 u hu]
  · rw [dif_neg (by omega), dif_neg (by omega), dif_pos (by omega)]
    simp only [centred_2 u hu]
    simp only [show 1024 + k.val - 512 - 512 = k.val by omega, Fin.eta]
  · rw [dif_neg (by omega), dif_neg (by omega), dif_neg (by omega)]
    simp only [centred_3 u hu]
    simp only [show 1536 + k.val - 512 - 512 - 512 = k.val by omega, Fin.eta]

end Cert.RefValue

end
-- ==== Proof.KValue.lean ====
/- The kernel's pooled mixing at a grid point, read at an index. -/
module

public import proofs.«01_k».proof.Proof.Gen.KernelIdeal.Value
public import proofs.«01_k».proof.Proof.RefValue
public import Idealize.ShloMosaic.Lib.Pipeline.ValueKit

@[expose] public section

set_option maxRecDepth 16384

noncomputable section

namespace Cert.KValue

open Idealize.ShloMosaic Idealize.ShloMosaic.TcCoe Idealize.SL.Sem Cert.KernelIdeal Cert.KernelIdeal.Gen Cert.Trailing Cert.RefValue

/-- The block of every window at a grid point: batch `t / 4`, tile `t % 4` of 512 rows; the 16 rows before the tile; and the two whole arrays. -/
theorem idx : ∀ t : Fin cfg0.N, win0_0.index t = ![t.val / 4, t.val % 4, 0] ∧ win0_2.index t = ![t.val / 4, t.val % 4, 0]
    ∧ win0_5.index t = ![t.val / 4, t.val % 4, 0] ∧ win0_1.index t = ![t.val / 4, 32 * (t.val % 4) - 1, 0]
    ∧ win0_3.index t = ![0, 0, 0] ∧ win0_4.index t = ![0, 0] ∧ ((grid0.coords t) 1).val = t.val % 4 :=
  (by decide +kernel : ∀ t : Fin grid0.N, _)

/-- A load of 512 rows from row `r` and 512 channels from channel `o` of the scratch, after the halo went to rows 0 to 15 and the tile to the rows from 16. -/
theorem load (w₁ : FVec Ideal S1x512x2048 .f32) (w₂ : FVec Ideal S1x16x2048 .f32) (r o : ℕ) (hr : r ≤ 16) (ho : o + 512 ≤ 2048)
    (h₁ : ∀ x, (![0, 16, 0] : Fin 3 → ℕ) x + (![1, 512, 2048] : Fin 3 → ℕ) x ≤ S1x528x2048.size x)
    (h₂ : ∀ x, (![0, 0, 0] : Fin 3 → ℕ) x + (![1, 16, 2048] : Fin 3 → ℕ) x ≤ S1x528x2048.size x)
    (h₃ : ∀ x, (![0, r, o] : Fin 3 → ℕ) x + (![1, 512, 512] : Fin 3 → ℕ) x ≤ S1x528x2048.size x) (a k : Fin 512) :
    (View.whole cc0_scratch0).readCov (Val := Elt Ideal) [⟨Rect.unit ![0, 16, 0] ![1, 512, 2048] h₁, w₁⟩, ⟨Rect.unit ![0, 0, 0] ![1, 16, 2048] h₂, w₂⟩]
      (Rect.unit (s := S1x528x2048) ![0, r, o] ![1, 512, 512] h₃).toLoadRect (ix3 (0 : Fin 1) a k)
    = if h : 16 ≤ r + a.val then w₁ (ix3 (0 : Fin 1) ⟨r + a.val - 16, by omega⟩ ⟨o + k.val, by omega⟩)
      else w₂ (ix3 (0 : Fin 1) ⟨r + a.val, by omega⟩ ⟨o + k.val, by omega⟩) := by
  rw [View.readCov_eq_canon']
  split
  · next h =>
    have e : (Rect.unit (s := S1x528x2048) ![0, r, o] ![1, 512, 512] h₃).toLoadRect.idx (ix3 (0 : Fin 1) a k)
        = (Rect.unit (s := S1x528x2048) ![0, 16, 0] ![1, 512, 2048] h₁).emb (ix3 (0 : Fin 1) ⟨r + a.val - 16, by omega⟩ ⟨o + k.val, by omega⟩) := by
      funext x
      apply Fin.ext
      fin_cases x <;> simp [Rect.emb, Rect.unit, LoadRect.idx] <;> omega
    refine (congrArg (View.canon _) e).trans ?_
    rw [View.canon_cons_emb]
  · next h =>
    have e : (Rect.unit (s := S1x528x2048) ![0, r, o] ![1, 512, 512] h₃).toLoadRect.idx (ix3 (0 : Fin 1) a k)
        = (Rect.unit (s := S1x528x2048) ![0, 0, 0] ![1, 16, 2048] h₂).emb (ix3 (0 : Fin 1) ⟨r + a.val, by omega⟩ ⟨o + k.val, by omega⟩) := by
      funext x
      apply Fin.ext
      fin_cases x <;> simp [Rect.emb, Rect.unit, LoadRect.idx] <;> omega
    refine (congrArg (View.canon _) e).trans ?_
    rw [View.canon_cons_of_not_mem, View.canon_cons_emb]
    intro hm
    have := ((Rect.mem_set_unit (inb := h₁)).mp hm (1 : Fin 3)).1
    simp [Rect.emb, Rect.unit, LoadRect.idx] at this
    omega

variable (m : (ℓ : Loc nD τ sig) → Buf (Elt Ideal) ℓ) (c : Dev nD) (t : Fin cfg0.N)

/-- The array of rows to pool. -/
abbrev U : S4x2048x2048.Idx → EReal := m ((c : Thread nD τ).loc main_arg0)

/-- The tile's row `a`. -/
theorem tile_at (a : Fin 512) (q : Fin 2048) (h : ∀ x, (![0, 0, 0] : Fin 3 → ℕ) x + (![1, 512, 2048] : Fin 3 → ℕ) x ≤ S1x512x2048.size x) :
    k0_pay3 (F := Ideal) (View.ld (iblk m c 0 t) (Rect.unit ![0, 0, 0] ![1, 512, 2048] h)) (ix3 (0 : Fin 1) a q)
      = line (A := 4) (N := 2048) (C := 2048) (U m c) ⟨t.val / 4, by have := lt_of_lt_of_eq t.isLt N_0; omega⟩ q (512 * (t.val % 4) + a.val) := by
  have ht := lt_of_lt_of_eq t.isLt N_0
  unfold line
  rw [dif_pos (by omega)]
  pointwise [k0_pay3]
  blk_point [iblk, V, idx t]

/-- The row `16 - n` before the tile: zero before the first tile. -/
theorem halo_at (a : Fin 16) (q : Fin 2048) (h : ∀ x, (![0, 0, 0] : Fin 3 → ℕ) x + (![1, 16, 2048] : Fin 3 → ℕ) x ≤ S1x16x2048.size x) :
    k0_pay2 (F := Ideal) (grid0.coords t) (View.ld (iblk m c 1 t) (Rect.unit ![0, 0, 0] ![1, 16, 2048] h)) (ix3 (0 : Fin 1) a q)
      = if t.val % 4 = 0 then 0 else
        line (A := 4) (N := 2048) (C := 2048) (U m c) ⟨t.val / 4, by have := lt_of_lt_of_eq t.isLt N_0; omega⟩ q (512 * (t.val % 4) + a.val - 16) := by
  have ht := lt_of_lt_of_eq t.isLt N_0
  unfold line
  rw [dif_pos (by omega)]
  pointwise [k0_pay2]
  rw [(idx t).2.2.2.2.2.2]
  split
  · next e => rw [e]; rfl
  · next e =>
    have hs : Scalar.cmpi CmpIPredicate.sgt (BitVec.ofNat 32 (t.val % 4)) 0#32 = 1#1 := by
      obtain e | e | e : t.val % 4 = 1 ∨ t.val % 4 = 2 ∨ t.val % 4 = 3 := by omega
      all_goals rw [e]; rfl
    rw [hs]
    refine Eq.trans (b := iblk m c 1 t (ix3 (0 : Fin 1) a q)) rfl ?_
    blk_point [iblk, V, idx t]

/-- What a load of the scratch at row `16 - j` reads at row `a`: row `j` positions before the tile's row `a`, zero before the sequence. -/
theorem row_at (j r o : ℕ) (hj : r + j = 16) (ho : o + 512 ≤ 2048)
    (h₀ : ∀ x, (![0, 0, 0] : Fin 3 → ℕ) x + (![1, 512, 2048] : Fin 3 → ℕ) x ≤ S1x512x2048.size x)
    (h₀' : ∀ x, (![0, 0, 0] : Fin 3 → ℕ) x + (![1, 16, 2048] : Fin 3 → ℕ) x ≤ S1x16x2048.size x)
    (h₁ : ∀ x, (![0, 16, 0] : Fin 3 → ℕ) x + (![1, 512, 2048] : Fin 3 → ℕ) x ≤ S1x528x2048.size x)
    (h₂ : ∀ x, (![0, 0, 0] : Fin 3 → ℕ) x + (![1, 16, 2048] : Fin 3 → ℕ) x ≤ S1x528x2048.size x)
    (h₃ : ∀ x, (![0, r, o] : Fin 3 → ℕ) x + (![1, 512, 512] : Fin 3 → ℕ) x ≤ S1x528x2048.size x) (a k : Fin 512) :
    (View.whole cc0_scratch0).readCov (Val := Elt Ideal)
      [⟨Rect.unit ![0, 16, 0] ![1, 512, 2048] h₁, k0_pay3 (F := Ideal) (View.ld (iblk m c 0 t) (Rect.unit ![0, 0, 0] ![1, 512, 2048] h₀))⟩,
        ⟨Rect.unit ![0, 0, 0] ![1, 16, 2048] h₂, k0_pay2 (F := Ideal) (grid0.coords t) (View.ld (iblk m c 1 t) (Rect.unit ![0, 0, 0] ![1, 16, 2048] h₀'))⟩]
      (Rect.unit (s := S1x528x2048) ![0, r, o] ![1, 512, 512] h₃).toLoadRect (ix3 (0 : Fin 1) a k)
    = if j ≤ 512 * (t.val % 4) + a.val then
        line (A := 4) (N := 2048) (C := 2048) (U m c) ⟨t.val / 4, by have := lt_of_lt_of_eq t.isLt N_0; omega⟩ ⟨o + k.val, by omega⟩
          (512 * (t.val % 4) + a.val - j)
      else 0 := by
  rw [load _ _ r o (by omega) ho h₁ h₂ h₃ a k]
  split
  · next h =>
    rw [tile_at, if_pos (by omega)]
    exact congrArg _ (by show 512 * (t.val % 4) + (r + a.val - 16) = _; omega)
  · next h =>
    rw [halo_at]
    split
    · rw [if_neg (by omega)]
    · rw [if_pos (by omega)]
      exact congrArg _ (by show 512 * (t.val % 4) + (r + a.val) - 16 = _; omega)

/-- The tile's position words count the rows up to the position. -/
theorem count_at (a : Fin 512) (w : ℕ) :
    FloatOps.sitofp (F := Ideal) FTy.f32 (IntOp.minsi (IntOp.addi (IntOp.addi (Scalar.addi (0#32)
      (Scalar.muli (BitVec.ofNat 32 ((grid0.coords t) 1).val) 512#32)) (BitVec.ofNat 32 a.val)) 1#32) (BitVec.ofNat 32 w))
      = RefValue.count w (512 * (t.val % 4) + a.val) := by
  rw [(idx t).2.2.2.2.2.2]
  unfold RefValue.count
  congr 2
  simp [IntOp.addi, Scalar.addi, Scalar.muli, IntOp.muli, BitVec.ofNat_add, BitVec.ofNat_mul, BitVec.mul_comm]

/-- The position of the tile's row `a`. -/
abbrev pos (a : Fin 512) : Fin 2048 := ⟨512 * (t.val % 4) + a.val, by omega⟩

/-- The batch of the grid point. -/
abbrev batch : Fin 4 := ⟨t.val / 4, by have := lt_of_lt_of_eq t.isLt N_0; omega⟩

/-- The gate block, the group's matrix and the scale, as loaded at channel offset `o`. -/
theorem gate_at (o : ℕ) (ho : o + 512 ≤ 2048) (h : ∀ x, (![0, 0, o] : Fin 3 → ℕ) x + (![1, 512, 512] : Fin 3 → ℕ) x ≤ S1x512x2048.size x) (a k : Fin 512) :
    View.ld (iblk m c 2 t) (Rect.unit (s := S1x512x2048) ![0, 0, o] ![1, 512, 512] h) (ix3 (0 : Fin 1) a k)
      = m ((c : Thread nD τ).loc main_arg1) (ix3 (batch t) (pos t a) ⟨o + k.val, by omega⟩) := by
  pointwise
  blk_point [iblk, V, idx t]
theorem matrix_at (g : ℕ) (hg : g < 4) (h : ∀ x, (![g, 0, 0] : Fin 3 → ℕ) x + (![1, 512, 512] : Fin 3 → ℕ) x ≤ S4x512x512.size x) (j k : Fin 512) :
    View.ld (iblk m c 3 t) (Rect.unit (s := S4x512x512) ![g, 0, 0] ![1, 512, 512] h) (ix3 (0 : Fin 1) j k)
      = m ((c : Thread nD τ).loc main_arg2) (ix4 (0 : Fin 1) ⟨g, hg⟩ j k) := by
  pointwise
  blk_point [iblk, V, idx t]
theorem scale_at (o : ℕ) (ho : o + 512 ≤ 2048) (h : ∀ x, (![0, o] : Fin 2 → ℕ) x + (![1, 512] : Fin 2 → ℕ) x ≤ S1x2048.size x) (k : Fin 512) :
    View.ld (iblk m c 4 t) (Rect.unit (s := S1x2048) ![0, o] ![1, 512] h) (ix2 (0 : Fin 1) k)
      = m ((c : Thread nD τ).loc main_arg3) (ix2 (0 : Fin 1) ⟨o + k.val, by omega⟩) := by
  pointwise
  blk_point [iblk, V, idx t]

/-- A group's block of the result from its windows' sums `e`, the tile's rows `z`, the matrix, the scale and the gate. -/
theorem group_at (w o : ℕ) (ho : o + 512 ≤ 2048) (g : Fin 4) (e z : Fin 512 → EReal) (W : Fin 512 → EReal) (n ps gb : EReal) (a k : Fin 512)
    (he : ∀ j, e j = trail (line (A := 4) (N := 2048) (C := 2048) (U m c) (batch t) ⟨o + j.val, by omega⟩) (pos t a).val w)
    (hz : ∀ j, z j = line (A := 4) (N := 2048) (C := 2048) (U m c) (batch t) ⟨o + j.val, by omega⟩ (pos t a).val)
    (hW : ∀ j, W j = m ((c : Thread nD τ).loc main_arg2) (ix4 (0 : Fin 1) g j k)) (hn : n = RefValue.count w (pos t a).val)
    (hps : ps = m ((c : Thread nD τ).loc main_arg3) (ix2 (0 : Fin 1) ⟨o + k.val, by omega⟩))
    (hgb : gb = m ((c : Thread nD τ).loc main_arg1) (ix3 (batch t) (pos t a) ⟨o + k.val, by omega⟩)) :
    (∑ j, (Ideal.div (e j) n - z j) * W j) * ps * gb
      = mixed (U m c) (m ((c : Thread nD τ).loc main_arg1)) (m ((c : Thread nD τ).loc main_arg2)) (m ((c : Thread nD τ).loc main_arg3))
          w o ho g (batch t) (pos t a) k := by
  unfold mixed centred
  rw [hn, hps, hgb]
  congr 2
  refine Finset.sum_congr rfl fun j _ => ?_
  rw [he, hz, hW]
  congr 2
  unfold line
  rw [dif_pos (pos t a).isLt]

/-- The sixteen rows up to a position, added one after the other from the position backwards, are the trailing sum. -/
theorem sums (X : ℕ → EReal) (n : ℕ) :
    (if 0 ≤ n then X (n - 0) else 0) + (if 1 ≤ n then X (n - 1) else 0) = trail X n 2
    ∧ (if 0 ≤ n then X (n - 0) else 0) + (if 1 ≤ n then X (n - 1) else 0) + (if 2 ≤ n then X (n - 2) else 0) + (if 3 ≤ n then X (n - 3) else 0)
      = trail X n 4
    ∧ (if 0 ≤ n then X (n - 0) else 0) + (if 1 ≤ n then X (n - 1) else 0) + (if 2 ≤ n then X (n - 2) else 0) + (if 3 ≤ n then X (n - 3) else 0)
      + (if 4 ≤ n then X (n - 4) else 0) + (if 5 ≤ n then X (n - 5) else 0) + (if 6 ≤ n then X (n - 6) else 0) + (if 7 ≤ n then X (n - 7) else 0)
      = trail X n 8
    ∧ (if 0 ≤ n then X (n - 0) else 0) + (if 1 ≤ n then X (n - 1) else 0) + (if 2 ≤ n then X (n - 2) else 0) + (if 3 ≤ n then X (n - 3) else 0)
      + (if 4 ≤ n then X (n - 4) else 0) + (if 5 ≤ n then X (n - 5) else 0) + (if 6 ≤ n then X (n - 6) else 0) + (if 7 ≤ n then X (n - 7) else 0)
      + (if 8 ≤ n then X (n - 8) else 0) + (if 9 ≤ n then X (n - 9) else 0) + (if 10 ≤ n then X (n - 10) else 0) + (if 11 ≤ n then X (n - 11) else 0)
      + (if 12 ≤ n then X (n - 12) else 0) + (if 13 ≤ n then X (n - 13) else 0) + (if 14 ≤ n then X (n - 14) else 0) + (if 15 ≤ n then X (n - 15) else 0)
      = trail X n 16 := by
  unfold trail
  refine ⟨?_, ?_, ?_, ?_⟩ <;> simp only [Finset.sum_range_succ, Finset.sum_range_zero, zero_add]

/-- What the kernel leaves in its output block at a grid point. -/
abbrev OUT : FVec Ideal S1x512x2048 .bf16 :=
  out0_A_5 c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) (iblk m c 0 t) (iblk m c 1 t) (iblk m c 2 t) (iblk m c 3 t) (iblk m c 4 t)

/-- The reference's array from the kernel's arguments. -/
abbrev REF : FVec Ideal S4x2048x2048 .bf16 :=
  Cert.ReferenceIdeal.Read.val_main_v176 (F := Ideal) (U m c) (m ((c : Thread nD τ).loc main_arg1)) (m ((c : Thread nD τ).loc main_arg2)) (m ((c : Thread nD τ).loc main_arg3))

/-- The reference's array read at the rows of a grid point's block. -/
abbrev ROWS : S1x512x2048.Idx → Elt Ideal .bf16 := fun y => REF m c (ix3 (batch t) (pos t (y 1)) (y 2))

/-- A piece of the output block is the reference at its channels once it is so row by row. -/
theorem piece (o : ℕ) (ho : o + 512 ≤ 2048) (h : ∀ x, (![0, 0, o] : Fin 3 → ℕ) x + (![1, 512, 512] : Fin 3 → ℕ) x ≤ S1x512x2048.size x)
    (p : FVec Ideal S1x512x512 .bf16) (hp : ∀ a k : Fin 512, p (ix3 (0 : Fin 1) a k) = REF m c (ix3 (batch t) (pos t a) ⟨o + k.val, by omega⟩))
    (x : S1x512x512.Idx) :
    p x = ROWS m c t ((Rect.unit (s := S1x512x2048) ![0, 0, o] ![1, 512, 512] h).emb x) := by
  have e : x = ix3 (0 : Fin 1) (x 1) (x 2) := by
    funext i
    fin_cases i
    · exact Subsingleton.elim (α := Fin 1) _ _
    · rfl
    · rfl
  refine (congrArg p e).trans ((hp (x 1) (x 2)).trans ?_)
  unfold ROWS
  congr 2
  · apply Fin.ext
    simp [pos, Rect.emb, Rect.unit, LoadRect.idx]
  · apply Fin.ext
    simp [Rect.emb, Rect.unit, LoadRect.idx]

variable (e0 e1 e2 e3 e4 e5 e6 e7 e8 e9 e10 e11 e12 e13 e14 e15 z : FVec Ideal S1x512x512 .f32) (w : FVec Ideal S1x512x512 .bf16)
  (ps : FVec Ideal S1x512 .f32) (gb : FVec Ideal S1x512x512 .bf16) (a k : Fin 512)

/-- The first group's arithmetic at an index. -/
theorem pay_0 : k0_pay6 (F := Ideal) (k0_pay5 (grid0.coords t) e0 e1 z) w ps gb (ix3 (0 : Fin 1) a k)
    = (∑ j, (Ideal.div (e0 (ix3 (0 : Fin 1) a j) + e1 (ix3 (0 : Fin 1) a j)) (RefValue.count 2 (pos t a).val) - z (ix3 (0 : Fin 1) a j))
        * w (ix3 (0 : Fin 1) j k)) * ps (ix2 (0 : Fin 1) k) * gb (ix3 (0 : Fin 1) a k) := by
  rw [← count_at t a 2]
  pointwise [k0_pay6, k0_pay5, k0_pay4]

/-- The second group's arithmetic at an index. -/
theorem pay_1 : k0_pay8 (F := Ideal) (k0_pay7 (k0_pay4 (grid0.coords t)) e0 e1 e2 e3) z w ps gb (ix3 (0 : Fin 1) a k)
    = (∑ j, (Ideal.div (e0 (ix3 (0 : Fin 1) a j) + e1 (ix3 (0 : Fin 1) a j) + e2 (ix3 (0 : Fin 1) a j) + e3 (ix3 (0 : Fin 1) a j))
          (RefValue.count 4 (pos t a).val) - z (ix3 (0 : Fin 1) a j))
        * w (ix3 (0 : Fin 1) j k)) * ps (ix2 (0 : Fin 1) k) * gb (ix3 (0 : Fin 1) a k) := by
  rw [← count_at t a 4]
  pointwise [k0_pay8, k0_pay7, k0_pay4]

/-- The third group's arithmetic at an index. -/
theorem pay_2 : k0_pay10 (F := Ideal) (k0_pay4 (grid0.coords t)) (k0_pay9 e0 e1 e2 e3 e4 e5) e6 e7 z w ps gb (ix3 (0 : Fin 1) a k)
    = (∑ j, (Ideal.div (e0 (ix3 (0 : Fin 1) a j) + e1 (ix3 (0 : Fin 1) a j) + e2 (ix3 (0 : Fin 1) a j) + e3 (ix3 (0 : Fin 1) a j)
          + e4 (ix3 (0 : Fin 1) a j) + e5 (ix3 (0 : Fin 1) a j) + e6 (ix3 (0 : Fin 1) a j) + e7 (ix3 (0 : Fin 1) a j))
          (RefValue.count 8 (pos t a).val) - z (ix3 (0 : Fin 1) a j))
        * w (ix3 (0 : Fin 1) j k)) * ps (ix2 (0 : Fin 1) k) * gb (ix3 (0 : Fin 1) a k) := by
  rw [← count_at t a 8]
  pointwise [k0_pay10, k0_pay9, k0_pay4]

/-- The fourth group's arithmetic at an index. -/
theorem pay_3 : k0_pay1 (F := Ideal) (k0_pay4 (grid0.coords t)) (k0_pay11 e0 e1 e2 e3 e4 e5 e6 e7 e8 e9 e10 e11 e12) e13 e14 e15 z w ps gb
      (ix3 (0 : Fin 1) a k)
    = (∑ j, (Ideal.div (e0 (ix3 (0 : Fin 1) a j) + e1 (ix3 (0 : Fin 1) a j) + e2 (ix3 (0 : Fin 1) a j) + e3 (ix3 (0 : Fin 1) a j)
          + e4 (ix3 (0 : Fin 1) a j) + e5 (ix3 (0 : Fin 1) a j) + e6 (ix3 (0 : Fin 1) a j) + e7 (ix3 (0 : Fin 1) a j)
          + e8 (ix3 (0 : Fin 1) a j) + e9 (ix3 (0 : Fin 1) a j) + e10 (ix3 (0 : Fin 1) a j) + e11 (ix3 (0 : Fin 1) a j)
          + e12 (ix3 (0 : Fin 1) a j) + e13 (ix3 (0 : Fin 1) a j) + e14 (ix3 (0 : Fin 1) a j) + e15 (ix3 (0 : Fin 1) a j))
          (RefValue.count 16 (pos t a).val) - z (ix3 (0 : Fin 1) a j))
        * w (ix3 (0 : Fin 1) j k)) * ps (ix2 (0 : Fin 1) k) * gb (ix3 (0 : Fin 1) a k) := by
  rw [← count_at t a 16]
  pointwise [k0_pay1, k0_pay11, k0_pay4]

/-- The kernel's block is the reference's array read at the block's rows. -/
theorem block (hu : ∀ i, U m c i ≠ ⊤ ∧ U m c i ≠ ⊥) (y : S1x512x2048.Idx) :
    OUT m c t y = ROWS m c t y := by
  unfold OUT out0_A_5
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread]
  refine View.canon_apply_of_pieces (ROWS m c t) _ ?_ y ?_
  · intro pc hpc
    simp only [List.mem_cons, List.not_mem_nil, or_false] at hpc
    rcases hpc with rfl | rfl | rfl | rfl
    · refine piece m c t 1536 (by omega) inb_S1x512x2048_S1x512x512_0_0_1536 _ fun a k => ?_
      refine Eq.trans ?_ (RefValue.result _ _ _ _ hu (batch t) (pos t a) k).2.2.2.symm
      dsimp only
      rw [pay_3]
      refine group_at m c t 16 1536 (by omega) 3 _ _ _ _ _ _ a k (fun j => ?_) (fun j => ?_) (fun j => ?_) rfl ?_ ?_
      · rw [row_at m c t 0 16, row_at m c t 1 15, row_at m c t 2 14, row_at m c t 3 13, row_at m c t 4 12, row_at m c t 5 11, row_at
          m c t 6 10, row_at m c t 7 9, row_at m c t 8 8, row_at m c t 9 7, row_at m c t 10 6, row_at m c t 11 5, row_at m c t 12
          4, row_at m c t 13 3, row_at m c t 14 2, row_at m c t 15 1]
        · exact (sums _ _).2.2.2
        all_goals omega
      · rw [row_at m c t 0 16]
        · simp
        all_goals omega
      · exact matrix_at m c t 3 (by omega) _ _ _
      · exact scale_at m c t 1536 (by omega) _ _
      · exact gate_at m c t 1536 (by omega) _ _ _
    · refine piece m c t 1024 (by omega) inb_S1x512x2048_S1x512x512_0_0_1024 _ fun a k => ?_
      refine Eq.trans ?_ (RefValue.result _ _ _ _ hu (batch t) (pos t a) k).2.2.1.symm
      dsimp only
      rw [pay_2]
      refine group_at m c t 8 1024 (by omega) 2 _ _ _ _ _ _ a k (fun j => ?_) (fun j => ?_) (fun j => ?_) rfl ?_ ?_
      · rw [row_at m c t 0 16, row_at m c t 1 15, row_at m c t 2 14, row_at m c t 3 13, row_at m c t 4 12, row_at m c t 5 11, row_at
          m c t 6 10, row_at m c t 7 9]
        · exact (sums _ _).2.2.1
        all_goals omega
      · rw [row_at m c t 0 16]
        · simp
        all_goals omega
      · exact matrix_at m c t 2 (by omega) _ _ _
      · exact scale_at m c t 1024 (by omega) _ _
      · exact gate_at m c t 1024 (by omega) _ _ _
    · refine piece m c t 512 (by omega) inb_S1x512x2048_S1x512x512_0_0_512 _ fun a k => ?_
      refine Eq.trans ?_ (RefValue.result _ _ _ _ hu (batch t) (pos t a) k).2.1.symm
      dsimp only
      rw [pay_1]
      refine group_at m c t 4 512 (by omega) 1 _ _ _ _ _ _ a k (fun j => ?_) (fun j => ?_) (fun j => ?_) rfl ?_ ?_
      · rw [row_at m c t 0 16, row_at m c t 1 15, row_at m c t 2 14, row_at m c t 3 13]
        · exact (sums _ _).2.1
        all_goals omega
      · rw [row_at m c t 0 16]
        · simp
        all_goals omega
      · exact matrix_at m c t 1 (by omega) _ _ _
      · exact scale_at m c t 512 (by omega) _ _
      · exact gate_at m c t 512 (by omega) _ _ _
    · refine piece m c t 0 (by omega) inb_S1x512x2048_S1x512x512_0_0_0 _ fun a k => ?_
      refine Eq.trans ?_ (RefValue.result _ _ _ _ hu (batch t) (pos t a) k).1.symm
      dsimp only
      rw [pay_0]
      refine group_at m c t 2 0 (by omega) 0 _ _ _ _ _ _ a k (fun j => ?_) (fun j => ?_) (fun j => ?_) rfl ?_ ?_
      · rw [row_at m c t 0 16, row_at m c t 1 15]
        · exact (sums _ _).1
        all_goals omega
      · rw [row_at m c t 0 16]
        · simp
        all_goals omega
      · exact matrix_at m c t 0 (by omega) _ _ _
      · exact scale_at m c t 0 (by omega) _ _
      · exact gate_at m c t 0 (by omega) _ _ _
  · have hy := (y 2).isLt
    have h0 : (y 0).val < 1 := (y 0).isLt
    have h1 : (y 1).val < 512 := (y 1).isLt
    have h2 : (y 2).val < 2048 := (y 2).isLt
    simp only [List.exists_mem_cons_iff, Rect.mem_set_unit, Fin.forall_fin_succ]
    simp
    omega

/-- The array the run leaves is the reference's. -/
theorem final (hu : ∀ i, U m c i ≠ ⊤ ∧ U m c i ≠ ⊥) : (dats m 0 c).arrAt 5 (cfgs 0).N = REF m c := by
  refine (dats m 0 c).arrAt_eq_of_covers 5 _ (by decide +kernel) fun t hf y => ?_
  blk_simp
  rw [after0_5]
  refine (block m c t hu y).trans ?_
  unfold ROWS
  blk_point [idx t]

end Cert.KValue

end
-- ==== Proof.Finite.lean ====
/- What the precondition says: every entry of the pooled array is finite. -/
module

public import proofs.«01_k».proof.Defs
public import proofs.«01_k».proof.Proof.Gen.Pre_finite_u
public import Idealize.ShloMosaic.Lib.ReduceAll
public import Idealize.ShloMosaic.Lib.Pipeline.ValueKit

@[expose] public section

set_option maxRecDepth 16384

noncomputable section

namespace Cert.Finite

open Idealize.ShloMosaic Cert.Pre_finite_u

instance : Subsingleton S_.Idx := ⟨fun a b => funext fun i => i.elim0⟩

/-- The absolute values compared below infinity, all of them: every entry is neither infinity. -/
theorem of_pre (u : FVec Ideal S4x2048x2048 .f32) (gb : FVec Ideal S4x2048x2048 .bf16) (w : FVec Ideal S1x4x512x512 .f32)
    (ps : FVec Ideal S1x2048 .f32) (h : Cert.Pre_finite_u.fn (F := Ideal) u gb w ps = fun _ => 1#1) (i : S4x2048x2048.Idx) : u i ≠ ⊤ ∧ u i ≠ ⊥ := by
  unfold Cert.Pre_finite_u.fn at h
  dsimp only at h
  have e := Host.reduce_andi_all _ _ _ _ _ (congrFun h (fun a => a.elim0)) i
  pointwise at e
  have htop : Ideal.ofBits FTy.f32 2139095040#32 = ⊤ := by simp [Ideal.ofBits, Ideal.ieee]
  have hlt : max (u i) (-(u i)) < (⊤ : EReal) := by
    rw [htop] at e
    by_contra hn
    rw [show decide (FloatOps.absf (F := Ideal) (φ := .f32) (u i) < (⊤ : EReal)) = false from decide_eq_false hn] at e
    simp at e
  constructor
  · intro hc
    rw [hc] at hlt
    simp at hlt
  · intro hc
    rw [hc] at hlt
    simp at hlt

end Cert.Finite

end
-- ==== Proof.MergeRun.lean ====
module

public import proofs.«01_k».proof.Proof.Gen.Kernel3Ideal.Launch
public import proofs.«01_k».proof.Proof.Gen.Kernel3Ideal.Points
public import proofs.«01_k».proof.Proof.Gen.Kernel3Ideal.Skeleton
public import proofs.«01_k».proof.Proof.Gen.Kernel3Ideal.Frame
public import Idealize.ShloMosaic.Lib.Claim
public import Idealize.ShloMosaic.Lib.WritesUnit
public import Idealize.ShloMosaic.Lib.Pipeline.ValueKit

@[expose] public section

set_option maxRecDepth 16384

noncomputable section

namespace Cert.Merge

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- Columns `1024 k` to `1024 k + 1023` of a block of rows. -/
def cols (k : Fin 4) (y : Vec F S512x4096 .f32) : Vec F S512x1024 .f32 := fun z =>
  y (ix2 (⟨(z 0).val, (z 0).isLt⟩ : Fin 512) (⟨1024 * k.val + (z 1).val, by have h : (z 1).val < 1024 := (z 1).isLt; omega⟩ : Fin 4096))

/-- A block of rows with its `k`-th 1024 columns replaced. -/
def put (k : ℕ) (h : Vec F S512x1024 .f32) (y : Vec F S512x4096 .f32) : Vec F S512x4096 .f32 := fun p =>
  if (p 1).val / 1024 = k then h (ix2 (⟨(p 0).val, (p 0).isLt⟩ : Fin 512) (⟨(p 1).val % 1024, Nat.mod_lt _ (by decide)⟩ : Fin 1024)) else y p

/-- The sixteen heads side by side, then the pooled columns. -/
def mix (x : Vec F S16x512x128 .bf16) (b : Vec F S512x2048 .bf16) : Vec F S512x4096 .bf16 := fun p =>
  if h : (p 1).val < 2048 then x (ix3 (⟨(p 1).val / 128, by omega⟩ : Fin 16) (⟨(p 0).val, (p 0).isLt⟩ : Fin 512) (⟨(p 1).val % 128, Nat.mod_lt _ (by decide)⟩ : Fin 128))
  else b (ix2 (⟨(p 0).val, (p 0).isLt⟩ : Fin 512) (⟨(p 1).val - 2048, by have h' : (p 1).val < 4096 := (p 1).isLt; omega⟩ : Fin 2048))

/-- A block of rows divided by its root mean square row by row, times the scale of each column. -/
def norm (y : Vec F S512x4096 .f32) (g : Vec F S1x4096 .f32) : Vec F S512x4096 .f32 := fun p =>
  FloatOps.mulf (FloatOps.mulf (y p) (k0_pay23 (cols 0 y) (cols 1 y) (cols 2 y) (cols 3 y) (ix2 (⟨(p 0).val, (p 0).isLt⟩ : Fin 512) (0 : Fin 1))))
    (g (ix2 (0 : Fin 1) (⟨(p 1).val, (p 1).isLt⟩ : Fin 4096)))

theorem pay3_at (i : Vec F S512x1 .f32) (a : Vec F S512x1024 .f32) (g : Vec F S1x1024 .f32) (r : Fin 512) (k : Fin 1024) :
    k0_pay3 i a g (ix2 r k) = FloatOps.mulf (FloatOps.mulf (a (ix2 r k)) (i (ix2 r (0 : Fin 1)))) (g (ix2 (0 : Fin 1) k)) := by
  pointwise [k0_pay3]
theorem pay4_eq (i : Vec F S512x1 .f32) (a : Vec F S512x1024 .f32) (g : Vec F S1x1024 .f32) : k0_pay4 i a g = k0_pay3 i a g := rfl
theorem pay5_eq (i : Vec F S512x1 .f32) (a : Vec F S512x1024 .f32) (g : Vec F S1x1024 .f32) : k0_pay5 i a g = k0_pay3 i a g := rfl
theorem pay24_eq (a b c d y : Vec F S512x1024 .f32) (g : Vec F S1x1024 .f32) : k0_pay24 a b c d y g = k0_pay3 (k0_pay23 a b c d) y g := rfl

/-- The store of head `h` into the 128 columns from `o`. -/
abbrev head (x : Vec F S16x512x128 .bf16) (h o : ℕ) (inb : ∀ a, (![h, 0, 0] : Fin 3 → ℕ) a + (![1, 512, 128] : Fin 3 → ℕ) a ≤ S16x512x128.size a)
    (inb' : ∀ a, (![0, o] : Fin 2 → ℕ) a + (![512, 128] : Fin 2 → ℕ) a ≤ S512x4096.size a) : View.Piece (Elt F) S512x4096 .bf16 :=
  ⟨Rect.unit ![0, o] ![512, 128] inb', k0_pay6 (View.ld (Val := Elt F) (e' := .bf16) x (Rect.unit ![h, 0, 0] ![1, 512, 128] inb))⟩

/-- The stores that lay the heads and the pooled columns side by side, the last first. -/
abbrev laid (x : Vec F S16x512x128 .bf16) (b : Vec F S512x2048 .bf16) : List (View.Piece (Elt F) S512x4096 .bf16) :=
  [⟨Rect.unit ![0, 2048] ![512, 2048] inb_S512x4096_S512x2048_0_2048, k0_pay1 b⟩,
    head x 15 1920 inb_S16x512x128_S1x512x128_15_0_0 inb_S512x4096_S512x128_0_1920,
    head x 14 1792 inb_S16x512x128_S1x512x128_14_0_0 inb_S512x4096_S512x128_0_1792,
    head x 13 1664 inb_S16x512x128_S1x512x128_13_0_0 inb_S512x4096_S512x128_0_1664,
    head x 12 1536 inb_S16x512x128_S1x512x128_12_0_0 inb_S512x4096_S512x128_0_1536,
    head x 11 1408 inb_S16x512x128_S1x512x128_11_0_0 inb_S512x4096_S512x128_0_1408,
    head x 10 1280 inb_S16x512x128_S1x512x128_10_0_0 inb_S512x4096_S512x128_0_1280,
    head x 9 1152 inb_S16x512x128_S1x512x128_9_0_0 inb_S512x4096_S512x128_0_1152,
    head x 8 1024 inb_S16x512x128_S1x512x128_8_0_0 inb_S512x4096_S512x128_0_1024,
    head x 7 896 inb_S16x512x128_S1x512x128_7_0_0 inb_S512x4096_S512x128_0_896,
    head x 6 768 inb_S16x512x128_S1x512x128_6_0_0 inb_S512x4096_S512x128_0_768,
    head x 5 640 inb_S16x512x128_S1x512x128_5_0_0 inb_S512x4096_S512x128_0_640,
    head x 4 512 inb_S16x512x128_S1x512x128_4_0_0 inb_S512x4096_S512x128_0_512,
    head x 3 384 inb_S16x512x128_S1x512x128_3_0_0 inb_S512x4096_S512x128_0_384,
    head x 2 256 inb_S16x512x128_S1x512x128_2_0_0 inb_S512x4096_S512x128_0_256,
    head x 1 128 inb_S16x512x128_S1x512x128_1_0_0 inb_S512x4096_S512x128_0_128,
    head x 0 0 inb_S16x512x128_S1x512x128_0_0_0 inb_S512x4096_S512x128_0_0]

/-- A head's rows and columns as loaded. -/
theorem head_ld (x : Vec F S16x512x128 .bf16) (h : ℕ) (hh : h < 16) (inb : ∀ a, (![h, 0, 0] : Fin 3 → ℕ) a + (![1, 512, 128] : Fin 3 → ℕ) a ≤ S16x512x128.size a)
    (r : Fin 512) (q : Fin 128) :
    k0_pay6 (View.ld (Val := Elt F) (e' := .bf16) x (Rect.unit ![h, 0, 0] ![1, 512, 128] inb)) (ix2 r q) = x (ix3 (⟨h, hh⟩ : Fin 16) r q) := by
  pointwise [k0_pay6]

/-- The pooled columns as loaded. -/
theorem pool_ld (b : Vec F S512x2048 .bf16) (r : Fin 512) (q : Fin 2048) : k0_pay1 b (ix2 r q) = b (ix2 r q) := by
  pointwise [k0_pay1]

/-- A head's store is the mixed row's columns there. -/
theorem head_at (x : Vec F S16x512x128 .bf16) (b : Vec F S512x2048 .bf16) (h o : ℕ) (hh : h < 16) (ho : o = 128 * h) (inb inb')
    (z : S512x128.Idx) : (head x h o inb inb').2 z = mix x b ((head x h o inb inb').1.emb z) := by
  subst ho
  have h0 : (z 0).val < 512 := (z 0).isLt
  have h1 : (z 1).val < 128 := (z 1).isLt
  have e0 : (((head x h (128 * h) inb inb').1.emb z) 0).val = (z 0).val := by show 0 + 1 * (z 0).val = _; omega
  have e1 : (((head x h (128 * h) inb inb').1.emb z) 1).val = 128 * h + (z 1).val := by show 128 * h + 1 * (z 1).val = _; omega
  unfold mix
  rw [dif_pos (by rw [e1]; omega)]
  have ez : z = ix2 (⟨(z 0).val, h0⟩ : Fin 512) (⟨(z 1).val, h1⟩ : Fin 128) := by
    funext a; fin_cases a <;> rfl
  have hp : (head x h (128 * h) inb inb').2 z = x (ix3 (⟨h, hh⟩ : Fin 16) (⟨(z 0).val, h0⟩ : Fin 512) (⟨(z 1).val, h1⟩ : Fin 128)) := by
    exact (congrArg _ ez).trans (head_ld x h hh inb _ _)
  rw [hp]
  refine congrArg x (funext fun a => Fin.ext ?_)
  fin_cases a
  · show h = (((head x h (128 * h) inb inb').1.emb z) 1).val / 128; rw [e1]; omega
  · exact e0.symm
  · show (z 1).val = (((head x h (128 * h) inb inb').1.emb z) 1).val % 128; rw [e1]; omega

/-- What the stores leave, whatever was there before. -/
theorem read_laid {κ : Kind} {sp : Space} (v : View sig κ sp S512x4096 .bf16) (f : v.ty.Contents (Elt F)) (x : Vec F S16x512x128 .bf16) (b : Vec F S512x2048 .bf16) :
    v.read (Elt F) (v.writes (Elt F) f (laid x b)) = mix x b := by
  funext p
  refine View.read_writes_apply_of_pieces v f (mix x b) (laid x b) ?_ p ?_
  · intro pc hpc z
    simp only [laid, List.mem_cons, List.mem_nil_iff, or_false] at hpc
    rcases hpc with rfl | hpc
    · have h0 : (z 0).val < 512 := (z 0).isLt
      have h1 : (z 1).val < 2048 := (z 1).isLt
      have e1 : (((Rect.unit (s := S512x4096) ![0, 2048] ![512, 2048] inb_S512x4096_S512x2048_0_2048).emb z) 1).val = 2048 + (z 1).val := by
        show 2048 + 1 * (z 1).val = _; omega
      show k0_pay1 b z = mix x b ((Rect.unit (s := S512x4096) ![0, 2048] ![512, 2048] inb_S512x4096_S512x2048_0_2048).emb z)
      unfold mix
      rw [dif_neg (by rw [e1]; omega)]
      have hb : k0_pay1 b z = b z := by
        have ez : z = ix2 (⟨(z 0).val, h0⟩ : Fin 512) (⟨(z 1).val, h1⟩ : Fin 2048) := by
          funext a; fin_cases a <;> rfl
        exact (congrArg (k0_pay1 b) ez).trans ((pool_ld b _ _).trans (congrArg b ez).symm)
      rw [hb]
      refine congrArg b (funext fun a => Fin.ext ?_)
      fin_cases a
      · show (z 0).val = 0 + 1 * (z 0).val; omega
      · show (z 1).val = (((Rect.unit (s := S512x4096) ![0, 2048] ![512, 2048] inb_S512x4096_S512x2048_0_2048).emb z) 1).val - 2048; rw [e1]; omega
    · rcases hpc with rfl | rfl | rfl | rfl | rfl | rfl | rfl | rfl | rfl | rfl | rfl | rfl | rfl | rfl | rfl | rfl
      all_goals exact head_at x b _ _ (by decide) rfl _ _ z
  · have h0 : (p 0).val < 512 := (p 0).isLt
    have h1 : (p 1).val < 4096 := (p 1).isLt
    simp only [laid, List.exists_mem_cons_iff, Rect.mem_set_unit, Fin.forall_fin_succ]
    simp
    omega

/-- A store into the `k`-th 1024 columns of a block of rows replaces them. -/
theorem read_put {κ : Kind} {sp : Space} (v : View sig κ sp S512x4096 .f32) (f : v.ty.Contents (Elt F)) (o k : ℕ) (ho : o = 1024 * k)
    (inb : ∀ a, (![0, o] : Fin 2 → ℕ) a + (![512, 1024] : Fin 2 → ℕ) a ≤ S512x4096.size a) (w : Vec F S512x1024 .f32) (L : List (View.Piece (Elt F) S512x4096 .f32)) :
    v.read (Elt F) (v.writes (Elt F) f (⟨Rect.unit ![0, o] ![512, 1024] inb, w⟩ :: L)) = put k w (v.read (Elt F) (v.writes (Elt F) f L)) := by
  funext p
  have h0 : (p 0).val < 512 := (p 0).isLt
  have h1 : (p 1).val < 4096 := (p 1).isLt
  unfold put
  split
  · next h =>
    refine View.read_writes_cons_unit_of_mem v f inb w L p _ rfl fun a => ?_
    fin_cases a
    · show (p 0).val = 0 + (p 0).val; omega
    · show (p 1).val = o + (p 1).val % 1024; omega
  · next h =>
    refine View.read_writes_cons_unit_of_not_mem v f inb w L p rfl (1 : Fin 2) ?_
    show (p 1).val < o ∨ o + 1024 ≤ (p 1).val; omega

/-- A load of the `k`-th 1024 columns. -/
theorem ld_cols (y : Vec F S512x4096 .f32) (o : ℕ) (k : Fin 4) (ho : o = 1024 * k.val)
    (inb : ∀ a, (![0, o] : Fin 2 → ℕ) a + (![512, 1024] : Fin 2 → ℕ) a ≤ S512x4096.size a) :
    View.ld (Val := Elt F) (e' := .f32) y (Rect.unit ![0, o] ![512, 1024] inb) = cols k y := by
  subst ho
  funext z
  refine congrArg y (funext fun a => Fin.ext ?_)
  fin_cases a
  · show 0 + 1 * (z 0).val = (z 0).val; omega
  · show 1024 * k.val + 1 * (z 1).val = 1024 * k.val + (z 1).val; omega

/-- Columns not replaced are as they were; columns replaced are the new ones. -/
theorem cols_put_ne (j : Fin 4) (k : ℕ) (h : j.val ≠ k) (w : Vec F S512x1024 .f32) (y : Vec F S512x4096 .f32) : cols j (put k w y) = cols j y := by
  funext z
  have h1 : (z 1).val < 1024 := (z 1).isLt
  unfold cols put
  rw [if_neg]
  show ¬ (1024 * j.val + (z 1).val) / 1024 = k
  omega
theorem cols_put (j : Fin 4) (w : Vec F S512x1024 .f32) (y : Vec F S512x4096 .f32) : cols j (put j.val w y) = w := by
  funext z
  have h1 : (z 1).val < 1024 := (z 1).isLt
  unfold cols put
  rw [if_pos (by show (1024 * j.val + (z 1).val) / 1024 = j.val; omega)]
  refine congrArg w (funext fun a => Fin.ext ?_)
  fin_cases a
  · rfl
  · show (1024 * j.val + (z 1).val) % 1024 = (z 1).val; omega

/-- The four column blocks scaled one after the other are the scaled rows. -/
theorem norm_eq (z : Vec F S512x4096 .f32) (g : Vec F S1x4096 .f32) (g' : Fin 4 → Vec F S1x1024 .f32)
    (hg : ∀ k (q : Fin 1024), g' k (ix2 (0 : Fin 1) q) = g (ix2 (0 : Fin 1) (⟨1024 * k.val + q.val, by omega⟩ : Fin 4096))) :
    put 3 (k0_pay3 (k0_pay23 (cols 0 z) (cols 1 z) (cols 2 z) (cols 3 z)) (cols 3 z) (g' 3))
      (put 2 (k0_pay3 (k0_pay23 (cols 0 z) (cols 1 z) (cols 2 z) (cols 3 z)) (cols 2 z) (g' 2))
        (put 1 (k0_pay3 (k0_pay23 (cols 0 z) (cols 1 z) (cols 2 z) (cols 3 z)) (cols 1 z) (g' 1))
          (put 0 (k0_pay3 (k0_pay23 (cols 0 z) (cols 1 z) (cols 2 z) (cols 3 z)) (cols 0 z) (g' 0)) z))) = norm z g := by
  have key : ∀ (k : Fin 4) (p : S512x4096.Idx), (p 1).val / 1024 = k.val →
      k0_pay3 (k0_pay23 (cols 0 z) (cols 1 z) (cols 2 z) (cols 3 z)) (cols k z) (g' k)
        (ix2 (⟨(p 0).val, (p 0).isLt⟩ : Fin 512) (⟨(p 1).val % 1024, Nat.mod_lt _ (by decide)⟩ : Fin 1024)) = norm z g p := by
    intro k p hp
    rw [pay3_at, hg]
    unfold norm
    have e1 : cols k z (ix2 (⟨(p 0).val, (p 0).isLt⟩ : Fin 512) (⟨(p 1).val % 1024, Nat.mod_lt _ (by decide)⟩ : Fin 1024)) = z p := by
      refine congrArg z (funext fun a => Fin.ext ?_)
      fin_cases a
      · rfl
      · show 1024 * k.val + (p 1).val % 1024 = (p 1).val; omega
    rw [e1]
    have e2 : (⟨1024 * k.val + (p 1).val % 1024, by omega⟩ : Fin 4096) = ⟨(p 1).val, (p 1).isLt⟩ := Fin.ext (by show 1024 * k.val + (p 1).val % 1024 = (p 1).val; omega)
    rw [← e2]
  funext p
  have h1 : (p 1).val < 4096 := (p 1).isLt
  simp only [put]
  obtain h | h | h | h : (p 1).val / 1024 = 0 ∨ (p 1).val / 1024 = 1 ∨ (p 1).val / 1024 = 2 ∨ (p 1).val / 1024 = 3 := by omega
  · rw [if_neg (by omega), if_neg (by omega), if_neg (by omega), if_pos h]; exact key 0 p h
  · rw [if_neg (by omega), if_neg (by omega), if_pos h]; exact key 1 p h
  · rw [if_neg (by omega), if_pos h]; exact key 2 p h
  · rw [if_pos h]; exact key 3 p h

/-- A load of the whole of a rank-2 buffer reads its contents. -/
theorem ld_whole {a b : ℕ} {e : EltTy} (x : (⟨2, ![a, b]⟩ : Shape).Idx → Elt F e)
    (inb : ∀ i, (![0, 0] : Fin 2 → ℕ) i + (![a, b] : Fin 2 → ℕ) i ≤ (⟨2, ![a, b]⟩ : Shape).size i) :
    View.ld (Val := Elt F) (S := ⟨2, ![a, b]⟩) (e' := e) x (Rect.unit ![0, 0] ![a, b] inb) = x :=
  View.ld_unit_zero (S := ⟨2, ![a, b]⟩) (by funext i; fin_cases i <;> rfl) inb x

theorem cols_inb (k : Fin 4) : ∀ a, (![0, 1024 * k.val] : Fin 2 → ℕ) a + (![1, 1024] : Fin 2 → ℕ) a ≤ S1x4096.size a := by
  intro a
  fin_cases a
  · show 0 + 1 ≤ 1; omega
  · show 1024 * k.val + 1024 ≤ 4096; omega

/-- A load of the `k`-th 1024 scales. -/
theorem scale_ld (g : Vec F S1x4096 .f32) (k : Fin 4) (q : Fin 1024) :
    View.ld (Val := Elt F) (e' := .f32) g (Rect.unit ![0, 1024 * k.val] ![1, 1024] (cols_inb k)) (ix2 (0 : Fin 1) q) = g (ix2 (0 : Fin 1) (⟨1024 * k.val + q.val, by omega⟩ : Fin 4096)) := by
  refine congrArg g (funext fun a => Fin.ext ?_)
  fin_cases a
  · rfl
  · show 1024 * k.val + 1 * q.val = 1024 * k.val + q.val; omega

/-- What was stored last over a block of columns is what is loaded from them. -/
theorem canon_last (w : Vec F S512x1024 .f32) :
    (fun j => View.canon (Val := Elt F) (e := .f32) [⟨Rect.unit (s := S512x4096) ![0, 3072] ![512, 1024] inb_S512x4096_S512x1024_0_3072, w⟩]
      ((Rect.unit (s := S512x4096) ![0, 3072] ![512, 1024] inb_S512x4096_S512x1024_0_3072).toLoadRect.idx j)) = w :=
  funext fun j => View.canon_cons_emb (Rect.unit (s := S512x4096) ![0, 3072] ![512, 1024] inb_S512x4096_S512x1024_0_3072) w [] j

/-- Stores over other columns change nothing of it. -/
theorem canon_kept (w₂ w₁ w₀ w : Vec F S512x1024 .f32) :
    (fun j => View.canon (Val := Elt F) (e := .f32) [⟨Rect.unit (s := S512x4096) ![0, 2048] ![512, 1024] inb_S512x4096_S512x1024_0_2048, w₂⟩,
        ⟨Rect.unit (s := S512x4096) ![0, 1024] ![512, 1024] inb_S512x4096_S512x1024_0_1024, w₁⟩, ⟨Rect.unit (s := S512x4096) ![0, 0] ![512, 1024] inb_S512x4096_S512x1024_0_0, w₀⟩,
        ⟨Rect.unit (s := S512x4096) ![0, 3072] ![512, 1024] inb_S512x4096_S512x1024_0_3072, w⟩]
      ((Rect.unit (s := S512x4096) ![0, 3072] ![512, 1024] inb_S512x4096_S512x1024_0_3072).toLoadRect.idx j)) = w := by
  funext j
  have out : ∀ (o : ℕ) (inb : ∀ a, (![0, o] : Fin 2 → ℕ) a + (![512, 1024] : Fin 2 → ℕ) a ≤ S512x4096.size a) (v : Vec F S512x1024 .f32) (L : List (View.Piece (Elt F) S512x4096 .f32)),
      o + 1024 ≤ 3072 →
      View.canon (Val := Elt F) (e := .f32) (⟨Rect.unit (s := S512x4096) ![0, o] ![512, 1024] inb, v⟩ :: L)
        ((Rect.unit (s := S512x4096) ![0, 3072] ![512, 1024] inb_S512x4096_S512x1024_0_3072).toLoadRect.idx j)
      = View.canon (Val := Elt F) (e := .f32) L ((Rect.unit (s := S512x4096) ![0, 3072] ![512, 1024] inb_S512x4096_S512x1024_0_3072).toLoadRect.idx j) := by
    intro o inb v L ho
    refine View.canon_cons_of_not_mem (⟨Rect.unit (s := S512x4096) ![0, o] ![512, 1024] inb, v⟩ : View.Piece (Elt F) S512x4096 .f32) L ?_
    intro h
    have h1 : 3072 + 1 * (j 1).val < o + 1024 := ((Rect.mem_set_unit (inb := inb)).1 h 1).2
    omega
  exact (out 2048 _ w₂ _ (by omega)).trans ((out 1024 _ w₁ _ (by omega)).trans ((out 0 _ w₀ _ (by omega)).trans (congrFun (canon_last w) j)))

section Runs

variable (c : Dev nD) (i : grid0.Coords) (arg2 : Memref sig .tc .vmem S16x512x128 .bf16) (harg2 : arg2.IsWhole) (arg3 : Memref sig .tc .vmem S512x2048 .bf16) (harg3 : arg3.IsWhole)
  (arg4 : Memref sig .tc .vmem S4096x1024 .bf16) (harg4 : arg4.IsWhole) (arg5 : Memref sig .tc .vmem S512x1024 .f32) (harg5 : arg5.IsWhole)
  (arg6 : Memref sig .tc .vmem S1x4096 .f32) (harg6 : arg6.IsWhole) (arg7 : Memref sig .tc .vmem S512x4096 .f32) (harg7 : arg7.IsWhole)
  (arg8 : Memref sig .tc .vmem S512x4096 .bf16) (harg8 : arg8.IsWhole)
  (x0 : Vec F S16x512x128 .bf16) (x1 : Vec F S512x2048 .bf16) (x2 : Vec F S4096x1024 .bf16) (x3 : Vec F S512x1024 .f32) (x4 : Vec F S1x4096 .f32)
  (y : Vec F S512x4096 .f32) (d : Vec F S512x4096 .bf16)

set_option maxHeartbeats 1000000 in
/-- The body at the second and third column blocks: the block goes to its columns of the rows. -/
theorem run_mid (hi : (i 1).val = 1 ∨ (i 1).val = 2) (K : PUnit → sProp 𝕄) :
    iprop(owns (c : Thread nD τ) arg4 fullShare x2 ∗ owns (c : Thread nD τ) arg5 fullShare x3 ∗ owns (c : Thread nD τ) arg7 fullShare y ∗ owns (c : Thread nD τ) arg8 fullShare d
        ∗ (iprop(owns (c : Thread nD τ) arg4 fullShare x2 ∗ owns (c : Thread nD τ) arg5 fullShare x3 ∗ owns (c : Thread nD τ) arg7 fullShare (put (i 1).val (k0_pay2 x3 d x2) y)
          ∗ owns (c : Thread nD τ) arg8 fullShare d) -∗ K ⟨⟩))
      ⊢ wp frame (wpE (defs₀ (F := F)) Variants.none c none) Set.univ (cc0_merge i arg2 harg2 arg3 harg3 arg4 harg4 arg5 harg5 arg6 harg6 arg7 harg7 arg8 harg8) K := by
  simp only [cc0_merge_eq_skeleton]; unfold cc0_merge_skel
  simp only [k0_part4_eq_skeleton]
  unfold owns
  iintro ⟨⟨%f2, %hf2, H2⟩, ⟨%f3, %hf3, H3⟩, ⟨%f5, %hf5, H5⟩, ⟨%f6, %hf6, H6⟩, Hk⟩
  obtain rfl := harg4.eq_unread hf2
  obtain rfl := harg5.eq_unread hf3
  obtain rfl := harg7.eq_unread hf5
  obtain rfl := harg8.eq_unread hf6
  have c1 : ¬ (Scalar.cmpi .ne (Scalar.extui (Scalar.cmpi .eq (BitVec.ofNat 32 (i 1).val) 0#32)) 0#32 = 1#1) := by rcases hi with hi | hi <;> rw [hi] <;> decide
  have c2 : ¬ (k0_cond2 i = 1#1) := by unfold k0_cond2; rcases hi with hi | hi <;> rw [hi] <;> decide
  have c5 : ¬ (k0_cond5 i = 1#1) := by unfold k0_cond5; rcases hi with hi | hi <;> rw [hi] <;> decide
  have c6 : ¬ (k0_cond6 i = 1#1) := by unfold k0_cond6; rcases hi with hi | hi <;> rw [hi] <;> decide
  rcases hi with hi | hi
  all_goals
    have c3 : k0_cond3 i = 1#1 ∨ ¬ (k0_cond3 i = 1#1) := Classical.em _
    have c4 : k0_cond4 i = 1#1 ∨ ¬ (k0_cond4 i = 1#1) := Classical.em _
    first
    | (replace c3 : k0_cond3 i = 1#1 := by unfold k0_cond3; rw [hi]; decide
       replace c4 : ¬ (k0_cond4 i = 1#1) := by unfold k0_cond4; rw [hi]; decide)
    | (replace c3 : ¬ (k0_cond3 i = 1#1) := by unfold k0_cond3; rw [hi]; decide
       replace c4 : k0_cond4 i = 1#1 := by unfold k0_cond4; rw [hi]; decide)
    sl_exec (disch := first | sl_exact c1 | sl_exact c2 | sl_exact c3 | sl_exact c4 | sl_exact c5 | sl_exact c6)
    sl_step
    iapply Hk
    isplitl [H2]
    · iexists _; isplitr; · ipureintro; exact harg4.read_unread _
      iexact H2
    isplitl [H3]
    · iexists _; isplitr; · ipureintro; exact harg5.read_unread _
      iexact H3
    isplitl [H5]
    · iexists _; isplitr; swap; · iexact H5
      ipureintro
      sl_unfold_words
      simp only [View.readAt_eq_ld, harg4.read_unread, harg5.read_unread, harg8.read_unread]
      refine (read_put arg7.view _ _ (i 1).val (by rw [hi]) _ _ _).trans ?_
      rw [View.writes_nil, harg7.read_unread, ld_whole, ld_whole, ld_whole]
    iexists _; isplitr; · ipureintro; exact harg8.read_unread _
    iexact H6

set_option maxHeartbeats 1000000 in
/-- The body at the last column block: the block goes to its columns of the rows, and the rows are scaled. -/
theorem run_last (hi : (i 1).val = 3) (K : PUnit → sProp 𝕄) :
    iprop(owns (c : Thread nD τ) arg4 fullShare x2 ∗ owns (c : Thread nD τ) arg5 fullShare x3 ∗ owns (c : Thread nD τ) arg6 fullShare x4 ∗ owns (c : Thread nD τ) arg7 fullShare y ∗ owns (c : Thread nD τ) arg8 fullShare d
        ∗ (iprop(owns (c : Thread nD τ) arg4 fullShare x2 ∗ owns (c : Thread nD τ) arg5 fullShare x3 ∗ owns (c : Thread nD τ) arg6 fullShare x4
          ∗ owns (c : Thread nD τ) arg7 fullShare (norm (put 3 (k0_pay2 x3 d x2) y) x4) ∗ owns (c : Thread nD τ) arg8 fullShare d) -∗ K ⟨⟩))
      ⊢ wp frame (wpE (defs₀ (F := F)) Variants.none c none) Set.univ (cc0_merge i arg2 harg2 arg3 harg3 arg4 harg4 arg5 harg5 arg6 harg6 arg7 harg7 arg8 harg8) K := by
  have c1 : ¬ (Scalar.cmpi .ne (Scalar.extui (Scalar.cmpi .eq (BitVec.ofNat 32 (i 1).val) 0#32)) 0#32 = 1#1) := by rw [hi]; decide
  have c2 : ¬ (k0_cond2 i = 1#1) := by unfold k0_cond2; rw [hi]; decide
  have c3 : ¬ (k0_cond3 i = 1#1) := by unfold k0_cond3; rw [hi]; decide
  have c4 : ¬ (k0_cond4 i = 1#1) := by unfold k0_cond4; rw [hi]; decide
  have c5 : k0_cond5 i = 1#1 := by unfold k0_cond5; rw [hi]; decide
  have c6 : k0_cond6 i = 1#1 := by unfold k0_cond6; rw [hi]; decide
  simp only [cc0_merge_eq_skeleton]; unfold cc0_merge_skel
  simp only [k0_part4_eq_skeleton]
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg4.eq_unread hf2
  obtain rfl := harg5.eq_unread hf3
  obtain rfl := harg6.eq_unread hf4
  obtain rfl := harg7.eq_unread hf5
  obtain rfl := harg8.eq_unread hf6
  sl_exec (disch := first | sl_exact c1 | sl_exact c2 | sl_exact c3 | sl_exact c4 | sl_exact c5 | sl_exact c6)
  sl_step
  iapply Hk
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_words
    simp only [View.readAt_eq_ld, harg4.read_unread, harg5.read_unread, harg6.read_unread, harg7.read_unread, harg8.read_unread, pay4_eq, pay5_eq, pay24_eq]
    rw [read_put arg7.view _ 3072 3 rfl, read_put arg7.view _ 2048 2 rfl, read_put arg7.view _ 1024 1 rfl, read_put arg7.view _ 0 0 rfl, read_put arg7.view _ 3072 3 rfl,
      View.writes_nil, harg7.read_unread]
    simp only [View.readCov_eq_canon', ld_whole]
    refine Eq.trans ?_ (norm_eq (put 3 (k0_pay2 x3 d x2) y) x4 (fun k => View.ld (Val := Elt F) (e' := .f32) x4 (Rect.unit ![0, 1024 * k.val] ![1, 1024] (cols_inb k))) (scale_ld x4))
    rw [ld_cols y 0 0 rfl, ld_cols y 1024 1 rfl, ld_cols y 2048 2 rfl, cols_put_ne 0 3 (by decide), cols_put_ne 1 3 (by decide), cols_put_ne 2 3 (by decide),
      show cols 3 (put 3 (k0_pay2 x3 d x2) y) = k0_pay2 x3 d x2 from cols_put 3 _ _]
    rw [canon_last, canon_kept]
    rfl
  iexists _; isplitr; · ipureintro; exact harg8.read_unread _
  iexact H6

set_option maxHeartbeats 1000000 in
/-- The body at the first column block: the mixed columns are laid side by side, then the block goes to its columns of the rows. -/
theorem run_first (hi : (i 1).val = 0) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg7 fullShare y ∗ owns (c : Thread nD τ) arg8 fullShare d
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg7 fullShare (put 0 (k0_pay2 x3 (mix x0 x1) x2) y) ∗ owns (c : Thread nD τ) arg8 fullShare (mix x0 x1)) -∗ K ⟨⟩))
      ⊢ wp frame (wpE (defs₀ (F := F)) Variants.none c none) Set.univ (cc0_merge i arg2 harg2 arg3 harg3 arg4 harg4 arg5 harg5 arg6 harg6 arg7 harg7 arg8 harg8) K := by
  have c1 : Scalar.cmpi .ne (Scalar.extui (Scalar.cmpi .eq (BitVec.ofNat 32 (i 1).val) 0#32)) 0#32 = 1#1 := by rw [hi]; decide
  have c2 : k0_cond2 i = 1#1 := by unfold k0_cond2; rw [hi]; decide
  have c3 : ¬ (k0_cond3 i = 1#1) := by unfold k0_cond3; rw [hi]; decide
  have c4 : ¬ (k0_cond4 i = 1#1) := by unfold k0_cond4; rw [hi]; decide
  have c5 : ¬ (k0_cond5 i = 1#1) := by unfold k0_cond5; rw [hi]; decide
  have c6 : ¬ (k0_cond6 i = 1#1) := by unfold k0_cond6; rw [hi]; decide
  simp only [cc0_merge_eq_skeleton]; unfold cc0_merge_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
  obtain rfl := harg2.eq_unread hf0
  obtain rfl := harg3.eq_unread hf1
  obtain rfl := harg4.eq_unread hf2
  obtain rfl := harg5.eq_unread hf3
  obtain rfl := harg7.eq_unread hf5
  obtain rfl := harg8.eq_unread hf6
  sl_exec (disch := first | sl_exact c1 | sl_exact c2 | sl_exact c3 | sl_exact c4 | sl_exact c5 | sl_exact c6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H5]
  · iexists _; isplitr; swap; · iexact H5
    ipureintro
    sl_unfold_words
    simp only [View.readAt_eq_ld, harg2.read_unread, harg3.read_unread, harg4.read_unread, harg5.read_unread, harg8.read_unread]
    refine (read_put arg7.view _ _ 0 rfl _ _ _).trans ?_
    rw [View.writes_nil, harg7.read_unread, ld_whole, ld_whole, ld_whole]
    have e : arg8.view.readCov (Val := Elt F) (laid x0 x1) (Rect.unit (s := S512x4096) ![0, 0] ![512, 4096] inb_S512x4096_S512x4096_0_0).toLoadRect = mix x0 x1 :=
      (congrArg (fun X => View.ld (Val := Elt F) (e' := .bf16) X (Rect.unit (s := S512x4096) ![0, 0] ![512, 4096] inb_S512x4096_S512x4096_0_0)) (read_laid arg8.view _ x0 x1)).trans (ld_whole _ _)
    exact congrArg (fun X => put 0 (k0_pay2 x3 X x2) y) e
  iexists _; isplitr; swap; · iexact H6
  ipureintro
  sl_unfold_words
  simp only [View.readAt_eq_ld, harg2.read_unread, harg3.read_unread, ld_whole]
  exact read_laid arg8.view _ x0 x1

end Runs

end Cert.Merge
end
-- ==== Proof.MergeFrame.lean ====
module

public import proofs.«01_k».proof.Proof.MergeRun
public import Idealize.ShloMosaic.Lib.Pipeline.ArrRel

@[expose] public section

set_option maxRecDepth 16384

noncomputable section

/-! # The output projection with its residual sum and final scaling: what every point leaves, and the run -/

namespace Cert.Merge

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch that holds the mixed columns. -/
abbrev scM : Memref sig .tc .vmem S512x4096 .bf16 := Memref.whole cc0_scratch0

/-- The scoped buffers that the pipeline does not stage: the scratch, and the generator's register. -/
theorem PhiA_eq (c : Dev nD) : (Pipeline.ΦA spec0 c : sProp 𝕄) = iprop(iprop(∃ d, owns (c : Thread nD τ) scM fullShare d) ∗ (∃ r, prngReg c r)) := by
  unfold Pipeline.ΦA
  rw [scopedRest0_eq]
  simp only [scM, owns_whole]
  try rfl

/-- The body table's row is the body. -/
theorem defs₀_row (t : Fin cfg0.N) : defs₀ (F := F) .tc cfg0.body (cfg0.bodyArgs t (cfg0.slots t)) = bodyAt0 t := by
  unfold defs₀
  rw [Defs.onTc_tc]

/-- The coordinates of a point: the row block and the column block. -/
theorem coords_eq : ∀ t : Fin grid0.N, ((grid0.coords t) 0).val = t.val / 4 ∧ ((grid0.coords t) 1).val = t.val % 4 := by decide +kernel

/-- The first point of the row block that point `k` works on. -/
def first (k : ℕ) : Fin cfg0.N := ⟨4 * (k / 4) % 64, lt_of_lt_of_eq (Nat.mod_lt _ (by decide)) N_0.symm⟩

theorem first_self (t : Fin cfg0.N) (h : t.val % 4 = 0) : first t.val = t := by
  have : t.val < 64 := lt_of_lt_of_eq t.isLt N_0
  refine Fin.ext ?_
  show 4 * (t.val / 4) % 64 = t.val
  omega

theorem first_succ (k : ℕ) (h : (k + 1) % 4 ≠ 0) : first (k + 1) = first k := by
  refine Fin.ext ?_
  show 4 * ((k + 1) / 4) % 64 = 4 * (k / 4) % 64
  omega

/-- The mixed columns of the row block that point `k` works on. -/
def mixAt (c : Dev nD) (k : ℕ) : Vec F S512x4096 .bf16 := mix (iblk m c 0 (first k)) (iblk m c 1 (first k))

/-- The column block that point `t` computes: the residual's block plus the product. -/
def blockAt (c : Dev nD) (t : Fin cfg0.N) : Vec F S512x1024 .f32 := k0_pay2 (iblk m c 3 t) (mixAt m c t.val) (iblk m c 2 t)

/-- What point `t` makes of the rows it finds. -/
def step (c : Dev nD) (t : Fin cfg0.N) (Y : Vec F S512x4096 .f32) : Vec F S512x4096 .f32 :=
  if t.val % 4 = 3 then norm (put 3 (blockAt m c t) Y) (iblk m c 4 t) else put (t.val % 4) (blockAt m c t) Y

/-- What a point leaves in each window's buffer, of what it finds there. -/
def left (c : Dev nD) : (w : Fin cfg0.W) → Fin cfg0.N → (Y X : (cfg0.win w).block.Idx → Elt F (cfg0.win w).elt) → Prop
  | 0 => fun _ Y X => X = Y
  | 1 => fun _ Y X => X = Y
  | 2 => fun _ Y X => X = Y
  | 3 => fun _ Y X => X = Y
  | 4 => fun _ Y X => X = Y
  | 5 => fun t Y X => X = step m c t Y

/-- What holds between points: past the first column block the scratch holds the mixed columns. -/
def between (c : Dev nD) (k : ℕ) : sProp 𝕄 :=
  iprop(iprop(∃ d, ⌜k % 4 ≠ 0 → d = mixAt m c k⌝ ∗ owns (c : Thread nD τ) scM fullShare d) ∗ (∃ r, prngReg c r))

/-- The proof's data. -/
def rdat (c : Dev nD) : RDat τ (Elt F) Unit ℕ (UR sig nD τ) ℕ cfg0 c where
  A w := V m c (Pipeline.arrRef spec0 w)
  after := left m c
  Φ k := between m c k.val
  q _ := fullShare
  owed _ := 0

/-- A window that is only read holds its block wherever the body finds it. -/
theorem finds_block0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rfl
theorem finds_block1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rfl
theorem finds_block2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rfl
theorem finds_block3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rfl
theorem finds_block4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk; rfl

/-- One point: whatever the rows' buffer holds, the point makes of it what `step` says. -/
theorem sound_point (c : Dev nD) (t : Fin cfg0.N) (Y : Vec F S512x4096 .f32) (R : sProp 𝕄) :
    iprop(between m c t.val ∗ R ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare Y)
      ⊢ wp frame (wpE (defs₀ (F := F)) Variants.none c none) Set.univ (bodyAt0 t) fun _ =>
        iprop(between m c (t.val + 1) ∗ R ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (step m c t Y)) := by
  have hc : ((grid0.coords t) 1).val = t.val % 4 := (coords_eq t).2
  unfold between
  iintro ⟨⟨⟨%d, %hd, HS⟩, Hp⟩, HR, H0, H1, H2, H3, H4, H5⟩
  obtain h | h | h : t.val % 4 = 0 ∨ (t.val % 4 = 1 ∨ t.val % 4 = 2) ∨ t.val % 4 = 3 := by omega
  · iapply (run_first (F := F) c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) scM (Memref.isWhole_whole _)
      (iblk m c 0 t) (iblk m c 1 t) (iblk m c 2 t) (iblk m c 3 t) Y d (hc.trans h) _)
    have e : mix (iblk m c 0 t) (iblk m c 1 t) = mixAt m c t.val := by unfold mixAt; rw [first_self t h]
    have es : step m c t Y = put 0 (k0_pay2 (iblk m c 3 t) (mix (iblk m c 0 t) (iblk m c 1 t)) (iblk m c 2 t)) Y := by
      unfold step blockAt; rw [if_neg (by omega), h, e]
    rw [es]
    isplitl [H0]; · iexact H0
    isplitl [H1]; · iexact H1
    isplitl [H2]; · iexact H2
    isplitl [H3]; · iexact H3
    isplitl [H5]; · iexact H5
    isplitl [HS]; · iexact HS
    iintro ⟨H0, H1, H2, H3, H5, HS⟩
    isplitl [HS Hp]
    · isplitl [HS]
      · iexists _
        isplitr; swap; · iexact HS
        ipureintro
        intro h'
        rw [e]; unfold mixAt; rw [first_succ _ h']
      iexact Hp
    isplitl [HR]; · iexact HR
    isplitl [H0]; · iexact H0
    isplitl [H1]; · iexact H1
    isplitl [H2]; · iexact H2
    isplitl [H3]; · iexact H3
    isplitl [H4]; · iexact H4
    iexact H5
  · obtain rfl := hd (by omega)
    iapply (run_mid (F := F) c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) scM (Memref.isWhole_whole _)
      (iblk m c 2 t) (iblk m c 3 t) Y (mixAt m c t.val) (by rw [hc]; exact h) _)
    have es : step m c t Y = put ((grid0.coords t) 1).val (k0_pay2 (iblk m c 3 t) (mixAt m c t.val) (iblk m c 2 t)) Y := by
      unfold step blockAt; rw [if_neg (by omega), hc]
    rw [es]
    isplitl [H2]; · iexact H2
    isplitl [H3]; · iexact H3
    isplitl [H5]; · iexact H5
    isplitl [HS]; · iexact HS
    iintro ⟨H2, H3, H5, HS⟩
    isplitl [HS Hp]
    · isplitl [HS]
      · iexists _
        isplitr; swap; · iexact HS
        ipureintro
        intro h'
        unfold mixAt; rw [first_succ _ h']
      iexact Hp
    isplitl [HR]; · iexact HR
    isplitl [H0]; · iexact H0
    isplitl [H1]; · iexact H1
    isplitl [H2]; · iexact H2
    isplitl [H3]; · iexact H3
    isplitl [H4]; · iexact H4
    iexact H5
  · obtain rfl := hd (by omega)
    iapply (run_last (F := F) c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) scM (Memref.isWhole_whole _)
      (iblk m c 2 t) (iblk m c 3 t) (iblk m c 4 t) Y (mixAt m c t.val) (hc.trans h) _)
    have es : step m c t Y = norm (put 3 (k0_pay2 (iblk m c 3 t) (mixAt m c t.val) (iblk m c 2 t)) Y) (iblk m c 4 t) := by
      unfold step blockAt; rw [if_pos h]
    rw [es]
    isplitl [H2]; · iexact H2
    isplitl [H3]; · iexact H3
    isplitl [H4]; · iexact H4
    isplitl [H5]; · iexact H5
    isplitl [HS]; · iexact HS
    iintro ⟨H2, H3, H4, H5, HS⟩
    isplitl [HS Hp]
    · isplitl [HS]
      · iexists _
        isplitr; swap; · iexact HS
        ipureintro
        intro h'
        omega
      iexact Hp
    isplitl [HR]; · iexact HR
    isplitl [H0]; · iexact H0
    isplitl [H1]; · iexact H1
    isplitl [H2]; · iexact H2
    isplitl [H3]; · iexact H3
    isplitl [H4]; · iexact H4
    iexact H5

/-- The body's obligation at every point. -/
theorem body_obligation (c : Dev nD) : (rdat (F := F) m c).BodyObligation (defs₀ (F := F)) Variants.none () Set.univ := fun t Y hY => by
  rw [bigSep_W0, bigSep_W0, defs₀_row]
  rw [finds_block0 m c t _ (hY 0), finds_block1 m c t _ (hY 1), finds_block2 m c t _ (hY 2), finds_block3 m c t _ (hY 3), finds_block4 m c t _ (hY 4)]
  refine triple_restated (sound_point m c t (Y 5) ((rdat (F := F) m c).owesAt () t.castSucc)) rfl .rfl fun _ => ?_
  show _ ⊢ iprop(between m c (t.val + 1) ∗ (rdat (F := F) m c).owesAt () t.castSucc ∗ _)
  iintro ⟨HΦ, Ho, H0, H1, H2, H3, H4, H5⟩
  isplitl [HΦ]; · iexact HΦ
  isplitl [Ho]; · iexact Ho
  isplitl [H0]; · iexists _; isplitr; swap; · iexact H0
                  ipureintro; exact rfl
  isplitl [H1]; · iexists _; isplitr; swap; · iexact H1
                  ipureintro; exact rfl
  isplitl [H2]; · iexists _; isplitr; swap; · iexact H2
                  ipureintro; exact rfl
  isplitl [H3]; · iexists _; isplitr; swap; · iexact H3
                  ipureintro; exact rfl
  isplitl [H4]; · iexists _; isplitr; swap; · iexact H4
                  ipureintro; exact rfl
  iexists _; isplitr; swap; · iexact H5
  ipureintro; exact rfl

set_option backward.isDefEq.respectTransparency.types false in
/-- The run: every core's arrays hold what the data say, the rest is as the region found it, and no semaphore is up. -/
theorem run : θ_run defs (onTc (τ := τ) (main (F := F))) (s₀ m ρ) (fun r => RDat.FramePost cfg0 (rdat (F := F) m) (V m) r ∧ r.2.sem = fun _ => 0) :=
  RDat.θ_run_frame_track cfgs 0 launch0 defs₀ Variants.none (rdat m) m ρ main (body_obligation m) (fun _ => RDat.share_full _ fun _ => rfl) (fun _ _ => rfl) (V m)
    (hmain m Variants.none) (fun _ _ => rfl)
    (fun c => by
      rw [PhiA_eq]
      show _ ⊢ between m c 0
      unfold between
      iintro ⟨⟨%d, H⟩, Hp⟩
      isplitl [H]
      · iexists _; isplitr; swap; · iexact H
        ipureintro
        intro h; exact absurd rfl h
      iexact Hp)
    (fun c => by
      rw [PhiA_eq]
      show between m c (Fin.last cfg0.N).val ⊢ _
      unfold between
      iintro ⟨⟨%d, %_, H⟩, Hp⟩
      isplitl [H]
      · iexists _; iexact H
      iexact Hp)
    _ (fun _ h => h)

/-- The arguments are untouched. -/
theorem args (c : Dev nD) (r : PUnit.{1} × MemSt nD τ sig (Elt F)) (h : RDat.FramePost cfg0 (rdat (F := F) m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(RDat.FramePost.arr_in h c 0 rfl).trans (V_main_arg0 m c),
    (RDat.FramePost.arr_in h c 1 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The arguments are untouched and no semaphore is up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => args m c r h.1, h.2⟩) (run m ρ)

end Cert.Merge

end
-- ==== Proof.MergeRef.lean ====
/- The final scaling of the residual sum with the projected mixed columns, as the reference states it, read at an index. -/
module

public import proofs.«01_k».proof.Proof.Gen.Reference3Ideal.Read
public import Idealize.ShloMosaic.Lib.Pipeline.ValueKit

@[expose] public section

set_option maxRecDepth 16384

noncomputable section

namespace Cert.MergeRef

open Idealize.ShloMosaic Cert.Reference3Ideal Cert.Reference3Ideal.Read

variable (x0 : FVec Ideal S16x8192x128 .bf16) (x1 : FVec Ideal S8192x2048 .bf16) (x2 : FVec Ideal S1x4096x4096 .f32) (x3 : FVec Ideal S4x2048x4096 .f32) (x4 : FVec Ideal S4096 .f32)

/-- Column `k` of a row's mixed columns: a head's column, or a pooled one. -/
def mixed (r : Fin 8192) (k : Fin 4096) : EReal :=
  if h : k.val < 2048 then x0 (ix3 (⟨k.val / 128, by omega⟩ : Fin 16) r (⟨k.val % 128, Nat.mod_lt _ (by decide)⟩ : Fin 128))
  else x1 (ix2 r (⟨k.val - 2048, by omega⟩ : Fin 2048))

/-- The residual plus the projected mixed columns. -/
def hidden (r : Fin 8192) (q : Fin 4096) : EReal :=
  x3 (ix3 (⟨r.val / 2048, by omega⟩ : Fin 4) (⟨r.val % 2048, Nat.mod_lt _ (by decide)⟩ : Fin 2048) q) + ∑ k : Fin 4096, mixed x0 x1 r k * x2 (ix3 (0 : Fin 1) k q)

/-- The row divided by its root mean square, times the column's scale. -/
def scaled (r : Fin 8192) (q : Fin 4096) : EReal :=
  hidden x0 x1 x2 x3 r q
    * Ideal.rsqrt (Ideal.div (∑ k : Fin 4096, hidden x0 x1 x2 x3 r k * hidden x0 x1 x2 x3 r k) (FloatOps.ofBits (F := Ideal) .f32 0x45800000#32) + FloatOps.ofBits (F := Ideal) .f32 0x358637BD#32)
    * x4 (ix1 q)

/-- The reference's sum before scaling. -/
theorem hidden_at (r : Fin 8192) (q : Fin 4096) :
    val_main_v8 (F := Ideal) x0 x1 x2 x3 (ix3 (⟨r.val / 2048, by omega⟩ : Fin 4) (⟨r.val % 2048, Nat.mod_lt _ (by decide)⟩ : Fin 2048) q) = hidden x0 x1 x2 x3 r q := by
  pointwise [val_main_v8, val_main_v7, val_main_v6, val_main_v5, val_main_v4, val_main_v3, val_main_v2, val_main_v1, val_main_v0, hidden, mixed]

theorem scaled_at (r : Fin 8192) (q : Fin 4096) : val_main_v22 (F := Ideal) x0 x1 x2 x3 x4 (ix2 r q) = scaled x0 x1 x2 x3 x4 r q := by
  pointwise [val_main_v22, val_main_v21, val_main_v20, val_main_v19, val_main_v18, val_main_v17, val_main_v16, val_main_v15, val_main_v14, val_main_v13, val_main_v12, val_main_v11, val_main_v10, val_main_v9, val_main_cst, val_main_cst_0, val_main_cst_1, scaled]
  simp only [hidden_at]

end Cert.MergeRef

end
-- ==== Proof.MergeValue.lean ====
/- The projected and scaled rows that the run leaves, read at an index. -/
module

public import proofs.«01_k».proof.Proof.MergeFrame
public import proofs.«01_k».proof.Proof.MergeRef

@[expose] public section

set_option maxRecDepth 16384

noncomputable section

namespace Cert.MergeValue

open Idealize.ShloMosaic Idealize.ShloMosaic.TcCoe Idealize.SL.Sem Cert.Kernel3Ideal Cert.Kernel3Ideal.Gen Cert.Merge Cert.MergeRef
open Idealize.ShloMosaic.Pipeline (RDat)

/-- The block of every window at a grid point. -/
theorem idx : ∀ t : Fin cfg0.N, win0_0.index t = ![0, t.val / 4, 0] ∧ win0_1.index t = ![t.val / 4, 0] ∧ win0_2.index t = ![0, t.val % 4]
    ∧ win0_3.index t = ![t.val / 4, t.val % 4] ∧ win0_4.index t = ![0, 0] ∧ win0_5.index t = ![t.val / 4, 0] :=
  (by decide +kernel : ∀ t : Fin grid0.N, _)

variable (m : (ℓ : Loc nD τ sig) → Buf (Elt Ideal) ℓ) (c : Dev nD)

/-- The arguments. -/
abbrev X0 : FVec Ideal S16x8192x128 .bf16 := m ((c : Thread nD τ).loc main_arg0)
abbrev X1 : FVec Ideal S8192x2048 .bf16 := m ((c : Thread nD τ).loc main_arg1)
abbrev X2 : FVec Ideal S1x4096x4096 .f32 := m ((c : Thread nD τ).loc main_arg2)
abbrev X3 : FVec Ideal S4x2048x4096 .f32 := m ((c : Thread nD τ).loc main_arg3)
abbrev X4 : FVec Ideal S4096 .f32 := m ((c : Thread nD τ).loc main_arg4)

/-- A row's sum before scaling, and after. -/
abbrev HID (r : Fin 8192) (q : Fin 4096) : EReal := hidden (X0 m c) (X1 m c) (X2 m c) (X3 m c) r q
def REF : S8192x4096.Idx → EReal := fun p =>
  scaled (X0 m c) (X1 m c) (X2 m c) (X3 m c) (X4 m c) (⟨(p 0).val, (p 0).isLt⟩ : Fin 8192) (⟨(p 1).val, (p 1).isLt⟩ : Fin 4096)

/-- The row of the array that row `p` of the block at point `t` is. -/
def row (t : Fin cfg0.N) (p : Fin 512) : Fin 8192 := ⟨512 * (t.val / 4) + p.val, by have := lt_of_lt_of_eq t.isLt N_0; omega⟩

/-- A column block, read at an index. -/
theorem pay2_at (x : FVec Ideal S512x1024 .f32) (d : FVec Ideal S512x4096 .bf16) (w : FVec Ideal S4096x1024 .bf16) (p : Fin 512) (q : Fin 1024) :
    k0_pay2 (F := Ideal) x d w (ix2 p q) = x (ix2 p q) + ∑ k : Fin 4096, d (ix2 p k) * w (ix2 k q) := by
  pointwise [k0_pay2]

/-- The reciprocal root mean square of a row from its four column blocks. -/
theorem pay23_at (a b e f : FVec Ideal S512x1024 .f32) (p : Fin 512) :
    k0_pay23 (F := Ideal) a b e f (ix2 p (0 : Fin 1)) = Ideal.rsqrt (Ideal.div ((∑ k : Fin 1024, a (ix2 p k) * a (ix2 p k)) + (∑ k : Fin 1024, b (ix2 p k) * b (ix2 p k))
      + (∑ k : Fin 1024, e (ix2 p k) * e (ix2 p k)) + (∑ k : Fin 1024, f (ix2 p k) * f (ix2 p k))) (FloatOps.ofBits (F := Ideal) .f32 0x45800000#32) + FloatOps.ofBits (F := Ideal) .f32 0x358637BD#32) := by
  pointwise [k0_pay23]

/-- A sum over the columns is the sum over the four column blocks. -/
theorem sum_blocks (f : Fin 4096 → EReal) (S : Fin 4 → EReal) (hS : ∀ j : Fin 4, S j = ∑ q : Fin 1024, f (⟨1024 * j.val + q.val, by omega⟩)) :
    S 0 + S 1 + S 2 + S 3 = ∑ k : Fin 4096, f k := by
  rw [← Fin.sum_univ_four, ← (finProdFinEquiv (m := 4) (n := 1024)).sum_comp f, Fintype.sum_prod_type]
  refine Finset.sum_congr rfl fun j _ => (hS j).trans (Finset.sum_congr rfl fun q _ => congrArg f (Fin.ext ?_))
  simp [finProdFinEquiv]; omega

/-- The mixed columns at a point. -/
theorem mixAt_at (t : Fin cfg0.N) (p : Fin 512) (k : Fin 4096) : mixAt m c t.val (ix2 p k) = mixed (X0 m c) (X1 m c) (row t p) k := by
  have ht := lt_of_lt_of_eq t.isLt N_0
  have hf : (first t.val).val / 4 = t.val / 4 := by show (4 * (t.val / 4) % 64) / 4 = _; omega
  unfold mixAt mix mixed row
  by_cases h : k.val < 2048
  · refine (dif_pos (show ((ix2 p k : S512x4096.Idx) 1).val < 2048 from h)).trans ?_
    rw [dif_pos h]
    blk_point [iblk, V, idx (first t.val)]
  · refine (dif_neg (show ¬ ((ix2 p k : S512x4096.Idx) 1).val < 2048 from h)).trans ?_
    rw [dif_neg h]
    blk_point [iblk, V, idx (first t.val)]

/-- The column block at a point. -/
theorem blockAt_at (t : Fin cfg0.N) (p : Fin 512) (q : Fin 1024) :
    blockAt m c t (ix2 p q) = HID m c (row t p) ⟨1024 * (t.val % 4) + q.val, by omega⟩ := by
  have ht := lt_of_lt_of_eq t.isLt N_0
  unfold blockAt
  rw [pay2_at]
  simp only [mixAt_at]
  unfold HID Cert.MergeRef.hidden
  congr 1
  · unfold row
    blk_point [iblk, V, idx t]
  · refine Finset.sum_congr rfl fun k _ => congrArg _ ?_
    blk_point [iblk, V, idx t]

/-- The scale of a column. -/
theorem scale_at (t : Fin cfg0.N) (q : Fin 4096) : iblk m c 4 t (ix2 (0 : Fin 1) q) = X4 m c (ix1 q) := by
  have ht := lt_of_lt_of_eq t.isLt N_0
  blk_point [iblk, V, idx t]

/-- Scaling, read at an index: the sum of squares runs over the whole row. -/
theorem norm_at (y : FVec Ideal S512x4096 .f32) (g : FVec Ideal S1x4096 .f32) (p : Fin 512) (q : Fin 4096) :
    norm (F := Ideal) y g (ix2 p q) = y (ix2 p q) * Ideal.rsqrt (Ideal.div (∑ k : Fin 4096, y (ix2 p k) * y (ix2 p k)) (FloatOps.ofBits (F := Ideal) .f32 0x45800000#32)
      + FloatOps.ofBits (F := Ideal) .f32 0x358637BD#32) * g (ix2 (0 : Fin 1) q) := by
  have h := pay23_at (cols (F := Ideal) 0 y) (cols (F := Ideal) 1 y) (cols (F := Ideal) 2 y) (cols (F := Ideal) 3 y) p
  have hs := sum_blocks (fun k => y (ix2 p k) * y (ix2 p k)) (fun j => ∑ q : Fin 1024, cols (F := Ideal) j y (ix2 p q) * cols (F := Ideal) j y (ix2 p q)) (fun _ => rfl)
  rw [hs] at h
  exact congrArg (fun z => y (ix2 p q) * z * g (ix2 (0 : Fin 1) q)) h

/-- The point `j` column blocks before `t`. -/
def back (t : Fin cfg0.N) (j : ℕ) : Fin cfg0.N := ⟨t.val - j, Nat.lt_of_le_of_lt (Nat.sub_le _ _) t.isLt⟩

/-- Past the first column block the rows found are what the point before made. -/
theorem found (t : Fin cfg0.N) (h : t.val % 4 ≠ 0) (Y) (hY : (rdat (F := Ideal) m c).Finds 5 t Y) :
    ∃ Y', (rdat (F := Ideal) m c).Finds 5 (back t 1) Y' ∧ Y = step m c (back t 1) Y' := by
  rcases ((rdat (F := Ideal) m c).finds_of_pos ((cfg0.win 5).fetch_out rfl t) (by omega) Y).mp hY with hf | ⟨Y', hY', hs⟩
  · have := (flush0_5 _).mp hf
    have e : (t.val - 1) % 4 = 3 := this
    omega
  · exact ⟨Y', hY', hs⟩

/-- What the last point of a row block leaves is the block's rows of the reference. -/
theorem left_rows (t : Fin cfg0.N) (h : t.val % 4 = 3) (X : FVec Ideal S512x4096 .f32) (hX : (rdat (F := Ideal) m c).Leaves 5 t X) (p : Fin 512) (q : Fin 4096) :
    X (ix2 p q) = scaled (X0 m c) (X1 m c) (X2 m c) (X3 m c) (X4 m c) (row t p) q := by
  obtain ⟨Y₂, h₂, e₃⟩ := hX
  obtain ⟨Y₁, h₁, e₂⟩ := found m c t (by omega) Y₂ h₂
  obtain ⟨Y₀, h₀, e₁⟩ := found m c (back t 1) (by show (t.val - 1) % 4 ≠ 0; omega) Y₁ h₁
  obtain ⟨Y, _, e₀⟩ := found m c (back (back t 1) 1) (by show (t.val - 1 - 1) % 4 ≠ 0; omega) Y₀ h₀
  have v₃ : (t.val - 1 - 1 - 1) % 4 = 0 := by omega
  have v₂ : (t.val - 1 - 1) % 4 = 1 := by omega
  have v₁ : (t.val - 1) % 4 = 2 := by omega
  have s₀ : Y₀ = put 0 (blockAt m c (back (back (back t 1) 1) 1)) Y := e₀.trans ((if_neg (show ¬ (t.val - 1 - 1 - 1) % 4 = 3 by omega)).trans (congrArg (fun n => put n _ _) v₃))
  have s₁ : Y₁ = put 1 (blockAt m c (back (back t 1) 1)) Y₀ := e₁.trans ((if_neg (show ¬ (t.val - 1 - 1) % 4 = 3 by omega)).trans (congrArg (fun n => put n _ _) v₂))
  have s₂ : Y₂ = put 2 (blockAt m c (back t 1)) Y₁ := e₂.trans ((if_neg (show ¬ (t.val - 1) % 4 = 3 by omega)).trans (congrArg (fun n => put n _ _) v₁))
  have s₃ : X = norm (put 3 (blockAt m c t) Y₂) (iblk m c 4 t) := (show X = step m c t Y₂ from e₃).trans (if_pos h)
  have rows : ∀ k : Fin 4096, (put 3 (blockAt m c t) Y₂ : FVec Ideal S512x4096 .f32) (ix2 p k) = HID m c (row t p) k := by
    intro k
    rw [s₂, s₁, s₀]
    have at_ : ∀ (u : Fin cfg0.N), u.val / 4 = t.val / 4 → u.val % 4 = k.val / 1024 →
        blockAt m c u (ix2 p (⟨k.val % 1024, Nat.mod_lt _ (by decide)⟩ : Fin 1024)) = HID m c (row t p) k := by
      intro u hu hk
      rw [blockAt_at]
      refine congrArg₂ (HID m c) (Fin.ext ?_) (Fin.ext ?_)
      · show 512 * (u.val / 4) + p.val = 512 * (t.val / 4) + p.val; rw [hu]
      · show 1024 * (u.val % 4) + k.val % 1024 = k.val; omega
    have hk := k.isLt
    obtain e | e | e | e : k.val / 1024 = 3 ∨ k.val / 1024 = 2 ∨ k.val / 1024 = 1 ∨ k.val / 1024 = 0 := by omega
    · exact (if_pos e).trans (at_ t rfl (by omega))
    · exact (if_neg (show ¬ k.val / 1024 = 3 by omega)).trans ((if_pos e).trans (at_ (back t 1) (by show (t.val - 1) / 4 = _; omega) (by show (t.val - 1) % 4 = _; omega)))
    · exact (if_neg (show ¬ k.val / 1024 = 3 by omega)).trans ((if_neg (show ¬ k.val / 1024 = 2 by omega)).trans ((if_pos e).trans
        (at_ (back (back t 1) 1) (by show (t.val - 1 - 1) / 4 = _; omega) (by show (t.val - 1 - 1) % 4 = _; omega))))
    · exact (if_neg (show ¬ k.val / 1024 = 3 by omega)).trans ((if_neg (show ¬ k.val / 1024 = 2 by omega)).trans ((if_neg (show ¬ k.val / 1024 = 1 by omega)).trans ((if_pos e).trans
        (at_ (back (back (back t 1) 1) 1) (by show (t.val - 1 - 1 - 1) / 4 = _; omega) (by show (t.val - 1 - 1 - 1) % 4 = _; omega)))))
  rw [s₃, norm_at, scale_at, rows]
  simp only [rows]
  rfl

/-- The array the run leaves is the reference's. -/
theorem final (r : PUnit.{1} × MemSt nD τ sig (Elt Ideal)) (h : RDat.FramePost cfg0 (rdat (F := Ideal) m) (V m) r) :
    r.2.mem ((c : Thread nD τ).loc main_v4) = REF m c := by
  obtain ⟨after, hl, ha⟩ := RDat.FramePost.exists_exact h c
  refine (ha 5).trans (((rdat (F := Ideal) m c).withAfter after).arrAt_eq_of_covers 5 _ (by decide +kernel) fun t hf y => ?_)
  have h3 := (flush0_5 t).mp hf
  have e := left_rows m c t h3 (after 5 t) (hl 5 t hf)
  blk_simp
  rw [RDat.withAfter_after]
  have ey : y = (ix2 (⟨(y 0).val, (y 0).isLt⟩ : Fin 512) (⟨(y 1).val, (y 1).isLt⟩ : Fin 4096) : S512x4096.Idx) := by
    funext a; fin_cases a <;> rfl
  refine (congrArg (after 5 t) ey).trans ((e _ _).trans ?_)
  unfold REF row
  blk_point [idx t]
  exact Fin.ext (by show 512 * (t.val / 4) + (y 0).val = t.val / 4 * 512 + (y 0).val; omega)

end Cert.MergeValue

end
-- ==== Proof.MergeClaim.lean ====
/- The claims about the output projection with its residual sum and final scaling. -/
module

public import proofs.«01_k».proof.Defs
public import proofs.«01_k».proof.Proof.Gen.Kernel3.Launch
public import proofs.«01_k».proof.Proof.Gen.Reference3Ideal.Run
public import proofs.«01_k».proof.Proof.MergeValue

@[expose] public section

noncomputable section

namespace Cert.MergeClaim

open Idealize.ShloMosaic Idealize.SL.Sem

variable {F : FTy → Type} [FloatOps F]

/-- The program and its ideal reading call one body. -/
theorem defs₀_eq : (Cert.Kernel3.defs₀ (F := F)) = Cert.Kernel3Ideal.defs₀ (F := F) := by
  unfold Cert.Kernel3.defs₀ Cert.Kernel3Ideal.defs₀
  refine congrArg (Defs.onTc (nD := Cert.Kernel3.nD) (τ := Cert.Kernel3.τ) (sig := Cert.Kernel3.sig) (Val := Elt F) (Λ := Cert.Kernel3.Λ₀)) ?_
  funext l a
  obtain ⟨n, hn⟩ := l
  match n, hn with
  | 0, _ => obtain ⟨t, s⟩ := a; rfl
  | n + 1, h => exact absurd h (Nat.not_lt.2 (Nat.le_add_left _ _))

/-- So their body tables are one. -/
theorem defs_eq : (Cert.Kernel3.defs (F := F)) = Cert.Kernel3Ideal.defs (F := F) := by
  unfold Cert.Kernel3.defs Cert.Kernel3Ideal.defs
  rw [defs₀_eq]; rfl

/-- The program leaves its arguments as launched and every semaphore at zero. -/
theorem frame_kernel : Cert.quiescent_Kernel3 := fun m ρ _ => by
  rw [defs_eq]; exact Cert.Merge.frame (F := Bits) m ρ

/-- The same of its ideal reading. -/
theorem frame_ideal : Cert.quiescent_Kernel3Ideal := fun m ρ _ => Cert.Merge.frame (F := Ideal) m ρ

/-- The reference runs and leaves its arguments as launched; it declares no semaphore. -/
theorem frame_reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- Kernel and reference leave the same rows. -/
theorem algebraic : Cert.algebraic_Kernel3Ideal_Reference3Ideal := by
  intro m g m' g' _ hargs
  refine ⟨fun c => Cert.MergeValue.REF m c, ?_, ?_⟩
  · refine (θ_run Cert.Kernel3Ideal.defs _ _).mono (fun r h c => ⟨Cert.MergeValue.final m c r h.1, Cert.Merge.args m c r h.1⟩) (Cert.Merge.run (F := Ideal) m g)
  · refine (θ_run Cert.Reference3Ideal.defs _ _).mono (fun r h c => ⟨(h c).1.trans ?_, (h c).2⟩) (Cert.Reference3Ideal.Value.run (F := Ideal) m' g')
    refine (Cert.Reference3Ideal.Read.val_main_v22_eq (F := Ideal) _ _ _ _ _).trans ?_
    obtain ⟨e0, e1, e2, e3, e4⟩ := hargs c
    rw [e0, e1, e2, e3, e4]
    funext p
    have ep : p = (ix2 (⟨(p 0).val, (p 0).isLt⟩ : Fin 8192) (⟨(p 1).val, (p 1).isLt⟩ : Fin 4096) : Cert.Reference3Ideal.S8192x4096.Idx) := by
      funext a; fin_cases a <;> rfl
    exact (congrArg _ ep).trans (Cert.MergeRef.scaled_at _ _ _ _ _ _ _)

end Cert.MergeClaim

end
-- ==== Proof.ProjRun.lean ====
module

public import proofs.«01_k».proof.Proof.Gen.Kernel2Ideal.Launch
public import proofs.«01_k».proof.Proof.Gen.Kernel2Ideal.Points
public import proofs.«01_k».proof.Proof.Gen.Kernel2Ideal.Skeleton
public import proofs.«01_k».proof.Proof.Gen.Kernel2Ideal.Frame
public import Idealize.ShloMosaic.Lib.Claim
public import Idealize.ShloMosaic.Lib.WritesUnit
public import Idealize.ShloMosaic.Lib.VecWindow
public import Idealize.ShloMosaic.Lib.Pipeline.ValueKit

@[expose] public section

set_option maxRecDepth 16384

noncomputable section

/-! # The projection `u`: the body's run at each kind of grid point

A grid point takes one block of the prompt's rows against one tile of 512 weight rows. The tile is copied from the
whole weight by the body itself: the copy of the next tile starts at the second block of rows of a tile and is
waited for at the first block of rows of the next. -/

namespace Cert.ProjU

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

/-- The scratch a weight tile is copied to. -/
abbrev tileM : Memref sig .tc .vmem S512x4096 .f32 := Memref.whole cc0_scratch0
/-- The scratch that holds the tile rounded. -/
abbrev narrowM : Memref sig .tc .vmem S512x4096 .bf16 := Memref.whole cc0_scratch1
/-- The weight, left in HBM. -/
abbrev weightM : Memref sig .tc .hbm S13472x4096 .f32 := Memref.whole main_v1
/-- The copy's target: the whole of the scratch. -/
abbrev slotM : Memref sig .tc .vmem S512x4096 .f32 :=
  tileM.slice (Rect.unit (s := S512x4096) ![0, 0] S512x4096.size inb_S512x4096_S512x4096_0_0) (fun _ => rfl)
/-- The copy's source: 512 rows of the weight. -/
abbrev rowsM (o : Fin 2 → ℕ) (h : ∀ a, o a + S512x4096.size a ≤ S13472x4096.size a) : Memref sig .tc .hbm S512x4096 .f32 :=
  weightM.slice (Rect.unit (s := S13472x4096) o S512x4096.size h) (fun _ => rfl)
/-- The copy's semaphore. -/
abbrev cellM : DmaSems sig S_ := (cc0_scratch2.slice (Rect.unit (s := S1) ![0] S1.size inb_S1_S1_0)).squeeze S_ squeezes_S1_S_
abbrev cell : SemLoc sig := SemLoc.dma cellM.sem

/-- The contents of a buffer as memref `M` places it on core `c`. -/
abbrev Held (c : Dev nD) {sp : Space} {S : Shape} {e : EltTy} (M : Memref sig .tc sp S e) : Type := Buf (Elt F) (M.view.loc (c : Thread nD τ))

/-- The scratch for the tile, at `f`. -/
abbrev slotAt (c : Dev nD) (f : Held (F := F) c slotM) : sProp 𝕄 := slotM.view.loc (c : Thread nD τ) ↦[slotM.view.set]{fullShare} f
/-- The weight's rows that a copy reads, and the weight without them. -/
abbrev rowsAt (c : Dev nD) (W : Held (F := F) c weightM) (o : Fin 2 → ℕ) (h : ∀ a, o a + S512x4096.size a ≤ S13472x4096.size a) : sProp 𝕄 :=
  (rowsM o h).view.loc (c : Thread nD τ) ↦[(rowsM o h).view.set]{fullShare} W
def restAt (c : Dev nD) (W : Held (F := F) c weightM) (o : Fin 2 → ℕ) (h : ∀ a, o a + S512x4096.size a ≤ S13472x4096.size a) : sProp 𝕄 :=
  ((c : Thread nD τ).loc main_v1) ↦[Finset.univ \ (rowsM o h).view.set]{fullShare} W
/-- The weight whole. -/
abbrev weightAt (c : Dev nD) (W : Held (F := F) c weightM) : sProp 𝕄 := ((c : Thread nD τ).loc main_v1) ↦[Finset.univ]{fullShare} W
/-- The scratch once the rows are copied over `f`. -/
abbrev landed (c : Dev nD) (W : Held (F := F) c weightM) (o : Fin 2 → ℕ) (h : ∀ a, o a + S512x4096.size a ≤ S13472x4096.size a) (f : Held (F := F) c slotM) : Held (F := F) c slotM :=
  slotM.view.writes (Elt F) f [⟨Rect.whole S512x4096, ReadAs.same.apply ((rowsM o h).view.read (Elt F) W)⟩]
/-- A copy under way: it will hand over the scratch filled and give back the rows. -/
abbrev flying (c : Dev nD) (W : Held (F := F) c weightM) (o : Fin 2 → ℕ) (h : ∀ a, o a + S512x4096.size a ≤ S13472x4096.size a) (f : Held (F := F) c slotM) : sProp 𝕄 :=
  Transfers.Flight countersEmb (c : Thread nD τ) cell default (slotM.view.amount cell) iprop(slotAt c (landed c W o h f) ∗ rowsAt c W o h)

theorem weight_split (c : Dev nD) (W : Held (F := F) c weightM) (o : Fin 2 → ℕ) (h : ∀ a, o a + S512x4096.size a ≤ S13472x4096.size a) : weightAt c W ⊣⊢ iprop(rowsAt c W o h ∗ restAt c W o h) := by
  unfold restAt; exact pointsTo_split_subset (Finset.subset_univ _)

/-- No copy under way: the scratch, the semaphore and the whole weight. -/
def still (c : Dev nD) (W : Held (F := F) c weightM) : sProp 𝕄 := iprop((∃ f, slotAt c f) ∗ semVal ((c : Thread nD τ), cell) 0 ∗ weightAt c W)
/-- The copy of the rows at `o` under way. -/
def moving (c : Dev nD) (W : Held (F := F) c weightM) (o : Fin 2 → ℕ) (h : ∀ a, o a + S512x4096.size a ≤ S13472x4096.size a) : sProp 𝕄 := iprop((∃ f, flying c W o h f) ∗ restAt c W o h)

/-- The rows copied, rounded. -/
def narrow (c : Dev nD) (W : Held (F := F) c weightM) (o : Fin 2 → ℕ) (h : ∀ a, o a + S512x4096.size a ≤ S13472x4096.size a) : Vec F S512x4096 .bf16 := k0_pay1 ((rowsM o h).view.read (Elt F) W)

/-- A load of the whole of a rank-2 buffer reads its contents. -/
theorem ld_whole {a b : ℕ} {e : EltTy} (x : (⟨2, ![a, b]⟩ : Shape).Idx → Elt F e)
    (inb : ∀ i, (![0, 0] : Fin 2 → ℕ) i + (![a, b] : Fin 2 → ℕ) i ≤ (⟨2, ![a, b]⟩ : Shape).size i) :
    View.ld (Val := Elt F) (S := ⟨2, ![a, b]⟩) (e' := e) x (Rect.unit ![0, 0] ![a, b] inb) = x :=
  View.ld_unit_zero (S := ⟨2, ![a, b]⟩) (by funext i; fin_cases i <;> rfl) inb x

/-- A store over the whole of a rank-2 buffer leaves what was stored. -/
theorem read_store {a b : ℕ} {e : EltTy} {sp : Space} (v : View sig .tc sp (⟨2, ![a, b]⟩ : Shape) e) (f : v.ty.Contents (Elt F)) (x : (⟨2, ![a, b]⟩ : Shape).Idx → Elt F e)
    (inb : ∀ i, (![0, 0] : Fin 2 → ℕ) i + (![a, b] : Fin 2 → ℕ) i ≤ (⟨2, ![a, b]⟩ : Shape).size i) :
    v.read (Elt F) (v.writes (Elt F) f [⟨Rect.unit ![0, 0] ![a, b] inb, x⟩]) = x :=
  View.read_writes_full v f inb x []

/-- The scratch read after a copy over the whole of it is what was copied. -/
theorem read_landed (c : Dev nD) (f : Held (F := F) c slotM) (x : Vec F S512x4096 .f32) :
    tileM.view.readAt (Elt F) (Rect.unit (s := S512x4096) ![0, 0] S512x4096.size inb_S512x4096_S512x4096_0_0).toLoadRect
      (slotM.view.writes (Elt F) f [⟨Rect.whole S512x4096, x⟩]) = x :=
  View.read_writes_whole slotM.view f x

section Runs

variable (c : Dev nD) (i : grid0.Coords) (arg2 : Memref sig .tc .vmem S1024x4096 .bf16) (harg2 : arg2.IsWhole) (arg3 : Memref sig .tc .vmem S256x4096 .bf16) (harg3 : arg3.IsWhole)
  (arg5 : Memref sig .tc .vmem S1024x512 .f32) (harg5 : arg5.IsWhole) (arg6 : Memref sig .tc .vmem S256x512 .f32) (harg6 : arg6.IsWhole)
  (x0 : Vec F S1024x4096 .bf16) (x1 : Vec F S256x4096 .bf16) (d : Vec F S512x4096 .bf16) (y2 : Vec F S1024x512 .f32) (y3 : Vec F S256x512 .f32)
  (V : Held (F := F) c weightM)

/-- The body on these buffers. -/
abbrev body : Prog (TpuEff nD τ sig (Elt F) Λ₀ .tc) PUnit :=
  cc0_proj_u i arg2 harg2 arg3 harg3 weightM (Memref.isWhole_whole _) arg5 harg5 arg6 harg6 tileM (Memref.isWhole_whole _) narrowM (Memref.isWhole_whole _) cc0_scratch2

set_option maxHeartbeats 1000000 in
/-- A block of rows against the tile held. -/
theorem run_plain (c1 : ¬ (k0_cond1 i = 1#1)) (c2 : ¬ (k0_cond2 i = 1#1)) (c3 : ¬ (k0_cond3 i = 1#1)) (c4 : ¬ (k0_cond4 i = 1#1)) (K : PUnit → sProp 𝕄) :
    iprop(owns (c : Thread nD τ) arg2 fullShare x0 ∗ owns (c : Thread nD τ) arg5 fullShare y2 ∗ owns (c : Thread nD τ) narrowM fullShare d
        ∗ (iprop(owns (c : Thread nD τ) arg2 fullShare x0 ∗ owns (c : Thread nD τ) arg5 fullShare (k0_pay2 x0 d) ∗ owns (c : Thread nD τ) narrowM fullShare d) -∗ K ⟨⟩))
      ⊢ wp frame (wpE (defs₀ (F := F)) Variants.none c none) Set.univ (body (F := F) i arg2 harg2 arg3 harg3 arg5 harg5 arg6 harg6) K := by
  unfold body
  simp only [cc0_proj_u_eq_skeleton]; unfold cc0_proj_u_skel
  unfold owns
  iintro ⟨⟨%f0, %hf0, H0⟩, ⟨%f2, %hf2, H2⟩, ⟨%fd, %hfd, HD⟩, Hk⟩
  obtain rfl := harg2.eq_unread hf0
  obtain rfl := harg5.eq_unread hf2
  sl_exec (disch := first | sl_exact c1 | sl_exact c2 | sl_exact c3 | sl_exact c4)
  sl_step
  iapply Hk
  isplitl [H0]
  · iexists _; isplitr; · ipureintro; exact harg2.read_unread _
    iexact H0
  isplitl [H2]
  · iexists _; isplitr; swap; · iexact H2
    ipureintro
    sl_unfold_words
    rw [read_store, View.readAt_eq_ld, View.readAt_eq_ld, harg2.read_unread, hfd, ld_whole, ld_whole]
  iexists _; isplitr; · ipureintro; exact hfd
  iexact HD

set_option maxHeartbeats 1000000 in
/-- The second block of rows of a tile, another tile to come: its copy starts. -/
theorem run_start (c1 : ¬ (k0_cond1 i = 1#1)) (c2 : ¬ (k0_cond2 i = 1#1)) (c3 : k0_cond3 i = 1#1) (c4 : ¬ (k0_cond4 i = 1#1)) (W : Waits sig Unit) (K : PUnit → sProp 𝕄) :
    iprop(owns (c : Thread nD τ) arg2 fullShare x0 ∗ owns (c : Thread nD τ) arg5 fullShare y2 ∗ owns (c : Thread nD τ) narrowM fullShare d ∗ still c V ∗ owes (c : Thread nD τ) 0 W
        ∗ (iprop(owns (c : Thread nD τ) arg2 fullShare x0 ∗ owns (c : Thread nD τ) arg5 fullShare (k0_pay2 x0 d) ∗ owns (c : Thread nD τ) narrowM fullShare d
          ∗ moving c V (k0_off2 i) (k0_off2_inb i c3) ∗ (∃ W', owes (c : Thread nD τ) 0 W')) -∗ K ⟨⟩))
      ⊢ wp frame (wpE (defs₀ (F := F)) Variants.none c none) Set.univ (body (F := F) i arg2 harg2 arg3 harg3 arg5 harg5 arg6 harg6) K := by
  unfold body
  simp only [cc0_proj_u_eq_skeleton]; unfold cc0_proj_u_skel
  unfold owns still
  iintro ⟨⟨%f0, %hf0, H0⟩, ⟨%f2, %hf2, H2⟩, ⟨%fd, %hfd, HD⟩, ⟨⟨%f, HS⟩, Hc, HV⟩, HW, Hk⟩
  ihave Hs := (weight_split c V (k0_off2 i) (k0_off2_inb i c3)).1 $$ HV
  icases Hs with ⟨HR, HX⟩
  obtain rfl := harg2.eq_unread hf0
  obtain rfl := harg5.eq_unread hf2
  sl_exec (disch := first | sl_exact c1 | sl_exact c2 | sl_exact c3 | sl_exact c4)
  sl_step
  iapply Hk
  isplitl [H0]
  · iexists _; isplitr; · ipureintro; exact harg2.read_unread _
    iexact H0
  isplitl [H2]
  · iexists _; isplitr; swap; · iexact H2
    ipureintro
    sl_unfold_words
    rw [read_store, View.readAt_eq_ld, View.readAt_eq_ld, harg2.read_unread, hfd, ld_whole, ld_whole]
  isplitl [HD]
  · iexists _; isplitr; · ipureintro; exact hfd
    iexact HD
  isplitl [Hc HX]
  · unfold moving
    isplitl [Hc]
    · iexists _; iexact Hc
    iexact HX
  iexists _; iexact HW

set_option maxHeartbeats 1000000 in
/-- The first block of rows of a tile whose copy is under way: the copy is waited for, the tile rounded, and both products stored. -/
theorem run_land (c1 : ¬ (k0_cond1 i = 1#1)) (c2 : k0_cond2 i = 1#1) (c3 : ¬ (k0_cond3 i = 1#1)) (c4 : k0_cond4 i = 1#1) (W : Waits sig Unit) (K : PUnit → sProp 𝕄) :
    iprop(owns (c : Thread nD τ) arg2 fullShare x0 ∗ owns (c : Thread nD τ) arg3 fullShare x1 ∗ owns (c : Thread nD τ) arg5 fullShare y2 ∗ owns (c : Thread nD τ) arg6 fullShare y3
        ∗ owns (c : Thread nD τ) narrowM fullShare d ∗ moving c V (k0_off1 i) (k0_off1_inb i c2) ∗ owes (c : Thread nD τ) 0 W
        ∗ (iprop(owns (c : Thread nD τ) arg2 fullShare x0 ∗ owns (c : Thread nD τ) arg3 fullShare x1 ∗ owns (c : Thread nD τ) arg5 fullShare (k0_pay2 x0 (narrow c V (k0_off1 i) (k0_off1_inb i c2)))
          ∗ owns (c : Thread nD τ) arg6 fullShare (k0_pay3 x1 (narrow c V (k0_off1 i) (k0_off1_inb i c2)))
          ∗ owns (c : Thread nD τ) narrowM fullShare (narrow c V (k0_off1 i) (k0_off1_inb i c2)) ∗ still c V ∗ (∃ W', owes (c : Thread nD τ) 0 W')) -∗ K ⟨⟩))
      ⊢ wp frame (wpE (defs₀ (F := F)) Variants.none c none) Set.univ (body (F := F) i arg2 harg2 arg3 harg3 arg5 harg5 arg6 harg6) K := by
  unfold body
  simp only [cc0_proj_u_eq_skeleton]; unfold cc0_proj_u_skel
  unfold owns moving
  iintro ⟨⟨%f0, %hf0, H0⟩, ⟨%f1, %hf1, H1⟩, ⟨%f2, %hf2, H2⟩, ⟨%f3, %hf3, H3⟩, ⟨%fd, %hfd, HD⟩, ⟨⟨%f, Hf⟩, HX⟩, HW, Hk⟩
  obtain rfl := harg2.eq_unread hf0
  obtain rfl := harg3.eq_unread hf1
  obtain rfl := harg5.eq_unread hf2
  obtain rfl := harg6.eq_unread hf3
  sl_exec (disch := first | sl_exact c1 | sl_exact c2 | sl_exact c3 | sl_exact c4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [read_store, View.readAt_eq_ld, harg2.read_unread, ld_whole]
    exact congrArg (k0_pay2 x0) ((View.readCov_full _ _ _ _ _).trans (congrArg k0_pay1 (read_landed c _ _)))
  isplitl [H3]
  · iexists _; isplitr; swap; · iexact H3
    ipureintro
    sl_unfold_words
    rw [read_store, View.readAt_eq_ld, harg3.read_unread, ld_whole]
    exact congrArg (k0_pay3 x1) ((View.readCov_full _ _ _ _ _).trans (congrArg k0_pay1 (read_landed c _ _)))
  isplitl [HD]
  · iexists _; isplitr; swap; · iexact HD
    ipureintro
    sl_unfold_words
    rw [read_store]
    exact congrArg k0_pay1 (read_landed c _ _)
  isplitl [Hf_dst Hf_src Hf HX]
  · unfold still
    isplitl [Hf_dst]
    · iexists _; iexact Hf_dst
    isplitl [Hf]; · iexact Hf
    iapply (weight_split c V (k0_off1 i) (k0_off1_inb i c2)).2
    isplitl [Hf_src]; · iexact Hf_src
    iexact HX
  iexists _; iexact HW

set_option maxHeartbeats 1000000 in
/-- The first point: the first tile's copy is started and waited for at once. -/
theorem run_first (c1 : k0_cond1 i = 1#1) (c2 : k0_cond2 i = 1#1) (c3 : ¬ (k0_cond3 i = 1#1)) (c4 : k0_cond4 i = 1#1) (W : Waits sig Unit) (K : PUnit → sProp 𝕄) :
    iprop(owns (c : Thread nD τ) arg2 fullShare x0 ∗ owns (c : Thread nD τ) arg3 fullShare x1 ∗ owns (c : Thread nD τ) arg5 fullShare y2 ∗ owns (c : Thread nD τ) arg6 fullShare y3
        ∗ owns (c : Thread nD τ) narrowM fullShare d ∗ still c V ∗ owes (c : Thread nD τ) 0 W
        ∗ (iprop(owns (c : Thread nD τ) arg2 fullShare x0 ∗ owns (c : Thread nD τ) arg3 fullShare x1 ∗ owns (c : Thread nD τ) arg5 fullShare (k0_pay2 x0 (narrow c V ![9376, 0] inb_S13472x4096_S512x4096_9376_0))
          ∗ owns (c : Thread nD τ) arg6 fullShare (k0_pay3 x1 (narrow c V ![9376, 0] inb_S13472x4096_S512x4096_9376_0))
          ∗ owns (c : Thread nD τ) narrowM fullShare (narrow c V ![9376, 0] inb_S13472x4096_S512x4096_9376_0) ∗ still c V ∗ (∃ W', owes (c : Thread nD τ) 0 W')) -∗ K ⟨⟩))
      ⊢ wp frame (wpE (defs₀ (F := F)) Variants.none c none) Set.univ (body (F := F) i arg2 harg2 arg3 harg3 arg5 harg5 arg6 harg6) K := by
  unfold body
  simp only [cc0_proj_u_eq_skeleton]; unfold cc0_proj_u_skel
  unfold owns still
  iintro ⟨⟨%f0, %hf0, H0⟩, ⟨%f1, %hf1, H1⟩, ⟨%f2, %hf2, H2⟩, ⟨%f3, %hf3, H3⟩, ⟨%fd, %hfd, HD⟩, ⟨⟨%f, HS⟩, Hc, HV⟩, HW, Hk⟩
  ihave Hs := (weight_split c V ![9376, 0] inb_S13472x4096_S512x4096_9376_0).1 $$ HV
  icases Hs with ⟨HR, HX⟩
  obtain rfl := harg2.eq_unread hf0
  obtain rfl := harg3.eq_unread hf1
  obtain rfl := harg5.eq_unread hf2
  obtain rfl := harg6.eq_unread hf3
  sl_exec (disch := first | sl_exact c1 | sl_exact c2 | sl_exact c3 | sl_exact c4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [read_store, View.readAt_eq_ld, harg2.read_unread, ld_whole]
    exact congrArg (k0_pay2 x0) ((View.readCov_full _ _ _ _ _).trans (congrArg k0_pay1 (read_landed c _ _)))
  isplitl [H3]
  · iexists _; isplitr; swap; · iexact H3
    ipureintro
    sl_unfold_words
    rw [read_store, View.readAt_eq_ld, harg3.read_unread, ld_whole]
    exact congrArg (k0_pay3 x1) ((View.readCov_full _ _ _ _ _).trans (congrArg k0_pay1 (read_landed c _ _)))
  isplitl [HD]
  · iexists _; isplitr; swap; · iexact HD
    ipureintro
    sl_unfold_words
    rw [read_store]
    exact congrArg k0_pay1 (read_landed c _ _)
  isplitl [HS HR Hc HX]
  · isplitl [HS]
    · iexists _; iexact HS
    isplitl [Hc]; · iexact Hc
    iapply (weight_split c V ![9376, 0] inb_S13472x4096_S512x4096_9376_0).2
    isplitl [HR]; · iexact HR
    iexact HX
  iexists _; iexact HW

end Runs

end Cert.ProjU
end
-- ==== Proof.ProjFrame.lean ====
module

public import proofs.«01_k».proof.Proof.ProjRun
public import Idealize.ShloMosaic.Lib.Pipeline.FrameSuffix

@[expose] public section

set_option maxRecDepth 16384

noncomputable section

/-! # The projection `u`: what every point leaves, and the run -/

namespace Cert.ProjU

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch hands over -/

/-- The program around the region. -/
theorem main_runs (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The body's own semaphore. -/
abbrev ownSem : Fin 1 → SemLoc sig := fun j => (![SemLoc.dma 7] : Fin 1 → SemLoc sig) j
theorem ownSem_facts : Pipeline.OwnSemFacts spec0 ownSem := by decide
theorem cell_eq : cell = SemLoc.dma 7 := by decide

theorem ownSems_eq (c : Dev nD) :
    (Pipeline.ownSems0 (Ix := Unit) (Name := ℕ) (U := Pipeline.UD sig nD τ) (Lvl := ℕ) (Val := Elt F) (τ := τ) ownSem c : sProp 𝕄) = semVal ((c : Thread nD τ), SemLoc.dma 7) 0 := by
  rw [Pipeline.ownSems0_eq_of_list c ownSem [0] (by decide) (by decide)]; rfl

/-- The buffers the body copies from. -/
def copied : Finset (Ref sig .tc) := {main_v1}
theorem copied_sub : copied ⊆ Pipeline.restRefs sig spec0 := by decide
theorem copied_eq (c : Dev nD) : (bigSep copied (fun b => ((c : Thread nD τ).loc b) ↦{fullShare} V m c b) : sProp 𝕄) = weightAt c (V m c main_v1) := by
  rw [BI.bigSep_eq_bigSepL_of_eq [main_v1] (by decide) (by decide)]; rfl

/-- The invariant's pieces at launch: the two scratch buffers, the generator's register, the semaphore at zero and the weight. -/
theorem PhiD_eq (c : Dev nD) : (Pipeline.ΦD ownSem spec0 copied (V m) c : sProp 𝕄)
    = iprop(iprop((∃ d, owns (c : Thread nD τ) tileM fullShare d) ∗ (∃ d, owns (c : Thread nD τ) narrowM fullShare d)) ∗ (∃ r, prngReg c r)
        ∗ semVal ((c : Thread nD τ), SemLoc.dma 7) 0 ∗ weightAt c (V m c main_v1)) := by
  rw [Pipeline.ΦD_eq, scopedRest0_eq, ownSems_eq, copied_eq]
  simp only [tileM, narrowM, owns_whole]
  try rfl

/-- The copy's target is the whole scratch. -/
theorem slot_set : slotM.view.set = Finset.univ := by
  refine (View.set_slice_whole _ _).trans (Finset.eq_univ_iff_forall.mpr fun y => ?_)
  exact View.mem_set_unit_zero (by funext a; fin_cases a <;> rfl) _ y

theorem slotAt_eq (c : Dev nD) (f : Held (F := F) c slotM) : slotAt c f = (((c : Thread nD τ).loc cc0_scratch0) ↦[Finset.univ]{fullShare} f : sProp 𝕄) := by
  unfold slotAt; rw [slot_set]

theorem slot_in (c : Dev nD) : iprop(∃ d, owns (c : Thread nD τ) tileM fullShare d) ⊢ (iprop(∃ f, slotAt c f) : sProp 𝕄) := by
  simp only [tileM, owns_whole, slotAt_eq]
  iintro ⟨%d, H⟩
  iexists d
  iexact H
theorem slot_out (c : Dev nD) : (iprop(∃ f, slotAt c f) : sProp 𝕄) ⊢ iprop(∃ d, owns (c : Thread nD τ) tileM fullShare d) := by
  simp only [tileM, owns_whole, slotAt_eq]
  iintro ⟨%d, H⟩
  iexists d
  iexact H

/-! ## The points -/

/-- The body table's row is the body. -/
theorem defs₀_row (t : Fin cfg0.N) : defs₀ (F := F) .tc cfg0.body (cfg0.bodyArgs t (cfg0.slots t)) = bodyAt0 t := by
  unfold defs₀
  rw [Defs.onTc_tc]

/-- Where tile `b` lies in the weight. -/
def off (b : ℕ) : Fin 2 → ℕ := ![512 * (b % 4) + 9376, 0]
theorem off_inb (b : ℕ) : ∀ a, off b a + S512x4096.size a ≤ S13472x4096.size a := by
  have : b % 4 < 4 := Nat.mod_lt _ (by decide)
  intro a
  fin_cases a
  · show 512 * (b % 4) + 9376 + 512 ≤ 13472; omega
  · show 0 + 4096 ≤ 4096; omega

theorem moving_congr (c : Dev nD) (W : Held (F := F) c weightM) {o o' : Fin 2 → ℕ} (e : o = o') (h : ∀ a, o a + S512x4096.size a ≤ S13472x4096.size a) (h' : ∀ a, o' a + S512x4096.size a ≤ S13472x4096.size a) : moving c W o h = moving c W o' h' := by subst e; rfl
theorem narrow_congr (c : Dev nD) (W : Held (F := F) c weightM) {o o' : Fin 2 → ℕ} (e : o = o') (h : ∀ a, o a + S512x4096.size a ≤ S13472x4096.size a) (h' : ∀ a, o' a + S512x4096.size a ≤ S13472x4096.size a) : narrow c W o h = narrow c W o' h' := by subst e; rfl

/-- Which of the body's branches a point takes, and where its copies read. -/
theorem branches : ∀ t : Fin grid0.N, (k0_cond1 (grid0.coords t) = 1#1 ↔ t.val = 0) ∧ (k0_cond2 (grid0.coords t) = 1#1 ↔ t.val % 8 = 0)
    ∧ (k0_cond3 (grid0.coords t) = 1#1 ↔ t.val % 8 = 1 ∧ t.val < 24) ∧ (k0_cond4 (grid0.coords t) = 1#1 ↔ t.val % 8 = 0)
    ∧ k0_off1 (grid0.coords t) = off (t.val / 8) ∧ k0_off2 (grid0.coords t) = ![512 * (t.val / 8 + 1) + 9376, 0] := by decide +kernel

/-- Tile `b`, rounded. -/
def narrowAt (c : Dev nD) (b : ℕ) : Vec F S512x4096 .bf16 := narrow c (V m c main_v1) (off b) (off_inb b)

/-- The copy between points: from the second block of rows of a tile to the last, the next tile's is under way. -/
def copyAt (c : Dev nD) (k : ℕ) : sProp 𝕄 :=
  if k % 8 ≠ 1 ∧ 2 ≤ k ∧ k < 26 then moving c (V m c main_v1) (off ((k + 6) / 8)) (off_inb _) else still c (V m c main_v1)

/-- What holds between points: past a tile's first block of rows, the second scratch holds the tile rounded. -/
def between (c : Dev nD) (k : ℕ) : sProp 𝕄 :=
  iprop(iprop(∃ d, ⌜k % 8 ≠ 0 → d = narrowAt m c (k / 8)⌝ ∗ owns (c : Thread nD τ) narrowM fullShare d) ∗ (∃ r, prngReg c r) ∗ copyAt m c k)

/-- The products a point stores. -/
def rowsOut (c : Dev nD) (t : Fin cfg0.N) : Vec F S1024x512 .f32 := k0_pay2 (iblk m c 0 t) (narrowAt m c (t.val / 8))
def sampleOut (c : Dev nD) (t : Fin cfg0.N) (Y : Vec F S256x512 .f32) : Vec F S256x512 .f32 :=
  if t.val % 8 = 0 then k0_pay3 (iblk m c 1 t) (narrowAt m c (t.val / 8)) else Y

/-- The sample's products with a point's tile: the tile's first point stores them, the others leave them. -/
def sampleRows (c : Dev nD) (t : Fin cfg0.N) : Vec F S256x512 .f32 := k0_pay3 (iblk m c 1 t) (narrowAt m c (t.val / 8))

/-- The proof's data: what every point leaves in each window's buffer. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => rowsOut m c t
    | ⟨3, _⟩ => sampleRows m c t
  Φ k := between m c k.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = rowsOut m c t := by dsimp only [dats]
theorem after_3 (c : Dev nD) (t : Fin cfg0.N) : (dats m 0 c).after 3 t = sampleRows m c t := by dsimp only [dats]

/-- A window that is only read holds its block wherever the body finds it. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- Past a tile's first point, a point finds the sample's products of its tile. -/
theorem sample_found (c : Dev nD) (d) : ∀ (n : ℕ) (t : Fin cfg0.N), t.val % 8 = n + 1 → (dats m 0 c).before 3 t d = sampleRows m c t
  | n, t, h => by
    have hfl : (cfg0.win 3).flush ⟨t.val - 1, Nat.lt_of_le_of_lt (Nat.sub_le _ _) t.isLt⟩ = false := Bool.eq_false_iff.mpr fun h' => by
      have e7 : (t.val - 1) % 8 = 7 := (flush0_3 _).mp h'
      omega
    have e8 : (t.val - 1) / 8 = t.val / 8 := by omega
    have er : sampleRows m c ⟨t.val - 1, Nat.lt_of_le_of_lt (Nat.sub_le _ _) t.isLt⟩ = sampleRows m c t := by
      unfold sampleRows
      refine congrArg₂ k0_pay3 rfl ?_
      exact congrArg (narrowAt m c) e8
    rw [(dats m 0 c).before_of_pos 3 t (by omega) ((cfg0.win 3).fetch_out rfl t), hfl, if_neg Bool.false_ne_true]
    unfold Dat.left
    cases hidle : cfg0.idle 3 (cfg0.grid.coords ⟨t.val - 1, Nat.lt_of_le_of_lt (Nat.sub_le _ _) t.isLt⟩) with
    | false =>
      dsimp only
      unfold Dat.kept
      rw [Pipeline.fill_of_clip_none 3 _ (fun _ => rfl) d ((dats m 0 c).after 3 _), Window.fill_cut, after_3, er]
    | true =>
      dsimp only
      have hne : (t.val - 1) % 8 ≠ 0 := fun h0 => by
        have h4 := (branches ⟨t.val - 1, Nat.lt_of_le_of_lt (Nat.sub_le _ _) t.isLt⟩).2.2.2.1.2 h0
        have hi : (!(k0_cond4 (grid0.coords ⟨t.val - 1, Nat.lt_of_le_of_lt (Nat.sub_le _ _) t.isLt⟩) == 1#1)) = true := hidle
        rw [h4] at hi
        exact absurd hi (by decide)
      match n, h with
      | 0, h => exact absurd (show (t.val - 1) % 8 = 0 by omega) hne
      | n + 1, h => exact (sample_found c d n ⟨t.val - 1, Nat.lt_of_le_of_lt (Nat.sub_le _ _) t.isLt⟩ (by show (t.val - 1) % 8 = n + 1; omega)).trans er

/-- A point leaves the sample's products of its tile, whether it stores them or finds them. -/
theorem sample_left (c : Dev nD) (t : Fin cfg0.N) (d) : sampleOut m c t ((dats m 0 c).before 3 t d) = sampleRows m c t := by
  by_cases hi : t.val % 8 = 0
  · exact if_pos hi
  · exact (if_neg hi).trans (sample_found m c d (t.val % 8 - 1) t (by omega))

/-- So the sample's buffer is left as the data say, at the points that store it and at those that do not. -/
theorem sample_leaves (c : Dev nD) (t : Fin cfg0.N) (d : Vec F S256x512 .f32) : (owns (c : Thread nD τ) (st0_3 t) fullShare (sampleRows m c t) : sProp 𝕄)
    ⊢ (match cfg0.idle 3 (cfg0.grid.coords t) with
      | true =>
        match (cfg0.win 3).flush t with
        | false => iprop(∃ d, owns (c : Thread nD τ) ((cfg0.win 3).stage (cfg0.slots t 3)) fullShare ((dats m 0 c).before 3 t d))
        | true => owns (c : Thread nD τ) ((cfg0.win 3).stage (cfg0.slots t 3)) fullShare ((dats m 0 c).after 3 t)
      | false => owns (c : Thread nD τ) ((cfg0.win 3).stage (cfg0.slots t 3)) fullShare ((dats m 0 c).after 3 t)) := by
  rw [after_3]
  cases hidle : cfg0.idle 3 (cfg0.grid.coords t) with
  | false => exact .rfl
  | true =>
    cases (cfg0.win 3).flush t with
    | true => exact .rfl
    | false =>
      have hne : t.val % 8 ≠ 0 := fun h0 => by
        have h4 := (branches t).2.2.2.1.2 h0
        have hi : (!(k0_cond4 (grid0.coords t) == 1#1)) = true := hidle
        rw [h4] at hi
        exact absurd hi (by decide)
      dsimp only
      iintro H
      iexists d
      rw [sample_found m c d (t.val % 8 - 1) t (by omega)]
      iexact H

set_option maxHeartbeats 1000000 in
/-- One point: it stores the products of its rows with its tile, and moves the copies on. -/
theorem sound_point (c : Dev nD) (t : Fin cfg0.N) (Y2 : Vec F S1024x512 .f32) (Y3 : Vec F S256x512 .f32) :
    iprop(between m c t.val ∗ (∃ W, owes (c : Thread nD τ) 0 W) ∗ owns (c : Thread nD τ) (st0_0 t) fullShare (iblk m c 0 t) ∗ owns (c : Thread nD τ) (st0_1 t) fullShare (iblk m c 1 t)
        ∗ owns (c : Thread nD τ) (st0_2 t) fullShare Y2 ∗ owns (c : Thread nD τ) (st0_3 t) fullShare Y3)
      ⊢ wp frame (wpE (defs₀ (F := F)) Variants.none c none) Set.univ (bodyAt0 t) fun _ =>
        iprop(between m c (t.val + 1) ∗ (∃ W, owes (c : Thread nD τ) 0 W) ∗ owns (c : Thread nD τ) (st0_0 t) fullShare (iblk m c 0 t) ∗ owns (c : Thread nD τ) (st0_1 t) fullShare (iblk m c 1 t)
        ∗ owns (c : Thread nD τ) (st0_2 t) fullShare (rowsOut m c t) ∗ owns (c : Thread nD τ) (st0_3 t) fullShare (sampleOut m c t Y3)) := by
  obtain ⟨h1, h2, h3, h4, o1, o2⟩ := branches t
  have hN : t.val < 32 := lt_of_lt_of_eq t.isLt N_0
  unfold between
  by_cases hi : t.val % 8 = 0
  · have eo : sampleOut m c t Y3 = k0_pay3 (iblk m c 1 t) (narrowAt m c (t.val / 8)) := if_pos hi
    have en : copyAt m c (t.val + 1) = still c (V m c main_v1) := if_neg (by omega)
    have ed : (t.val + 1) / 8 = t.val / 8 := by omega
    rw [eo, en, ed]
    unfold rowsOut narrowAt
    by_cases h0 : t.val = 0
    · have ec : copyAt m c t.val = still c (V m c main_v1) := if_neg (by omega)
      have e0 : (![9376, 0] : Fin 2 → ℕ) = off (t.val / 8) := by rw [h0]; rfl
      rw [ec, ← narrow_congr c (V m c main_v1) e0 inb_S13472x4096_S512x4096_9376_0 (off_inb (t.val / 8))]
      iintro ⟨⟨⟨%d, %hd, HD⟩, Hp, HC⟩, ⟨%W, HW⟩, H0, H1, H2, H3⟩
      iapply (run_first (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (iblk m c 1 t) d Y2 Y3 (V m c main_v1) (h1.2 h0) (h2.2 hi) (fun h => by have := h3.1 h; omega) (h4.2 hi) W _)
      isplitl [H0]; · iexact H0
      isplitl [H1]; · iexact H1
      isplitl [H2]; · iexact H2
      isplitl [H3]; · iexact H3
      isplitl [HD]; · iexact HD
      isplitl [HC]; · iexact HC
      isplitl [HW]; · iexact HW
      iintro ⟨H0, H1, H2, H3, HD, HC, HW⟩
      isplitl [HD Hp HC]
      · isplitl [HD]
        · iexists _; isplitr; swap; · iexact HD
          ipureintro; exact fun _ => rfl
        isplitl [Hp]; · iexact Hp
        iexact HC
      isplitl [HW]; · iexact HW
      isplitl [H0]; · iexact H0
      isplitl [H1]; · iexact H1
      isplitl [H2]; · iexact H2
      iexact H3
    · have ec : copyAt m c t.val = moving c (V m c main_v1) (off ((t.val + 6) / 8)) (off_inb _) := if_pos (by omega)
      have e6 : (t.val + 6) / 8 = t.val / 8 := by omega
      rw [ec, e6, ← narrow_congr c (V m c main_v1) o1 (k0_off1_inb _ (h2.2 hi)) (off_inb (t.val / 8)), ← moving_congr c (V m c main_v1) o1 (k0_off1_inb _ (h2.2 hi)) (off_inb (t.val / 8))]
      iintro ⟨⟨⟨%d, %hd, HD⟩, Hp, HC⟩, ⟨%W, HW⟩, H0, H1, H2, H3⟩
      iapply (run_land (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (iblk m c 1 t) d Y2 Y3 (V m c main_v1) (fun h => h0 (h1.1 h)) (h2.2 hi) (fun h => by have := h3.1 h; omega) (h4.2 hi) W _)
      isplitl [H0]; · iexact H0
      isplitl [H1]; · iexact H1
      isplitl [H2]; · iexact H2
      isplitl [H3]; · iexact H3
      isplitl [HD]; · iexact HD
      isplitl [HC]; · iexact HC
      isplitl [HW]; · iexact HW
      iintro ⟨H0, H1, H2, H3, HD, HC, HW⟩
      isplitl [HD Hp HC]
      · isplitl [HD]
        · iexists _; isplitr; swap; · iexact HD
          ipureintro; exact fun _ => rfl
        isplitl [Hp]; · iexact Hp
        iexact HC
      isplitl [HW]; · iexact HW
      isplitl [H0]; · iexact H0
      isplitl [H1]; · iexact H1
      isplitl [H2]; · iexact H2
      iexact H3
  · have eo : sampleOut m c t Y3 = Y3 := if_neg hi
    have keep : (t.val + 1) % 8 ≠ 0 → narrowAt m c (t.val / 8) = narrowAt m c ((t.val + 1) / 8) := fun h => by
      have e : (t.val + 1) / 8 = t.val / 8 := by omega
      rw [e]
    rw [eo]
    unfold rowsOut
    by_cases hs : t.val % 8 = 1 ∧ t.val < 24
    · have ec : copyAt m c t.val = still c (V m c main_v1) := if_neg (by omega)
      have en : copyAt m c (t.val + 1) = moving c (V m c main_v1) (off ((t.val + 1 + 6) / 8)) (off_inb _) := if_pos (by omega)
      have e2 : k0_off2 (grid0.coords t) = off ((t.val + 1 + 6) / 8) := by
        rw [o2]; unfold off
        have e : (t.val + 1 + 6) / 8 % 4 = t.val / 8 + 1 := by omega
        rw [e]
      rw [ec, en, ← moving_congr c (V m c main_v1) e2 (k0_off2_inb _ (h3.2 hs)) (off_inb _)]
      iintro ⟨⟨⟨%d, %hd, HD⟩, Hp, HC⟩, ⟨%W, HW⟩, H0, H1, H2, H3⟩
      obtain rfl := hd hi
      iapply (run_start (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (narrowAt m c (t.val / 8)) Y2 (V m c main_v1) (fun h => by have := h1.1 h; omega) (fun h => hi (h2.1 h)) (h3.2 hs) (fun h => hi (h4.1 h)) W _)
      isplitl [H0]; · iexact H0
      isplitl [H2]; · iexact H2
      isplitl [HD]; · iexact HD
      isplitl [HC]; · iexact HC
      isplitl [HW]; · iexact HW
      iintro ⟨H0, H2, HD, HC, HW⟩
      isplitl [HD Hp HC]
      · isplitl [HD]
        · iexists _; isplitr; swap; · iexact HD
          ipureintro; exact keep
        isplitl [Hp]; · iexact Hp
        iexact HC
      isplitl [HW]; · iexact HW
      isplitl [H0]; · iexact H0
      isplitl [H1]; · iexact H1
      isplitl [H2]; · iexact H2
      iexact H3
    · have ec : copyAt m c (t.val + 1) = copyAt m c t.val := by
        unfold copyAt
        by_cases hk : t.val % 8 ≠ 1 ∧ 2 ≤ t.val ∧ t.val < 26
        · by_cases hk' : t.val + 1 < 26
          · have e : (t.val + 1 + 6) / 8 = (t.val + 6) / 8 := by omega
            rw [if_pos hk, if_pos (by omega)]
            exact moving_congr c _ (congrArg off e) _ _
          · omega
        · rw [if_neg hk, if_neg (by omega)]
      rw [ec]
      iintro ⟨⟨⟨%d, %hd, HD⟩, Hp, HC⟩, ⟨%W, HW⟩, H0, H1, H2, H3⟩
      obtain rfl := hd hi
      iapply (run_plain (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (narrowAt m c (t.val / 8)) Y2 (fun h => by have := h1.1 h; omega) (fun h => hi (h2.1 h)) (fun h => hs (h3.1 h)) (fun h => hi (h4.1 h)) _)
      isplitl [H0]; · iexact H0
      isplitl [H2]; · iexact H2
      isplitl [HD]; · iexact HD
      iintro ⟨H0, H2, HD⟩
      isplitl [HD Hp HC]
      · isplitl [HD]
        · iexists _; isplitr; swap; · iexact HD
          ipureintro; exact keep
        isplitl [Hp]; · iexact Hp
        iexact HC
      isplitl [HW]; · iexists _; iexact HW
      isplitl [H0]; · iexact H0
      isplitl [H1]; · iexact H1
      isplitl [H2]; · iexact H2
      iexact H3

/-- The waits recorded so far are bounded by nothing. -/
theorem owes_in (c : Dev nD) (k : Fin (cfg0.N + 1)) : (dats (F := F) m 0 c).owesAt () k ⊢ iprop(∃ W, owes (c : Thread nD τ) 0 W) := by
  unfold Dat.owesAt Pipeline.owesWithin
  iintro ⟨%W, -, H⟩
  iexists W; iexact H
theorem owes_out (c : Dev nD) (k : Fin (cfg0.N + 1)) : iprop(∃ W, owes (c : Thread nD τ) 0 W) ⊢ (dats (F := F) m 0 c).owesAt () k := by
  unfold Dat.owesAt Pipeline.owesWithin
  iintro ⟨%W, H⟩
  iexists W; isplitr; · ipureintro; exact fun _ _ => Or.inl trivial
  iexact H

/-- What a point leaves, with the recorded waits as the data state them. -/
theorem leave (c : Dev nD) (t : Fin cfg0.N) (Q0 Q1 Q2 Q3 : sProp 𝕄) :
    iprop(between m c (t.val + 1) ∗ (∃ W, owes (c : Thread nD τ) 0 W) ∗ Q0 ∗ Q1 ∗ Q2 ∗ Q3)
      ⊢ iprop((dats m 0 c).Φ t.succ ∗ (dats m 0 c).owesAt () t.succ ∗ Q0 ∗ Q1 ∗ Q2 ∗ Q3) := by
  iintro ⟨HΦ, Ho, H⟩
  isplitl [HΦ]; · iapply (show between m c (t.val + 1) ⊢ (dats (F := F) m 0 c).Φ t.succ from .rfl); iexact HΦ
  isplitl [Ho]; · iapply (owes_out m c t.succ); iexact Ho
  iexact H

/-- A point, from what its windows' buffers hold before it to what they hold after it. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d)))
      ⊢ wp frame (wpE (defs₀ (F := F)) Variants.none c none) Set.univ (bodyAt0 t) fun _ =>
        iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare (sampleRows m c t)) := by
  simp only [before_0, before_1]
  rw [after_0, after_1, after_2]
  iintro ⟨HΦ, Ho, ⟨%d0, H0⟩, ⟨%d1, H1⟩, ⟨%d2, H2⟩, ⟨%d3, H3⟩⟩
  rw [← sample_left m c t d3]
  iapply (triple_restated (sound_point m c t ((dats m 0 c).before 2 t d2) ((dats m 0 c).before 3 t d3)) rfl .rfl fun _ => leave m c t _ _ _ _)
  isplitl [HΦ]; · iapply (show (dats (F := F) m 0 c).Φ t.castSucc ⊢ between m c t.val from .rfl); iexact HΦ
  isplitl [Ho]; · iapply (owes_in m c t.castSucc); iexact Ho
  isplitl [H0]; · iexact H0
  isplitl [H1]; · iexact H1
  isplitl [H2]; · iexact H2
  iexact H3

/-- The body's obligation at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  exact sep_mono .rfl (sep_mono .rfl (sep_mono .rfl (sep_mono .rfl (sep_mono .rfl (sample_leaves m c t (sampleRows m c t))))))

/-- The lines after the region touch neither the weight the body copies nor anything scoped, -/
theorem tail_sub : ∀ ops ∈ ([hostOps1] : List (List (HloOp τ sig (Elt F)))), ∀ op ∈ ops,
    op.bufs ⊆ Pipeline.tailRefsBut sig Pipeline.Prefetch.none spec0 copied := by
  intro ops hops op hop
  simp only [List.mem_cons, List.mem_nil_iff, or_false] at hops
  subst hops
  refine Pipeline.sub_tailRefsBut _ spec0 copied op ((List.forall_iff_forall_mem.mp hostOps1_sub) op hop) (fun k => k.elim0) fun b hb => ?_
  obtain rfl := Finset.mem_singleton.mp hb
  simp only [hostOps1, List.mem_cons, List.mem_nil_iff, or_false] at hop
  rcases hop with rfl | rfl | rfl | rfl | rfl | rfl | rfl | rfl
  all_goals
    simp only [StableHlo.unary_bufs, StableHlo.binary_bufs, StableHlo.reshape_bufs, Finset.mem_insert, Finset.mem_singleton, not_or]
    refine ⟨?_, ?_⟩ <;> first | exact StableHlo.devRef_ne_of_ne (by decide) | exact ⟨StableHlo.devRef_ne_of_ne (by decide), StableHlo.devRef_ne_of_ne (by decide)⟩

set_option backward.isDefEq.respectTransparency.types false in
/-- The run: every core's arrays hold what the data say, the rest is as the lines after the region leave it, and no semaphore is up. -/
theorem run : θ_run defs (onTc (τ := τ) (main (F := F))) (s₀ m ρ)
    (fun r => Pipeline.FramePost cfgs (dats (F := F) m) 0 (Pipeline.afterTail₀ cfgs (dats (F := F) m) 0 (V0 m) [hostOps1]) r ∧ r.2.sem = fun _ => 0) :=
  Pipeline.θ_run_frame_dma_around (Q' := _) cfgs (dats m) (0 : Fin 1) launch0 ownSem defs₀ Variants.none ownSem_facts copied copied_sub m ρ main
    (hbody := fun c => (body_obligation m c).loose) (hshare := fun _ => Dat.share_full _ fun _ => rfl) (howed := fun _ _ => rfl)
    (V₀ := V0 m) (opss := [hostOps1]) (hsub := tail_sub) (hfresh := sfx_fresh) (hkeep := sfx_keeps)
    (hmain := main_runs m Variants.none) (hA := fun _ _ => rfl)
    (hin := fun c => by
      rw [PhiD_eq]
      show _ ⊢ between m c 0
      unfold between
      rw [show copyAt m c 0 = still c (V m c main_v1) from if_neg (by decide)]
      unfold still
      iintro ⟨⟨HS, ⟨%d, HD⟩⟩, Hp, Hc, HV⟩
      isplitl [HD]
      · iexists _; isplitr; swap; · iexact HD
        ipureintro
        intro h; exact absurd rfl h
      isplitl [Hp]; · iexact Hp
      isplitl [HS]; · iapply (slot_in c); iexact HS
      isplitl [Hc]; · rw [cell_eq]; iexact Hc
      iexact HV)
    (hout := fun c => by
      rw [PhiD_eq]
      show between m c (Fin.last cfg0.N).val ⊢ _
      unfold between
      rw [show copyAt m c (Fin.last cfg0.N).val = still c (V m c main_v1) from if_neg (by rw [show (Fin.last cfg0.N).val = 32 from N_0]; decide)]
      unfold still
      iintro ⟨⟨%d, %_, HD⟩, Hp, HS, Hc, HV⟩
      isplitl [HS HD]
      · isplitl [HS]; · iapply (slot_out c); iexact HS
        iexists _; iexact HD
      isplitl [Hp]; · iexact Hp
      isplitl [Hc]; · rw [← cell_eq]; iexact Hc
      iexact HV)

/-- The lines after the region write only their own results. -/
theorem unwritten (b : Ref sig .tc) (h : b ∉ [main_v3, main_v4, main_v5, main_v6, main_v7, main_v8, main_v9, main_v10]) :
    ∀ op ∈ (hostOps1 : List (HloOp τ sig (Elt F))), Proc.devRef .tc b ∉ op.writes := by
  intro op hop
  simp only [List.mem_cons, List.mem_nil_iff, or_false, not_or] at h
  obtain ⟨h3, h4, h5, h6, h7, h8, h9, h10⟩ := h
  simp only [hostOps1, List.mem_cons, List.mem_nil_iff, or_false] at hop
  rcases hop with rfl | rfl | rfl | rfl | rfl | rfl | rfl | rfl
  all_goals
    simp only [StableHlo.unary_writes, StableHlo.binary_writes, StableHlo.reshape_writes, Finset.mem_singleton]
    exact StableHlo.devRef_ne_of_ne (by assumption)

/-- What the region and the lines after it leave unwritten ends as launched. -/
theorem kept (c : Dev nD) (b : Ref sig .tc) (h1 : ∀ op ∈ (hostOps1 : List (HloOp τ sig (Elt F))), Proc.devRef .tc b ∉ op.writes) (hw : ∀ w, Pipeline.arrRef spec0 w ≠ b) :
    Pipeline.afterTail₀ cfgs (dats (F := F) m) 0 (V0 m) [hostOps1] c b = V m c b := by
  unfold Pipeline.afterTail₀
  rw [StableHlo.after_of_forall_not_mem (b := Proc.devRef .tc b) _ _ (by simpa using h1),
    Pipeline.withArrays_of_ne _ c (V0 m c) _ b hw]

/-- The state of a run that has ended. -/
abbrev Ended (r : PUnit.{1} × MemSt nD τ sig (Elt F)) : Prop :=
  Pipeline.FramePost cfgs (dats (F := F) m) 0 (Pipeline.afterTail₀ cfgs (dats (F := F) m) 0 (V0 m) [hostOps1]) r

/-- The arguments are untouched. -/
theorem args (c : Dev nD) (r : PUnit.{1} × MemSt nD τ sig (Elt F)) (h : Ended m r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans (V_main_arg0 m c)),
    ((h c).1 1).trans (((dats m 0 c).arrAt_in 1 rfl _).trans (V_main_arg1 m c)),
    ((h c).2 main_arg2 (Pipeline.mem_restRefs_of main_arg2 (by decide) (by decide))).trans ((kept m c main_arg2 (unwritten main_arg2 (by decide)) (by decide)).trans (V_main_arg2 m c)),
    ((h c).2 main_arg3 (Pipeline.mem_restRefs_of main_arg3 (by decide) (by decide))).trans ((kept m c main_arg3 (unwritten main_arg3 (by decide)) (by decide)).trans (V_main_arg3 m c))⟩

/-- The arguments are untouched and no semaphore is up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => args m c r h.1, h.2⟩) (run m ρ)

end Cert.ProjU

end
-- ==== Proof.ProjRef.lean ====
/- The projection of the normalised rows to `u`, as the reference states it, read at an index. -/
module

public import proofs.«01_k».proof.Proof.Gen.Reference2Ideal.Read
public import Idealize.ShloMosaic.Lib.Pipeline.ValueKit

@[expose] public section

set_option maxRecDepth 16384

noncomputable section

namespace Cert.ProjRef

open Idealize.ShloMosaic Cert.Reference2Ideal Cert.Reference2Ideal.Gen Cert.Reference2Ideal.Read

variable (x0 : FVec Ideal S8192x4096 .bf16) (x1 : FVec Ideal S256x4096 .bf16) (x2 : FVec Ideal S1x4096x13472 .f32)

/-- A row times a column of the weight's slice for `u`. -/
def prompt (r : Fin 8192) (q : Fin 2048) : EReal := ∑ k : Fin 4096, x0 (ix2 r k) * x2 (ix3 (0 : Fin 1) k (⟨9376 + q.val, by omega⟩ : Fin 13472))
def sample (r : Fin 256) (q : Fin 2048) : EReal := ∑ k : Fin 4096, x1 (ix2 r k) * x2 (ix3 (0 : Fin 1) k (⟨9376 + q.val, by omega⟩ : Fin 13472))

/-- The last fifteen rows of every sequence of the prompt. -/
def promptState (u : FVec Ideal S8192x2048 .f32) : FVec Ideal S1x4x15x2048 .f32 :=
  broadcastInDim S1x4x15x2048 ![1, 2, 3] bcast_S4x15x2048_S1x4x15x2048_1_2_3
    (extractStridedSlice S4x15x2048 ![0, 2033, 0] (shapeCast _ u shapeCasts_S8192x2048_S4x2048x2048) slices_S4x2048x2048_S4x15x2048_0_2033_0)

/-- The last fifteen rows of every sample, the rows it came with before its own. -/
def sampleState (x3 : FVec Ideal S1x32x15x2048 .f32) (u : FVec Ideal S256x2048 .f32) : FVec Ideal S1x32x15x2048 .f32 :=
  broadcastInDim S1x32x15x2048 ![1, 2, 3] bcast_S32x15x2048_S1x32x15x2048_1_2_3
    (extractStridedSlice S32x15x2048 ![0, 8, 0]
      (concatenate S32x23x2048 1 [⟨S32x15x2048, shapeCast _ x3 shapeCasts_S1x32x15x2048_S32x15x2048⟩, ⟨S32x8x2048, shapeCast _ u shapeCasts_S256x2048_S32x8x2048⟩]
        concatenates_S32x15x2048_S32x8x2048_S32x23x2048_d1) slices_S32x23x2048_S32x15x2048_0_8_0)

theorem prompt_at (r : Fin 8192) (q : Fin 2048) : val_main_v5 (F := Ideal) x0 x2 (ix2 r q) = prompt x0 x2 r q := by
  pointwise [val_main_v5, val_main_v2, val_main_v1, val_main_v0, prompt]

theorem sample_at (r : Fin 256) (q : Fin 2048) : val_main_v6 (F := Ideal) x1 x2 (ix2 r q) = sample x1 x2 r q := by
  pointwise [val_main_v6, val_main_v4, val_main_v3, val_main_v0, sample]

end Cert.ProjRef

end
-- ==== Proof.ProjValue.lean ====
/- The products that the run of the projection to `u` leaves, read at an index. -/
module

public import proofs.«01_k».proof.Proof.ProjFrame
public import proofs.«01_k».proof.Proof.ProjRef

@[expose] public section

set_option maxRecDepth 16384

noncomputable section

namespace Cert.ProjValue

open Idealize.ShloMosaic Idealize.ShloMosaic.TcCoe Idealize.SL.Sem Cert.Kernel2Ideal Cert.Kernel2Ideal.Gen Cert.ProjU

/-- The block of every window at a grid point. -/
theorem idx : ∀ t : Fin cfg0.N, win0_0.index t = ![t.val % 8, 0] ∧ win0_1.index t = ![0, 0] ∧ win0_2.index t = ![t.val % 8, t.val / 8]
    ∧ win0_3.index t = ![0, t.val / 8] :=
  (by decide +kernel : ∀ t : Fin grid0.N, _)

variable (m : (ℓ : Loc nD τ sig) → Buf (Elt Ideal) ℓ) (c : Dev nD)

/-- The arguments. -/
abbrev X0 : FVec Ideal S8192x4096 .bf16 := m ((c : Thread nD τ).loc main_arg0)
abbrev X1 : FVec Ideal S256x4096 .bf16 := m ((c : Thread nD τ).loc main_arg1)
abbrev X2 : FVec Ideal S1x4096x13472 .f32 := m ((c : Thread nD τ).loc main_arg2)
abbrev X3 : FVec Ideal S1x32x15x2048 .f32 := m ((c : Thread nD τ).loc main_arg3)

/-- What the reference leaves. -/
def REF0 : S8192x2048.Idx → EReal := fun p => ProjRef.prompt (X0 m c) (X2 m c) (⟨(p 0).val, (p 0).isLt⟩ : Fin 8192) (⟨(p 1).val, (p 1).isLt⟩ : Fin 2048)
def REF1 : S256x2048.Idx → EReal := fun p => ProjRef.sample (X1 m c) (X2 m c) (⟨(p 0).val, (p 0).isLt⟩ : Fin 256) (⟨(p 1).val, (p 1).isLt⟩ : Fin 2048)
def REF2 : S1x4x15x2048.Idx → EReal := ProjRef.promptState (REF0 m c)
def REF3 : S1x32x15x2048.Idx → EReal := ProjRef.sampleState (X3 m c) (REF1 m c)

/-- A product, read at an index. -/
theorem pay2_at (x : FVec Ideal S1024x4096 .bf16) (w : FVec Ideal S512x4096 .bf16) (p : Fin 1024) (q : Fin 512) :
    k0_pay2 (F := Ideal) x w (ix2 p q) = ∑ k : Fin 4096, x (ix2 p k) * w (ix2 q k) := by
  pointwise [k0_pay2]
theorem pay3_at (x : FVec Ideal S256x4096 .bf16) (w : FVec Ideal S512x4096 .bf16) (p : Fin 256) (q : Fin 512) :
    k0_pay3 (F := Ideal) x w (ix2 p q) = ∑ k : Fin 4096, x (ix2 p k) * w (ix2 q k) := by
  pointwise [k0_pay3]
theorem pay1_at (x : FVec Ideal S512x4096 .f32) (q : Fin 512) (k : Fin 4096) : k0_pay1 (F := Ideal) x (ix2 q k) = x (ix2 q k) := by
  pointwise [k0_pay1]

/-- The weight as the region finds it: transposed. -/
theorem weight_at (r : Fin 13472) (k : Fin 4096) : (V m c main_v1 : FVec Ideal S13472x4096 .f32) (ix2 r k) = X2 m c (ix3 (0 : Fin 1) k r) := by
  have e : (V m c main_v1 : FVec Ideal S13472x4096 .f32)
      = transpose S13472x4096 [1, 0] (shapeCast S4096x13472 (X2 m c) shapeCasts_S1x4096x13472_S4096x13472) transposes_S4096x13472_S13472x4096_1_0 := by
    after_results <;> rfl
  rw [e]
  pointwise []

/-- A rounded tile, read at an index. -/
theorem narrowAt_at (b : ℕ) (hb : b < 4) (q : Fin 512) (k : Fin 4096) :
    narrowAt m c b (ix2 q k) = X2 m c (ix3 (0 : Fin 1) k (⟨9376 + (512 * b + q.val), by omega⟩ : Fin 13472)) := by
  unfold narrowAt narrow
  rw [pay1_at, ← weight_at]
  refine congrArg (V m c main_v1 : FVec Ideal S13472x4096 .f32) ?_
  funext a
  fin_cases a
  · exact Fin.ext (by show 512 * (b % 4) + 9376 + 1 * q.val = 9376 + (512 * b + q.val); omega)
  · exact Fin.ext (by show 0 + 1 * k.val = k.val; omega)

/-- What a point stores of the prompt's rows. -/
theorem rowsOut_at (t : Fin cfg0.N) (p : Fin 1024) (q : Fin 512) (h : 1024 * (t.val % 8) + p.val < 8192) (h' : 512 * (t.val / 8) + q.val < 2048) :
    rowsOut m c t (ix2 p q) = ProjRef.prompt (X0 m c) (X2 m c) ⟨1024 * (t.val % 8) + p.val, h⟩ ⟨512 * (t.val / 8) + q.val, h'⟩ := by
  have ht := lt_of_lt_of_eq t.isLt N_0
  unfold rowsOut ProjRef.prompt
  rw [pay2_at]
  refine Finset.sum_congr rfl fun k _ => ?_
  rw [narrowAt_at m c _ (by omega)]
  refine congrArg (· * _) ?_
  blk_point [iblk, V, idx t]

/-- What a tile's points leave of the sample's rows. -/
theorem sample_at (t : Fin cfg0.N) (p : Fin 256) (q : Fin 512) (h' : 512 * (t.val / 8) + q.val < 2048) :
    k0_pay3 (F := Ideal) (iblk m c 1 t) (narrowAt m c (t.val / 8)) (ix2 p q) = ProjRef.sample (X1 m c) (X2 m c) p ⟨512 * (t.val / 8) + q.val, h'⟩ := by
  have ht := lt_of_lt_of_eq t.isLt N_0
  unfold ProjRef.sample
  rw [pay3_at]
  refine Finset.sum_congr rfl fun k _ => ?_
  rw [narrowAt_at m c _ (by omega)]
  refine congrArg (· * _) ?_
  blk_point [iblk, V, idx t]

/-- The prompt's array is the reference's. -/
theorem array_prompt : (dats (F := Ideal) m 0 c).arrAt 2 cfg0.N = REF0 m c := by
  refine (dats (F := Ideal) m 0 c).arrAt_eq_of_covers 2 _ (by decide +kernel) fun t hf y => ?_
  have ht := lt_of_lt_of_eq t.isLt N_0
  blk_simp
  rw [after_2]
  have y0 : (y 0).val < 1024 := (y 0).isLt
  have y1 : (y 1).val < 512 := (y 1).isLt
  have ey : y = (ix2 (⟨(y 0).val, (y 0).isLt⟩ : Fin 1024) (⟨(y 1).val, (y 1).isLt⟩ : Fin 512) : S1024x512.Idx) := by
    funext a; fin_cases a <;> rfl
  refine (congrArg (rowsOut m c t) ey).trans ((rowsOut_at m c t _ _ (by show 1024 * (t.val % 8) + (y 0).val < 8192; omega) (by show 512 * (t.val / 8) + (y 1).val < 2048; omega)).trans ?_)
  unfold REF0
  blk_point [idx t]
  · exact Fin.ext (by show 1024 * (t.val % 8) + (y 0).val = t.val % 8 * 1024 + (y 0).val; omega)
  · exact Fin.ext (by show 512 * (t.val / 8) + (y 1).val = t.val / 8 * 512 + (y 1).val; omega)

/-- The sample's array is the reference's. -/
theorem array_sample : (dats (F := Ideal) m 0 c).arrAt 3 cfg0.N = REF1 m c := by
  refine (dats (F := Ideal) m 0 c).arrAt_eq_of_covers 3 _ (by decide +kernel) fun t hf y => ?_
  have ht := lt_of_lt_of_eq t.isLt N_0
  blk_simp
  rw [after_3]
  unfold sampleRows
  have y1 : (y 1).val < 512 := (y 1).isLt
  have ey : y = (ix2 (⟨(y 0).val, (y 0).isLt⟩ : Fin 256) (⟨(y 1).val, (y 1).isLt⟩ : Fin 512) : S256x512.Idx) := by
    funext a; fin_cases a <;> rfl
  refine (congrArg (k0_pay3 (F := Ideal) (iblk m c 1 t) (narrowAt m c (t.val / 8))) ey).trans ((sample_at m c t _ _ (by show 512 * (t.val / 8) + (y 1).val < 2048; omega)).trans ?_)
  unfold REF1
  blk_point [idx t]
  exact Fin.ext (by show 512 * (t.val / 8) + (y 1).val = t.val / 8 * 512 + (y 1).val; omega)

/-- The buffers as the lines after the region find them. -/
abbrev Wv : Valuation τ sig (Elt Ideal) := Pipeline.withArrays spec0 c (V0 m c) fun w => (dats (F := Ideal) m 0 c).arrAt w cfg0.N
theorem Wv_prompt : Wv m c (Proc.devRef .tc main_v2_0) = REF0 m c :=
  (Pipeline.withArrays_arr spec0 launch0.win.arr_inj c (V0 m c) _ 2).trans (array_prompt m c)
theorem Wv_sample : Wv m c (Proc.devRef .tc main_v2_1) = REF1 m c :=
  (Pipeline.withArrays_arr spec0 launch0.win.arr_inj c (V0 m c) _ 3).trans (array_sample m c)
theorem Wv_state : Wv m c (Proc.devRef .tc main_arg3) = X3 m c :=
  (Pipeline.withArrays_of_ne spec0 c (V0 m c) _ main_arg3 (by decide)).trans (V_main_arg3 m c)

/-- The states that the lines after the region compute, of whatever they find. -/
theorem tail_prompt (W : Valuation τ sig (Elt Ideal)) : StableHlo.after hostOps1 W (Proc.devRef .tc main_v8) = ProjRef.promptState (W (Proc.devRef .tc main_v2_0)) := by
  after_results <;> rfl
theorem tail_sample (W : Valuation τ sig (Elt Ideal)) : StableHlo.after hostOps1 W (Proc.devRef .tc main_v10)
    = ProjRef.sampleState (W (Proc.devRef .tc main_arg3)) (W (Proc.devRef .tc main_v2_1)) := by
  after_results <;> rfl

/-- A run that has ended has the reference's rows and the reference's states. -/
theorem final (r : PUnit.{1} × MemSt nD τ sig (Elt Ideal)) (h : Ended m r) :
    r.2.mem ((c : Thread nD τ).loc main_v2_0) = REF0 m c ∧ r.2.mem ((c : Thread nD τ).loc main_v2_1) = REF1 m c
      ∧ r.2.mem ((c : Thread nD τ).loc main_v8) = REF2 m c ∧ r.2.mem ((c : Thread nD τ).loc main_v10) = REF3 m c := by
  refine ⟨((h c).1 2).trans (array_prompt m c), ((h c).1 3).trans (array_sample m c), ?_, ?_⟩
  · refine ((h c).2 main_v8 (Pipeline.mem_restRefs_of main_v8 (by decide) (by decide))).trans ?_
    exact (tail_prompt (Wv m c)).trans (congrArg ProjRef.promptState (Wv_prompt m c))
  · refine ((h c).2 main_v10 (Pipeline.mem_restRefs_of main_v10 (by decide) (by decide))).trans ?_
    exact (tail_sample (Wv m c)).trans (congrArg₂ ProjRef.sampleState (Wv_state m c) (Wv_sample m c))

end Cert.ProjValue

end
-- ==== Proof.ProjClaim.lean ====
/- The claims about the projection of the normalised rows to `u`. -/
module

public import proofs.«01_k».proof.Defs
public import proofs.«01_k».proof.Proof.Gen.Kernel2.Launch
public import proofs.«01_k».proof.Proof.Gen.Reference2Ideal.Run
public import proofs.«01_k».proof.Proof.ProjValue

@[expose] public section

noncomputable section

namespace Cert.ProjClaim

open Idealize.ShloMosaic Idealize.SL.Sem

variable {F : FTy → Type} [FloatOps F]

/-- The program and its ideal reading call one body. -/
theorem defs₀_eq : (Cert.Kernel2.defs₀ (F := F)) = Cert.Kernel2Ideal.defs₀ (F := F) := by
  unfold Cert.Kernel2.defs₀ Cert.Kernel2Ideal.defs₀
  refine congrArg (Defs.onTc (nD := Cert.Kernel2.nD) (τ := Cert.Kernel2.τ) (sig := Cert.Kernel2.sig) (Val := Elt F) (Λ := Cert.Kernel2.Λ₀)) ?_
  funext l a
  obtain ⟨n, hn⟩ := l
  match n, hn with
  | 0, _ => obtain ⟨t, s⟩ := a; rfl
  | n + 1, h => exact absurd h (Nat.not_lt.2 (Nat.le_add_left _ _))

/-- So their body tables are one. -/
theorem defs_eq : (Cert.Kernel2.defs (F := F)) = Cert.Kernel2Ideal.defs (F := F) := by
  unfold Cert.Kernel2.defs Cert.Kernel2Ideal.defs
  rw [defs₀_eq]; rfl

/-- The program leaves its arguments as launched and every semaphore at zero. -/
theorem frame_kernel : Cert.quiescent_Kernel2 := fun m ρ _ => by
  rw [defs_eq]; exact Cert.ProjU.frame (F := Bits) m ρ

/-- The same of its ideal reading. -/
theorem frame_ideal : Cert.quiescent_Kernel2Ideal := fun m ρ _ => Cert.ProjU.frame (F := Ideal) m ρ

/-- The reference runs and leaves its arguments as launched; it declares no semaphore. -/
theorem frame_reference : Cert.quiescent_Reference2Ideal := fun m ρ _ =>
  (θ_run Cert.Reference2Ideal.defs _ _).mono (fun r h => ⟨fun c => (h c).2.2.2.2, Idealize.ShloMosaic.sem_eq_zero_of_no_sems (by decide) r.2⟩)
    (Cert.Reference2Ideal.Value.run (F := Ideal) m ρ)

/-- The reference's rows are the stated ones. -/
theorem rows_prompt (x0 : FVec Ideal Cert.Reference2Ideal.S8192x4096 .bf16) (x2 : FVec Ideal Cert.Reference2Ideal.S1x4096x13472 .f32) :
    Cert.Reference2Ideal.Read.val_main_v5 (F := Ideal) x0 x2 = fun p => Cert.ProjRef.prompt x0 x2 (⟨(p 0).val, (p 0).isLt⟩ : Fin 8192) (⟨(p 1).val, (p 1).isLt⟩ : Fin 2048) := by
  funext p
  have ep : p = (ix2 (⟨(p 0).val, (p 0).isLt⟩ : Fin 8192) (⟨(p 1).val, (p 1).isLt⟩ : Fin 2048) : Cert.Reference2Ideal.S8192x2048.Idx) := by
    funext a; fin_cases a <;> rfl
  exact (congrArg _ ep).trans (Cert.ProjRef.prompt_at _ _ _ _)
theorem rows_sample (x1 : FVec Ideal Cert.Reference2Ideal.S256x4096 .bf16) (x2 : FVec Ideal Cert.Reference2Ideal.S1x4096x13472 .f32) :
    Cert.Reference2Ideal.Read.val_main_v6 (F := Ideal) x1 x2 = fun p => Cert.ProjRef.sample x1 x2 (⟨(p 0).val, (p 0).isLt⟩ : Fin 256) (⟨(p 1).val, (p 1).isLt⟩ : Fin 2048) := by
  funext p
  have ep : p = (ix2 (⟨(p 0).val, (p 0).isLt⟩ : Fin 256) (⟨(p 1).val, (p 1).isLt⟩ : Fin 2048) : Cert.Reference2Ideal.S256x2048.Idx) := by
    funext a; fin_cases a <;> rfl
  exact (congrArg _ ep).trans (Cert.ProjRef.sample_at _ _ _ _)

/-- Kernel and reference leave the same prompt rows and the same sample rows, and the same states for what follows each. -/
theorem algebraic : Cert.algebraic_Kernel2Ideal_Reference2Ideal := by
  intro m g m' g' _ hargs
  refine ⟨fun c => Cert.ProjValue.REF0 m c, fun c => Cert.ProjValue.REF1 m c, fun c => Cert.ProjValue.REF2 m c, fun c => Cert.ProjValue.REF3 m c, ?_, ?_⟩
  · refine (θ_run Cert.Kernel2Ideal.defs _ _).mono (fun r h c => ?_) (Cert.ProjU.run (F := Ideal) m g)
    obtain ⟨h0, h1, h2, h3⟩ := Cert.ProjValue.final m c r h.1
    exact ⟨h0, h1, h2, h3, Cert.ProjU.args m c r h.1⟩
  · refine (θ_run Cert.Reference2Ideal.defs _ _).mono (fun r h c => ?_) (Cert.Reference2Ideal.Value.run (F := Ideal) m' g')
    obtain ⟨h0, h1, h2, h3, ha⟩ := h c
    obtain ⟨e0, e1, e2, e3⟩ := hargs c
    have r0 := (Cert.Reference2Ideal.Read.val_main_v5_eq (F := Ideal) _ _).trans (rows_prompt (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg2)))
    have r1 := (Cert.Reference2Ideal.Read.val_main_v6_eq (F := Ideal) _ _).trans (rows_sample (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)))
    rw [e0, e2] at r0
    rw [e1, e2] at r1
    rw [e0, e2] at h0 h2
    rw [e1, e2] at h1
    rw [e1, e2, e3] at h3
    refine ⟨h0.trans r0, h1.trans r1, ?_, ?_, ha⟩
    · exact h2.trans (congrArg Cert.ProjRef.promptState r0)
    · exact h3.trans (congrArg₂ Cert.ProjRef.sampleState rfl r1)

end Cert.ProjClaim

end
-- ==== Proof.Heads.lean ====
/- Four stores of one head each, over the whole of a buffer: head after head, or row by row with the heads of a row together. -/
module

public import Idealize.ShloMosaic.Lib.Writes
public import Idealize.ShloMosaic.Lib.Pipeline.ValueKit

@[expose] public section

noncomputable section

namespace Cert.Heads

open Idealize.ShloMosaic

/-- Rows of four heads with one head to a row. -/
def rowsOf {α : Type} {N R : ℕ} (hN : N = 4 * R) (x : (⟨2, ![R, 512]⟩ : Shape).Idx → α) : (⟨2, ![N, 128]⟩ : Shape).Idx → α := fun y =>
  have y0 : (y 0).val < N := (y 0).isLt
  have y1 : (y 1).val < 128 := (y 1).isLt
  x (ix2 (⟨(y 0).val / 4, by omega⟩ : Fin R) (⟨128 * ((y 0).val % 4) + (y 1).val, by omega⟩ : Fin 512))

/-- Rows of four heads, head after head. -/
def slabsOf {α : Type} {R : ℕ} (x : (⟨2, ![R, 512]⟩ : Shape).Idx → α) : (⟨3, ![4, R, 128]⟩ : Shape).Idx → α := fun y =>
  have y0 : (y 0).val < 4 := (y 0).isLt
  have y2 : (y 2).val < 128 := (y 2).isLt
  x (ix2 (⟨(y 1).val, (y 1).isLt⟩ : Fin R) (⟨128 * (y 0).val + (y 2).val, by omega⟩ : Fin 512))

/-- One head cut out of rows of four. -/
theorem head_at {α : Type} {R : ℕ} (g : Fin 4) (x : (⟨2, ![R, 512]⟩ : Shape).Idx → α) (h : (⟨2, ![R, 512]⟩ : Shape).Slices ![0, 128 * g.val] (⟨2, ![R, 128]⟩ : Shape)) (r : Fin R) (l : Fin 128) :
    extractStridedSlice (⟨2, ![R, 128]⟩ : Shape) ![0, 128 * g.val] x h (ix2 r l) = x (ix2 r (⟨128 * g.val + l.val, by omega⟩ : Fin 512)) := by
  refine extractStridedSlice_apply _ x h _ _ fun a => ?_
  fin_cases a
  · show r.val = 0 + r.val; omega
  · rfl

/-- A rank-2 array with a unit axis put in front. -/
theorem front_at {α : Type} {R : ℕ} (x : (⟨2, ![R, 128]⟩ : Shape).Idx → α) (h : (⟨2, ![R, 128]⟩ : Shape).ShapeCasts (⟨3, ![1, R, 128]⟩ : Shape)) (r : Fin R) (l : Fin 128) :
    shapeCast (⟨3, ![1, R, 128]⟩ : Shape) x h (ix3 (0 : Fin 1) r l) = x (ix2 r l) := by
  refine shapeCast_apply x h _ _ ?_
  rw [Shape.rowMajor_val_three, Shape.rowMajor_val_two]
  show r.val * 128 + l.val = (0 * R + r.val) * 128 + l.val
  omega

variable {F : FTy → Type} {sig : RefSig} {κ : Kind} {sp : Space} {e : EltTy}

/-- Four stores, each of one slab of a buffer of four slabs, leave the array `G` that every one of them agrees with. -/
theorem read_slabs {R : ℕ} (v : View sig κ sp (⟨3, ![4, R, 128]⟩ : Shape) e) (f : v.ty.Contents (Elt F)) (G : (⟨3, ![4, R, 128]⟩ : Shape).Idx → Elt F e)
    (w : Fin 4 → (⟨3, ![1, R, 128]⟩ : Shape).Idx → Elt F e)
    (h0 : ∀ a, (![0, 0, 0] : Fin 3 → ℕ) a + (![1, R, 128] : Fin 3 → ℕ) a ≤ (⟨3, ![4, R, 128]⟩ : Shape).size a)
    (h1 : ∀ a, (![1, 0, 0] : Fin 3 → ℕ) a + (![1, R, 128] : Fin 3 → ℕ) a ≤ (⟨3, ![4, R, 128]⟩ : Shape).size a)
    (h2 : ∀ a, (![2, 0, 0] : Fin 3 → ℕ) a + (![1, R, 128] : Fin 3 → ℕ) a ≤ (⟨3, ![4, R, 128]⟩ : Shape).size a)
    (h3 : ∀ a, (![3, 0, 0] : Fin 3 → ℕ) a + (![1, R, 128] : Fin 3 → ℕ) a ≤ (⟨3, ![4, R, 128]⟩ : Shape).size a)
    (hw : ∀ (g : Fin 4) (r : Fin R) (l : Fin 128), w g (ix3 (0 : Fin 1) r l) = G (ix3 g r l)) :
    v.read (Elt F) (v.writes (Elt F) f [⟨Rect.unit ![3, 0, 0] ![1, R, 128] h3, w 3⟩, ⟨Rect.unit ![2, 0, 0] ![1, R, 128] h2, w 2⟩,
      ⟨Rect.unit ![1, 0, 0] ![1, R, 128] h1, w 1⟩, ⟨Rect.unit ![0, 0, 0] ![1, R, 128] h0, w 0⟩]) = G := by
  have agree : ∀ (g : Fin 4) (h : ∀ a, (![g.val, 0, 0] : Fin 3 → ℕ) a + (![1, R, 128] : Fin 3 → ℕ) a ≤ (⟨3, ![4, R, 128]⟩ : Shape).size a)
      (x : (⟨3, ![1, R, 128]⟩ : Shape).Idx), w g x = G ((Rect.unit (s := ⟨3, ![4, R, 128]⟩) ![g.val, 0, 0] ![1, R, 128] h).emb x) := by
    intro g h x
    have x0 : (x 0).val < 1 := (x 0).isLt
    have ex : x = ix3 (0 : Fin 1) (⟨(x 1).val, (x 1).isLt⟩ : Fin R) (⟨(x 2).val, (x 2).isLt⟩ : Fin 128) := by
      funext a
      fin_cases a
      · exact Fin.ext (by show (x 0).val = 0; omega)
      · rfl
      · rfl
    rw [ex, hw]
    refine congrArg G ?_
    funext a
    fin_cases a
    · exact Fin.ext (by show g.val = g.val + 1 * 0; omega)
    · exact Fin.ext (by show (x 1).val = 0 + 1 * (x 1).val; omega)
    · exact Fin.ext (by show (x 2).val = 0 + 1 * (x 2).val; omega)
  have inside : ∀ (g : Fin 4) (h : ∀ a, (![g.val, 0, 0] : Fin 3 → ℕ) a + (![1, R, 128] : Fin 3 → ℕ) a ≤ (⟨3, ![4, R, 128]⟩ : Shape).size a)
      (y : (⟨3, ![4, R, 128]⟩ : Shape).Idx), (y 0).val = g.val → y ∈ (Rect.unit (s := ⟨3, ![4, R, 128]⟩) ![g.val, 0, 0] ![1, R, 128] h).set := by
    intro g h y hy
    refine Rect.mem_set_unit.mpr fun a => ?_
    fin_cases a
    · exact ⟨by show g.val ≤ (y 0).val; omega, by show (y 0).val < g.val + 1; omega⟩
    · exact ⟨Nat.zero_le _, by have y1 : (y 1).val < R := (y 1).isLt; show (y 1).val < 0 + R; omega⟩
    · exact ⟨Nat.zero_le _, by have y2 : (y 2).val < 128 := (y 2).isLt; show (y 2).val < 0 + 128; omega⟩
  funext y
  refine View.read_writes_apply_of_pieces v f G _ ?_ y ?_
  · intro p hp
    rcases List.mem_cons.mp hp with rfl | hp
    · exact agree 3 h3
    rcases List.mem_cons.mp hp with rfl | hp
    · exact agree 2 h2
    rcases List.mem_cons.mp hp with rfl | hp
    · exact agree 1 h1
    rcases List.mem_cons.mp hp with rfl | hp
    · exact agree 0 h0
    · exact absurd hp List.not_mem_nil
  · have y0 : (y 0).val < 4 := (y 0).isLt
    obtain e | e | e | e : (y 0).val = 3 ∨ (y 0).val = 2 ∨ (y 0).val = 1 ∨ (y 0).val = 0 := by omega
    · exact ⟨_, List.mem_cons_self, inside 3 h3 y e⟩
    · exact ⟨_, List.mem_cons_of_mem _ List.mem_cons_self, inside 2 h2 y e⟩
    · exact ⟨_, List.mem_cons_of_mem _ (List.mem_cons_of_mem _ List.mem_cons_self), inside 1 h1 y e⟩
    · exact ⟨_, List.mem_cons_of_mem _ (List.mem_cons_of_mem _ (List.mem_cons_of_mem _ List.mem_cons_self)), inside 0 h0 y e⟩

/-- Four stores, each of every fourth row of a buffer, leave the array `G` that every one of them agrees with. -/
theorem read_strided {N R : ℕ} (hN : N = 4 * R) (v : View sig κ sp (⟨2, ![N, 128]⟩ : Shape) e) (f : v.ty.Contents (Elt F)) (G : (⟨2, ![N, 128]⟩ : Shape).Idx → Elt F e)
    (w : Fin 4 → (⟨2, ![R, 128]⟩ : Shape).Idx → Elt F e)
    (h0 : ∀ a, (![R, 128] : Fin 2 → ℕ) a = 0 ∨ (![0, 0] : Fin 2 → ℕ) a + (![4, 1] : Fin 2 → ℕ) a * ((![R, 128] : Fin 2 → ℕ) a - 1) < (⟨2, ![N, 128]⟩ : Shape).size a)
    (h1 : ∀ a, (![R, 128] : Fin 2 → ℕ) a = 0 ∨ (![1, 0] : Fin 2 → ℕ) a + (![4, 1] : Fin 2 → ℕ) a * ((![R, 128] : Fin 2 → ℕ) a - 1) < (⟨2, ![N, 128]⟩ : Shape).size a)
    (h2 : ∀ a, (![R, 128] : Fin 2 → ℕ) a = 0 ∨ (![2, 0] : Fin 2 → ℕ) a + (![4, 1] : Fin 2 → ℕ) a * ((![R, 128] : Fin 2 → ℕ) a - 1) < (⟨2, ![N, 128]⟩ : Shape).size a)
    (h3 : ∀ a, (![R, 128] : Fin 2 → ℕ) a = 0 ∨ (![3, 0] : Fin 2 → ℕ) a + (![4, 1] : Fin 2 → ℕ) a * ((![R, 128] : Fin 2 → ℕ) a - 1) < (⟨2, ![N, 128]⟩ : Shape).size a)
    (hp : ∀ a, 0 < (![4, 1] : Fin 2 → ℕ) a)
    (hw : ∀ (g : Fin 4) (r : Fin R) (l : Fin 128), w g (ix2 r l) = G (ix2 (⟨g.val + 4 * r.val, by omega⟩ : Fin N) l)) :
    v.read (Elt F) (v.writes (Elt F) f [⟨⟨⟨![3, 0], ![R, 128], ![4, 1], h3⟩, hp⟩, w 3⟩, ⟨⟨⟨![2, 0], ![R, 128], ![4, 1], h2⟩, hp⟩, w 2⟩,
      ⟨⟨⟨![1, 0], ![R, 128], ![4, 1], h1⟩, hp⟩, w 1⟩, ⟨⟨⟨![0, 0], ![R, 128], ![4, 1], h0⟩, hp⟩, w 0⟩]) = G := by
  have agree : ∀ (g : Fin 4) (h : ∀ a, (![R, 128] : Fin 2 → ℕ) a = 0 ∨ (![g.val, 0] : Fin 2 → ℕ) a + (![4, 1] : Fin 2 → ℕ) a * ((![R, 128] : Fin 2 → ℕ) a - 1) < (⟨2, ![N, 128]⟩ : Shape).size a)
      (x : (⟨2, ![R, 128]⟩ : Shape).Idx), w g x = G ((⟨⟨![g.val, 0], ![R, 128], ![4, 1], h⟩, hp⟩ : Rect (⟨2, ![N, 128]⟩ : Shape)).emb x) := by
    intro g h x
    have ex : x = ix2 (⟨(x 0).val, (x 0).isLt⟩ : Fin R) (⟨(x 1).val, (x 1).isLt⟩ : Fin 128) := by
      funext a; fin_cases a <;> rfl
    rw [ex, hw]
    refine congrArg G ?_
    funext a
    fin_cases a
    · rfl
    · exact Fin.ext (by show (x 1).val = 0 + 1 * (x 1).val; omega)
  have inside : ∀ (g : Fin 4) (h : ∀ a, (![R, 128] : Fin 2 → ℕ) a = 0 ∨ (![g.val, 0] : Fin 2 → ℕ) a + (![4, 1] : Fin 2 → ℕ) a * ((![R, 128] : Fin 2 → ℕ) a - 1) < (⟨2, ![N, 128]⟩ : Shape).size a)
      (y : (⟨2, ![N, 128]⟩ : Shape).Idx), (y 0).val % 4 = g.val → y ∈ (⟨⟨![g.val, 0], ![R, 128], ![4, 1], h⟩, hp⟩ : Rect (⟨2, ![N, 128]⟩ : Shape)).set := by
    intro g h y hy
    refine (LoadRect.mem_set _).mpr fun a => ?_
    have y0 : (y 0).val < N := (y 0).isLt
    fin_cases a
    · exact ⟨(y 0).val / 4, by show (y 0).val / 4 < R; omega, by show (y 0).val = g.val + 4 * ((y 0).val / 4); omega⟩
    · exact ⟨(y 1).val, (y 1).isLt, by show (y 1).val = 0 + 1 * (y 1).val; omega⟩
  funext y
  refine View.read_writes_apply_of_pieces v f G _ ?_ y ?_
  · intro p hp'
    rcases List.mem_cons.mp hp' with rfl | hp'
    · exact agree 3 h3
    rcases List.mem_cons.mp hp' with rfl | hp'
    · exact agree 2 h2
    rcases List.mem_cons.mp hp' with rfl | hp'
    · exact agree 1 h1
    rcases List.mem_cons.mp hp' with rfl | hp'
    · exact agree 0 h0
    · exact absurd hp' List.not_mem_nil
  · obtain e | e | e | e : (y 0).val % 4 = 3 ∨ (y 0).val % 4 = 2 ∨ (y 0).val % 4 = 1 ∨ (y 0).val % 4 = 0 := by omega
    · exact ⟨_, List.mem_cons_self, inside 3 h3 y e⟩
    · exact ⟨_, List.mem_cons_of_mem _ List.mem_cons_self, inside 2 h2 y e⟩
    · exact ⟨_, List.mem_cons_of_mem _ (List.mem_cons_of_mem _ List.mem_cons_self), inside 1 h1 y e⟩
    · exact ⟨_, List.mem_cons_of_mem _ (List.mem_cons_of_mem _ (List.mem_cons_of_mem _ List.mem_cons_self)), inside 0 h0 y e⟩

/-- Head `g` of row `r` stands in row `4 r + g`. -/
theorem rowsOf_at {α : Type} {N R : ℕ} (hN : N = 4 * R) (x : (⟨2, ![R, 512]⟩ : Shape).Idx → α) (g : Fin 4) (r : Fin R) (l : Fin 128) :
    rowsOf hN x (ix2 (⟨g.val + 4 * r.val, by omega⟩ : Fin N) l) = x (ix2 r (⟨128 * g.val + l.val, by omega⟩ : Fin 512)) := by
  unfold rowsOf
  refine congrArg x ?_
  funext a
  fin_cases a
  · exact Fin.ext (by show (g.val + 4 * r.val) / 4 = r.val; omega)
  · exact Fin.ext (by show 128 * ((g.val + 4 * r.val) % 4) + l.val = 128 * g.val + l.val; omega)

/-- Every head stored to the rows it has among all heads' rows. -/
theorem read_rowsOf {N R : ℕ} (hN : N = 4 * R) (v : View sig κ sp (⟨2, ![N, 128]⟩ : Shape) e) (f : v.ty.Contents (Elt F)) (x : (⟨2, ![R, 512]⟩ : Shape).Idx → Elt F e) (h0) (h1) (h2) (h3) (hp)
    (s0 : (⟨2, ![R, 512]⟩ : Shape).Slices ![0, 0] (⟨2, ![R, 128]⟩ : Shape)) (s1 : (⟨2, ![R, 512]⟩ : Shape).Slices ![0, 128] (⟨2, ![R, 128]⟩ : Shape))
    (s2 : (⟨2, ![R, 512]⟩ : Shape).Slices ![0, 256] (⟨2, ![R, 128]⟩ : Shape)) (s3 : (⟨2, ![R, 512]⟩ : Shape).Slices ![0, 384] (⟨2, ![R, 128]⟩ : Shape)) :
    v.read (Elt F) (v.writes (Elt F) f [⟨⟨⟨![3, 0], ![R, 128], ![4, 1], h3⟩, hp⟩, extractStridedSlice (⟨2, ![R, 128]⟩ : Shape) ![0, 384] x s3⟩,
      ⟨⟨⟨![2, 0], ![R, 128], ![4, 1], h2⟩, hp⟩, extractStridedSlice (⟨2, ![R, 128]⟩ : Shape) ![0, 256] x s2⟩,
      ⟨⟨⟨![1, 0], ![R, 128], ![4, 1], h1⟩, hp⟩, extractStridedSlice (⟨2, ![R, 128]⟩ : Shape) ![0, 128] x s1⟩,
      ⟨⟨⟨![0, 0], ![R, 128], ![4, 1], h0⟩, hp⟩, extractStridedSlice (⟨2, ![R, 128]⟩ : Shape) ![0, 0] x s0⟩]) = rowsOf hN x := by
  have sl : ∀ g : Fin 4, (⟨2, ![R, 512]⟩ : Shape).Slices ![0, 128 * g.val] (⟨2, ![R, 128]⟩ : Shape) := by
    intro g; fin_cases g; exacts [s0, s1, s2, s3]
  exact read_strided hN v f (rowsOf hN x) (fun g => extractStridedSlice (⟨2, ![R, 128]⟩ : Shape) ![0, 128 * g.val] x (sl g)) h0 h1 h2 h3 hp fun g r l =>
    (head_at g x (sl g) r l).trans (rowsOf_at hN x g r l).symm

/-- Every head stored rounded to its own slab. -/
theorem read_slabsOf [FloatOps F] {R : ℕ} (v : View sig κ sp (⟨3, ![4, R, 128]⟩ : Shape) .bf16) (f : v.ty.Contents (Elt F)) (x : (⟨2, ![R, 512]⟩ : Shape).Idx → Elt F .f32)
    (h0 : ∀ a, (![0, 0, 0] : Fin 3 → ℕ) a + (![1, R, 128] : Fin 3 → ℕ) a ≤ (⟨3, ![4, R, 128]⟩ : Shape).size a) (h1 : ∀ a, (![1, 0, 0] : Fin 3 → ℕ) a + (![1, R, 128] : Fin 3 → ℕ) a ≤ (⟨3, ![4, R, 128]⟩ : Shape).size a)
    (h2 : ∀ a, (![2, 0, 0] : Fin 3 → ℕ) a + (![1, R, 128] : Fin 3 → ℕ) a ≤ (⟨3, ![4, R, 128]⟩ : Shape).size a) (h3 : ∀ a, (![3, 0, 0] : Fin 3 → ℕ) a + (![1, R, 128] : Fin 3 → ℕ) a ≤ (⟨3, ![4, R, 128]⟩ : Shape).size a)
    (s0 : (⟨2, ![R, 512]⟩ : Shape).Slices ![0, 0] (⟨2, ![R, 128]⟩ : Shape)) (s1 : (⟨2, ![R, 512]⟩ : Shape).Slices ![0, 128] (⟨2, ![R, 128]⟩ : Shape))
    (s2 : (⟨2, ![R, 512]⟩ : Shape).Slices ![0, 256] (⟨2, ![R, 128]⟩ : Shape)) (s3 : (⟨2, ![R, 512]⟩ : Shape).Slices ![0, 384] (⟨2, ![R, 128]⟩ : Shape))
    (k : (⟨2, ![R, 128]⟩ : Shape).ShapeCasts (⟨3, ![1, R, 128]⟩ : Shape)) (lt : FTy.bits .bf16 < FTy.bits .f32) :
    v.read (Elt F) (v.writes (Elt F) f [
      ⟨Rect.unit ![3, 0, 0] ![1, R, 128] h3, shapeCast (⟨3, ![1, R, 128]⟩ : Shape) (truncf .bf16 (extractStridedSlice (⟨2, ![R, 128]⟩ : Shape) ![0, 384] x s3) lt) k⟩,
      ⟨Rect.unit ![2, 0, 0] ![1, R, 128] h2, shapeCast (⟨3, ![1, R, 128]⟩ : Shape) (truncf .bf16 (extractStridedSlice (⟨2, ![R, 128]⟩ : Shape) ![0, 256] x s2) lt) k⟩,
      ⟨Rect.unit ![1, 0, 0] ![1, R, 128] h1, shapeCast (⟨3, ![1, R, 128]⟩ : Shape) (truncf .bf16 (extractStridedSlice (⟨2, ![R, 128]⟩ : Shape) ![0, 128] x s1) lt) k⟩,
      ⟨Rect.unit ![0, 0, 0] ![1, R, 128] h0, shapeCast (⟨3, ![1, R, 128]⟩ : Shape) (truncf .bf16 (extractStridedSlice (⟨2, ![R, 128]⟩ : Shape) ![0, 0] x s0) lt) k⟩])
      = fun y => FloatOps.truncf .bf16 lt (slabsOf x y) := by
  have sl : ∀ g : Fin 4, (⟨2, ![R, 512]⟩ : Shape).Slices ![0, 128 * g.val] (⟨2, ![R, 128]⟩ : Shape) := by
    intro g; fin_cases g; exacts [s0, s1, s2, s3]
  have q := read_slabs v f (fun y => FloatOps.truncf .bf16 lt (slabsOf x y)) (fun g => shapeCast (⟨3, ![1, R, 128]⟩ : Shape) (truncf .bf16 (extractStridedSlice (⟨2, ![R, 128]⟩ : Shape) ![0, 128 * g.val] x (sl g)) lt) k) h0 h1 h2 h3 fun g r l =>
    (front_at _ k r l).trans (congrArg (FloatOps.truncf .bf16 lt) (head_at g x (sl g) r l))
  have e0 : extractStridedSlice (⟨2, ![R, 128]⟩ : Shape) ![0, 0] x s0 = extractStridedSlice (⟨2, ![R, 128]⟩ : Shape) ![0, 128 * (0 : Fin 4).val] x (sl 0) := rfl
  have e1 : extractStridedSlice (⟨2, ![R, 128]⟩ : Shape) ![0, 128] x s1 = extractStridedSlice (⟨2, ![R, 128]⟩ : Shape) ![0, 128 * (1 : Fin 4).val] x (sl 1) := rfl
  have e2 : extractStridedSlice (⟨2, ![R, 128]⟩ : Shape) ![0, 256] x s2 = extractStridedSlice (⟨2, ![R, 128]⟩ : Shape) ![0, 128 * (2 : Fin 4).val] x (sl 2) := rfl
  have e3 : extractStridedSlice (⟨2, ![R, 128]⟩ : Shape) ![0, 384] x s3 = extractStridedSlice (⟨2, ![R, 128]⟩ : Shape) ![0, 128 * (3 : Fin 4).val] x (sl 3) := rfl
  rw [e0, e1, e2, e3]
  exact q

/-- Every head stored as it is to its own slab. -/
theorem read_slabsPlain {R : ℕ} (v : View sig κ sp (⟨3, ![4, R, 128]⟩ : Shape) e) (f : v.ty.Contents (Elt F)) (x : (⟨2, ![R, 512]⟩ : Shape).Idx → Elt F e)
    (h0 : ∀ a, (![0, 0, 0] : Fin 3 → ℕ) a + (![1, R, 128] : Fin 3 → ℕ) a ≤ (⟨3, ![4, R, 128]⟩ : Shape).size a) (h1 : ∀ a, (![1, 0, 0] : Fin 3 → ℕ) a + (![1, R, 128] : Fin 3 → ℕ) a ≤ (⟨3, ![4, R, 128]⟩ : Shape).size a)
    (h2 : ∀ a, (![2, 0, 0] : Fin 3 → ℕ) a + (![1, R, 128] : Fin 3 → ℕ) a ≤ (⟨3, ![4, R, 128]⟩ : Shape).size a) (h3 : ∀ a, (![3, 0, 0] : Fin 3 → ℕ) a + (![1, R, 128] : Fin 3 → ℕ) a ≤ (⟨3, ![4, R, 128]⟩ : Shape).size a)
    (sl : ∀ g : Fin 4, (⟨2, ![R, 512]⟩ : Shape).Slices ![0, 128 * g.val] (⟨2, ![R, 128]⟩ : Shape))
    (k : (⟨2, ![R, 128]⟩ : Shape).ShapeCasts (⟨3, ![1, R, 128]⟩ : Shape)) (w : Fin 4 → (⟨3, ![1, R, 128]⟩ : Shape).Idx → Elt F e)
    (hw : ∀ g, w g = shapeCast (⟨3, ![1, R, 128]⟩ : Shape) (extractStridedSlice (⟨2, ![R, 128]⟩ : Shape) ![0, 128 * g.val] x (sl g)) k) :
    v.read (Elt F) (v.writes (Elt F) f [⟨Rect.unit ![3, 0, 0] ![1, R, 128] h3, w 3⟩, ⟨Rect.unit ![2, 0, 0] ![1, R, 128] h2, w 2⟩,
      ⟨Rect.unit ![1, 0, 0] ![1, R, 128] h1, w 1⟩, ⟨Rect.unit ![0, 0, 0] ![1, R, 128] h0, w 0⟩]) = slabsOf x :=
  read_slabs v f (slabsOf x) w h0 h1 h2 h3 fun g r l =>
    (congrFun (hw g) _).trans ((front_at _ k r l).trans (head_at g x (sl g) r l))

end Cert.Heads

end
-- ==== Proof.KvRun.lean ====
module

public import proofs.«01_k».proof.Proof.Gen.Kernel4Ideal.Launch
public import proofs.«01_k».proof.Proof.Gen.Kernel4Ideal.Points
public import proofs.«01_k».proof.Proof.Gen.Kernel4Ideal.Skeleton
public import proofs.«01_k».proof.Proof.Gen.Kernel4Ideal.Frame
public import proofs.«01_k».proof.Proof.ProjRun
public import proofs.«01_k».proof.Proof.Heads
public import Idealize.ShloMosaic.Lib.Claim
public import Idealize.ShloMosaic.Lib.WritesUnit
public import Idealize.ShloMosaic.Lib.VecWindow
public import Idealize.ShloMosaic.Lib.Pipeline.ValueKit

@[expose] public section

set_option maxRecDepth 16384

noncomputable section

/-! # The projection to the keys: the body's run at each kind of grid point

There is one tile of 512 weight rows, four heads. The body copies it from the whole weight at the first point and
rounds it; every point takes one block of the prompt's rows against it and stores the products twice, row by row with the
heads of a row together and head after head; the first point also takes the sample's rows against it. -/

namespace Cert.Kv

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

/-- The scratch a weight tile is copied to. -/
abbrev tileM : Memref sig .tc .vmem S512x4096 .f32 := Memref.whole cc0_scratch0
/-- The scratch that holds the tile rounded. -/
abbrev narrowM : Memref sig .tc .vmem S512x4096 .bf16 := Memref.whole cc0_scratch1
/-- The weight, left in HBM. -/
abbrev weightM : Memref sig .tc .hbm S13472x4096 .f32 := Memref.whole main_v1
/-- The copy's target: the whole of the scratch. -/
abbrev slotM : Memref sig .tc .vmem S512x4096 .f32 :=
  tileM.slice (Rect.unit (s := S512x4096) ![0, 0] S512x4096.size inb_S512x4096_S512x4096_0_0) (fun _ => rfl)
/-- The copy's source: 512 rows of the weight. -/
abbrev rowsM (o : Fin 2 → ℕ) (h : ∀ a, o a + S512x4096.size a ≤ S13472x4096.size a) : Memref sig .tc .hbm S512x4096 .f32 :=
  weightM.slice (Rect.unit (s := S13472x4096) o S512x4096.size h) (fun _ => rfl)
/-- The copy's semaphore. -/
abbrev cellM : DmaSems sig S_ := (cc0_scratch2.slice (Rect.unit (s := S1) ![0] S1.size inb_S1_S1_0)).squeeze S_ squeezes_S1_S_
abbrev cell : SemLoc sig := SemLoc.dma cellM.sem

/-- The contents of a buffer as memref `M` places it on core `c`. -/
abbrev Held (c : Dev nD) {sp : Space} {S : Shape} {e : EltTy} (M : Memref sig .tc sp S e) : Type := Buf (Elt F) (M.view.loc (c : Thread nD τ))

/-- The scratch for the tile, at `f`. -/
abbrev slotAt (c : Dev nD) (f : Held (F := F) c slotM) : sProp 𝕄 := slotM.view.loc (c : Thread nD τ) ↦[slotM.view.set]{fullShare} f
/-- The weight's rows that a copy reads, and the weight without them. -/
abbrev rowsAt (c : Dev nD) (W : Held (F := F) c weightM) (o : Fin 2 → ℕ) (h : ∀ a, o a + S512x4096.size a ≤ S13472x4096.size a) : sProp 𝕄 :=
  (rowsM o h).view.loc (c : Thread nD τ) ↦[(rowsM o h).view.set]{fullShare} W
def restAt (c : Dev nD) (W : Held (F := F) c weightM) (o : Fin 2 → ℕ) (h : ∀ a, o a + S512x4096.size a ≤ S13472x4096.size a) : sProp 𝕄 :=
  ((c : Thread nD τ).loc main_v1) ↦[Finset.univ \ (rowsM o h).view.set]{fullShare} W
/-- The weight whole. -/
abbrev weightAt (c : Dev nD) (W : Held (F := F) c weightM) : sProp 𝕄 := ((c : Thread nD τ).loc main_v1) ↦[Finset.univ]{fullShare} W
/-- The scratch once the rows are copied over `f`. -/
abbrev landed (c : Dev nD) (W : Held (F := F) c weightM) (o : Fin 2 → ℕ) (h : ∀ a, o a + S512x4096.size a ≤ S13472x4096.size a) (f : Held (F := F) c slotM) : Held (F := F) c slotM :=
  slotM.view.writes (Elt F) f [⟨Rect.whole S512x4096, ReadAs.same.apply ((rowsM o h).view.read (Elt F) W)⟩]
theorem weight_split (c : Dev nD) (W : Held (F := F) c weightM) (o : Fin 2 → ℕ) (h : ∀ a, o a + S512x4096.size a ≤ S13472x4096.size a) : weightAt c W ⊣⊢ iprop(rowsAt c W o h ∗ restAt c W o h) := by
  unfold restAt; exact pointsTo_split_subset (Finset.subset_univ _)

/-- No copy under way: the scratch, the semaphore and the whole weight. -/
def still (c : Dev nD) (W : Held (F := F) c weightM) : sProp 𝕄 := iprop((∃ f, slotAt c f) ∗ semVal ((c : Thread nD τ), cell) 0 ∗ weightAt c W)
/-- The rows copied, rounded. -/
def narrow (c : Dev nD) (W : Held (F := F) c weightM) (o : Fin 2 → ℕ) (h : ∀ a, o a + S512x4096.size a ≤ S13472x4096.size a) : Vec F S512x4096 .bf16 := k0_pay10 ((rowsM o h).view.read (Elt F) W)

/-- The scratch read after a copy over the whole of it is what was copied. -/
theorem read_landed (c : Dev nD) (f : Held (F := F) c slotM) (x : Vec F S512x4096 .f32) :
    tileM.view.readAt (Elt F) (Rect.unit (s := S512x4096) ![0, 0] S512x4096.size inb_S512x4096_S512x4096_0_0).toLoadRect
      (slotM.view.writes (Elt F) f [⟨Rect.whole S512x4096, x⟩]) = x :=
  View.read_writes_whole slotM.view f x

section Runs

open Cert.ProjU (ld_whole)
open Cert.Heads (rowsOf slabsOf)

variable (c : Dev nD) (i : grid0.Coords) (arg2 : Memref sig .tc .vmem S1024x4096 .bf16) (harg2 : arg2.IsWhole) (arg3 : Memref sig .tc .vmem S256x4096 .bf16) (harg3 : arg3.IsWhole)
  (arg5 : Memref sig .tc .vmem S4096x128 .f32) (harg5 : arg5.IsWhole) (arg6 : Memref sig .tc .vmem S4x1024x128 .bf16) (harg6 : arg6.IsWhole) (arg7 : Memref sig .tc .vmem S1024x128 .f32) (harg7 : arg7.IsWhole)
  (x0 : Vec F S1024x4096 .bf16) (x1 : Vec F S256x4096 .bf16) (d : Vec F S512x4096 .bf16) (y2 : Vec F S4096x128 .f32) (y3 : Vec F S4x1024x128 .bf16) (y4 : Vec F S1024x128 .f32)
  (V : Held (F := F) c weightM)

/-- What a point stores: the products row by row, and head after head rounded. -/
def keyRows (x0 : Vec F S1024x4096 .bf16) (d : Vec F S512x4096 .bf16) : Vec F S4096x128 .f32 := rowsOf (by decide) (k0_pay11 x0 d)
def keyHeads (x0 : Vec F S1024x4096 .bf16) (d : Vec F S512x4096 .bf16) : Vec F S4x1024x128 .bf16 := fun y => FloatOps.truncf .bf16 bitsLt_bf16_f32 (slabsOf (k0_pay11 x0 d) y)
/-- What the first point stores of the sample. -/
def keySample (x1 : Vec F S256x4096 .bf16) (d : Vec F S512x4096 .bf16) : Vec F S1024x128 .f32 := rowsOf (by decide) (k0_pay5 x1 d)

/-- The stores of a point, read back. -/
theorem read_keyRows (v : View sig .tc .vmem S4096x128 .f32) (f : v.ty.Contents (Elt F)) (h0) (h1) (h2) (h3) (hp) :
    v.read (Elt F) (v.writes (Elt F) f [⟨⟨⟨![3, 0], S1024x128.size, ![4, 1], h3⟩, hp⟩, k0_pay15 x0 d⟩, ⟨⟨⟨![2, 0], S1024x128.size, ![4, 1], h2⟩, hp⟩, k0_pay14 x0 d⟩,
      ⟨⟨⟨![1, 0], S1024x128.size, ![4, 1], h1⟩, hp⟩, k0_pay13 x0 d⟩, ⟨⟨⟨![0, 0], S1024x128.size, ![4, 1], h0⟩, hp⟩, k0_pay12 x0 d⟩]) = keyRows x0 d :=
  Cert.Heads.read_rowsOf (by decide) v f (k0_pay11 x0 d) h0 h1 h2 h3 hp slices_S1024x512_o0_0_S1024x128 slices_S1024x512_o0_128_S1024x128 slices_S1024x512_o0_256_S1024x128 slices_S1024x512_o0_384_S1024x128
theorem read_keyHeads (v : View sig .tc .vmem S4x1024x128 .bf16) (f : v.ty.Contents (Elt F)) (h0) (h1) (h2) (h3) :
    v.read (Elt F) (v.writes (Elt F) f [⟨Rect.unit ![3, 0, 0] S1x1024x128.size h3, k0_pay4 (k0_pay11 x0 d)⟩, ⟨Rect.unit ![2, 0, 0] S1x1024x128.size h2, k0_pay3 (k0_pay11 x0 d)⟩,
      ⟨Rect.unit ![1, 0, 0] S1x1024x128.size h1, k0_pay2 (k0_pay11 x0 d)⟩, ⟨Rect.unit ![0, 0, 0] S1x1024x128.size h0, k0_pay1 (k0_pay16 x0 d)⟩]) = keyHeads x0 d :=
  Cert.Heads.read_slabsOf v f (k0_pay11 x0 d) h0 h1 h2 h3 slices_S1024x512_o0_0_S1024x128 slices_S1024x512_o0_128_S1024x128 slices_S1024x512_o0_256_S1024x128 slices_S1024x512_o0_384_S1024x128 shapeCasts_S1024x128_S1x1024x128 bitsLt_bf16_f32
theorem read_keySample (v : View sig .tc .vmem S1024x128 .f32) (f : v.ty.Contents (Elt F)) (h0) (h1) (h2) (h3) (hp) :
    v.read (Elt F) (v.writes (Elt F) f [⟨⟨⟨![3, 0], S256x128.size, ![4, 1], h3⟩, hp⟩, k0_pay9 x1 d⟩, ⟨⟨⟨![2, 0], S256x128.size, ![4, 1], h2⟩, hp⟩, k0_pay8 x1 d⟩,
      ⟨⟨⟨![1, 0], S256x128.size, ![4, 1], h1⟩, hp⟩, k0_pay7 x1 d⟩, ⟨⟨⟨![0, 0], S256x128.size, ![4, 1], h0⟩, hp⟩, k0_pay6 x1 d⟩]) = keySample x1 d :=
  Cert.Heads.read_rowsOf (by decide) v f (k0_pay5 x1 d) h0 h1 h2 h3 hp slices_S256x512_o0_0_S256x128 slices_S256x512_o0_128_S256x128 slices_S256x512_o0_256_S256x128 slices_S256x512_o0_384_S256x128

/-- The body on these buffers. -/
abbrev body : Prog (TpuEff nD τ sig (Elt F) Λ₀ .tc) PUnit :=
  cc0_proj_k i arg2 harg2 arg3 harg3 weightM (Memref.isWhole_whole _) arg5 harg5 arg6 harg6 arg7 harg7 tileM (Memref.isWhole_whole _) narrowM (Memref.isWhole_whole _) cc0_scratch2

set_option maxHeartbeats 1000000 in
/-- A block of rows against the tile held. -/
theorem run_plain (c1 : ¬ (k0_cond1 i = 1#1)) (c2 : ¬ (k0_cond2 i = 1#1)) (c3 : ¬ (k0_cond3 i = 1#1)) (c4 : ¬ (k0_cond4 i = 1#1)) (K : PUnit → sProp 𝕄) :
    iprop(owns (c : Thread nD τ) arg2 fullShare x0 ∗ owns (c : Thread nD τ) arg5 fullShare y2 ∗ owns (c : Thread nD τ) arg6 fullShare y3 ∗ owns (c : Thread nD τ) narrowM fullShare d
        ∗ (iprop(owns (c : Thread nD τ) arg2 fullShare x0 ∗ owns (c : Thread nD τ) arg5 fullShare (keyRows x0 d) ∗ owns (c : Thread nD τ) arg6 fullShare (keyHeads x0 d) ∗ owns (c : Thread nD τ) narrowM fullShare d) -∗ K ⟨⟩))
      ⊢ wp frame (wpE (defs₀ (F := F)) Variants.none c none) Set.univ (body (F := F) i arg2 harg2 arg3 harg3 arg5 harg5 arg6 harg6 arg7 harg7) K := by
  unfold body
  simp only [cc0_proj_k_eq_skeleton]; unfold cc0_proj_k_skel
  simp only [k0_part1_eq_skeleton]; unfold k0_part1_skel
  unfold owns
  iintro ⟨⟨%f0, %hf0, H0⟩, ⟨%f2, %hf2, H2⟩, ⟨%f3, %hf3, H3⟩, ⟨%fd, %hfd, HD⟩, Hk⟩
  obtain rfl := harg2.eq_unread hf0
  obtain rfl := harg5.eq_unread hf2
  obtain rfl := harg6.eq_unread hf3
  sl_exec (disch := first | sl_exact c1 | sl_exact c2 | sl_exact c3 | sl_exact c4)
  sl_step
  iapply Hk
  isplitl [H0]
  · iexists _; isplitr; · ipureintro; exact harg2.read_unread _
    iexact H0
  isplitl [H2]
  · iexists _; isplitr; swap; · iexact H2
    ipureintro
    sl_unfold_words
    rw [View.readAt_eq_ld, View.readAt_eq_ld, harg2.read_unread, hfd, ld_whole, ld_whole]
    exact read_keyRows x0 d _ _ _ _ _ _ _
  isplitl [H3]
  · iexists _; isplitr; swap; · iexact H3
    ipureintro
    sl_unfold_words
    rw [View.readAt_eq_ld, View.readAt_eq_ld, harg2.read_unread, hfd, ld_whole, ld_whole]
    exact read_keyHeads x0 d _ _ _ _ _ _
  iexists _; isplitr; · ipureintro; exact hfd
  iexact HD

set_option maxHeartbeats 1000000 in
/-- The first point: the tile's copy is started and waited for at once. -/
theorem run_first (c1 : k0_cond1 i = 1#1) (c2 : k0_cond2 i = 1#1) (c3 : ¬ (k0_cond3 i = 1#1)) (c4 : k0_cond4 i = 1#1) (W : Waits sig Unit) (K : PUnit → sProp 𝕄) :
    iprop(owns (c : Thread nD τ) arg2 fullShare x0 ∗ owns (c : Thread nD τ) arg3 fullShare x1 ∗ owns (c : Thread nD τ) arg5 fullShare y2 ∗ owns (c : Thread nD τ) arg6 fullShare y3
        ∗ owns (c : Thread nD τ) arg7 fullShare y4 ∗ owns (c : Thread nD τ) narrowM fullShare d ∗ still c V ∗ owes (c : Thread nD τ) 0 W
        ∗ (iprop(owns (c : Thread nD τ) arg2 fullShare x0 ∗ owns (c : Thread nD τ) arg3 fullShare x1 ∗ owns (c : Thread nD τ) arg5 fullShare (keyRows x0 (narrow c V ![2048, 0] inb_S13472x4096_S512x4096_2048_0))
          ∗ owns (c : Thread nD τ) arg6 fullShare (keyHeads x0 (narrow c V ![2048, 0] inb_S13472x4096_S512x4096_2048_0)) ∗ owns (c : Thread nD τ) arg7 fullShare (keySample x1 (narrow c V ![2048, 0] inb_S13472x4096_S512x4096_2048_0))
          ∗ owns (c : Thread nD τ) narrowM fullShare (narrow c V ![2048, 0] inb_S13472x4096_S512x4096_2048_0) ∗ still c V ∗ (∃ W', owes (c : Thread nD τ) 0 W')) -∗ K ⟨⟩))
      ⊢ wp frame (wpE (defs₀ (F := F)) Variants.none c none) Set.univ (body (F := F) i arg2 harg2 arg3 harg3 arg5 harg5 arg6 harg6 arg7 harg7) K := by
  unfold body
  simp only [cc0_proj_k_eq_skeleton]; unfold cc0_proj_k_skel
  simp only [k0_part1_eq_skeleton]; unfold k0_part1_skel
  unfold owns still
  iintro ⟨⟨%f0, %hf0, H0⟩, ⟨%f1, %hf1, H1⟩, ⟨%f2, %hf2, H2⟩, ⟨%f3, %hf3, H3⟩, ⟨%f4, %hf4, H4⟩, ⟨%fd, %hfd, HD⟩, ⟨⟨%f, HS⟩, Hc, HV⟩, HW, Hk⟩
  ihave Hs := (weight_split c V ![2048, 0] inb_S13472x4096_S512x4096_2048_0).1 $$ HV
  icases Hs with ⟨HR, HX⟩
  obtain rfl := harg2.eq_unread hf0
  obtain rfl := harg3.eq_unread hf1
  obtain rfl := harg5.eq_unread hf2
  obtain rfl := harg6.eq_unread hf3
  obtain rfl := harg7.eq_unread hf4
  sl_exec (disch := first | sl_exact c1 | sl_exact c2 | sl_exact c3 | sl_exact c4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [View.readAt_eq_ld arg2.view, harg2.read_unread, ld_whole]
    refine (read_keyRows x0 _ _ _ _ _ _ _ _).trans (congrArg (keyRows x0) ((View.readCov_full _ _ _ _ _).trans (congrArg k0_pay10 (read_landed c _ _))))
  isplitl [H3]
  · iexists _; isplitr; swap; · iexact H3
    ipureintro
    sl_unfold_words
    rw [View.readAt_eq_ld arg2.view, harg2.read_unread, ld_whole]
    refine (read_keyHeads x0 _ _ _ _ _ _ _).trans (congrArg (keyHeads x0) ((View.readCov_full _ _ _ _ _).trans (congrArg k0_pay10 (read_landed c _ _))))
  isplitl [H4]
  · iexists _; isplitr; swap; · iexact H4
    ipureintro
    sl_unfold_words
    rw [View.readAt_eq_ld arg3.view, harg3.read_unread, ld_whole]
    refine (read_keySample x1 _ _ _ _ _ _ _ _).trans (congrArg (keySample x1) ((View.readCov_full _ _ _ _ _).trans (congrArg k0_pay10 (read_landed c _ _))))
  isplitl [HD]
  · iexists _; isplitr; swap; · iexact HD
    ipureintro
    sl_unfold_words
    exact (View.read_writes_full narrowM.view fd _ _ []).trans (congrArg k0_pay10 (read_landed c _ _))
  isplitl [HS HR Hc HX]
  · isplitl [HS]
    · iexists _; iexact HS
    isplitl [Hc]; · iexact Hc
    iapply (weight_split c V ![2048, 0] inb_S13472x4096_S512x4096_2048_0).2
    isplitl [HR]; · iexact HR
    iexact HX
  iexists _; iexact HW

end Runs

end Cert.Kv
end
-- ==== Proof.KvFrame.lean ====
module

public import proofs.«01_k».proof.Proof.KvRun
public import Idealize.ShloMosaic.Lib.Pipeline.ArrRel

@[expose] public section

set_option maxRecDepth 16384

noncomputable section

/-! # The projection to the keys: what every point leaves, and the run -/

namespace Cert.Kv

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch hands over -/

/-- The program up to the region. -/
theorem main_runs (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own semaphore. -/
abbrev ownSem : Fin 1 → SemLoc sig := fun j => (![SemLoc.dma 8] : Fin 1 → SemLoc sig) j
theorem ownSem_facts : Pipeline.OwnSemFacts spec0 ownSem := by decide
theorem cell_eq : cell = SemLoc.dma 8 := by decide

theorem ownSems_eq (c : Dev nD) :
    (Pipeline.ownSems0 (Ix := Unit) (Name := ℕ) (U := Pipeline.UD sig nD τ) (Lvl := ℕ) (Val := Elt F) (τ := τ) ownSem c : sProp 𝕄) = semVal ((c : Thread nD τ), SemLoc.dma 8) 0 := by
  rw [Pipeline.ownSems0_eq_of_list c ownSem [0] (by decide) (by decide)]; rfl

/-- The buffers the body copies from. -/
def copied : Finset (Ref sig .tc) := {main_v1}
theorem copied_sub : copied ⊆ Pipeline.restRefs sig spec0 := by decide
theorem copied_eq (c : Dev nD) : (bigSep copied (fun b => ((c : Thread nD τ).loc b) ↦{fullShare} V m c b) : sProp 𝕄) = weightAt c (V m c main_v1) := by
  rw [BI.bigSep_eq_bigSepL_of_eq [main_v1] (by decide) (by decide)]; rfl

/-- The invariant's pieces at launch: the two scratch buffers, the generator's register, the semaphore at zero and the weight. -/
theorem PhiD_eq (c : Dev nD) : (Pipeline.ΦD ownSem spec0 copied (V m) c : sProp 𝕄)
    = iprop(iprop((∃ d, owns (c : Thread nD τ) tileM fullShare d) ∗ (∃ d, owns (c : Thread nD τ) narrowM fullShare d)) ∗ (∃ r, prngReg c r)
        ∗ semVal ((c : Thread nD τ), SemLoc.dma 8) 0 ∗ weightAt c (V m c main_v1)) := by
  rw [Pipeline.ΦD_eq, scopedRest0_eq, ownSems_eq, copied_eq]
  simp only [tileM, narrowM, owns_whole]
  try rfl

/-- The copy's target is the whole scratch. -/
theorem slot_set : slotM.view.set = Finset.univ := by
  refine (View.set_slice_whole _ _).trans (Finset.eq_univ_iff_forall.mpr fun y => ?_)
  exact View.mem_set_unit_zero (by funext a; fin_cases a <;> rfl) _ y

theorem slotAt_eq (c : Dev nD) (f : Held (F := F) c slotM) : slotAt c f = (((c : Thread nD τ).loc cc0_scratch0) ↦[Finset.univ]{fullShare} f : sProp 𝕄) := by
  unfold slotAt; rw [slot_set]

theorem slot_in (c : Dev nD) : iprop(∃ d, owns (c : Thread nD τ) tileM fullShare d) ⊢ (iprop(∃ f, slotAt c f) : sProp 𝕄) := by
  simp only [tileM, owns_whole, slotAt_eq]
  iintro ⟨%d, H⟩
  iexists d
  iexact H
theorem slot_out (c : Dev nD) : (iprop(∃ f, slotAt c f) : sProp 𝕄) ⊢ iprop(∃ d, owns (c : Thread nD τ) tileM fullShare d) := by
  simp only [tileM, owns_whole, slotAt_eq]
  iintro ⟨%d, H⟩
  iexists d
  iexact H

/-! ## The points -/

/-- The body table's row is the body. -/
theorem defs₀_row (t : Fin cfg0.N) : defs₀ (F := F) .tc cfg0.body (cfg0.bodyArgs t (cfg0.slots t)) = bodyAt0 t := by
  unfold defs₀
  rw [Defs.onTc_tc]

/-- Which of the body's branches a point takes. -/
theorem branches : ∀ t : Fin grid0.N, (k0_cond1 (grid0.coords t) = 1#1 ↔ t.val = 0) ∧ (k0_cond2 (grid0.coords t) = 1#1 ↔ t.val = 0)
    ∧ ¬ (k0_cond3 (grid0.coords t) = 1#1) ∧ (k0_cond4 (grid0.coords t) = 1#1 ↔ t.val = 0) := by decide +kernel

/-- The tile, rounded. -/
def narrowAt (c : Dev nD) : Vec F S512x4096 .bf16 := narrow c (V m c main_v1) ![2048, 0] inb_S13472x4096_S512x4096_2048_0

/-- What holds between points: past the first point, the second scratch holds the tile rounded. -/
def between (c : Dev nD) (k : ℕ) : sProp 𝕄 :=
  iprop(iprop(∃ d, ⌜k ≠ 0 → d = narrowAt m c⌝ ∗ owns (c : Thread nD τ) narrowM fullShare d) ∗ (∃ r, prngReg c r) ∗ still c (V m c main_v1))

/-- The products a point stores. -/
def rowsOut (c : Dev nD) (t : Fin cfg0.N) : Vec F S4096x128 .f32 := keyRows (iblk m c 0 t) (narrowAt m c)
def headsOut (c : Dev nD) (t : Fin cfg0.N) : Vec F S4x1024x128 .bf16 := keyHeads (iblk m c 0 t) (narrowAt m c)
def sampleOut (c : Dev nD) (t : Fin cfg0.N) (Y : Vec F S1024x128 .f32) : Vec F S1024x128 .f32 :=
  if t.val = 0 then keySample (iblk m c 1 t) (narrowAt m c) else Y

/-- What a point leaves in each window's buffer, of what it finds there. -/
def left (c : Dev nD) : (w : Fin cfg0.W) → Fin cfg0.N → (Y X : (cfg0.win w).block.Idx → Elt F (cfg0.win w).elt) → Prop
  | 0 => fun _ Y X => X = Y
  | 1 => fun _ Y X => X = Y
  | 2 => fun t _ X => X = rowsOut m c t
  | 3 => fun t _ X => X = headsOut m c t
  | 4 => fun t Y X => X = sampleOut m c t Y

/-- The proof's data. -/
def rdat (c : Dev nD) : RDat τ (Elt F) Unit ℕ (Pipeline.UD sig nD τ) ℕ cfg0 c where
  A w := V m c (Pipeline.arrRef spec0 w)
  after := left m c
  Φ k := between m c k.val
  q _ := fullShare
  owed _ := 0

/-- A window that is only read holds its block wherever the body finds it. -/
theorem finds_block0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rfl
theorem finds_block1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rfl

set_option maxHeartbeats 1000000 in
/-- One point: it stores the products of its rows with the tile. -/
theorem sound_point (c : Dev nD) (t : Fin cfg0.N) (Y2 : Vec F S4096x128 .f32) (Y3 : Vec F S4x1024x128 .bf16) (Y4 : Vec F S1024x128 .f32) :
    iprop(between m c t.val ∗ (∃ W, owes (c : Thread nD τ) 0 W) ∗ owns (c : Thread nD τ) (st0_0 t) fullShare (iblk m c 0 t) ∗ owns (c : Thread nD τ) (st0_1 t) fullShare (iblk m c 1 t)
        ∗ owns (c : Thread nD τ) (st0_2 t) fullShare Y2 ∗ owns (c : Thread nD τ) (st0_3 t) fullShare Y3 ∗ owns (c : Thread nD τ) (st0_4 t) fullShare Y4)
      ⊢ wp frame (wpE (defs₀ (F := F)) Variants.none c none) Set.univ (bodyAt0 t) fun _ =>
        iprop(between m c (t.val + 1) ∗ (∃ W, owes (c : Thread nD τ) 0 W) ∗ owns (c : Thread nD τ) (st0_0 t) fullShare (iblk m c 0 t) ∗ owns (c : Thread nD τ) (st0_1 t) fullShare (iblk m c 1 t)
        ∗ owns (c : Thread nD τ) (st0_2 t) fullShare (rowsOut m c t) ∗ owns (c : Thread nD τ) (st0_3 t) fullShare (headsOut m c t) ∗ owns (c : Thread nD τ) (st0_4 t) fullShare (sampleOut m c t Y4)) := by
  obtain ⟨h1, h2, h3, h4⟩ := branches t
  unfold between
  by_cases h0 : t.val = 0
  · have eo : sampleOut m c t Y4 = keySample (iblk m c 1 t) (narrowAt m c) := if_pos h0
    rw [eo]
    unfold rowsOut headsOut narrowAt
    iintro ⟨⟨⟨%d, %hd, HD⟩, Hp, HC⟩, ⟨%W, HW⟩, H0, H1, H2, H3, H4⟩
    iapply (run_first (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4))
      (iblk m c 0 t) (iblk m c 1 t) d Y2 Y3 Y4 (V m c main_v1) (h1.2 h0) (h2.2 h0) h3 (h4.2 h0) W _)
    isplitl [H0]; · iexact H0
    isplitl [H1]; · iexact H1
    isplitl [H2]; · iexact H2
    isplitl [H3]; · iexact H3
    isplitl [H4]; · iexact H4
    isplitl [HD]; · iexact HD
    isplitl [HC]; · iexact HC
    isplitl [HW]; · iexact HW
    iintro ⟨H0, H1, H2, H3, H4, HD, HC, HW⟩
    isplitl [HD Hp HC]
    · isplitl [HD]
      · iexists _; isplitr; swap; · iexact HD
        ipureintro; exact fun _ => rfl
      isplitl [Hp]; · iexact Hp
      iexact HC
    isplitl [HW]; · iexact HW
    isplitl [H0]; · iexact H0
    isplitl [H1]; · iexact H1
    isplitl [H2]; · iexact H2
    isplitl [H3]; · iexact H3
    iexact H4
  · have eo : sampleOut m c t Y4 = Y4 := if_neg h0
    rw [eo]
    unfold rowsOut headsOut
    iintro ⟨⟨⟨%d, %hd, HD⟩, Hp, HC⟩, ⟨%W, HW⟩, H0, H1, H2, H3, H4⟩
    obtain rfl := hd h0
    iapply (run_plain (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4))
      (iblk m c 0 t) (narrowAt m c) Y2 Y3 (fun h => h0 (h1.1 h)) (fun h => h0 (h2.1 h)) h3 (fun h => h0 (h4.1 h)) _)
    isplitl [H0]; · iexact H0
    isplitl [H2]; · iexact H2
    isplitl [H3]; · iexact H3
    isplitl [HD]; · iexact HD
    iintro ⟨H0, H2, H3, HD⟩
    isplitl [HD Hp HC]
    · isplitl [HD]
      · iexists _; isplitr; swap; · iexact HD
        ipureintro; exact fun _ => rfl
      isplitl [Hp]; · iexact Hp
      iexact HC
    isplitl [HW]; · iexists _; iexact HW
    isplitl [H0]; · iexact H0
    isplitl [H1]; · iexact H1
    isplitl [H2]; · iexact H2
    isplitl [H3]; · iexact H3
    iexact H4

/-- The waits recorded so far are bounded by nothing. -/
theorem owes_in (c : Dev nD) (k : Fin (cfg0.N + 1)) : (rdat (F := F) m c).owesAt () k ⊢ iprop(∃ W, owes (c : Thread nD τ) 0 W) := by
  unfold RDat.owesAt Pipeline.owesWithin
  iintro ⟨%W, -, H⟩
  iexists W; iexact H
theorem owes_out (c : Dev nD) (k : Fin (cfg0.N + 1)) : iprop(∃ W, owes (c : Thread nD τ) 0 W) ⊢ (rdat (F := F) m c).owesAt () k := by
  unfold RDat.owesAt Pipeline.owesWithin
  iintro ⟨%W, H⟩
  iexists W; isplitr; · ipureintro; exact fun _ _ => Or.inl trivial
  iexact H

/-- The body's obligation at every point. -/
theorem body_obligation (c : Dev nD) : (rdat (F := F) m c).BodyObligation (defs₀ (F := F)) Variants.none () Set.univ := fun t Y hY => by
  rw [bigSep_W0, bigSep_W0, defs₀_row]
  rw [finds_block0 m c t _ (hY 0), finds_block1 m c t _ (hY 1)]
  refine triple_restated (sound_point m c t (Y 2) (Y 3) (Y 4)) rfl ?_ fun _ => ?_
  · iintro ⟨HΦ, Ho, H⟩
    isplitl [HΦ]; · iapply (show (rdat (F := F) m c).Φ t.castSucc ⊢ between m c t.val from .rfl); iexact HΦ
    isplitl [Ho]; · iapply (owes_in m c t.castSucc); iexact Ho
    iexact H
  show _ ⊢ iprop(between m c (t.val + 1) ∗ (rdat (F := F) m c).owesAt () t.succ ∗ _)
  iintro ⟨HΦ, Ho, H0, H1, H2, H3, H4⟩
  isplitl [HΦ]; · iexact HΦ
  isplitl [Ho]; · iapply (owes_out m c t.succ); iexact Ho
  isplitl [H0]; · iexists _; isplitr; swap; · iexact H0
                  ipureintro; exact rfl
  isplitl [H1]; · iexists _; isplitr; swap; · iexact H1
                  ipureintro; exact rfl
  isplitl [H2]; · iexists _; isplitr; swap; · iexact H2
                  ipureintro; exact rfl
  isplitl [H3]; · iexists _; isplitr; swap; · iexact H3
                  ipureintro; exact rfl
  iexists _; isplitr; swap; · iexact H4
  ipureintro; exact rfl

set_option backward.isDefEq.respectTransparency.types false in
/-- The run: every core's arrays hold what the data say, the rest is as the region found it, and no semaphore is up. -/
theorem run : θ_run defs (onTc (τ := τ) (main (F := F))) (s₀ m ρ) (fun r => RDat.FramePost cfg0 (rdat (F := F) m) (V m) r ∧ r.2.sem = fun _ => 0) :=
  RDat.θ_run_frame_dma (Q' := _) cfgs (0 : Fin 1) launch0 ownSem defs₀ Variants.none (rdat m) ownSem_facts copied copied_sub m ρ main
    (hbody := body_obligation m) (hshare := fun _ => RDat.share_full _ fun _ => rfl) (howed := fun _ _ => rfl) (V := V m) (hmain := main_runs m Variants.none) (hA := fun _ _ => rfl)
    (hin := fun c => by
      rw [PhiD_eq]
      show _ ⊢ between m c 0
      unfold between
      unfold still
      iintro ⟨⟨HS, ⟨%d, HD⟩⟩, Hp, Hc, HV⟩
      isplitl [HD]
      · iexists _; isplitr; swap; · iexact HD
        ipureintro
        intro h; exact absurd rfl h
      isplitl [Hp]; · iexact Hp
      isplitl [HS]; · iapply (slot_in c); iexact HS
      isplitl [Hc]; · rw [cell_eq]; iexact Hc
      iexact HV)
    (hout := fun c => by
      rw [PhiD_eq]
      show between m c (Fin.last cfg0.N).val ⊢ _
      unfold between
      unfold still
      iintro ⟨⟨%d, %_, HD⟩, Hp, HS, Hc, HV⟩
      isplitl [HS HD]
      · isplitl [HS]; · iapply (slot_out c); iexact HS
        iexists _; iexact HD
      isplitl [Hp]; · iexact Hp
      isplitl [Hc]; · rw [← cell_eq]; iexact Hc
      iexact HV)

/-- The arguments are untouched. -/
theorem args (c : Dev nD) (r : PUnit.{1} × MemSt nD τ sig (Elt F)) (h : RDat.FramePost cfg0 (rdat (F := F) m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(RDat.FramePost.arr_in h c 0 rfl).trans (V_main_arg0 m c),
    (RDat.FramePost.arr_in h c 1 rfl).trans (V_main_arg1 m c),
    ((h c).2 main_arg2 (Pipeline.mem_restRefs_of main_arg2 (by decide) (by decide))).trans (V_main_arg2 m c)⟩

/-- The arguments are untouched and no semaphore is up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => args m c r h.1, h.2⟩) (run m ρ)

end Cert.Kv

end
-- ==== Proof.KvRef.lean ====
/- The projection of the normalised rows to the keys, as the reference states it, read at an index. -/
module

public import proofs.«01_k».proof.Proof.Gen.Reference4Ideal.Read
public import Idealize.ShloMosaic.Lib.Pipeline.ValueKit

@[expose] public section

set_option maxRecDepth 16384

noncomputable section

namespace Cert.KvRef

open Idealize.ShloMosaic Cert.Reference4Ideal Cert.Reference4Ideal.Read

variable (x0 : FVec Ideal S8192x4096 .bf16) (x1 : FVec Ideal S256x4096 .bf16) (x2 : FVec Ideal S1x4096x13472 .f32)

/-- A row times a column of the weight's slice for the keys. -/
def prompt (r : Fin 8192) (q : Fin 512) : EReal := ∑ k : Fin 4096, x0 (ix2 r k) * x2 (ix3 (0 : Fin 1) k (⟨2048 + q.val, by omega⟩ : Fin 13472))
def sample (r : Fin 256) (q : Fin 512) : EReal := ∑ k : Fin 4096, x1 (ix2 r k) * x2 (ix3 (0 : Fin 1) k (⟨2048 + q.val, by omega⟩ : Fin 13472))

/-- The slice of the product, the prompt's and the sample's. -/
theorem prompt_at (r : Fin 8192) (q : Fin 512) : val_main_v5 (F := Ideal) x0 x2 (ix2 r q) = prompt x0 x2 r q := by
  pointwise [val_main_v5, val_main_v2, val_main_v1, val_main_v0, prompt]
theorem sample_at (r : Fin 256) (q : Fin 512) : val_main_v7 (F := Ideal) x1 x2 (ix2 r q) = sample x1 x2 r q := by
  pointwise [val_main_v7, val_main_v4, val_main_v3, val_main_v0, sample]

/-- Head `g` of a row, the prompt's and the sample's. -/
theorem promptHead_at (r : Fin 8192) (g : Fin 4) (l : Fin 128) : val_main_v6 (F := Ideal) x0 x2 (ix3 r g l) = prompt x0 x2 r (⟨128 * g.val + l.val, by omega⟩ : Fin 512) := by
  rw [val_main_v6_apply, ← prompt_at]
  refine congrArg _ ?_
  funext a
  fin_cases a
  · exact Fin.ext (by show ((r.val * 4 + g.val) * 128 + l.val) / 512 = r.val; omega)
  · exact Fin.ext (by show ((r.val * 4 + g.val) * 128 + l.val) % 512 = 128 * g.val + l.val; omega)
theorem sampleHead_at (r : Fin 256) (g : Fin 4) (l : Fin 128) : val_main_v8 (F := Ideal) x1 x2 (ix3 r g l) = sample x1 x2 r (⟨128 * g.val + l.val, by omega⟩ : Fin 512) := by
  rw [val_main_v8_apply, ← sample_at]
  refine congrArg _ ?_
  funext a
  fin_cases a
  · exact Fin.ext (by show ((r.val * 4 + g.val) * 128 + l.val) / 512 = r.val; omega)
  · exact Fin.ext (by show ((r.val * 4 + g.val) * 128 + l.val) % 512 = 128 * g.val + l.val; omega)

/-- The results: row by row with a row's heads together, head after head, and the sample's row by row. -/
def rows : S32768x128.Idx → EReal := fun p =>
  have h0 : (p 0).val < 32768 := (p 0).isLt
  have h1 : (p 1).val < 128 := (p 1).isLt
  prompt x0 x2 (⟨(p 0).val / 4, by omega⟩ : Fin 8192) (⟨128 * ((p 0).val % 4) + (p 1).val, by omega⟩ : Fin 512)
def heads : S4x8192x128.Idx → EReal := fun p =>
  have h0 : (p 0).val < 4 := (p 0).isLt
  have h2 : (p 2).val < 128 := (p 2).isLt
  prompt x0 x2 (⟨(p 1).val, (p 1).isLt⟩ : Fin 8192) (⟨128 * (p 0).val + (p 2).val, by omega⟩ : Fin 512)
def sampleRows : S1024x128.Idx → EReal := fun p =>
  have h0 : (p 0).val < 1024 := (p 0).isLt
  have h1 : (p 1).val < 128 := (p 1).isLt
  sample x1 x2 (⟨(p 0).val / 4, by omega⟩ : Fin 256) (⟨128 * ((p 0).val % 4) + (p 1).val, by omega⟩ : Fin 512)

theorem rows_eq : val_main_v9 (F := Ideal) x0 x2 = rows x0 x2 := by
  funext p
  have h0 : (p 0).val < 32768 := (p 0).isLt
  have h1 : (p 1).val < 128 := (p 1).isLt
  rw [val_main_v9_apply]
  refine Eq.trans (congrArg _ ?_) (promptHead_at x0 x2 (⟨(p 0).val / 4, by omega⟩ : Fin 8192) (⟨(p 0).val % 4, by omega⟩ : Fin 4) (⟨(p 1).val, h1⟩ : Fin 128))
  funext a
  fin_cases a
  · exact Fin.ext (by show ((p 0).val * 128 + (p 1).val) / 512 = (p 0).val / 4; omega)
  · exact Fin.ext (by show ((p 0).val * 128 + (p 1).val) / 128 % 4 = (p 0).val % 4; omega)
  · exact Fin.ext (by show ((p 0).val * 128 + (p 1).val) % 128 = (p 1).val; omega)

theorem heads_eq : val_main_v11 (F := Ideal) x0 x2 = heads x0 x2 := by
  funext p
  rw [val_main_v11_apply, val_main_v10_apply]
  have e : idx_main_v11 p = ix3 (⟨(p 1).val, (p 1).isLt⟩ : Fin 8192) (⟨(p 0).val, (p 0).isLt⟩ : Fin 4) (⟨(p 2).val, (p 2).isLt⟩ : Fin 128) := by
    funext a; fin_cases a <;> rfl
  rw [e, promptHead_at]
  rfl

theorem sampleRows_eq : val_main_v12 (F := Ideal) x1 x2 = sampleRows x1 x2 := by
  funext p
  have h0 : (p 0).val < 1024 := (p 0).isLt
  have h1 : (p 1).val < 128 := (p 1).isLt
  rw [val_main_v12_apply]
  refine Eq.trans (congrArg _ ?_) (sampleHead_at x1 x2 (⟨(p 0).val / 4, by omega⟩ : Fin 256) (⟨(p 0).val % 4, by omega⟩ : Fin 4) (⟨(p 1).val, h1⟩ : Fin 128))
  funext a
  fin_cases a
  · exact Fin.ext (by show ((p 0).val * 128 + (p 1).val) / 512 = (p 0).val / 4; omega)
  · exact Fin.ext (by show ((p 0).val * 128 + (p 1).val) / 128 % 4 = (p 0).val % 4; omega)
  · exact Fin.ext (by show ((p 0).val * 128 + (p 1).val) % 128 = (p 1).val; omega)

end Cert.KvRef

end
-- ==== Proof.KvValue.lean ====
/- The products that the run of the projection to the keys leaves, read at an index. -/
module

public import proofs.«01_k».proof.Proof.KvFrame
public import proofs.«01_k».proof.Proof.KvRef

@[expose] public section

set_option maxRecDepth 16384

noncomputable section

namespace Cert.KvValue

open Idealize.ShloMosaic Idealize.ShloMosaic.TcCoe Idealize.SL.Sem Cert.Kernel4Ideal Cert.Kernel4Ideal.Gen Cert.Kv
open Idealize.ShloMosaic.Pipeline (RDat)

/-- The block of every window at a grid point. -/
theorem idx : ∀ t : Fin cfg0.N, win0_0.index t = ![t.val, 0] ∧ win0_1.index t = ![0, 0] ∧ win0_2.index t = ![t.val, 0]
    ∧ win0_3.index t = ![0, t.val, 0] ∧ win0_4.index t = ![0, 0] :=
  (by decide +kernel : ∀ t : Fin grid0.N, _)

variable (m : (ℓ : Loc nD τ sig) → Buf (Elt Ideal) ℓ) (c : Dev nD)

/-- The arguments. -/
abbrev X0 : FVec Ideal S8192x4096 .bf16 := m ((c : Thread nD τ).loc main_arg0)
abbrev X1 : FVec Ideal S256x4096 .bf16 := m ((c : Thread nD τ).loc main_arg1)
abbrev X2 : FVec Ideal S1x4096x13472 .f32 := m ((c : Thread nD τ).loc main_arg2)

/-- A product, read at an index. -/
theorem pay11_at (x : FVec Ideal S1024x4096 .bf16) (w : FVec Ideal S512x4096 .bf16) (p : Fin 1024) (q : Fin 512) :
    k0_pay11 (F := Ideal) x w (ix2 p q) = ∑ k : Fin 4096, x (ix2 p k) * w (ix2 q k) := by
  pointwise [k0_pay11]
theorem pay5_at (x : FVec Ideal S256x4096 .bf16) (w : FVec Ideal S512x4096 .bf16) (p : Fin 256) (q : Fin 512) :
    k0_pay5 (F := Ideal) x w (ix2 p q) = ∑ k : Fin 4096, x (ix2 p k) * w (ix2 q k) := by
  pointwise [k0_pay5]
theorem pay10_at (x : FVec Ideal S512x4096 .f32) (q : Fin 512) (k : Fin 4096) : k0_pay10 (F := Ideal) x (ix2 q k) = x (ix2 q k) := by
  pointwise [k0_pay10]

/-- The weight as the region finds it: transposed. -/
theorem weight_at (r : Fin 13472) (k : Fin 4096) : (V m c main_v1 : FVec Ideal S13472x4096 .f32) (ix2 r k) = X2 m c (ix3 (0 : Fin 1) k r) := by
  have e : (V m c main_v1 : FVec Ideal S13472x4096 .f32)
      = transpose S13472x4096 [1, 0] (shapeCast S4096x13472 (X2 m c) shapeCasts_S1x4096x13472_S4096x13472) transposes_S4096x13472_S13472x4096_1_0 := by
    after_results <;> rfl
  rw [e]
  pointwise []

/-- The rounded tile, read at an index. -/
theorem narrowAt_at (q : Fin 512) (k : Fin 4096) :
    narrowAt m c (ix2 q k) = X2 m c (ix3 (0 : Fin 1) k (⟨2048 + q.val, by omega⟩ : Fin 13472)) := by
  unfold narrowAt narrow
  rw [pay10_at, ← weight_at]
  refine congrArg (V m c main_v1 : FVec Ideal S13472x4096 .f32) ?_
  funext a
  fin_cases a
  · exact Fin.ext (by show 2048 + 1 * q.val = 2048 + q.val; omega)
  · exact Fin.ext (by show 0 + 1 * k.val = k.val; omega)

/-- A product of a block of the prompt's rows. -/
theorem prompt_at (t : Fin cfg0.N) (p : Fin 1024) (q : Fin 512) (h : 1024 * t.val + p.val < 8192) :
    k0_pay11 (F := Ideal) (iblk m c 0 t) (narrowAt m c) (ix2 p q) = KvRef.prompt (X0 m c) (X2 m c) ⟨1024 * t.val + p.val, h⟩ q := by
  have ht := lt_of_lt_of_eq t.isLt N_0
  unfold KvRef.prompt
  rw [pay11_at]
  refine Finset.sum_congr rfl fun k _ => ?_
  rw [narrowAt_at m c]
  refine congrArg (· * _) ?_
  blk_point [iblk, V, idx t]

/-- A product of the sample's rows. -/
theorem sample_at (t : Fin cfg0.N) (p : Fin 256) (q : Fin 512) :
    k0_pay5 (F := Ideal) (iblk m c 1 t) (narrowAt m c) (ix2 p q) = KvRef.sample (X1 m c) (X2 m c) p q := by
  unfold KvRef.sample
  rw [pay5_at]
  refine Finset.sum_congr rfl fun k _ => ?_
  rw [narrowAt_at m c]
  refine congrArg (· * _) ?_
  blk_point [iblk, V, idx t]

/-- What the points leave of the sample's rows: the first stores it, the others leave it. -/
theorem left_sample : ∀ (n : ℕ) (t : Fin cfg0.N), t.val = n → ∀ X, (rdat (F := Ideal) m c).Leaves 4 t X →
    X = keySample (iblk m c 1 t) (narrowAt m c)
  | 0, t, h, X, hX => by
    obtain ⟨Y, _, e⟩ := hX
    exact (show X = sampleOut m c t Y from e).trans (if_pos h)
  | n + 1, t, h, X, hX => by
    obtain ⟨Y, hY, e⟩ := hX
    have e' : X = Y := (show X = sampleOut m c t Y from e).trans (if_neg (by omega))
    have ht := lt_of_lt_of_eq t.isLt N_0
    rcases ((rdat (F := Ideal) m c).finds_of_pos ((cfg0.win 4).fetch_out rfl t) (by omega) Y).mp hY with hf | hl
    · have := (flush0_4 _).mp hf
      have e7 : (t.val - 1) % 8 = 7 := this
      omega
    · have := left_sample n ⟨t.val - 1, Nat.lt_of_le_of_lt (Nat.sub_le _ _) t.isLt⟩ (by show t.val - 1 = n; omega) Y hl
      rw [e', this]
      rfl

/-- The prompt's keys row by row are the reference's. -/
theorem final_rows (r : PUnit.{1} × MemSt nD τ sig (Elt Ideal)) (h : RDat.FramePost cfg0 (rdat (F := Ideal) m) (V m) r) :
    r.2.mem ((c : Thread nD τ).loc main_v2_0) = KvRef.rows (X0 m c) (X2 m c) := by
  obtain ⟨after, hl, ha⟩ := RDat.FramePost.exists_exact h c
  refine (ha 2).trans (((rdat (F := Ideal) m c).withAfter after).arrAt_eq_of_covers 2 _ (by decide +kernel) fun t hf y => ?_)
  have ht := lt_of_lt_of_eq t.isLt N_0
  have e : after 2 t = rowsOut m c t := by obtain ⟨Y, _, e⟩ := hl 2 t hf; exact e
  blk_simp
  rw [RDat.withAfter_after, e]
  have y0 : (y 0).val < 4096 := (y 0).isLt
  have y1 : (y 1).val < 128 := (y 1).isLt
  refine (prompt_at m c t (⟨(y 0).val / 4, by omega⟩ : Fin 1024) (⟨128 * ((y 0).val % 4) + (y 1).val, by omega⟩ : Fin 512) (by show 1024 * t.val + (y 0).val / 4 < 8192; omega)).trans ?_
  have ey : (win0_2.blk t).view.emb y = ix2 (⟨4096 * t.val + (y 0).val, by omega⟩ : Fin 32768) (⟨(y 1).val, y1⟩ : Fin 128) := by
    blk_ext [idx t]
  refine Eq.trans ?_ (congrArg (KvRef.rows (X0 m c) (X2 m c)) ey.symm)
  refine congrArg₂ (KvRef.prompt (X0 m c) (X2 m c)) (Fin.ext ?_) (Fin.ext ?_)
  · show 1024 * t.val + (y 0).val / 4 = (4096 * t.val + (y 0).val) / 4; omega
  · show 128 * ((y 0).val % 4) + (y 1).val = 128 * ((4096 * t.val + (y 0).val) % 4) + (y 1).val; omega

/-- The prompt's keys head after head are the reference's. -/
theorem final_heads (r : PUnit.{1} × MemSt nD τ sig (Elt Ideal)) (h : RDat.FramePost cfg0 (rdat (F := Ideal) m) (V m) r) :
    r.2.mem ((c : Thread nD τ).loc main_v2_1) = KvRef.heads (X0 m c) (X2 m c) := by
  obtain ⟨after, hl, ha⟩ := RDat.FramePost.exists_exact h c
  refine (ha 3).trans (((rdat (F := Ideal) m c).withAfter after).arrAt_eq_of_covers 3 _ (by decide +kernel) fun t hf y => ?_)
  have ht := lt_of_lt_of_eq t.isLt N_0
  have e : after 3 t = headsOut m c t := by obtain ⟨Y, _, e⟩ := hl 3 t hf; exact e
  blk_simp
  rw [RDat.withAfter_after, e]
  have y0 : (y 0).val < 4 := (y 0).isLt
  have y1 : (y 1).val < 1024 := (y 1).isLt
  have y2 : (y 2).val < 128 := (y 2).isLt
  refine (prompt_at m c t (⟨(y 1).val, y1⟩ : Fin 1024) (⟨128 * (y 0).val + (y 2).val, by omega⟩ : Fin 512) (by show 1024 * t.val + (y 1).val < 8192; omega)).trans ?_
  have ey : (win0_3.blk t).view.emb y = ix3 (⟨(y 0).val, y0⟩ : Fin 4) (⟨1024 * t.val + (y 1).val, by omega⟩ : Fin 8192) (⟨(y 2).val, y2⟩ : Fin 128) := by
    blk_ext [idx t]
  exact congrArg (KvRef.heads (X0 m c) (X2 m c)) ey.symm

/-- The sample's keys are the reference's. -/
theorem final_sample (r : PUnit.{1} × MemSt nD τ sig (Elt Ideal)) (h : RDat.FramePost cfg0 (rdat (F := Ideal) m) (V m) r) :
    r.2.mem ((c : Thread nD τ).loc main_v2_2) = KvRef.sampleRows (X1 m c) (X2 m c) := by
  obtain ⟨after, hl, ha⟩ := RDat.FramePost.exists_exact h c
  refine (ha 4).trans (((rdat (F := Ideal) m c).withAfter after).arrAt_eq_of_covers 4 _ (by decide +kernel) fun t hf y => ?_)
  have e := left_sample m c _ t rfl (after 4 t) (hl 4 t hf)
  blk_simp
  rw [RDat.withAfter_after, e]
  have y0 : (y 0).val < 1024 := (y 0).isLt
  have y1 : (y 1).val < 128 := (y 1).isLt
  refine (sample_at m c t (⟨(y 0).val / 4, by omega⟩ : Fin 256) (⟨128 * ((y 0).val % 4) + (y 1).val, by omega⟩ : Fin 512)).trans ?_
  have ey : (win0_4.blk t).view.emb y = ix2 (⟨(y 0).val, y0⟩ : Fin 1024) (⟨(y 1).val, y1⟩ : Fin 128) := by
    blk_ext [idx t]
  refine Eq.trans ?_ (congrArg (KvRef.sampleRows (X1 m c) (X2 m c)) ey.symm)
  rfl

end Cert.KvValue

end
-- ==== Proof.KvClaim.lean ====
/- The claims about the projection of the normalised rows to the keys. -/
module

public import proofs.«01_k».proof.Defs
public import proofs.«01_k».proof.Proof.Gen.Kernel4.Launch
public import proofs.«01_k».proof.Proof.Gen.Reference4Ideal.Run
public import proofs.«01_k».proof.Proof.KvValue

@[expose] public section

noncomputable section

namespace Cert.KvClaim

open Idealize.ShloMosaic Idealize.SL.Sem

variable {F : FTy → Type} [FloatOps F]

/-- The program and its ideal reading call one body. -/
theorem defs₀_eq : (Cert.Kernel4.defs₀ (F := F)) = Cert.Kernel4Ideal.defs₀ (F := F) := by
  unfold Cert.Kernel4.defs₀ Cert.Kernel4Ideal.defs₀
  refine congrArg (Defs.onTc (nD := Cert.Kernel4.nD) (τ := Cert.Kernel4.τ) (sig := Cert.Kernel4.sig) (Val := Elt F) (Λ := Cert.Kernel4.Λ₀)) ?_
  funext l a
  obtain ⟨n, hn⟩ := l
  match n, hn with
  | 0, _ => obtain ⟨t, s⟩ := a; rfl
  | n + 1, h => exact absurd h (Nat.not_lt.2 (Nat.le_add_left _ _))

/-- So their body tables are one. -/
theorem defs_eq : (Cert.Kernel4.defs (F := F)) = Cert.Kernel4Ideal.defs (F := F) := by
  unfold Cert.Kernel4.defs Cert.Kernel4Ideal.defs
  rw [defs₀_eq]; rfl

/-- The program leaves its arguments as launched and every semaphore at zero. -/
theorem frame_kernel : Cert.quiescent_Kernel4 := fun m ρ _ => by
  rw [defs_eq]; exact Cert.Kv.frame (F := Bits) m ρ

/-- The same of its ideal reading. -/
theorem frame_ideal : Cert.quiescent_Kernel4Ideal := fun m ρ _ => Cert.Kv.frame (F := Ideal) m ρ

/-- The reference runs and leaves its arguments as launched; it declares no semaphore. -/
theorem frame_reference : Cert.quiescent_Reference4Ideal := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)

/-- Kernel and reference leave the same keys of the prompt, in both layouts, and the same keys of the sample. -/
theorem algebraic : Cert.algebraic_Kernel4Ideal_Reference4Ideal := by
  intro m g m' g' _ hargs
  refine ⟨fun c => Cert.KvRef.rows (Cert.KvValue.X0 m c) (Cert.KvValue.X2 m c), fun c => Cert.KvRef.heads (Cert.KvValue.X0 m c) (Cert.KvValue.X2 m c),
    fun c => Cert.KvRef.sampleRows (Cert.KvValue.X1 m c) (Cert.KvValue.X2 m c), ?_, ?_⟩
  · exact (θ_run Cert.Kernel4Ideal.defs _ _).mono (fun r h c => ⟨Cert.KvValue.final_rows m c r h.1, Cert.KvValue.final_heads m c r h.1, Cert.KvValue.final_sample m c r h.1, Cert.Kv.args m c r h.1⟩)
      (Cert.Kv.run (F := Ideal) m g)
  · refine (θ_run Cert.Reference4Ideal.defs _ _).mono (fun r h c => ⟨(h c).1.trans ?_, (h c).2.1.trans ?_, (h c).2.2.1.trans ?_, (h c).2.2.2⟩) (Cert.Reference4Ideal.Value.run (F := Ideal) m' g')
    · refine (Cert.Reference4Ideal.Read.val_main_v9_eq (F := Ideal) _ _).trans ?_
      obtain ⟨e0, e1, e2⟩ := hargs c
      rw [e0, e2]
      exact Cert.KvRef.rows_eq _ _
    · refine (Cert.Reference4Ideal.Read.val_main_v11_eq (F := Ideal) _ _).trans ?_
      obtain ⟨e0, e1, e2⟩ := hargs c
      rw [e0, e2]
      exact Cert.KvRef.heads_eq _ _
    · refine (Cert.Reference4Ideal.Read.val_main_v12_eq (F := Ideal) _ _).trans ?_
      obtain ⟨e0, e1, e2⟩ := hargs c
      rw [e1, e2]
      exact Cert.KvRef.sampleRows_eq _ _

end Cert.KvClaim

end
-- ==== Proof.QiRun.lean ====
module

public import proofs.«01_k».proof.Proof.Gen.Kernel6Ideal.Launch
public import proofs.«01_k».proof.Proof.Gen.Kernel6Ideal.Points
public import proofs.«01_k».proof.Proof.Gen.Kernel6Ideal.Skeleton
public import proofs.«01_k».proof.Proof.Gen.Kernel6Ideal.Frame
public import proofs.«01_k».proof.Proof.ProjRun
public import proofs.«01_k».proof.Proof.Heads
public import Idealize.ShloMosaic.Lib.Claim
public import Idealize.ShloMosaic.Lib.WritesUnit
public import Idealize.ShloMosaic.Lib.VecWindow
public import Idealize.ShloMosaic.Lib.Pipeline.ValueKit

@[expose] public section

set_option maxRecDepth 16384

noncomputable section

/-! # The projection to the indexer queries: the body's run at each kind of grid point

A grid point takes one block of the prompt's rows against one tile of 512 weight rows. The tile is copied from the
whole weight by the body itself: the copy of the next tile starts at the second block of rows of a tile and is
waited for at the first block of rows of the next. -/

namespace Cert.Qi

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

/-- The scratch a weight tile is copied to. -/
abbrev tileM : Memref sig .tc .vmem S512x4096 .f32 := Memref.whole cc0_scratch0
/-- The scratch that holds the tile rounded. -/
abbrev narrowM : Memref sig .tc .vmem S512x4096 .bf16 := Memref.whole cc0_scratch1
/-- The weight, left in HBM. -/
abbrev weightM : Memref sig .tc .hbm S13472x4096 .f32 := Memref.whole main_v1
/-- The copy's target: the whole of the scratch. -/
abbrev slotM : Memref sig .tc .vmem S512x4096 .f32 :=
  tileM.slice (Rect.unit (s := S512x4096) ![0, 0] S512x4096.size inb_S512x4096_S512x4096_0_0) (fun _ => rfl)
/-- The copy's source: 512 rows of the weight. -/
abbrev rowsM (o : Fin 2 → ℕ) (h : ∀ a, o a + S512x4096.size a ≤ S13472x4096.size a) : Memref sig .tc .hbm S512x4096 .f32 :=
  weightM.slice (Rect.unit (s := S13472x4096) o S512x4096.size h) (fun _ => rfl)
/-- The copy's semaphore. -/
abbrev cellM : DmaSems sig S_ := (cc0_scratch2.slice (Rect.unit (s := S1) ![0] S1.size inb_S1_S1_0)).squeeze S_ squeezes_S1_S_
abbrev cell : SemLoc sig := SemLoc.dma cellM.sem

/-- The contents of a buffer as memref `M` places it on core `c`. -/
abbrev Held (c : Dev nD) {sp : Space} {S : Shape} {e : EltTy} (M : Memref sig .tc sp S e) : Type := Buf (Elt F) (M.view.loc (c : Thread nD τ))

/-- The scratch for the tile, at `f`. -/
abbrev slotAt (c : Dev nD) (f : Held (F := F) c slotM) : sProp 𝕄 := slotM.view.loc (c : Thread nD τ) ↦[slotM.view.set]{fullShare} f
/-- The weight's rows that a copy reads, and the weight without them. -/
abbrev rowsAt (c : Dev nD) (W : Held (F := F) c weightM) (o : Fin 2 → ℕ) (h : ∀ a, o a + S512x4096.size a ≤ S13472x4096.size a) : sProp 𝕄 :=
  (rowsM o h).view.loc (c : Thread nD τ) ↦[(rowsM o h).view.set]{fullShare} W
def restAt (c : Dev nD) (W : Held (F := F) c weightM) (o : Fin 2 → ℕ) (h : ∀ a, o a + S512x4096.size a ≤ S13472x4096.size a) : sProp 𝕄 :=
  ((c : Thread nD τ).loc main_v1) ↦[Finset.univ \ (rowsM o h).view.set]{fullShare} W
/-- The weight whole. -/
abbrev weightAt (c : Dev nD) (W : Held (F := F) c weightM) : sProp 𝕄 := ((c : Thread nD τ).loc main_v1) ↦[Finset.univ]{fullShare} W
/-- The scratch once the rows are copied over `f`. -/
abbrev landed (c : Dev nD) (W : Held (F := F) c weightM) (o : Fin 2 → ℕ) (h : ∀ a, o a + S512x4096.size a ≤ S13472x4096.size a) (f : Held (F := F) c slotM) : Held (F := F) c slotM :=
  slotM.view.writes (Elt F) f [⟨Rect.whole S512x4096, ReadAs.same.apply ((rowsM o h).view.read (Elt F) W)⟩]
/-- A copy under way: it will hand over the scratch filled and give back the rows. -/
abbrev flying (c : Dev nD) (W : Held (F := F) c weightM) (o : Fin 2 → ℕ) (h : ∀ a, o a + S512x4096.size a ≤ S13472x4096.size a) (f : Held (F := F) c slotM) : sProp 𝕄 :=
  Transfers.Flight countersEmb (c : Thread nD τ) cell default (slotM.view.amount cell) iprop(slotAt c (landed c W o h f) ∗ rowsAt c W o h)

theorem weight_split (c : Dev nD) (W : Held (F := F) c weightM) (o : Fin 2 → ℕ) (h : ∀ a, o a + S512x4096.size a ≤ S13472x4096.size a) : weightAt c W ⊣⊢ iprop(rowsAt c W o h ∗ restAt c W o h) := by
  unfold restAt; exact pointsTo_split_subset (Finset.subset_univ _)

/-- No copy under way: the scratch, the semaphore and the whole weight. -/
def still (c : Dev nD) (W : Held (F := F) c weightM) : sProp 𝕄 := iprop((∃ f, slotAt c f) ∗ semVal ((c : Thread nD τ), cell) 0 ∗ weightAt c W)
/-- The copy of the rows at `o` under way. -/
def moving (c : Dev nD) (W : Held (F := F) c weightM) (o : Fin 2 → ℕ) (h : ∀ a, o a + S512x4096.size a ≤ S13472x4096.size a) : sProp 𝕄 := iprop((∃ f, flying c W o h f) ∗ restAt c W o h)

/-- The rows copied, rounded. -/
def narrow (c : Dev nD) (W : Held (F := F) c weightM) (o : Fin 2 → ℕ) (h : ∀ a, o a + S512x4096.size a ≤ S13472x4096.size a) : Vec F S512x4096 .bf16 := k0_pay8 ((rowsM o h).view.read (Elt F) W)

/-- The scratch read after a copy over the whole of it is what was copied. -/
theorem read_landed (c : Dev nD) (f : Held (F := F) c slotM) (x : Vec F S512x4096 .f32) :
    tileM.view.readAt (Elt F) (Rect.unit (s := S512x4096) ![0, 0] S512x4096.size inb_S512x4096_S512x4096_0_0).toLoadRect
      (slotM.view.writes (Elt F) f [⟨Rect.whole S512x4096, x⟩]) = x :=
  View.read_writes_whole slotM.view f x

section Runs

open Cert.ProjU (ld_whole)
open Cert.Heads (slabsOf)

variable (c : Dev nD) (i : grid0.Coords) (arg2 : Memref sig .tc .vmem S2048x4096 .bf16) (harg2 : arg2.IsWhole) (arg3 : Memref sig .tc .vmem S256x4096 .bf16) (harg3 : arg3.IsWhole)
  (arg5 : Memref sig .tc .vmem S4x2048x128 .bf16) (harg5 : arg5.IsWhole) (arg6 : Memref sig .tc .vmem S4x256x128 .f32) (harg6 : arg6.IsWhole)
  (x0 : Vec F S2048x4096 .bf16) (x1 : Vec F S256x4096 .bf16) (d : Vec F S512x4096 .bf16) (y2 : Vec F S4x2048x128 .bf16) (y3 : Vec F S4x256x128 .f32)
  (V : Held (F := F) c weightM)

/-- What a point stores: the scaled products head after head, the prompt's rounded. -/
def queryHeads (x0 : Vec F S2048x4096 .bf16) (d : Vec F S512x4096 .bf16) : Vec F S4x2048x128 .bf16 := fun y => FloatOps.truncf .bf16 bitsLt_bf16_f32 (slabsOf (k0_pay9 x0 d) y)
def querySample (x1 : Vec F S256x4096 .bf16) (d : Vec F S512x4096 .bf16) : Vec F S4x256x128 .f32 := slabsOf (k0_pay3 x1 d)

/-- The stores of a point, read back. -/
theorem read_queryHeads (v : View sig .tc .vmem S4x2048x128 .bf16) (f : v.ty.Contents (Elt F)) (h0) (h1) (h2) (h3) :
    v.read (Elt F) (v.writes (Elt F) f [⟨Rect.unit ![3, 0, 0] S1x2048x128.size h3, k0_pay2 (k0_pay9 x0 d)⟩, ⟨Rect.unit ![2, 0, 0] S1x2048x128.size h2, k0_pay1 (k0_pay12 x0 d)⟩,
      ⟨Rect.unit ![1, 0, 0] S1x2048x128.size h1, k0_pay11 x0 d⟩, ⟨Rect.unit ![0, 0, 0] S1x2048x128.size h0, k0_pay10 x0 d⟩]) = queryHeads x0 d :=
  Cert.Heads.read_slabsOf v f (k0_pay9 x0 d) h0 h1 h2 h3 slices_S2048x512_o0_0_S2048x128 slices_S2048x512_o0_128_S2048x128 slices_S2048x512_o0_256_S2048x128 slices_S2048x512_o0_384_S2048x128 shapeCasts_S2048x128_S1x2048x128 bitsLt_bf16_f32
theorem sample_slices : ∀ g : Fin 4, S256x512.Slices ![0, 128 * g.val] S256x128 := fun g => by
  fin_cases g
  exacts [slices_S256x512_o0_0_S256x128, slices_S256x512_o0_128_S256x128, slices_S256x512_o0_256_S256x128, slices_S256x512_o0_384_S256x128]
theorem read_querySample (v : View sig .tc .vmem S4x256x128 .f32) (f : v.ty.Contents (Elt F)) (h0) (h1) (h2) (h3) :
    v.read (Elt F) (v.writes (Elt F) f [⟨Rect.unit ![3, 0, 0] S1x256x128.size h3, k0_pay7 x1 d⟩, ⟨Rect.unit ![2, 0, 0] S1x256x128.size h2, k0_pay6 x1 d⟩,
      ⟨Rect.unit ![1, 0, 0] S1x256x128.size h1, k0_pay5 x1 d⟩, ⟨Rect.unit ![0, 0, 0] S1x256x128.size h0, k0_pay4 x1 d⟩]) = querySample x1 d :=
  Cert.Heads.read_slabsPlain v f (k0_pay3 x1 d) h0 h1 h2 h3 sample_slices shapeCasts_S256x128_S1x256x128 (![k0_pay4 x1 d, k0_pay5 x1 d, k0_pay6 x1 d, k0_pay7 x1 d]) fun g => by
    fin_cases g <;> rfl

/-- The body on these buffers. -/
abbrev body : Prog (TpuEff nD τ sig (Elt F) Λ₀ .tc) PUnit :=
  cc0_proj_qi i arg2 harg2 arg3 harg3 weightM (Memref.isWhole_whole _) arg5 harg5 arg6 harg6 tileM (Memref.isWhole_whole _) narrowM (Memref.isWhole_whole _) cc0_scratch2

set_option maxHeartbeats 1000000 in
/-- A block of rows against the tile held. -/
theorem run_plain (c1 : ¬ (k0_cond1 i = 1#1)) (c2 : ¬ (k0_cond2 i = 1#1)) (c3 : ¬ (k0_cond3 i = 1#1)) (c4 : ¬ (k0_cond4 i = 1#1)) (K : PUnit → sProp 𝕄) :
    iprop(owns (c : Thread nD τ) arg2 fullShare x0 ∗ owns (c : Thread nD τ) arg5 fullShare y2 ∗ owns (c : Thread nD τ) narrowM fullShare d
        ∗ (iprop(owns (c : Thread nD τ) arg2 fullShare x0 ∗ owns (c : Thread nD τ) arg5 fullShare (queryHeads x0 d) ∗ owns (c : Thread nD τ) narrowM fullShare d) -∗ K ⟨⟩))
      ⊢ wp frame (wpE (defs₀ (F := F)) Variants.none c none) Set.univ (body (F := F) i arg2 harg2 arg3 harg3 arg5 harg5 arg6 harg6) K := by
  unfold body
  simp only [cc0_proj_qi_eq_skeleton]; unfold cc0_proj_qi_skel
  simp only [k0_part1_eq_skeleton]; unfold k0_part1_skel
  unfold owns
  iintro ⟨⟨%f0, %hf0, H0⟩, ⟨%f2, %hf2, H2⟩, ⟨%fd, %hfd, HD⟩, Hk⟩
  obtain rfl := harg2.eq_unread hf0
  obtain rfl := harg5.eq_unread hf2
  sl_exec (disch := first | sl_exact c1 | sl_exact c2 | sl_exact c3 | sl_exact c4)
  sl_step
  iapply Hk
  isplitl [H0]
  · iexists _; isplitr; · ipureintro; exact harg2.read_unread _
    iexact H0
  isplitl [H2]
  · iexists _; isplitr; swap; · iexact H2
    ipureintro
    sl_unfold_words
    rw [View.readAt_eq_ld, View.readAt_eq_ld, harg2.read_unread, hfd, ld_whole, ld_whole]
    exact read_queryHeads x0 d _ _ _ _ _ _
  iexists _; isplitr; · ipureintro; exact hfd
  iexact HD

set_option maxHeartbeats 1000000 in
/-- The second block of rows of a tile, another tile to come: its copy starts. -/
theorem run_start (c1 : ¬ (k0_cond1 i = 1#1)) (c2 : ¬ (k0_cond2 i = 1#1)) (c3 : k0_cond3 i = 1#1) (c4 : ¬ (k0_cond4 i = 1#1)) (W : Waits sig Unit) (K : PUnit → sProp 𝕄) :
    iprop(owns (c : Thread nD τ) arg2 fullShare x0 ∗ owns (c : Thread nD τ) arg5 fullShare y2 ∗ owns (c : Thread nD τ) narrowM fullShare d ∗ still c V ∗ owes (c : Thread nD τ) 0 W
        ∗ (iprop(owns (c : Thread nD τ) arg2 fullShare x0 ∗ owns (c : Thread nD τ) arg5 fullShare (queryHeads x0 d) ∗ owns (c : Thread nD τ) narrowM fullShare d
          ∗ moving c V (k0_off2 i) (k0_off2_inb i c3) ∗ (∃ W', owes (c : Thread nD τ) 0 W')) -∗ K ⟨⟩))
      ⊢ wp frame (wpE (defs₀ (F := F)) Variants.none c none) Set.univ (body (F := F) i arg2 harg2 arg3 harg3 arg5 harg5 arg6 harg6) K := by
  unfold body
  simp only [cc0_proj_qi_eq_skeleton]; unfold cc0_proj_qi_skel
  simp only [k0_part1_eq_skeleton]; unfold k0_part1_skel
  unfold owns still
  iintro ⟨⟨%f0, %hf0, H0⟩, ⟨%f2, %hf2, H2⟩, ⟨%fd, %hfd, HD⟩, ⟨⟨%f, HS⟩, Hc, HV⟩, HW, Hk⟩
  ihave Hs := (weight_split c V (k0_off2 i) (k0_off2_inb i c3)).1 $$ HV
  icases Hs with ⟨HR, HX⟩
  obtain rfl := harg2.eq_unread hf0
  obtain rfl := harg5.eq_unread hf2
  sl_exec (disch := first | sl_exact c1 | sl_exact c2 | sl_exact c3 | sl_exact c4)
  sl_step
  iapply Hk
  isplitl [H0]
  · iexists _; isplitr; · ipureintro; exact harg2.read_unread _
    iexact H0
  isplitl [H2]
  · iexists _; isplitr; swap; · iexact H2
    ipureintro
    sl_unfold_words
    rw [View.readAt_eq_ld, View.readAt_eq_ld, harg2.read_unread, hfd, ld_whole, ld_whole]
    exact read_queryHeads x0 d _ _ _ _ _ _
  isplitl [HD]
  · iexists _; isplitr; · ipureintro; exact hfd
    iexact HD
  isplitl [Hc HX]
  · unfold moving
    isplitl [Hc]
    · iexists _; iexact Hc
    iexact HX
  iexists _; iexact HW

set_option maxHeartbeats 1000000 in
/-- The first block of rows of a tile whose copy is under way: the copy is waited for, the tile rounded, and both products stored. -/
theorem run_land (c1 : ¬ (k0_cond1 i = 1#1)) (c2 : k0_cond2 i = 1#1) (c3 : ¬ (k0_cond3 i = 1#1)) (c4 : k0_cond4 i = 1#1) (W : Waits sig Unit) (K : PUnit → sProp 𝕄) :
    iprop(owns (c : Thread nD τ) arg2 fullShare x0 ∗ owns (c : Thread nD τ) arg3 fullShare x1 ∗ owns (c : Thread nD τ) arg5 fullShare y2 ∗ owns (c : Thread nD τ) arg6 fullShare y3
        ∗ owns (c : Thread nD τ) narrowM fullShare d ∗ moving c V (k0_off1 i) (k0_off1_inb i c2) ∗ owes (c : Thread nD τ) 0 W
        ∗ (iprop(owns (c : Thread nD τ) arg2 fullShare x0 ∗ owns (c : Thread nD τ) arg3 fullShare x1 ∗ owns (c : Thread nD τ) arg5 fullShare (queryHeads x0 (narrow c V (k0_off1 i) (k0_off1_inb i c2)))
          ∗ owns (c : Thread nD τ) arg6 fullShare (querySample x1 (narrow c V (k0_off1 i) (k0_off1_inb i c2)))
          ∗ owns (c : Thread nD τ) narrowM fullShare (narrow c V (k0_off1 i) (k0_off1_inb i c2)) ∗ still c V ∗ (∃ W', owes (c : Thread nD τ) 0 W')) -∗ K ⟨⟩))
      ⊢ wp frame (wpE (defs₀ (F := F)) Variants.none c none) Set.univ (body (F := F) i arg2 harg2 arg3 harg3 arg5 harg5 arg6 harg6) K := by
  unfold body
  simp only [cc0_proj_qi_eq_skeleton]; unfold cc0_proj_qi_skel
  simp only [k0_part1_eq_skeleton]; unfold k0_part1_skel
  unfold owns moving
  iintro ⟨⟨%f0, %hf0, H0⟩, ⟨%f1, %hf1, H1⟩, ⟨%f2, %hf2, H2⟩, ⟨%f3, %hf3, H3⟩, ⟨%fd, %hfd, HD⟩, ⟨⟨%f, Hf⟩, HX⟩, HW, Hk⟩
  obtain rfl := harg2.eq_unread hf0
  obtain rfl := harg3.eq_unread hf1
  obtain rfl := harg5.eq_unread hf2
  obtain rfl := harg6.eq_unread hf3
  sl_exec (disch := first | sl_exact c1 | sl_exact c2 | sl_exact c3 | sl_exact c4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [View.readAt_eq_ld arg2.view, harg2.read_unread, ld_whole]
    refine (read_queryHeads x0 _ _ _ _ _ _ _).trans (congrArg (queryHeads x0) ((View.readCov_full _ _ _ _ _).trans (congrArg k0_pay8 (read_landed c _ _))))
  isplitl [H3]
  · iexists _; isplitr; swap; · iexact H3
    ipureintro
    sl_unfold_words
    rw [View.readAt_eq_ld arg3.view, harg3.read_unread, ld_whole]
    refine (read_querySample x1 _ _ _ _ _ _ _).trans (congrArg (querySample x1) ((View.readCov_full _ _ _ _ _).trans (congrArg k0_pay8 (read_landed c _ _))))
  isplitl [HD]
  · iexists _; isplitr; swap; · iexact HD
    ipureintro
    sl_unfold_words
    exact (View.read_writes_full narrowM.view fd _ _ []).trans (congrArg k0_pay8 (read_landed c _ _))
  isplitl [Hf_dst Hf_src Hf HX]
  · unfold still
    isplitl [Hf_dst]
    · iexists _; iexact Hf_dst
    isplitl [Hf]; · iexact Hf
    iapply (weight_split c V (k0_off1 i) (k0_off1_inb i c2)).2
    isplitl [Hf_src]; · iexact Hf_src
    iexact HX
  iexists _; iexact HW

set_option maxHeartbeats 1000000 in
/-- The first point: the first tile's copy is started and waited for at once. -/
theorem run_first (c1 : k0_cond1 i = 1#1) (c2 : k0_cond2 i = 1#1) (c3 : ¬ (k0_cond3 i = 1#1)) (c4 : k0_cond4 i = 1#1) (W : Waits sig Unit) (K : PUnit → sProp 𝕄) :
    iprop(owns (c : Thread nD τ) arg2 fullShare x0 ∗ owns (c : Thread nD τ) arg3 fullShare x1 ∗ owns (c : Thread nD τ) arg5 fullShare y2 ∗ owns (c : Thread nD τ) arg6 fullShare y3
        ∗ owns (c : Thread nD τ) narrowM fullShare d ∗ still c V ∗ owes (c : Thread nD τ) 0 W
        ∗ (iprop(owns (c : Thread nD τ) arg2 fullShare x0 ∗ owns (c : Thread nD τ) arg3 fullShare x1 ∗ owns (c : Thread nD τ) arg5 fullShare (queryHeads x0 (narrow c V ![5120, 0] inb_S13472x4096_S512x4096_5120_0))
          ∗ owns (c : Thread nD τ) arg6 fullShare (querySample x1 (narrow c V ![5120, 0] inb_S13472x4096_S512x4096_5120_0))
          ∗ owns (c : Thread nD τ) narrowM fullShare (narrow c V ![5120, 0] inb_S13472x4096_S512x4096_5120_0) ∗ still c V ∗ (∃ W', owes (c : Thread nD τ) 0 W')) -∗ K ⟨⟩))
      ⊢ wp frame (wpE (defs₀ (F := F)) Variants.none c none) Set.univ (body (F := F) i arg2 harg2 arg3 harg3 arg5 harg5 arg6 harg6) K := by
  unfold body
  simp only [cc0_proj_qi_eq_skeleton]; unfold cc0_proj_qi_skel
  simp only [k0_part1_eq_skeleton]; unfold k0_part1_skel
  unfold owns still
  iintro ⟨⟨%f0, %hf0, H0⟩, ⟨%f1, %hf1, H1⟩, ⟨%f2, %hf2, H2⟩, ⟨%f3, %hf3, H3⟩, ⟨%fd, %hfd, HD⟩, ⟨⟨%f, HS⟩, Hc, HV⟩, HW, Hk⟩
  ihave Hs := (weight_split c V ![5120, 0] inb_S13472x4096_S512x4096_5120_0).1 $$ HV
  icases Hs with ⟨HR, HX⟩
  obtain rfl := harg2.eq_unread hf0
  obtain rfl := harg3.eq_unread hf1
  obtain rfl := harg5.eq_unread hf2
  obtain rfl := harg6.eq_unread hf3
  sl_exec (disch := first | sl_exact c1 | sl_exact c2 | sl_exact c3 | sl_exact c4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [View.readAt_eq_ld arg2.view, harg2.read_unread, ld_whole]
    refine (read_queryHeads x0 _ _ _ _ _ _ _).trans (congrArg (queryHeads x0) ((View.readCov_full _ _ _ _ _).trans (congrArg k0_pay8 (read_landed c _ _))))
  isplitl [H3]
  · iexists _; isplitr; swap; · iexact H3
    ipureintro
    sl_unfold_words
    rw [View.readAt_eq_ld arg3.view, harg3.read_unread, ld_whole]
    refine (read_querySample x1 _ _ _ _ _ _ _).trans (congrArg (querySample x1) ((View.readCov_full _ _ _ _ _).trans (congrArg k0_pay8 (read_landed c _ _))))
  isplitl [HD]
  · iexists _; isplitr; swap; · iexact HD
    ipureintro
    sl_unfold_words
    exact (View.read_writes_full narrowM.view fd _ _ []).trans (congrArg k0_pay8 (read_landed c _ _))
  isplitl [HS HR Hc HX]
  · isplitl [HS]
    · iexists _; iexact HS
    isplitl [Hc]; · iexact Hc
    iapply (weight_split c V ![5120, 0] inb_S13472x4096_S512x4096_5120_0).2
    isplitl [HR]; · iexact HR
    iexact HX
  iexists _; iexact HW

end Runs

end Cert.Qi
end
-- ==== Proof.QiFrame.lean ====
module

public import proofs.«01_k».proof.Proof.QiRun
public import Idealize.ShloMosaic.Lib.Pipeline.ArrRel

@[expose] public section

set_option maxRecDepth 16384

noncomputable section

/-! # The projection to the indexer queries: what every point leaves, and the run -/

namespace Cert.Qi

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch hands over -/

/-- The program up to the region. -/
theorem main_runs (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own semaphore. -/
abbrev ownSem : Fin 1 → SemLoc sig := fun j => (![SemLoc.dma 7] : Fin 1 → SemLoc sig) j
theorem ownSem_facts : Pipeline.OwnSemFacts spec0 ownSem := by decide
theorem cell_eq : cell = SemLoc.dma 7 := by decide

theorem ownSems_eq (c : Dev nD) :
    (Pipeline.ownSems0 (Ix := Unit) (Name := ℕ) (U := Pipeline.UD sig nD τ) (Lvl := ℕ) (Val := Elt F) (τ := τ) ownSem c : sProp 𝕄) = semVal ((c : Thread nD τ), SemLoc.dma 7) 0 := by
  rw [Pipeline.ownSems0_eq_of_list c ownSem [0] (by decide) (by decide)]; rfl

/-- The buffers the body copies from. -/
def copied : Finset (Ref sig .tc) := {main_v1}
theorem copied_sub : copied ⊆ Pipeline.restRefs sig spec0 := by decide
theorem copied_eq (c : Dev nD) : (bigSep copied (fun b => ((c : Thread nD τ).loc b) ↦{fullShare} V m c b) : sProp 𝕄) = weightAt c (V m c main_v1) := by
  rw [BI.bigSep_eq_bigSepL_of_eq [main_v1] (by decide) (by decide)]; rfl

/-- The invariant's pieces at launch: the two scratch buffers, the generator's register, the semaphore at zero and the weight. -/
theorem PhiD_eq (c : Dev nD) : (Pipeline.ΦD ownSem spec0 copied (V m) c : sProp 𝕄)
    = iprop(iprop((∃ d, owns (c : Thread nD τ) tileM fullShare d) ∗ (∃ d, owns (c : Thread nD τ) narrowM fullShare d)) ∗ (∃ r, prngReg c r)
        ∗ semVal ((c : Thread nD τ), SemLoc.dma 7) 0 ∗ weightAt c (V m c main_v1)) := by
  rw [Pipeline.ΦD_eq, scopedRest0_eq, ownSems_eq, copied_eq]
  simp only [tileM, narrowM, owns_whole]
  try rfl

/-- The copy's target is the whole scratch. -/
theorem slot_set : slotM.view.set = Finset.univ := by
  refine (View.set_slice_whole _ _).trans (Finset.eq_univ_iff_forall.mpr fun y => ?_)
  exact View.mem_set_unit_zero (by funext a; fin_cases a <;> rfl) _ y

theorem slotAt_eq (c : Dev nD) (f : Held (F := F) c slotM) : slotAt c f = (((c : Thread nD τ).loc cc0_scratch0) ↦[Finset.univ]{fullShare} f : sProp 𝕄) := by
  unfold slotAt; rw [slot_set]

theorem slot_in (c : Dev nD) : iprop(∃ d, owns (c : Thread nD τ) tileM fullShare d) ⊢ (iprop(∃ f, slotAt c f) : sProp 𝕄) := by
  simp only [tileM, owns_whole, slotAt_eq]
  iintro ⟨%d, H⟩
  iexists d
  iexact H
theorem slot_out (c : Dev nD) : (iprop(∃ f, slotAt c f) : sProp 𝕄) ⊢ iprop(∃ d, owns (c : Thread nD τ) tileM fullShare d) := by
  simp only [tileM, owns_whole, slotAt_eq]
  iintro ⟨%d, H⟩
  iexists d
  iexact H

/-! ## The points -/

/-- The body table's row is the body. -/
theorem defs₀_row (t : Fin cfg0.N) : defs₀ (F := F) .tc cfg0.body (cfg0.bodyArgs t (cfg0.slots t)) = bodyAt0 t := by
  unfold defs₀
  rw [Defs.onTc_tc]

/-- Where tile `b` lies in the weight. -/
def off (b : ℕ) : Fin 2 → ℕ := ![512 * (b % 8) + 5120, 0]
theorem off_inb (b : ℕ) : ∀ a, off b a + S512x4096.size a ≤ S13472x4096.size a := by
  have : b % 8 < 8 := Nat.mod_lt _ (by decide)
  intro a
  fin_cases a
  · show 512 * (b % 8) + 5120 + 512 ≤ 13472; omega
  · show 0 + 4096 ≤ 4096; omega

theorem moving_congr (c : Dev nD) (W : Held (F := F) c weightM) {o o' : Fin 2 → ℕ} (e : o = o') (h : ∀ a, o a + S512x4096.size a ≤ S13472x4096.size a) (h' : ∀ a, o' a + S512x4096.size a ≤ S13472x4096.size a) : moving c W o h = moving c W o' h' := by subst e; rfl
theorem narrow_congr (c : Dev nD) (W : Held (F := F) c weightM) {o o' : Fin 2 → ℕ} (e : o = o') (h : ∀ a, o a + S512x4096.size a ≤ S13472x4096.size a) (h' : ∀ a, o' a + S512x4096.size a ≤ S13472x4096.size a) : narrow c W o h = narrow c W o' h' := by subst e; rfl

/-- Which of the body's branches a point takes, and where its copies read. -/
theorem branches : ∀ t : Fin grid0.N, (k0_cond1 (grid0.coords t) = 1#1 ↔ t.val = 0) ∧ (k0_cond2 (grid0.coords t) = 1#1 ↔ t.val % 4 = 0)
    ∧ (k0_cond3 (grid0.coords t) = 1#1 ↔ t.val % 4 = 1 ∧ t.val < 28) ∧ (k0_cond4 (grid0.coords t) = 1#1 ↔ t.val % 4 = 0)
    ∧ k0_off1 (grid0.coords t) = off (t.val / 4) ∧ k0_off2 (grid0.coords t) = ![512 * (t.val / 4 + 1) + 5120, 0] := by decide +kernel

/-- Tile `b`, rounded. -/
def narrowAt (c : Dev nD) (b : ℕ) : Vec F S512x4096 .bf16 := narrow c (V m c main_v1) (off b) (off_inb b)

/-- The copy between points: from the second block of rows of a tile to the last, the next tile's is under way. -/
def copyAt (c : Dev nD) (k : ℕ) : sProp 𝕄 :=
  if k % 4 ≠ 1 ∧ 2 ≤ k ∧ k < 30 then moving c (V m c main_v1) (off ((k + 2) / 4)) (off_inb _) else still c (V m c main_v1)

/-- What holds between points: past a tile's first block of rows, the second scratch holds the tile rounded. -/
def between (c : Dev nD) (k : ℕ) : sProp 𝕄 :=
  iprop(iprop(∃ d, ⌜k % 4 ≠ 0 → d = narrowAt m c (k / 4)⌝ ∗ owns (c : Thread nD τ) narrowM fullShare d) ∗ (∃ r, prngReg c r) ∗ copyAt m c k)

/-- The products a point stores. -/
def rowsOut (c : Dev nD) (t : Fin cfg0.N) : Vec F S4x2048x128 .bf16 := queryHeads (iblk m c 0 t) (narrowAt m c (t.val / 4))
def sampleOut (c : Dev nD) (t : Fin cfg0.N) (Y : Vec F S4x256x128 .f32) : Vec F S4x256x128 .f32 :=
  if t.val % 4 = 0 then querySample (iblk m c 1 t) (narrowAt m c (t.val / 4)) else Y

/-- What a point leaves in each window's buffer, of what it finds there. -/
def left (c : Dev nD) : (w : Fin cfg0.W) → Fin cfg0.N → (Y X : (cfg0.win w).block.Idx → Elt F (cfg0.win w).elt) → Prop
  | 0 => fun _ Y X => X = Y
  | 1 => fun _ Y X => X = Y
  | 2 => fun t _ X => X = rowsOut m c t
  | 3 => fun t Y X => X = sampleOut m c t Y

/-- The proof's data. -/
def rdat (c : Dev nD) : RDat τ (Elt F) Unit ℕ (Pipeline.UD sig nD τ) ℕ cfg0 c where
  A w := V m c (Pipeline.arrRef spec0 w)
  after := left m c
  Φ k := between m c k.val
  q _ := fullShare
  owed _ := 0

/-- A window that is only read holds its block wherever the body finds it. -/
theorem finds_block0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rfl
theorem finds_block1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rfl

set_option maxHeartbeats 1000000 in
/-- One point: it stores the products of its rows with its tile, and moves the copies on. -/
theorem sound_point (c : Dev nD) (t : Fin cfg0.N) (Y2 : Vec F S4x2048x128 .bf16) (Y3 : Vec F S4x256x128 .f32) :
    iprop(between m c t.val ∗ (∃ W, owes (c : Thread nD τ) 0 W) ∗ owns (c : Thread nD τ) (st0_0 t) fullShare (iblk m c 0 t) ∗ owns (c : Thread nD τ) (st0_1 t) fullShare (iblk m c 1 t)
        ∗ owns (c : Thread nD τ) (st0_2 t) fullShare Y2 ∗ owns (c : Thread nD τ) (st0_3 t) fullShare Y3)
      ⊢ wp frame (wpE (defs₀ (F := F)) Variants.none c none) Set.univ (bodyAt0 t) fun _ =>
        iprop(between m c (t.val + 1) ∗ (∃ W, owes (c : Thread nD τ) 0 W) ∗ owns (c : Thread nD τ) (st0_0 t) fullShare (iblk m c 0 t) ∗ owns (c : Thread nD τ) (st0_1 t) fullShare (iblk m c 1 t)
        ∗ owns (c : Thread nD τ) (st0_2 t) fullShare (rowsOut m c t) ∗ owns (c : Thread nD τ) (st0_3 t) fullShare (sampleOut m c t Y3)) := by
  obtain ⟨h1, h2, h3, h4, o1, o2⟩ := branches t
  have hN : t.val < 32 := lt_of_lt_of_eq t.isLt N_0
  unfold between
  by_cases hi : t.val % 4 = 0
  · have eo : sampleOut m c t Y3 = querySample (iblk m c 1 t) (narrowAt m c (t.val / 4)) := if_pos hi
    have en : copyAt m c (t.val + 1) = still c (V m c main_v1) := if_neg (by omega)
    have ed : (t.val + 1) / 4 = t.val / 4 := by omega
    rw [eo, en, ed]
    unfold rowsOut narrowAt
    by_cases h0 : t.val = 0
    · have ec : copyAt m c t.val = still c (V m c main_v1) := if_neg (by omega)
      have e0 : (![5120, 0] : Fin 2 → ℕ) = off (t.val / 4) := by rw [h0]; rfl
      rw [ec, ← narrow_congr c (V m c main_v1) e0 inb_S13472x4096_S512x4096_5120_0 (off_inb (t.val / 4))]
      iintro ⟨⟨⟨%d, %hd, HD⟩, Hp, HC⟩, ⟨%W, HW⟩, H0, H1, H2, H3⟩
      iapply (run_first (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (iblk m c 1 t) d Y2 Y3 (V m c main_v1) (h1.2 h0) (h2.2 hi) (fun h => by have := h3.1 h; omega) (h4.2 hi) W _)
      isplitl [H0]; · iexact H0
      isplitl [H1]; · iexact H1
      isplitl [H2]; · iexact H2
      isplitl [H3]; · iexact H3
      isplitl [HD]; · iexact HD
      isplitl [HC]; · iexact HC
      isplitl [HW]; · iexact HW
      iintro ⟨H0, H1, H2, H3, HD, HC, HW⟩
      isplitl [HD Hp HC]
      · isplitl [HD]
        · iexists _; isplitr; swap; · iexact HD
          ipureintro; exact fun _ => rfl
        isplitl [Hp]; · iexact Hp
        iexact HC
      isplitl [HW]; · iexact HW
      isplitl [H0]; · iexact H0
      isplitl [H1]; · iexact H1
      isplitl [H2]; · iexact H2
      iexact H3
    · have ec : copyAt m c t.val = moving c (V m c main_v1) (off ((t.val + 2) / 4)) (off_inb _) := if_pos (by omega)
      have e6 : (t.val + 2) / 4 = t.val / 4 := by omega
      rw [ec, e6, ← narrow_congr c (V m c main_v1) o1 (k0_off1_inb _ (h2.2 hi)) (off_inb (t.val / 4)), ← moving_congr c (V m c main_v1) o1 (k0_off1_inb _ (h2.2 hi)) (off_inb (t.val / 4))]
      iintro ⟨⟨⟨%d, %hd, HD⟩, Hp, HC⟩, ⟨%W, HW⟩, H0, H1, H2, H3⟩
      iapply (run_land (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (iblk m c 1 t) d Y2 Y3 (V m c main_v1) (fun h => h0 (h1.1 h)) (h2.2 hi) (fun h => by have := h3.1 h; omega) (h4.2 hi) W _)
      isplitl [H0]; · iexact H0
      isplitl [H1]; · iexact H1
      isplitl [H2]; · iexact H2
      isplitl [H3]; · iexact H3
      isplitl [HD]; · iexact HD
      isplitl [HC]; · iexact HC
      isplitl [HW]; · iexact HW
      iintro ⟨H0, H1, H2, H3, HD, HC, HW⟩
      isplitl [HD Hp HC]
      · isplitl [HD]
        · iexists _; isplitr; swap; · iexact HD
          ipureintro; exact fun _ => rfl
        isplitl [Hp]; · iexact Hp
        iexact HC
      isplitl [HW]; · iexact HW
      isplitl [H0]; · iexact H0
      isplitl [H1]; · iexact H1
      isplitl [H2]; · iexact H2
      iexact H3
  · have eo : sampleOut m c t Y3 = Y3 := if_neg hi
    have keep : (t.val + 1) % 4 ≠ 0 → narrowAt m c (t.val / 4) = narrowAt m c ((t.val + 1) / 4) := fun h => by
      have e : (t.val + 1) / 4 = t.val / 4 := by omega
      rw [e]
    rw [eo]
    unfold rowsOut
    by_cases hs : t.val % 4 = 1 ∧ t.val < 28
    · have ec : copyAt m c t.val = still c (V m c main_v1) := if_neg (by omega)
      have en : copyAt m c (t.val + 1) = moving c (V m c main_v1) (off ((t.val + 1 + 2) / 4)) (off_inb _) := if_pos (by omega)
      have e2 : k0_off2 (grid0.coords t) = off ((t.val + 1 + 2) / 4) := by
        rw [o2]; unfold off
        have e : (t.val + 1 + 2) / 4 % 8 = t.val / 4 + 1 := by omega
        rw [e]
      rw [ec, en, ← moving_congr c (V m c main_v1) e2 (k0_off2_inb _ (h3.2 hs)) (off_inb _)]
      iintro ⟨⟨⟨%d, %hd, HD⟩, Hp, HC⟩, ⟨%W, HW⟩, H0, H1, H2, H3⟩
      obtain rfl := hd hi
      iapply (run_start (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (narrowAt m c (t.val / 4)) Y2 (V m c main_v1) (fun h => by have := h1.1 h; omega) (fun h => hi (h2.1 h)) (h3.2 hs) (fun h => hi (h4.1 h)) W _)
      isplitl [H0]; · iexact H0
      isplitl [H2]; · iexact H2
      isplitl [HD]; · iexact HD
      isplitl [HC]; · iexact HC
      isplitl [HW]; · iexact HW
      iintro ⟨H0, H2, HD, HC, HW⟩
      isplitl [HD Hp HC]
      · isplitl [HD]
        · iexists _; isplitr; swap; · iexact HD
          ipureintro; exact keep
        isplitl [Hp]; · iexact Hp
        iexact HC
      isplitl [HW]; · iexact HW
      isplitl [H0]; · iexact H0
      isplitl [H1]; · iexact H1
      isplitl [H2]; · iexact H2
      iexact H3
    · have ec : copyAt m c (t.val + 1) = copyAt m c t.val := by
        unfold copyAt
        by_cases hk : t.val % 4 ≠ 1 ∧ 2 ≤ t.val ∧ t.val < 30
        · by_cases hk' : t.val + 1 < 30
          · have e : (t.val + 1 + 2) / 4 = (t.val + 2) / 4 := by omega
            rw [if_pos hk, if_pos (by omega)]
            exact moving_congr c _ (congrArg off e) _ _
          · omega
        · rw [if_neg hk, if_neg (by omega)]
      rw [ec]
      iintro ⟨⟨⟨%d, %hd, HD⟩, Hp, HC⟩, ⟨%W, HW⟩, H0, H1, H2, H3⟩
      obtain rfl := hd hi
      iapply (run_plain (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (narrowAt m c (t.val / 4)) Y2 (fun h => by have := h1.1 h; omega) (fun h => hi (h2.1 h)) (fun h => hs (h3.1 h)) (fun h => hi (h4.1 h)) _)
      isplitl [H0]; · iexact H0
      isplitl [H2]; · iexact H2
      isplitl [HD]; · iexact HD
      iintro ⟨H0, H2, HD⟩
      isplitl [HD Hp HC]
      · isplitl [HD]
        · iexists _; isplitr; swap; · iexact HD
          ipureintro; exact keep
        isplitl [Hp]; · iexact Hp
        iexact HC
      isplitl [HW]; · iexists _; iexact HW
      isplitl [H0]; · iexact H0
      isplitl [H1]; · iexact H1
      isplitl [H2]; · iexact H2
      iexact H3

/-- The waits recorded so far are bounded by nothing. -/
theorem owes_in (c : Dev nD) (k : Fin (cfg0.N + 1)) : (rdat (F := F) m c).owesAt () k ⊢ iprop(∃ W, owes (c : Thread nD τ) 0 W) := by
  unfold RDat.owesAt Pipeline.owesWithin
  iintro ⟨%W, -, H⟩
  iexists W; iexact H
theorem owes_out (c : Dev nD) (k : Fin (cfg0.N + 1)) : iprop(∃ W, owes (c : Thread nD τ) 0 W) ⊢ (rdat (F := F) m c).owesAt () k := by
  unfold RDat.owesAt Pipeline.owesWithin
  iintro ⟨%W, H⟩
  iexists W; isplitr; · ipureintro; exact fun _ _ => Or.inl trivial
  iexact H

/-- The body's obligation at every point. -/
theorem body_obligation (c : Dev nD) : (rdat (F := F) m c).BodyObligation (defs₀ (F := F)) Variants.none () Set.univ := fun t Y hY => by
  rw [bigSep_W0, bigSep_W0, defs₀_row]
  rw [finds_block0 m c t _ (hY 0), finds_block1 m c t _ (hY 1)]
  refine triple_restated (sound_point m c t (Y 2) (Y 3)) rfl ?_ fun _ => ?_
  · iintro ⟨HΦ, Ho, H⟩
    isplitl [HΦ]; · iapply (show (rdat (F := F) m c).Φ t.castSucc ⊢ between m c t.val from .rfl); iexact HΦ
    isplitl [Ho]; · iapply (owes_in m c t.castSucc); iexact Ho
    iexact H
  show _ ⊢ iprop(between m c (t.val + 1) ∗ (rdat (F := F) m c).owesAt () t.succ ∗ _)
  iintro ⟨HΦ, Ho, H0, H1, H2, H3⟩
  isplitl [HΦ]; · iexact HΦ
  isplitl [Ho]; · iapply (owes_out m c t.succ); iexact Ho
  isplitl [H0]; · iexists _; isplitr; swap; · iexact H0
                  ipureintro; exact rfl
  isplitl [H1]; · iexists _; isplitr; swap; · iexact H1
                  ipureintro; exact rfl
  isplitl [H2]; · iexists _; isplitr; swap; · iexact H2
                  ipureintro; exact rfl
  iexists _; isplitr; swap; · iexact H3
  ipureintro; exact rfl

set_option backward.isDefEq.respectTransparency.types false in
/-- The run: every core's arrays hold what the data say, the rest is as the region found it, and no semaphore is up. -/
theorem run : θ_run defs (onTc (τ := τ) (main (F := F))) (s₀ m ρ) (fun r => RDat.FramePost cfg0 (rdat (F := F) m) (V m) r ∧ r.2.sem = fun _ => 0) :=
  RDat.θ_run_frame_dma (Q' := _) cfgs (0 : Fin 1) launch0 ownSem defs₀ Variants.none (rdat m) ownSem_facts copied copied_sub m ρ main
    (hbody := body_obligation m) (hshare := fun _ => RDat.share_full _ fun _ => rfl) (howed := fun _ _ => rfl) (V := V m) (hmain := main_runs m Variants.none) (hA := fun _ _ => rfl)
    (hin := fun c => by
      rw [PhiD_eq]
      show _ ⊢ between m c 0
      unfold between
      rw [show copyAt m c 0 = still c (V m c main_v1) from if_neg (by decide)]
      unfold still
      iintro ⟨⟨HS, ⟨%d, HD⟩⟩, Hp, Hc, HV⟩
      isplitl [HD]
      · iexists _; isplitr; swap; · iexact HD
        ipureintro
        intro h; exact absurd rfl h
      isplitl [Hp]; · iexact Hp
      isplitl [HS]; · iapply (slot_in c); iexact HS
      isplitl [Hc]; · rw [cell_eq]; iexact Hc
      iexact HV)
    (hout := fun c => by
      rw [PhiD_eq]
      show between m c (Fin.last cfg0.N).val ⊢ _
      unfold between
      rw [show copyAt m c (Fin.last cfg0.N).val = still c (V m c main_v1) from if_neg (by rw [show (Fin.last cfg0.N).val = 32 from N_0]; decide)]
      unfold still
      iintro ⟨⟨%d, %_, HD⟩, Hp, HS, Hc, HV⟩
      isplitl [HS HD]
      · isplitl [HS]; · iapply (slot_out c); iexact HS
        iexists _; iexact HD
      isplitl [Hp]; · iexact Hp
      isplitl [Hc]; · rw [← cell_eq]; iexact Hc
      iexact HV)

/-- The arguments are untouched. -/
theorem args (c : Dev nD) (r : PUnit.{1} × MemSt nD τ sig (Elt F)) (h : RDat.FramePost cfg0 (rdat (F := F) m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(RDat.FramePost.arr_in h c 0 rfl).trans (V_main_arg0 m c),
    (RDat.FramePost.arr_in h c 1 rfl).trans (V_main_arg1 m c),
    ((h c).2 main_arg2 (Pipeline.mem_restRefs_of main_arg2 (by decide) (by decide))).trans (V_main_arg2 m c)⟩

/-- The arguments are untouched and no semaphore is up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => args m c r h.1, h.2⟩) (run m ρ)

end Cert.Qi

end
-- ==== Proof.QiRef.lean ====
/- The projection of the normalised rows to the indexer queries, as the reference states it, read at an index. -/
module

public import proofs.«01_k».proof.Proof.Gen.Reference6Ideal.Read
public import Idealize.ShloMosaic.Lib.Pipeline.ValueKit

@[expose] public section

set_option maxRecDepth 16384

noncomputable section

namespace Cert.QiRef

open Idealize.ShloMosaic Cert.Reference6Ideal Cert.Reference6Ideal.Read

variable (x0 : FVec Ideal S8192x4096 .bf16) (x1 : FVec Ideal S256x4096 .bf16) (x2 : FVec Ideal S1x4096x13472 .f32)

/-- The factor every query is scaled by. -/
def scale : Ideal .f32 := FloatOps.ofBits .f32 0x3DB504F3#32

/-- A row times a column of the weight's slice for the indexer queries. -/
def promptDot (r : Fin 8192) (q : Fin 4096) : Ideal .f32 := ∑ k : Fin 4096, x0 (ix2 r k) * x2 (ix3 (0 : Fin 1) k (⟨5120 + q.val, by omega⟩ : Fin 13472))
def sampleDot (r : Fin 256) (q : Fin 4096) : Ideal .f32 := ∑ k : Fin 4096, x1 (ix2 r k) * x2 (ix3 (0 : Fin 1) k (⟨5120 + q.val, by omega⟩ : Fin 13472))

theorem promptDot_at (r : Fin 8192) (q : Fin 4096) : val_main_v5 (F := Ideal) x0 x2 (ix2 r q) = promptDot x0 x2 r q := by
  pointwise [val_main_v5, val_main_v2, val_main_v1, val_main_v0, promptDot]
theorem sampleDot_at (r : Fin 256) (q : Fin 4096) : val_main_v9 (F := Ideal) x1 x2 (ix2 r q) = sampleDot x1 x2 r q := by
  pointwise [val_main_v9, val_main_v4, val_main_v3, val_main_v0, sampleDot]

/-- The same scaled. -/
def prompt (r : Fin 8192) (q : Fin 4096) : Ideal .f32 := FloatOps.mulf (promptDot x0 x2 r q) scale
def sample (r : Fin 256) (q : Fin 4096) : Ideal .f32 := FloatOps.mulf (sampleDot x1 x2 r q) scale

/-- Head `g` of a row, the prompt's and the sample's. -/
theorem promptHead_at (r : Fin 8192) (g : Fin 32) (l : Fin 128) : val_main_v8 (F := Ideal) x0 x2 (ix3 r g l) = prompt x0 x2 r (⟨128 * g.val + l.val, by omega⟩ : Fin 4096) := by
  rw [val_main_v8_apply, val_main_v6_apply, val_main_v7_apply, val_main_cst_apply]
  unfold prompt
  rw [← promptDot_at]
  refine congrArg (fun v => FloatOps.mulf v _) (congrArg _ ?_)
  funext a
  fin_cases a
  · exact Fin.ext (by show ((r.val * 32 + g.val) * 128 + l.val) / 4096 = r.val; omega)
  · exact Fin.ext (by show ((r.val * 32 + g.val) * 128 + l.val) % 4096 = 128 * g.val + l.val; omega)
theorem sampleHead_at (r : Fin 256) (g : Fin 32) (l : Fin 128) : val_main_v12 (F := Ideal) x1 x2 (ix3 r g l) = sample x1 x2 r (⟨128 * g.val + l.val, by omega⟩ : Fin 4096) := by
  rw [val_main_v12_apply, val_main_v10_apply, val_main_v11_apply, val_main_cst_0_apply]
  unfold sample
  rw [← sampleDot_at]
  refine congrArg (fun v => FloatOps.mulf v _) (congrArg _ ?_)
  funext a
  fin_cases a
  · exact Fin.ext (by show ((r.val * 32 + g.val) * 128 + l.val) / 4096 = r.val; omega)
  · exact Fin.ext (by show ((r.val * 32 + g.val) * 128 + l.val) % 4096 = 128 * g.val + l.val; omega)

/-- The results, head after head. -/
def heads : S32x8192x128.Idx → EReal := fun p =>
  have h0 : (p 0).val < 32 := (p 0).isLt
  have h2 : (p 2).val < 128 := (p 2).isLt
  prompt x0 x2 (⟨(p 1).val, (p 1).isLt⟩ : Fin 8192) (⟨128 * (p 0).val + (p 2).val, by omega⟩ : Fin 4096)
def sampleHeads : S32x256x128.Idx → EReal := fun p =>
  have h0 : (p 0).val < 32 := (p 0).isLt
  have h2 : (p 2).val < 128 := (p 2).isLt
  sample x1 x2 (⟨(p 1).val, (p 1).isLt⟩ : Fin 256) (⟨128 * (p 0).val + (p 2).val, by omega⟩ : Fin 4096)

theorem heads_eq : val_main_v14 (F := Ideal) x0 x2 = heads x0 x2 := by
  funext p
  rw [val_main_v14_apply, val_main_v13_apply]
  have e : idx_main_v14 p = ix3 (⟨(p 1).val, (p 1).isLt⟩ : Fin 8192) (⟨(p 0).val, (p 0).isLt⟩ : Fin 32) (⟨(p 2).val, (p 2).isLt⟩ : Fin 128) := by
    funext a; fin_cases a <;> rfl
  rw [e, promptHead_at]
  rfl
theorem sampleHeads_eq : val_main_v15 (F := Ideal) x1 x2 = sampleHeads x1 x2 := by
  funext p
  rw [val_main_v15_apply]
  have e : idx_main_v15 p = ix3 (⟨(p 1).val, (p 1).isLt⟩ : Fin 256) (⟨(p 0).val, (p 0).isLt⟩ : Fin 32) (⟨(p 2).val, (p 2).isLt⟩ : Fin 128) := by
    funext a; fin_cases a <;> rfl
  rw [e, sampleHead_at]
  rfl

end Cert.QiRef

end
-- ==== Proof.QiValue.lean ====
/- The queries that the run of the projection to the indexer queries leaves, read at an index. -/
module

public import proofs.«01_k».proof.Proof.QiFrame
public import proofs.«01_k».proof.Proof.QiRef

@[expose] public section

set_option maxRecDepth 16384

noncomputable section

namespace Cert.QiValue

open Idealize.ShloMosaic Idealize.ShloMosaic.TcCoe Idealize.SL.Sem Cert.Kernel6Ideal Cert.Kernel6Ideal.Gen Cert.Qi
open Idealize.ShloMosaic.Pipeline (RDat)

/-- The block of every window at a grid point. -/
theorem idx : ∀ t : Fin cfg0.N, win0_0.index t = ![t.val % 4, 0] ∧ win0_1.index t = ![0, 0] ∧ win0_2.index t = ![t.val / 4, t.val % 4, 0]
    ∧ win0_3.index t = ![t.val / 4, 0, 0] :=
  (by decide +kernel : ∀ t : Fin grid0.N, _)

variable (m : (ℓ : Loc nD τ sig) → Buf (Elt Ideal) ℓ) (c : Dev nD)

/-- The arguments. -/
abbrev X0 : FVec Ideal S8192x4096 .bf16 := m ((c : Thread nD τ).loc main_arg0)
abbrev X1 : FVec Ideal S256x4096 .bf16 := m ((c : Thread nD τ).loc main_arg1)
abbrev X2 : FVec Ideal S1x4096x13472 .f32 := m ((c : Thread nD τ).loc main_arg2)

/-- A product scaled, read at an index. -/
theorem pay9_at (x : FVec Ideal S2048x4096 .bf16) (w : FVec Ideal S512x4096 .bf16) (p : Fin 2048) (q : Fin 512) :
    k0_pay9 (F := Ideal) x w (ix2 p q) = FloatOps.mulf (F := Ideal) (φ := .f32) (∑ k : Fin 4096, x (ix2 p k) * w (ix2 q k)) QiRef.scale := by
  pointwise [k0_pay9, QiRef.scale]
theorem pay3_at (x : FVec Ideal S256x4096 .bf16) (w : FVec Ideal S512x4096 .bf16) (p : Fin 256) (q : Fin 512) :
    k0_pay3 (F := Ideal) x w (ix2 p q) = FloatOps.mulf (F := Ideal) (φ := .f32) (∑ k : Fin 4096, x (ix2 p k) * w (ix2 q k)) QiRef.scale := by
  pointwise [k0_pay3, QiRef.scale]
theorem pay8_at (x : FVec Ideal S512x4096 .f32) (q : Fin 512) (k : Fin 4096) : k0_pay8 (F := Ideal) x (ix2 q k) = x (ix2 q k) := by
  pointwise [k0_pay8]

/-- The weight as the region finds it: transposed. -/
theorem weight_at (r : Fin 13472) (k : Fin 4096) : (V m c main_v1 : FVec Ideal S13472x4096 .f32) (ix2 r k) = X2 m c (ix3 (0 : Fin 1) k r) := by
  have e : (V m c main_v1 : FVec Ideal S13472x4096 .f32)
      = transpose S13472x4096 [1, 0] (shapeCast S4096x13472 (X2 m c) shapeCasts_S1x4096x13472_S4096x13472) transposes_S4096x13472_S13472x4096_1_0 := by
    after_results <;> rfl
  rw [e]
  pointwise []

/-- A rounded tile, read at an index. -/
theorem narrowAt_at (b : ℕ) (hb : b < 8) (q : Fin 512) (k : Fin 4096) :
    narrowAt m c b (ix2 q k) = X2 m c (ix3 (0 : Fin 1) k (⟨5120 + (512 * b + q.val), by omega⟩ : Fin 13472)) := by
  unfold narrowAt narrow
  rw [pay8_at, ← weight_at]
  refine congrArg (V m c main_v1 : FVec Ideal S13472x4096 .f32) ?_
  funext a
  fin_cases a
  · exact Fin.ext (by show 512 * (b % 8) + 5120 + 1 * q.val = 5120 + (512 * b + q.val); omega)
  · exact Fin.ext (by show 0 + 1 * k.val = k.val; omega)

/-- A scaled product of a block of the prompt's rows with a tile. -/
theorem prompt_at (t : Fin cfg0.N) (p : Fin 2048) (q : Fin 512) (h : 2048 * (t.val % 4) + p.val < 8192) (h' : 512 * (t.val / 4) + q.val < 4096) :
    k0_pay9 (F := Ideal) (iblk m c 0 t) (narrowAt m c (t.val / 4)) (ix2 p q) = QiRef.prompt (X0 m c) (X2 m c) ⟨2048 * (t.val % 4) + p.val, h⟩ ⟨512 * (t.val / 4) + q.val, h'⟩ := by
  have ht := lt_of_lt_of_eq t.isLt N_0
  unfold QiRef.prompt QiRef.promptDot
  rw [pay9_at]
  refine congrArg (fun v : Ideal .f32 => FloatOps.mulf v QiRef.scale) (Finset.sum_congr rfl fun k _ => ?_)
  rw [narrowAt_at m c _ (by omega)]
  refine congrArg (· * _) ?_
  blk_point [iblk, V, idx t]
/-- A scaled product of the sample's rows with a tile. -/
theorem sample_at (t : Fin cfg0.N) (p : Fin 256) (q : Fin 512) (h' : 512 * (t.val / 4) + q.val < 4096) :
    k0_pay3 (F := Ideal) (iblk m c 1 t) (narrowAt m c (t.val / 4)) (ix2 p q) = QiRef.sample (X1 m c) (X2 m c) p ⟨512 * (t.val / 4) + q.val, h'⟩ := by
  have ht := lt_of_lt_of_eq t.isLt N_0
  unfold QiRef.sample QiRef.sampleDot
  rw [pay3_at]
  refine congrArg (fun v : Ideal .f32 => FloatOps.mulf v QiRef.scale) (Finset.sum_congr rfl fun k _ => ?_)
  rw [narrowAt_at m c _ (by omega)]
  refine congrArg (· * _) ?_
  blk_point [iblk, V, idx t]

/-- What a tile's points leave of the sample's queries: the first stores them, the others leave them. -/
theorem left_sample : ∀ (n : ℕ) (t : Fin cfg0.N), t.val % 4 = n → ∀ X, (rdat (F := Ideal) m c).Leaves 3 t X →
    X = querySample (iblk m c 1 t) (narrowAt m c (t.val / 4))
  | 0, t, h, X, hX => by
    obtain ⟨Y, _, e⟩ := hX
    exact (show X = sampleOut m c t Y from e).trans (if_pos h)
  | n + 1, t, h, X, hX => by
    obtain ⟨Y, hY, e⟩ := hX
    have e' : X = Y := (show X = sampleOut m c t Y from e).trans (if_neg (by omega))
    rcases ((rdat (F := Ideal) m c).finds_of_pos ((cfg0.win 3).fetch_out rfl t) (by omega) Y).mp hY with hf | hl
    · have := (flush0_3 _).mp hf
      have e3 : (t.val - 1) % 4 = 3 := this
      omega
    · have := left_sample n ⟨t.val - 1, Nat.lt_of_le_of_lt (Nat.sub_le _ _) t.isLt⟩ (by show (t.val - 1) % 4 = n; omega) Y hl
      rw [e', this]
      have e4 : (t.val - 1) / 4 = t.val / 4 := by omega
      refine congrArg₂ querySample rfl ?_
      exact congrArg (narrowAt m c) e4

/-- The prompt's queries are the reference's. -/
theorem final_prompt (r : PUnit.{1} × MemSt nD τ sig (Elt Ideal)) (h : RDat.FramePost cfg0 (rdat (F := Ideal) m) (V m) r) :
    r.2.mem ((c : Thread nD τ).loc main_v2_0) = QiRef.heads (X0 m c) (X2 m c) := by
  obtain ⟨after, hl, ha⟩ := RDat.FramePost.exists_exact h c
  refine (ha 2).trans (((rdat (F := Ideal) m c).withAfter after).arrAt_eq_of_covers 2 _ (by decide +kernel) fun t hf y => ?_)
  have ht := lt_of_lt_of_eq t.isLt N_0
  have e : after 2 t = rowsOut m c t := by obtain ⟨Y, _, e⟩ := hl 2 t hf; exact e
  blk_simp
  rw [RDat.withAfter_after, e]
  have y0 : (y 0).val < 4 := (y 0).isLt
  have y1 : (y 1).val < 2048 := (y 1).isLt
  have y2 : (y 2).val < 128 := (y 2).isLt
  refine (prompt_at m c t (⟨(y 1).val, y1⟩ : Fin 2048) (⟨128 * (y 0).val + (y 2).val, by omega⟩ : Fin 512) (by show 2048 * (t.val % 4) + (y 1).val < 8192; omega)
    (by show 512 * (t.val / 4) + (128 * (y 0).val + (y 2).val) < 4096; omega)).trans ?_
  have ey : (win0_2.blk t).view.emb y = ix3 (⟨4 * (t.val / 4) + (y 0).val, by omega⟩ : Fin 32) (⟨2048 * (t.val % 4) + (y 1).val, by omega⟩ : Fin 8192) (⟨(y 2).val, y2⟩ : Fin 128) := by
    blk_ext [idx t]
  refine Eq.trans ?_ (congrArg (QiRef.heads (X0 m c) (X2 m c)) ey.symm)
  refine congrArg (QiRef.prompt (X0 m c) (X2 m c) _) (Fin.ext ?_)
  show 512 * (t.val / 4) + (128 * (y 0).val + (y 2).val) = 128 * (4 * (t.val / 4) + (y 0).val) + (y 2).val
  omega
/-- The sample's queries are the reference's. -/
theorem final_sample (r : PUnit.{1} × MemSt nD τ sig (Elt Ideal)) (h : RDat.FramePost cfg0 (rdat (F := Ideal) m) (V m) r) :
    r.2.mem ((c : Thread nD τ).loc main_v2_1) = QiRef.sampleHeads (X1 m c) (X2 m c) := by
  obtain ⟨after, hl, ha⟩ := RDat.FramePost.exists_exact h c
  refine (ha 3).trans (((rdat (F := Ideal) m c).withAfter after).arrAt_eq_of_covers 3 _ (by decide +kernel) fun t hf y => ?_)
  have ht := lt_of_lt_of_eq t.isLt N_0
  have e := left_sample m c _ t rfl (after 3 t) (hl 3 t hf)
  blk_simp
  rw [RDat.withAfter_after, e]
  have y0 : (y 0).val < 4 := (y 0).isLt
  have y1 : (y 1).val < 256 := (y 1).isLt
  have y2 : (y 2).val < 128 := (y 2).isLt
  refine (sample_at m c t (⟨(y 1).val, y1⟩ : Fin 256) (⟨128 * (y 0).val + (y 2).val, by omega⟩ : Fin 512)
    (by show 512 * (t.val / 4) + (128 * (y 0).val + (y 2).val) < 4096; omega)).trans ?_
  have ey : (win0_3.blk t).view.emb y = ix3 (⟨4 * (t.val / 4) + (y 0).val, by omega⟩ : Fin 32) (⟨(y 1).val, y1⟩ : Fin 256) (⟨(y 2).val, y2⟩ : Fin 128) := by
    blk_ext [idx t]
  refine Eq.trans ?_ (congrArg (QiRef.sampleHeads (X1 m c) (X2 m c)) ey.symm)
  refine congrArg (QiRef.sample (X1 m c) (X2 m c) _) (Fin.ext ?_)
  show 512 * (t.val / 4) + (128 * (y 0).val + (y 2).val) = 128 * (4 * (t.val / 4) + (y 0).val) + (y 2).val
  omega

end Cert.QiValue

end
-- ==== Proof.QiClaim.lean ====
/- The claims about the projection of the normalised rows to the indexer queries. -/
module

public import proofs.«01_k».proof.Defs
public import proofs.«01_k».proof.Proof.Gen.Kernel6.Launch
public import proofs.«01_k».proof.Proof.Gen.Reference6Ideal.Run
public import proofs.«01_k».proof.Proof.QiValue

@[expose] public section

noncomputable section

namespace Cert.QiClaim

open Idealize.ShloMosaic Idealize.SL.Sem

variable {F : FTy → Type} [FloatOps F]

/-- The program and its ideal reading call one body. -/
theorem defs₀_eq : (Cert.Kernel6.defs₀ (F := F)) = Cert.Kernel6Ideal.defs₀ (F := F) := by
  unfold Cert.Kernel6.defs₀ Cert.Kernel6Ideal.defs₀
  refine congrArg (Defs.onTc (nD := Cert.Kernel6.nD) (τ := Cert.Kernel6.τ) (sig := Cert.Kernel6.sig) (Val := Elt F) (Λ := Cert.Kernel6.Λ₀)) ?_
  funext l a
  obtain ⟨n, hn⟩ := l
  match n, hn with
  | 0, _ => obtain ⟨t, s⟩ := a; rfl
  | n + 1, h => exact absurd h (Nat.not_lt.2 (Nat.le_add_left _ _))

/-- So their body tables are one. -/
theorem defs_eq : (Cert.Kernel6.defs (F := F)) = Cert.Kernel6Ideal.defs (F := F) := by
  unfold Cert.Kernel6.defs Cert.Kernel6Ideal.defs
  rw [defs₀_eq]; rfl

/-- The program leaves its arguments as launched and every semaphore at zero. -/
theorem frame_kernel : Cert.quiescent_Kernel6 := fun m ρ _ => by
  rw [defs_eq]; exact Cert.Qi.frame (F := Bits) m ρ

/-- The same of its ideal reading. -/
theorem frame_ideal : Cert.quiescent_Kernel6Ideal := fun m ρ _ => Cert.Qi.frame (F := Ideal) m ρ

/-- The reference runs and leaves its arguments as launched; it declares no semaphore. -/
theorem frame_reference : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

/-- Kernel and reference leave the same indexer queries of the prompt and of the sample. -/
theorem algebraic : Cert.algebraic_Kernel6Ideal_Reference6Ideal := by
  intro m g m' g' _ hargs
  refine ⟨fun c => Cert.QiRef.heads (Cert.QiValue.X0 m c) (Cert.QiValue.X2 m c), fun c => Cert.QiRef.sampleHeads (Cert.QiValue.X1 m c) (Cert.QiValue.X2 m c), ?_, ?_⟩
  · exact (θ_run Cert.Kernel6Ideal.defs _ _).mono (fun r h c => ⟨Cert.QiValue.final_prompt m c r h.1, Cert.QiValue.final_sample m c r h.1, Cert.Qi.args m c r h.1⟩) (Cert.Qi.run (F := Ideal) m g)
  · refine (θ_run Cert.Reference6Ideal.defs _ _).mono (fun r h c => ⟨(h c).1.trans ?_, (h c).2.1.trans ?_, (h c).2.2⟩) (Cert.Reference6Ideal.Value.run (F := Ideal) m' g')
    · refine (Cert.Reference6Ideal.Read.val_main_v14_eq (F := Ideal) _ _).trans ?_
      obtain ⟨e0, e1, e2⟩ := hargs c
      rw [e0, e2]
      exact Cert.QiRef.heads_eq _ _
    · refine (Cert.Reference6Ideal.Read.val_main_v15_eq (F := Ideal) _ _).trans ?_
      obtain ⟨e0, e1, e2⟩ := hargs c
      rw [e1, e2]
      exact Cert.QiRef.sampleHeads_eq _ _

end Cert.QiClaim

end
-- ==== Proof.WkRun.lean ====
module

public import proofs.«01_k».proof.Proof.Gen.Kernel5Ideal.Launch
public import proofs.«01_k».proof.Proof.Gen.Kernel5Ideal.Points
public import proofs.«01_k».proof.Proof.Gen.Kernel5Ideal.Skeleton
public import proofs.«01_k».proof.Proof.Gen.Kernel5Ideal.Frame
public import proofs.«01_k».proof.Proof.ProjRun
public import Idealize.ShloMosaic.Lib.Claim
public import Idealize.ShloMosaic.Lib.WritesUnit
public import Idealize.ShloMosaic.Lib.Batch
public import Idealize.ShloMosaic.Lib.VecWindow
public import Idealize.ShloMosaic.Lib.Pipeline.ValueKit

@[expose] public section

set_option maxRecDepth 16384

noncomputable section

/-! # The projection to the indexer's keys and weights: the body's run at each kind of grid point

There is one tile of 256 weight rows, in two pieces of 128 that overlap in the weight: the heads' weights begin the first,
the keys' rows are the second. The body copies both at the first point, on one semaphore, waits for both and rounds the
tile; every point takes one block of the prompt's rows against it and stores the products, the first piece's scaled, and the
keys once more rounded; the first point also takes the sample's rows against the tile. -/

namespace Cert.Wk

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

/-- The scratch the two pieces of the tile are copied to. -/
abbrev tileM : Memref sig .tc .vmem S256x4096 .f32 := Memref.whole cc0_scratch0
/-- The scratch that holds the tile rounded. -/
abbrev narrowM : Memref sig .tc .vmem S256x4096 .bf16 := Memref.whole cc0_scratch1
/-- The weight, left in HBM. -/
abbrev weightM : Memref sig .tc .hbm S13472x4096 .f32 := Memref.whole main_v1
/-- The copies' sources: the rows of the weight that give the heads' weights, and those that give the keys. -/
abbrev rows0 : Memref sig .tc .hbm S128x4096 .f32 :=
  weightM.slice (Rect.unit (s := S13472x4096) ![9216, 0] S128x4096.size inb_S13472x4096_S128x4096_9216_0) (fun _ => rfl)
abbrev rows1 : Memref sig .tc .hbm S128x4096 .f32 :=
  weightM.slice (Rect.unit (s := S13472x4096) ![9248, 0] S128x4096.size inb_S13472x4096_S128x4096_9248_0) (fun _ => rfl)
/-- The copies' targets: the upper half of the scratch and the lower. -/
abbrev slot0 : Memref sig .tc .vmem S128x4096 .f32 :=
  tileM.slice (Rect.unit (s := S256x4096) ![0, 0] S128x4096.size inb_S256x4096_S128x4096_0_0) (fun _ => rfl)
abbrev slot1 : Memref sig .tc .vmem S128x4096 .f32 :=
  tileM.slice (Rect.unit (s := S256x4096) ![128, 0] S128x4096.size inb_S256x4096_S128x4096_128_0) (fun _ => rfl)
/-- The copies' semaphore. -/
abbrev cellM : DmaSems sig S_ := (cc0_scratch2.slice (Rect.unit (s := S1) ![0] S1.size inb_S1_S1_0)).squeeze S_ squeezes_S1_S_
abbrev cell : SemLoc sig := SemLoc.dma cellM.sem

/-- The contents of a buffer as memref `M` places it on core `c`. -/
abbrev Held (c : Dev nD) {sp : Space} {S : Shape} {e : EltTy} (M : Memref sig .tc sp S e) : Type := Buf (Elt F) (M.view.loc (c : Thread nD τ))

/-- The weight whole, and at one half of the full share: the two copies read overlapping rows, so each takes its rows
at a half. -/
abbrev weightAt (c : Dev nD) (W : Held (F := F) c weightM) : sProp 𝕄 := ((c : Thread nD τ).loc main_v1) ↦[Finset.univ]{fullShare} W
/-- The rows a copy reads, at its half, and what is left of that half. -/
abbrev rows0At (c : Dev nD) (W : Held (F := F) c weightM) : sProp 𝕄 := rows0.view.loc (c : Thread nD τ) ↦[rows0.view.set]{fullShare.left} W
def rest0At (c : Dev nD) (W : Held (F := F) c weightM) : sProp 𝕄 := ((c : Thread nD τ).loc main_v1) ↦[Finset.univ \ rows0.view.set]{fullShare.left} W
abbrev rows1At (c : Dev nD) (W : Held (F := F) c weightM) : sProp 𝕄 := rows1.view.loc (c : Thread nD τ) ↦[rows1.view.set]{fullShare.right} W
def rest1At (c : Dev nD) (W : Held (F := F) c weightM) : sProp 𝕄 := ((c : Thread nD τ).loc main_v1) ↦[Finset.univ \ rows1.view.set]{fullShare.right} W
theorem weight_split (c : Dev nD) (W : Held (F := F) c weightM) : weightAt c W ⊣⊢ iprop((rows0At c W ∗ rest0At c W) ∗ (rows1At c W ∗ rest1At c W)) := by
  unfold rest0At rest1At
  exact (pointsTo_share (PosShare.mem_left_op_right _)).trans (sep_congr (pointsTo_split_subset (Finset.subset_univ _)) (pointsTo_split_subset (Finset.subset_univ _)))

/-- The halves of the scratch, held apart. -/
abbrev slot0At (c : Dev nD) (f : Held (F := F) c tileM) : sProp 𝕄 := slot0.view.loc (c : Thread nD τ) ↦[slot0.view.set]{fullShare} f
abbrev slot1At (c : Dev nD) (f : Held (F := F) c tileM) : sProp 𝕄 := slot1.view.loc (c : Thread nD τ) ↦[slot1.view.set]{fullShare} f

/-- An entry is in the upper half when its row is below 128, in the lower otherwise. -/
theorem mem_slot0 (y : S256x4096.Idx) : y ∈ slot0.view.set ↔ (y 0).val < 128 := by
  refine (iff_of_eq (congrArg (y ∈ ·) (View.set_slice_whole _ _))).trans (Rect.mem_set_unit.trans ⟨fun h => ?_, fun h a => ?_⟩)
  · have := (h 0).2; change (y 0).val < 0 + 128 at this; omega
  · have h0 : (y 0).val < 256 := (y 0).isLt
    have h1 : (y 1).val < 4096 := (y 1).isLt
    fin_cases a
    · exact ⟨Nat.zero_le _, by show (y 0).val < 0 + 128; omega⟩
    · exact ⟨Nat.zero_le _, by show (y 1).val < 0 + 4096; omega⟩
theorem mem_slot1 (y : S256x4096.Idx) : y ∈ slot1.view.set ↔ ¬ (y 0).val < 128 := by
  refine (iff_of_eq (congrArg (y ∈ ·) (View.set_slice_whole _ _))).trans (Rect.mem_set_unit.trans ⟨fun h => ?_, fun h a => ?_⟩)
  · have := (h 0).1; change 128 ≤ (y 0).val at this; omega
  · have h0 : (y 0).val < 256 := (y 0).isLt
    have h1 : (y 1).val < 4096 := (y 1).isLt
    fin_cases a
    · exact ⟨by show 128 ≤ (y 0).val; omega, by show (y 0).val < 128 + 128; omega⟩
    · exact ⟨Nat.zero_le _, by show (y 1).val < 0 + 4096; omega⟩
theorem slots_disjoint : Disjoint slot0.view.set slot1.view.set :=
  Finset.disjoint_left.mpr fun y h0 h1 => (mem_slot1 y).1 h1 ((mem_slot0 y).1 h0)
theorem slots_cover : slot0.view.set ∪ slot1.view.set = (Finset.univ : Finset S256x4096.Idx) :=
  Finset.eq_univ_iff_forall.mpr fun y => Finset.mem_union.mpr ((em ((y 0).val < 128)).imp (mem_slot0 y).2 (mem_slot1 y).2)

/-- The scratch whole, and its halves. -/
abbrev tileAt (c : Dev nD) (f : Held (F := F) c tileM) : sProp 𝕄 := tileM.view.loc (c : Thread nD τ) ↦[tileM.view.set]{fullShare} f
theorem tile_halves (c : Dev nD) (f : Held (F := F) c tileM) :
    tileAt c f = (tileM.view.loc (c : Thread nD τ) ↦[slot0.view.set ∪ slot1.view.set]{fullShare} f : sProp 𝕄) :=
  congrArg (fun S : Finset S256x4096.Idx => (tileM.view.loc (c : Thread nD τ) ↦[S]{fullShare} f : sProp 𝕄)) ((View.set_whole _).trans slots_cover.symm)
theorem tile_split (c : Dev nD) (f : Held (F := F) c tileM) : tileAt c f ⊢ iprop(slot0At c f ∗ slot1At c f) := by
  rw [tile_halves]
  exact (pointsTo_union slots_disjoint).1
theorem tile_join (c : Dev nD) (f g : Held (F := F) c tileM) : iprop(slot0At c f ∗ slot1At c g) ⊢ tileAt c (slot1.view.set.piecewise g f) := by
  rw [tile_halves]
  exact pointsTo_join slots_disjoint

/-- No copy under way: the scratch, the semaphore and the whole weight. -/
def still (c : Dev nD) (W : Held (F := F) c weightM) : sProp 𝕄 :=
  iprop((∃ f, tileAt c f) ∗ semVal ((c : Thread nD τ), cell) 0 ∗ weightAt c W)

/-- Two blocks of 128 rows, one above the other. -/
def stack (x0 x1 : Vec F S128x4096 .f32) : Vec F S256x4096 .f32 := fun y =>
  if h : (y 0).val < 128 then x0 (ix2 ⟨(y 0).val, h⟩ ⟨(y 1).val, (y 1).isLt⟩) else x1 (ix2 ⟨(y 0).val - 128, by have := (y 0).isLt; simp at this; omega⟩ ⟨(y 1).val, (y 1).isLt⟩)

/-- The scratch, its halves filled apart, reads as the two blocks stacked. -/
theorem read_halves (c : Dev nD) (f g : Held (F := F) c tileM) (x0 x1 : Vec F S128x4096 .f32)
    (h0 : slot0.view.read (Elt F) f = x0) (h1 : slot1.view.read (Elt F) g = x1) :
    tileM.view.read (Elt F) (slot1.view.set.piecewise g f) = stack x0 x1 := by
  subst h0; subst h1
  funext y
  unfold stack
  by_cases hy : (y 0).val < 128
  · rw [dif_pos hy]
    refine (Finset.piecewise_eq_of_notMem _ _ _ fun h => (mem_slot1 y).1 h hy).trans (congrArg f ?_)
    funext a; fin_cases a <;> apply Fin.ext
    · show (y 0).val = 0 + 1 * (y 0).val; omega
    · show (y 1).val = 0 + 1 * (y 1).val; omega
  · rw [dif_neg hy]
    refine (Finset.piecewise_eq_of_mem _ _ _ ((mem_slot1 y).2 hy)).trans (congrArg g ?_)
    funext a; fin_cases a <;> apply Fin.ext
    · show (y 0).val = 128 + 1 * ((y 0).val - 128); omega
    · show (y 1).val = 0 + 1 * (y 1).val; omega

/-- The rows copied, rounded. -/
def narrow (c : Dev nD) (W : Held (F := F) c weightM) : Vec F S256x4096 .bf16 := k0_pay1 (stack (rows0.view.read (Elt F) W) (rows1.view.read (Elt F) W))

/-- The scratch read after both copies. -/
theorem read_landed (c : Dev nD) (W : Held (F := F) c weightM) (f : Held (F := F) c tileM) :
    tileM.view.readAt (Elt F) (Rect.unit (s := S256x4096) ![0, 0] S256x4096.size inb_S256x4096_S256x4096_0_0).toLoadRect
      (slot1.view.set.piecewise (slot1.view.writes (Elt F) f [⟨Rect.whole S128x4096, ReadAs.same.apply (rows1.view.read (Elt F) W)⟩])
        (slot0.view.writes (Elt F) f [⟨Rect.whole S128x4096, ReadAs.same.apply (rows0.view.read (Elt F) W)⟩]))
      = stack (rows0.view.read (Elt F) W) (rows1.view.read (Elt F) W) := by
  rw [View.readAt_eq_ld, read_halves c _ _ _ _ (View.read_writes_whole slot0.view f _) (View.read_writes_whole slot1.view f _), Cert.ProjU.ld_whole]

section Runs

open Cert.ProjU (ld_whole)

variable (c : Dev nD) (i : grid0.Coords) (arg2 : Memref sig .tc .vmem S1024x4096 .bf16) (harg2 : arg2.IsWhole) (arg3 : Memref sig .tc .vmem S256x4096 .bf16) (harg3 : arg3.IsWhole)
  (arg5 : Memref sig .tc .vmem S1024x256 .f32) (harg5 : arg5.IsWhole) (arg6 : Memref sig .tc .vmem S1024x128 .bf16) (harg6 : arg6.IsWhole) (arg7 : Memref sig .tc .vmem S256x256 .f32) (harg7 : arg7.IsWhole)
  (x0 : Vec F S1024x4096 .bf16) (x1 : Vec F S256x4096 .bf16) (d : Vec F S256x4096 .bf16) (y2 : Vec F S1024x256 .f32) (y3 : Vec F S1024x128 .bf16) (y4 : Vec F S256x256 .f32)
  (V : Held (F := F) c weightM)

/-- The body on these buffers. -/
abbrev body : Prog (TpuEff nD τ sig (Elt F) Λ₀ .tc) PUnit :=
  cc0_proj_wk i arg2 harg2 arg3 harg3 weightM (Memref.isWhole_whole _) arg5 harg5 arg6 harg6 arg7 harg7 tileM (Memref.isWhole_whole _) narrowM (Memref.isWhole_whole _) cc0_scratch2

set_option maxHeartbeats 1000000 in
/-- A block of rows against the tile held. -/
theorem run_plain (c1 : ¬ (k0_cond1 i = 1#1)) (c2 : ¬ (k0_cond2 i = 1#1)) (c3 : ¬ (k0_cond3 i = 1#1)) (c4 : ¬ (k0_cond4 i = 1#1)) (K : PUnit → sProp 𝕄) :
    iprop(owns (c : Thread nD τ) arg2 fullShare x0 ∗ owns (c : Thread nD τ) arg5 fullShare y2 ∗ owns (c : Thread nD τ) arg6 fullShare y3 ∗ owns (c : Thread nD τ) narrowM fullShare d
        ∗ (iprop(owns (c : Thread nD τ) arg2 fullShare x0 ∗ owns (c : Thread nD τ) arg5 fullShare (k0_pay3 x0 d) ∗ owns (c : Thread nD τ) arg6 fullShare (k0_pay4 x0 d) ∗ owns (c : Thread nD τ) narrowM fullShare d) -∗ K ⟨⟩))
      ⊢ wp frame (wpE (defs₀ (F := F)) Variants.none c none) Set.univ (body (F := F) i arg2 harg2 arg3 harg3 arg5 harg5 arg6 harg6 arg7 harg7) K := by
  unfold body
  simp only [cc0_proj_wk_eq_skeleton]; unfold cc0_proj_wk_skel
  unfold owns
  iintro ⟨⟨%f0, %hf0, H0⟩, ⟨%f2, %hf2, H2⟩, ⟨%f3, %hf3, H3⟩, ⟨%fd, %hfd, HD⟩, Hk⟩
  obtain rfl := harg2.eq_unread hf0
  obtain rfl := harg5.eq_unread hf2
  obtain rfl := harg6.eq_unread hf3
  sl_exec (disch := first | sl_exact c1 | sl_exact c2 | sl_exact c3 | sl_exact c4)
  sl_step
  iapply Hk
  isplitl [H0]
  · iexists _; isplitr; · ipureintro; exact harg2.read_unread _
    iexact H0
  isplitl [H2]
  · iexists _; isplitr; swap; · iexact H2
    ipureintro
    sl_unfold_words
    rw [View.readAt_eq_ld, View.readAt_eq_ld, harg2.read_unread, hfd, ld_whole, ld_whole]
    exact View.read_writes_full arg5.view _ _ _ []
  isplitl [H3]
  · iexists _; isplitr; swap; · iexact H3
    ipureintro
    sl_unfold_words
    rw [View.readAt_eq_ld, View.readAt_eq_ld, harg2.read_unread, hfd, ld_whole, ld_whole]
    exact View.read_writes_full arg6.view _ _ _ []
  iexists _; isplitr; · ipureintro; exact hfd
  iexact HD

set_option maxHeartbeats 1000000 in
/-- The first point: the tile's copy is started and waited for at once. -/
theorem run_first (c1 : k0_cond1 i = 1#1) (c2 : k0_cond2 i = 1#1) (c3 : ¬ (k0_cond3 i = 1#1)) (c4 : k0_cond4 i = 1#1) (W : Waits sig Unit) (K : PUnit → sProp 𝕄) :
    iprop(owns (c : Thread nD τ) arg2 fullShare x0 ∗ owns (c : Thread nD τ) arg3 fullShare x1 ∗ owns (c : Thread nD τ) arg5 fullShare y2 ∗ owns (c : Thread nD τ) arg6 fullShare y3
        ∗ owns (c : Thread nD τ) arg7 fullShare y4 ∗ owns (c : Thread nD τ) narrowM fullShare d ∗ still c V ∗ owes (c : Thread nD τ) 0 W
        ∗ (iprop(owns (c : Thread nD τ) arg2 fullShare x0 ∗ owns (c : Thread nD τ) arg3 fullShare x1 ∗ owns (c : Thread nD τ) arg5 fullShare (k0_pay3 x0 (narrow c V))
          ∗ owns (c : Thread nD τ) arg6 fullShare (k0_pay4 x0 (narrow c V)) ∗ owns (c : Thread nD τ) arg7 fullShare (k0_pay5 x1 (narrow c V))
          ∗ owns (c : Thread nD τ) narrowM fullShare (narrow c V) ∗ still c V ∗ (∃ W', owes (c : Thread nD τ) 0 W')) -∗ K ⟨⟩))
      ⊢ wp frame (wpE (defs₀ (F := F)) Variants.none c none) Set.univ (body (F := F) i arg2 harg2 arg3 harg3 arg5 harg5 arg6 harg6 arg7 harg7) K := by
  unfold body
  simp only [cc0_proj_wk_eq_skeleton]; unfold cc0_proj_wk_skel
  unfold still owns
  iintro ⟨⟨%f0, %hf0, H0⟩, ⟨%f1, %hf1, H1⟩, ⟨%f2, %hf2, H2⟩, ⟨%f3, %hf3, H3⟩, ⟨%f4, %hf4, H4⟩, ⟨%fd, %hfd, HD⟩, ⟨⟨%f, HS⟩, Hc, HV⟩, HW, Hk⟩
  ihave Hs := (weight_split c V).1 $$ HV
  icases Hs with ⟨⟨HR0, HX0⟩, HR1, HX1⟩
  have plan : Transfers.BatchOf (c : Thread nD τ) cell 2 := trivial
  ihave HS2 := (tile_split c f) $$ HS
  icases HS2 with ⟨HS0, HS1⟩
  obtain rfl := harg2.eq_unread hf0
  obtain rfl := harg3.eq_unread hf1
  obtain rfl := harg5.eq_unread hf2
  obtain rfl := harg6.eq_unread hf3
  obtain rfl := harg7.eq_unread hf4
  sl_exec (disch := first | sl_exact c1 | sl_exact c2 | sl_exact c3 | sl_exact c4)
  ihave HS := (tile_join c _ _) $$ [HS0 HS1]
  · isplitl [HS0]; · iexact HS0
    iexact HS1
  sl_exec (disch := first | sl_exact c1 | sl_exact c2 | sl_exact c3 | sl_exact c4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [View.readAt_eq_ld arg2.view, harg2.read_unread, ld_whole]
    refine (View.read_writes_full arg5.view _ _ _ []).trans (congrArg (k0_pay3 x0) ((View.readCov_full _ _ _ _ _).trans (congrArg k0_pay1 (read_landed c V f))))
  isplitl [H3]
  · iexists _; isplitr; swap; · iexact H3
    ipureintro
    sl_unfold_words
    rw [View.readAt_eq_ld arg2.view, harg2.read_unread, ld_whole]
    refine (View.read_writes_full arg6.view _ _ _ []).trans (congrArg (k0_pay4 x0) ((View.readCov_full _ _ _ _ _).trans (congrArg k0_pay1 (read_landed c V f))))
  isplitl [H4]
  · iexists _; isplitr; swap; · iexact H4
    ipureintro
    sl_unfold_words
    rw [View.readAt_eq_ld arg3.view, harg3.read_unread, ld_whole]
    refine (View.read_writes_full arg7.view _ _ _ []).trans (congrArg (k0_pay5 x1) ((View.readCov_full _ _ _ _ _).trans (congrArg k0_pay1 (read_landed c V f))))
  isplitl [HD]
  · iexists _; isplitr; swap; · iexact HD
    ipureintro
    sl_unfold_words
    exact (View.read_writes_full narrowM.view fd _ _ []).trans (congrArg k0_pay1 (read_landed c V f))
  isplitl [HS HR0 HX0 HR1 HX1 Hc]
  · isplitl [HS]
    · iexists _; iexact HS
    isplitl [Hc]; · iexact Hc
    iapply (weight_split c V).2
    isplitl [HR0 HX0]
    · isplitl [HR0]; · iexact HR0
      iexact HX0
    isplitl [HR1]; · iexact HR1
    iexact HX1
  iexists _; iexact HW

end Runs

end Cert.Wk
end
-- ==== Proof.WkFrame.lean ====
module

public import proofs.«01_k».proof.Proof.WkRun
public import Idealize.ShloMosaic.Lib.Pipeline.ArrRel

@[expose] public section

set_option maxRecDepth 16384

noncomputable section

/-! # The projection to the indexer's keys and weights: what every point leaves, and the run -/

namespace Cert.Wk

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch hands over -/

/-- The program up to the region. -/
theorem main_runs (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own semaphore. -/
abbrev ownSem : Fin 1 → SemLoc sig := fun j => (![SemLoc.dma 8] : Fin 1 → SemLoc sig) j
theorem ownSem_facts : Pipeline.OwnSemFacts spec0 ownSem := by decide
theorem cell_eq : cell = SemLoc.dma 8 := by decide

theorem ownSems_eq (c : Dev nD) :
    (Pipeline.ownSems0 (Ix := Unit) (Name := ℕ) (U := Pipeline.UD sig nD τ) (Lvl := ℕ) (Val := Elt F) (τ := τ) ownSem c : sProp 𝕄) = semVal ((c : Thread nD τ), SemLoc.dma 8) 0 := by
  rw [Pipeline.ownSems0_eq_of_list c ownSem [0] (by decide) (by decide)]; rfl

/-- The buffers the body copies from. -/
def copied : Finset (Ref sig .tc) := {main_v1}
theorem copied_sub : copied ⊆ Pipeline.restRefs sig spec0 := by decide
theorem copied_eq (c : Dev nD) : (bigSep copied (fun b => ((c : Thread nD τ).loc b) ↦{fullShare} V m c b) : sProp 𝕄) = weightAt c (V m c main_v1) := by
  rw [BI.bigSep_eq_bigSepL_of_eq [main_v1] (by decide) (by decide)]; rfl

/-- The invariant's pieces at launch: the two scratch buffers, the generator's register, the semaphore at zero and the weight. -/
theorem PhiD_eq (c : Dev nD) : (Pipeline.ΦD ownSem spec0 copied (V m) c : sProp 𝕄)
    = iprop(iprop((∃ d, owns (c : Thread nD τ) tileM fullShare d) ∗ (∃ d, owns (c : Thread nD τ) narrowM fullShare d)) ∗ (∃ r, prngReg c r)
        ∗ semVal ((c : Thread nD τ), SemLoc.dma 8) 0 ∗ weightAt c (V m c main_v1)) := by
  rw [Pipeline.ΦD_eq, scopedRest0_eq, ownSems_eq, copied_eq]
  simp only [tileM, narrowM, owns_whole]
  try rfl

/-- The scratch held at some contents, in either spelling. -/
theorem tile_in (c : Dev nD) : iprop(∃ d, owns (c : Thread nD τ) tileM fullShare d) ⊢ (iprop(∃ f, tileAt c f) : sProp 𝕄) := by
  unfold owns
  iintro ⟨%d, %f, %_, H⟩
  iexists f
  iexact H
theorem tile_out (c : Dev nD) : (iprop(∃ f, tileAt c f) : sProp 𝕄) ⊢ iprop(∃ d, owns (c : Thread nD τ) tileM fullShare d) := by
  unfold owns
  iintro ⟨%f, H⟩
  iexists _, f
  isplitr; · ipureintro; exact rfl
  iexact H

/-! ## The points -/

/-- The body table's row is the body. -/
theorem defs₀_row (t : Fin cfg0.N) : defs₀ (F := F) .tc cfg0.body (cfg0.bodyArgs t (cfg0.slots t)) = bodyAt0 t := by
  unfold defs₀
  rw [Defs.onTc_tc]

/-- Which of the body's branches a point takes. -/
theorem branches : ∀ t : Fin grid0.N, (k0_cond1 (grid0.coords t) = 1#1 ↔ t.val = 0) ∧ (k0_cond2 (grid0.coords t) = 1#1 ↔ t.val = 0)
    ∧ ¬ (k0_cond3 (grid0.coords t) = 1#1) ∧ (k0_cond4 (grid0.coords t) = 1#1 ↔ t.val = 0) := by decide +kernel

/-- The tile, rounded. -/
def narrowAt (c : Dev nD) : Vec F S256x4096 .bf16 := narrow c (V m c main_v1)

/-- What holds between points: past the first point, the second scratch holds the tile rounded. -/
def between (c : Dev nD) (k : ℕ) : sProp 𝕄 :=
  iprop(iprop(∃ d, ⌜k ≠ 0 → d = narrowAt m c⌝ ∗ owns (c : Thread nD τ) narrowM fullShare d) ∗ (∃ r, prngReg c r) ∗ still c (V m c main_v1))

/-- The products a point stores. -/
def rowsOut (c : Dev nD) (t : Fin cfg0.N) : Vec F S1024x256 .f32 := k0_pay3 (iblk m c 0 t) (narrowAt m c)
def keysOut (c : Dev nD) (t : Fin cfg0.N) : Vec F S1024x128 .bf16 := k0_pay4 (iblk m c 0 t) (narrowAt m c)
def sampleOut (c : Dev nD) (t : Fin cfg0.N) (Y : Vec F S256x256 .f32) : Vec F S256x256 .f32 :=
  if t.val = 0 then k0_pay5 (iblk m c 1 t) (narrowAt m c) else Y

/-- What a point leaves in each window's buffer, of what it finds there. -/
def left (c : Dev nD) : (w : Fin cfg0.W) → Fin cfg0.N → (Y X : (cfg0.win w).block.Idx → Elt F (cfg0.win w).elt) → Prop
  | 0 => fun _ Y X => X = Y
  | 1 => fun _ Y X => X = Y
  | 2 => fun t _ X => X = rowsOut m c t
  | 3 => fun t _ X => X = keysOut m c t
  | 4 => fun t Y X => X = sampleOut m c t Y

/-- The proof's data. -/
def rdat (c : Dev nD) : RDat τ (Elt F) Unit ℕ (Pipeline.UD sig nD τ) ℕ cfg0 c where
  A w := V m c (Pipeline.arrRef spec0 w)
  after := left m c
  Φ k := between m c k.val
  q _ := fullShare
  owed _ := 0

/-- A window that is only read holds its block wherever the body finds it. -/
theorem finds_block0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rfl
theorem finds_block1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rfl

set_option maxHeartbeats 1000000 in
/-- One point: it stores the products of its rows with the tile. -/
theorem sound_point (c : Dev nD) (t : Fin cfg0.N) (Y2 : Vec F S1024x256 .f32) (Y3 : Vec F S1024x128 .bf16) (Y4 : Vec F S256x256 .f32) :
    iprop(between m c t.val ∗ (∃ W, owes (c : Thread nD τ) 0 W) ∗ owns (c : Thread nD τ) (st0_0 t) fullShare (iblk m c 0 t) ∗ owns (c : Thread nD τ) (st0_1 t) fullShare (iblk m c 1 t)
        ∗ owns (c : Thread nD τ) (st0_2 t) fullShare Y2 ∗ owns (c : Thread nD τ) (st0_3 t) fullShare Y3 ∗ owns (c : Thread nD τ) (st0_4 t) fullShare Y4)
      ⊢ wp frame (wpE (defs₀ (F := F)) Variants.none c none) Set.univ (bodyAt0 t) fun _ =>
        iprop(between m c (t.val + 1) ∗ (∃ W, owes (c : Thread nD τ) 0 W) ∗ owns (c : Thread nD τ) (st0_0 t) fullShare (iblk m c 0 t) ∗ owns (c : Thread nD τ) (st0_1 t) fullShare (iblk m c 1 t)
        ∗ owns (c : Thread nD τ) (st0_2 t) fullShare (rowsOut m c t) ∗ owns (c : Thread nD τ) (st0_3 t) fullShare (keysOut m c t) ∗ owns (c : Thread nD τ) (st0_4 t) fullShare (sampleOut m c t Y4)) := by
  obtain ⟨h1, h2, h3, h4⟩ := branches t
  unfold between
  by_cases h0 : t.val = 0
  · have eo : sampleOut m c t Y4 = k0_pay5 (iblk m c 1 t) (narrowAt m c) := if_pos h0
    rw [eo]
    unfold rowsOut keysOut narrowAt
    iintro ⟨⟨⟨%d, %hd, HD⟩, Hp, HC⟩, ⟨%W, HW⟩, H0, H1, H2, H3, H4⟩
    iapply (run_first (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4))
      (iblk m c 0 t) (iblk m c 1 t) d Y2 Y3 Y4 (V m c main_v1) (h1.2 h0) (h2.2 h0) h3 (h4.2 h0) W _)
    isplitl [H0]; · iexact H0
    isplitl [H1]; · iexact H1
    isplitl [H2]; · iexact H2
    isplitl [H3]; · iexact H3
    isplitl [H4]; · iexact H4
    isplitl [HD]; · iexact HD
    isplitl [HC]; · iexact HC
    isplitl [HW]; · iexact HW
    iintro ⟨H0, H1, H2, H3, H4, HD, HC, HW⟩
    isplitl [HD Hp HC]
    · isplitl [HD]
      · iexists _; isplitr; swap; · iexact HD
        ipureintro; exact fun _ => rfl
      isplitl [Hp]; · iexact Hp
      iexact HC
    isplitl [HW]; · iexact HW
    isplitl [H0]; · iexact H0
    isplitl [H1]; · iexact H1
    isplitl [H2]; · iexact H2
    isplitl [H3]; · iexact H3
    iexact H4
  · have eo : sampleOut m c t Y4 = Y4 := if_neg h0
    rw [eo]
    unfold rowsOut keysOut
    iintro ⟨⟨⟨%d, %hd, HD⟩, Hp, HC⟩, ⟨%W, HW⟩, H0, H1, H2, H3, H4⟩
    obtain rfl := hd h0
    iapply (run_plain (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4))
      (iblk m c 0 t) (narrowAt m c) Y2 Y3 (fun h => h0 (h1.1 h)) (fun h => h0 (h2.1 h)) h3 (fun h => h0 (h4.1 h)) _)
    isplitl [H0]; · iexact H0
    isplitl [H2]; · iexact H2
    isplitl [H3]; · iexact H3
    isplitl [HD]; · iexact HD
    iintro ⟨H0, H2, H3, HD⟩
    isplitl [HD Hp HC]
    · isplitl [HD]
      · iexists _; isplitr; swap; · iexact HD
        ipureintro; exact fun _ => rfl
      isplitl [Hp]; · iexact Hp
      iexact HC
    isplitl [HW]; · iexists _; iexact HW
    isplitl [H0]; · iexact H0
    isplitl [H1]; · iexact H1
    isplitl [H2]; · iexact H2
    isplitl [H3]; · iexact H3
    iexact H4

/-- The waits recorded so far are bounded by nothing. -/
theorem owes_in (c : Dev nD) (k : Fin (cfg0.N + 1)) : (rdat (F := F) m c).owesAt () k ⊢ iprop(∃ W, owes (c : Thread nD τ) 0 W) := by
  unfold RDat.owesAt Pipeline.owesWithin
  iintro ⟨%W, -, H⟩
  iexists W; iexact H
theorem owes_out (c : Dev nD) (k : Fin (cfg0.N + 1)) : iprop(∃ W, owes (c : Thread nD τ) 0 W) ⊢ (rdat (F := F) m c).owesAt () k := by
  unfold RDat.owesAt Pipeline.owesWithin
  iintro ⟨%W, H⟩
  iexists W; isplitr; · ipureintro; exact fun _ _ => Or.inl trivial
  iexact H

/-- The body's obligation at every point. -/
theorem body_obligation (c : Dev nD) : (rdat (F := F) m c).BodyObligation (defs₀ (F := F)) Variants.none () Set.univ := fun t Y hY => by
  rw [bigSep_W0, bigSep_W0, defs₀_row]
  rw [finds_block0 m c t _ (hY 0), finds_block1 m c t _ (hY 1)]
  refine triple_restated (sound_point m c t (Y 2) (Y 3) (Y 4)) rfl ?_ fun _ => ?_
  · iintro ⟨HΦ, Ho, H⟩
    isplitl [HΦ]; · iapply (show (rdat (F := F) m c).Φ t.castSucc ⊢ between m c t.val from .rfl); iexact HΦ
    isplitl [Ho]; · iapply (owes_in m c t.castSucc); iexact Ho
    iexact H
  show _ ⊢ iprop(between m c (t.val + 1) ∗ (rdat (F := F) m c).owesAt () t.succ ∗ _)
  iintro ⟨HΦ, Ho, H0, H1, H2, H3, H4⟩
  isplitl [HΦ]; · iexact HΦ
  isplitl [Ho]; · iapply (owes_out m c t.succ); iexact Ho
  isplitl [H0]; · iexists _; isplitr; swap; · iexact H0
                  ipureintro; exact rfl
  isplitl [H1]; · iexists _; isplitr; swap; · iexact H1
                  ipureintro; exact rfl
  isplitl [H2]; · iexists _; isplitr; swap; · iexact H2
                  ipureintro; exact rfl
  isplitl [H3]; · iexists _; isplitr; swap; · iexact H3
                  ipureintro; exact rfl
  iexists _; isplitr; swap; · iexact H4
  ipureintro; exact rfl

set_option backward.isDefEq.respectTransparency.types false in
/-- The run: every core's arrays hold what the data say, the rest is as the region found it, and no semaphore is up. -/
theorem run : θ_run defs (onTc (τ := τ) (main (F := F))) (s₀ m ρ) (fun r => RDat.FramePost cfg0 (rdat (F := F) m) (V m) r ∧ r.2.sem = fun _ => 0) :=
  RDat.θ_run_frame_dma (Q' := _) cfgs (0 : Fin 1) launch0 ownSem defs₀ Variants.none (rdat m) ownSem_facts copied copied_sub m ρ main
    (hbody := body_obligation m) (hshare := fun _ => RDat.share_full _ fun _ => rfl) (howed := fun _ _ => rfl) (V := V m) (hmain := main_runs m Variants.none) (hA := fun _ _ => rfl)
    (hin := fun c => by
      rw [PhiD_eq]
      show _ ⊢ between m c 0
      unfold between
      unfold still
      iintro ⟨⟨HS, ⟨%d, HD⟩⟩, Hp, Hc, HV⟩
      isplitl [HD]
      · iexists _; isplitr; swap; · iexact HD
        ipureintro
        intro h; exact absurd rfl h
      isplitl [Hp]; · iexact Hp
      isplitl [HS]; · iapply (tile_in c); iexact HS
      isplitl [Hc]; · rw [cell_eq]; iexact Hc
      iexact HV)
    (hout := fun c => by
      rw [PhiD_eq]
      show between m c (Fin.last cfg0.N).val ⊢ _
      unfold between
      unfold still
      iintro ⟨⟨%d, %_, HD⟩, Hp, HS, Hc, HV⟩
      isplitl [HS HD]
      · isplitl [HS]; · iapply (tile_out c); iexact HS
        iexists _; iexact HD
      isplitl [Hp]; · iexact Hp
      isplitl [Hc]; · rw [← cell_eq]; iexact Hc
      iexact HV)

/-- The arguments are untouched. -/
theorem args (c : Dev nD) (r : PUnit.{1} × MemSt nD τ sig (Elt F)) (h : RDat.FramePost cfg0 (rdat (F := F) m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(RDat.FramePost.arr_in h c 0 rfl).trans (V_main_arg0 m c),
    (RDat.FramePost.arr_in h c 1 rfl).trans (V_main_arg1 m c),
    ((h c).2 main_arg2 (Pipeline.mem_restRefs_of main_arg2 (by decide) (by decide))).trans (V_main_arg2 m c)⟩

/-- The arguments are untouched and no semaphore is up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => args m c r h.1, h.2⟩) (run m ρ)

end Cert.Wk

end
-- ==== Proof.WkRef.lean ====
/- The projection of the normalised rows to the indexer's head weights and keys, as the reference states it, read at an index. -/
module

public import proofs.«01_k».proof.Proof.Gen.Reference5Ideal.Read
public import Idealize.ShloMosaic.Lib.Pipeline.ValueKit

@[expose] public section

set_option maxRecDepth 16384

noncomputable section

namespace Cert.WkRef

open Idealize.ShloMosaic Cert.Reference5Ideal Cert.Reference5Ideal.Read

/-- Two arrays of 128 columns set side by side, read at an index. -/
theorem beside_at {α : Type} {n : ℕ} (x y : (⟨2, ![n, 128]⟩ : Shape).Idx → α) (h : Shape.Concatenates [⟨2, ![n, 128]⟩, ⟨2, ![n, 128]⟩] ⟨2, ![n, 256]⟩ 1)
    (r : Fin n) (q : Fin 256) :
    concatenate ⟨2, ![n, 256]⟩ 1 [⟨⟨2, ![n, 128]⟩, x⟩, ⟨⟨2, ![n, 128]⟩, y⟩] h (ix2 r q)
      = if hq : q.val < 128 then x (ix2 r ⟨q.val, hq⟩) else y (ix2 r ⟨q.val - 128, by omega⟩) := by
  rw [concatenate_pair_apply]
  refine dite_congr rfl (fun _ => congrArg x ?_) (fun _ => congrArg y ?_)
  · funext a; fin_cases a <;> rfl
  · funext a; fin_cases a <;> rfl

variable (x0 : FVec Ideal S8192x4096 .bf16) (x1 : FVec Ideal S256x4096 .bf16) (x2 : FVec Ideal S1x4096x13472 .f32)

/-- The factor the head weights are scaled by. -/
def scale : Ideal .f32 := FloatOps.ofBits .f32 0x3E3504F3#32

/-- A row times a column of the weight. -/
def promptDot (r : Fin 8192) (n : Fin 13472) : Ideal .f32 := ∑ k : Fin 4096, x0 (ix2 r k) * x2 (ix3 (0 : Fin 1) k n)
def sampleDot (r : Fin 256) (n : Fin 13472) : Ideal .f32 := ∑ k : Fin 4096, x1 (ix2 r k) * x2 (ix3 (0 : Fin 1) k n)

/-- The slices of the products. -/
theorem promptWeight_at (r : Fin 8192) (q : Fin 128) : val_main_v5 (F := Ideal) x0 x2 (ix2 r q) = promptDot x0 x2 r (⟨9216 + q.val, by omega⟩ : Fin 13472) := by
  pointwise [val_main_v5, val_main_v2, val_main_v1, val_main_v0, promptDot]
theorem promptKey_at (r : Fin 8192) (q : Fin 128) : val_main_v11 (F := Ideal) x0 x2 (ix2 r q) = promptDot x0 x2 r (⟨9248 + q.val, by omega⟩ : Fin 13472) := by
  pointwise [val_main_v11, val_main_v2, val_main_v1, val_main_v0, promptDot]
theorem sampleWeight_at (r : Fin 256) (q : Fin 128) : val_main_v8 (F := Ideal) x1 x2 (ix2 r q) = sampleDot x1 x2 r (⟨9216 + q.val, by omega⟩ : Fin 13472) := by
  pointwise [val_main_v8, val_main_v4, val_main_v3, val_main_v0, sampleDot]
theorem sampleKey_at (r : Fin 256) (q : Fin 128) : val_main_v12 (F := Ideal) x1 x2 (ix2 r q) = sampleDot x1 x2 r (⟨9248 + q.val, by omega⟩ : Fin 13472) := by
  pointwise [val_main_v12, val_main_v4, val_main_v3, val_main_v0, sampleDot]

/-- The results: a row's head weights, scaled, then its key; the prompt's keys once more. -/
def prompt (r : Fin 8192) (q : Fin 256) : Ideal .f32 :=
  if _ : q.val < 128 then FloatOps.mulf (promptDot x0 x2 r (⟨9216 + q.val, by omega⟩ : Fin 13472)) scale
  else promptDot x0 x2 r (⟨9248 + (q.val - 128), by omega⟩ : Fin 13472)
def sample (r : Fin 256) (q : Fin 256) : Ideal .f32 :=
  if _ : q.val < 128 then FloatOps.mulf (sampleDot x1 x2 r (⟨9216 + q.val, by omega⟩ : Fin 13472)) scale
  else sampleDot x1 x2 r (⟨9248 + (q.val - 128), by omega⟩ : Fin 13472)
def rows : S8192x256.Idx → EReal := fun p => prompt x0 x2 (⟨(p 0).val, (p 0).isLt⟩ : Fin 8192) (⟨(p 1).val, (p 1).isLt⟩ : Fin 256)
def keys : S8192x128.Idx → EReal := fun p =>
  have h1 : (p 1).val < 128 := (p 1).isLt
  promptDot x0 x2 (⟨(p 0).val, (p 0).isLt⟩ : Fin 8192) (⟨9248 + (p 1).val, by omega⟩ : Fin 13472)
def sampleRows : S256x256.Idx → EReal := fun p => sample x1 x2 (⟨(p 0).val, (p 0).isLt⟩ : Fin 256) (⟨(p 1).val, (p 1).isLt⟩ : Fin 256)

theorem rows_eq : val_main_v13 (F := Ideal) x0 x2 = rows x0 x2 := by
  funext p
  refine (congrArg (val_main_v13 (F := Ideal) x0 x2) (Idealize.ShloMosaic.eq_ix2 (n0 := 8192) (n1 := 256) p)).trans ?_
  refine (beside_at _ _ _ (p 0) (p 1)).trans (dite_congr rfl (fun h => ?_) fun h => ?_)
  · exact congrArg (fun v => FloatOps.mulf v scale) (promptWeight_at x0 x2 (p 0) ⟨(p 1).val, h⟩)
  · exact promptKey_at x0 x2 (p 0) ⟨(p 1).val - 128, _⟩

theorem keys_eq : val_main_v14 (F := Ideal) x0 x2 = keys x0 x2 := by
  funext p
  refine (congrArg (val_main_v11 (F := Ideal) x0 x2) (Idealize.ShloMosaic.eq_ix2 (n0 := 8192) (n1 := 128) p)).trans ?_
  exact promptKey_at x0 x2 (p 0) (p 1)

theorem sampleRows_eq : val_main_v15 (F := Ideal) x1 x2 = sampleRows x1 x2 := by
  funext p
  refine (congrArg (val_main_v15 (F := Ideal) x1 x2) (Idealize.ShloMosaic.eq_ix2 (n0 := 256) (n1 := 256) p)).trans ?_
  refine (beside_at _ _ _ (p 0) (p 1)).trans (dite_congr rfl (fun h => ?_) fun h => ?_)
  · exact congrArg (fun v => FloatOps.mulf v scale) (sampleWeight_at x1 x2 (p 0) ⟨(p 1).val, h⟩)
  · exact sampleKey_at x1 x2 (p 0) ⟨(p 1).val - 128, _⟩

end Cert.WkRef

end
-- ==== Proof.WkValue.lean ====
/- The products that the run of the projection to the indexer's head weights and keys leaves, read at an index. -/
module

public import proofs.«01_k».proof.Proof.WkFrame
public import proofs.«01_k».proof.Proof.WkRef

@[expose] public section

set_option maxRecDepth 16384

noncomputable section

namespace Cert.WkValue

open Idealize.ShloMosaic Idealize.ShloMosaic.TcCoe Idealize.SL.Sem Cert.Kernel5Ideal Cert.Kernel5Ideal.Gen Cert.Wk
open Idealize.ShloMosaic.Pipeline (RDat)

/-- The block of every window at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

variable (m : (ℓ : Loc nD τ sig) → Buf (Elt Ideal) ℓ) (c : Dev nD)

/-- The arguments. -/
abbrev X0 : FVec Ideal S8192x4096 .bf16 := m ((c : Thread nD τ).loc main_arg0)
abbrev X1 : FVec Ideal S256x4096 .bf16 := m ((c : Thread nD τ).loc main_arg1)
abbrev X2 : FVec Ideal S1x4096x13472 .f32 := m ((c : Thread nD τ).loc main_arg2)

/-- A product, and what is stored of it, read at an index. -/
theorem pay2_at (x : FVec Ideal S1024x4096 .bf16) (w : FVec Ideal S256x4096 .bf16) (p : Fin 1024) (q : Fin 256) :
    k0_pay2 (F := Ideal) x w (ix2 p q) = ∑ k : Fin 4096, x (ix2 p k) * w (ix2 q k) := by
  pointwise [k0_pay2]
theorem pay3_at (x : FVec Ideal S1024x4096 .bf16) (w : FVec Ideal S256x4096 .bf16) (p : Fin 1024) (q : Fin 256) :
    k0_pay3 (F := Ideal) x w (ix2 p q) = if _ : q.val < 128 then FloatOps.mulf (F := Ideal) (φ := .f32) (∑ k : Fin 4096, x (ix2 p k) * w (ix2 q k)) WkRef.scale
      else ∑ k : Fin 4096, x (ix2 p k) * w (ix2 q k) := by
  refine (WkRef.beside_at _ _ concatenates_S1024x128_S1024x128_S1024x256_d1 p q).trans (dite_congr rfl (fun h => ?_) fun h => ?_)
  · refine congrArg (fun v => FloatOps.mulf (F := Ideal) (φ := .f32) v WkRef.scale) (Eq.trans (congrArg (k0_pay2 (F := Ideal) x w) ?_) (pay2_at x w p q))
    funext a
    fin_cases a
    · exact Fin.ext (by show 0 + p.val = p.val; omega)
    · exact Fin.ext (by show 0 + q.val = q.val; omega)
  · refine Eq.trans (congrArg (k0_pay2 (F := Ideal) x w) ?_) (pay2_at x w p q)
    funext a
    fin_cases a
    · exact Fin.ext (by show 0 + p.val = p.val; omega)
    · exact Fin.ext (by show 128 + (q.val - 128) = q.val; omega)
theorem pay4_at (x : FVec Ideal S1024x4096 .bf16) (w : FVec Ideal S256x4096 .bf16) (p : Fin 1024) (q : Fin 128) :
    k0_pay4 (F := Ideal) x w (ix2 p q) = ∑ k : Fin 4096, x (ix2 p k) * w (ix2 (⟨128 + q.val, by omega⟩ : Fin 256) k) := by
  refine Eq.trans (congrArg (k0_pay2 (F := Ideal) x w) ?_) (pay2_at x w p (⟨128 + q.val, by omega⟩ : Fin 256))
  funext a
  fin_cases a
  · exact Fin.ext (by show 0 + p.val = p.val; omega)
  · exact Fin.ext (by show 128 + q.val = 128 + q.val; omega)
/-- The product of the sample's rows. -/
def sampleProd (x w : FVec Ideal S256x4096 .bf16) : FVec Ideal S256x256 .f32 :=
  matmul dot_S256x4096_S256x4096_S256x256_1_1_0_0_n_n none x w (constant S256x256 .f32 0x00000000#32)
theorem sampleProd_at (x w : FVec Ideal S256x4096 .bf16) (p : Fin 256) (q : Fin 256) :
    sampleProd x w (ix2 p q) = ∑ k : Fin 4096, x (ix2 p k) * w (ix2 q k) := by
  pointwise [sampleProd]
theorem pay5_at (x w : FVec Ideal S256x4096 .bf16) (p : Fin 256) (q : Fin 256) :
    k0_pay5 (F := Ideal) x w (ix2 p q) = if _ : q.val < 128 then FloatOps.mulf (F := Ideal) (φ := .f32) (∑ k : Fin 4096, x (ix2 p k) * w (ix2 q k)) WkRef.scale
      else ∑ k : Fin 4096, x (ix2 p k) * w (ix2 q k) := by
  refine (WkRef.beside_at _ _ concatenates_S256x128_S256x128_S256x256_d1 p q).trans (dite_congr rfl (fun h => ?_) fun h => ?_)
  · refine congrArg (fun v => FloatOps.mulf (F := Ideal) (φ := .f32) v WkRef.scale) (Eq.trans (congrArg (sampleProd x w) ?_) (sampleProd_at x w p q))
    funext a
    fin_cases a
    · exact Fin.ext (by show 0 + p.val = p.val; omega)
    · exact Fin.ext (by show 0 + q.val = q.val; omega)
  · refine Eq.trans (congrArg (sampleProd x w) ?_) (sampleProd_at x w p q)
    funext a
    fin_cases a
    · exact Fin.ext (by show 0 + p.val = p.val; omega)
    · exact Fin.ext (by show 128 + (q.val - 128) = q.val; omega)
theorem pay1_at (x : FVec Ideal S256x4096 .f32) (q : Fin 256) (k : Fin 4096) : k0_pay1 (F := Ideal) x (ix2 q k) = x (ix2 q k) := by
  pointwise [k0_pay1]

/-- The weight as the region finds it: transposed. -/
theorem weight_at (r : Fin 13472) (k : Fin 4096) : (V m c main_v1 : FVec Ideal S13472x4096 .f32) (ix2 r k) = X2 m c (ix3 (0 : Fin 1) k r) := by
  have e : (V m c main_v1 : FVec Ideal S13472x4096 .f32)
      = transpose S13472x4096 [1, 0] (shapeCast S4096x13472 (X2 m c) shapeCasts_S1x4096x13472_S4096x13472) transposes_S4096x13472_S13472x4096_1_0 := by
    after_results <;> rfl
  rw [e]
  pointwise []

/-- The column of the weight that row `q` of the tile is. -/
def col (q : Fin 256) : Fin 13472 := if q.val < 128 then ⟨9216 + q.val, by omega⟩ else ⟨9248 + (q.val - 128), by omega⟩

/-- The rounded tile, read at an index. -/
theorem narrowAt_at (q : Fin 256) (k : Fin 4096) : narrowAt m c (ix2 q k) = X2 m c (ix3 (0 : Fin 1) k (col q)) := by
  unfold narrowAt narrow
  rw [pay1_at, ← weight_at]
  unfold stack col
  by_cases h : q.val < 128
  · rw [if_pos h]
    refine (dif_pos h).trans (congrArg (V m c main_v1 : FVec Ideal S13472x4096 .f32) ?_)
    funext a
    fin_cases a
    · exact Fin.ext (by show 9216 + 1 * q.val = 9216 + q.val; omega)
    · exact Fin.ext (by show 0 + 1 * k.val = k.val; omega)
  · rw [if_neg h]
    refine (dif_neg h).trans (congrArg (V m c main_v1 : FVec Ideal S13472x4096 .f32) ?_)
    funext a
    fin_cases a
    · exact Fin.ext (by show 9248 + 1 * (q.val - 128) = 9248 + (q.val - 128); omega)
    · exact Fin.ext (by show 0 + 1 * k.val = k.val; omega)

/-- The block of the prompt's rows and the sample's rows that a point reads. -/
def promptBlock (t : Fin cfg0.N) : FVec Ideal S1024x4096 .bf16 := iblk m c 0 t
def sampleBlock (t : Fin cfg0.N) : FVec Ideal S256x4096 .bf16 := iblk m c 1 t
theorem promptBlock_at (t : Fin cfg0.N) (p : Fin 1024) (k : Fin 4096) (h : 1024 * t.val + p.val < 8192) :
    promptBlock m c t (ix2 p k) = X0 m c (ix2 ⟨1024 * t.val + p.val, h⟩ k) := by
  have ht := lt_of_lt_of_eq t.isLt N_0
  unfold promptBlock
  blk_point [iblk, V, idx t]
theorem sampleBlock_at (t : Fin cfg0.N) (p : Fin 256) (k : Fin 4096) : sampleBlock m c t (ix2 p k) = X1 m c (ix2 p k) := by
  unfold sampleBlock
  blk_point [iblk, V, idx t]

/-- A product of a block of the prompt's rows with a row of the tile. -/
theorem dot_at (t : Fin cfg0.N) (p : Fin 1024) (q : Fin 256) (h : 1024 * t.val + p.val < 8192) :
    (∑ k : Fin 4096, promptBlock m c t (ix2 p k) * narrowAt m c (ix2 q k)) = WkRef.promptDot (X0 m c) (X2 m c) ⟨1024 * t.val + p.val, h⟩ (col q) := by
  exact Finset.sum_congr rfl fun k _ => congrArg₂ (· * ·) (promptBlock_at m c t p k h) (narrowAt_at m c q k)

/-- The same of the sample's rows. -/
theorem sampleDot_at (t : Fin cfg0.N) (p : Fin 256) (q : Fin 256) :
    (∑ k : Fin 4096, sampleBlock m c t (ix2 p k) * narrowAt m c (ix2 q k)) = WkRef.sampleDot (X1 m c) (X2 m c) p (col q) := by
  exact Finset.sum_congr rfl fun k _ => congrArg₂ (· * ·) (sampleBlock_at m c t p k) (narrowAt_at m c q k)

/-- What a point stores, of the prompt and of the sample. -/
theorem prompt_at (t : Fin cfg0.N) (p : Fin 1024) (q : Fin 256) (h : 1024 * t.val + p.val < 8192) :
    k0_pay3 (F := Ideal) (iblk m c 0 t) (narrowAt m c) (ix2 p q) = WkRef.prompt (X0 m c) (X2 m c) ⟨1024 * t.val + p.val, h⟩ q := by
  refine (pay3_at (promptBlock m c t) (narrowAt m c) p q).trans ?_
  rw [dot_at m c t p q h]
  refine dite_congr rfl (fun hq => ?_) fun hq => ?_
  · rw [show col q = ⟨9216 + q.val, by omega⟩ from if_pos hq]
  · rw [show col q = ⟨9248 + (q.val - 128), by omega⟩ from if_neg hq]
theorem key_at (t : Fin cfg0.N) (p : Fin 1024) (q : Fin 128) (h : 1024 * t.val + p.val < 8192) :
    k0_pay4 (F := Ideal) (iblk m c 0 t) (narrowAt m c) (ix2 p q) = WkRef.promptDot (X0 m c) (X2 m c) ⟨1024 * t.val + p.val, h⟩ (⟨9248 + q.val, by omega⟩ : Fin 13472) := by
  refine (pay4_at (promptBlock m c t) (narrowAt m c) p q).trans ?_
  rw [dot_at m c t p _ h]
  refine congrArg _ ((if_neg (by show ¬ 128 + q.val < 128; omega)).trans (Fin.ext ?_))
  show 9248 + (128 + q.val - 128) = 9248 + q.val
  omega
theorem sample_at (t : Fin cfg0.N) (p : Fin 256) (q : Fin 256) :
    k0_pay5 (F := Ideal) (iblk m c 1 t) (narrowAt m c) (ix2 p q) = WkRef.sample (X1 m c) (X2 m c) p q := by
  refine (pay5_at (sampleBlock m c t) (narrowAt m c) p q).trans ?_
  rw [sampleDot_at m c t p q]
  refine dite_congr rfl (fun hq => ?_) fun hq => ?_
  · rw [show col q = ⟨9216 + q.val, by omega⟩ from if_pos hq]
  · rw [show col q = ⟨9248 + (q.val - 128), by omega⟩ from if_neg hq]

/-- What the points leave of the sample's rows: the first stores it, the others leave it. -/
theorem left_sample : ∀ (n : ℕ) (t : Fin cfg0.N), t.val = n → ∀ X, (rdat (F := Ideal) m c).Leaves 4 t X →
    X = k0_pay5 (iblk m c 1 t) (narrowAt m c)
  | 0, t, h, X, hX => by
    obtain ⟨Y, _, e⟩ := hX
    exact (show X = sampleOut m c t Y from e).trans (if_pos h)
  | n + 1, t, h, X, hX => by
    obtain ⟨Y, hY, e⟩ := hX
    have e' : X = Y := (show X = sampleOut m c t Y from e).trans (if_neg (by omega))
    have ht := lt_of_lt_of_eq t.isLt N_0
    rcases ((rdat (F := Ideal) m c).finds_of_pos ((cfg0.win 4).fetch_out rfl t) (by omega) Y).mp hY with hf | hl
    · have := (flush0_4 _).mp hf
      have e7 : (t.val - 1) % 8 = 7 := this
      omega
    · have := left_sample n ⟨t.val - 1, Nat.lt_of_le_of_lt (Nat.sub_le _ _) t.isLt⟩ (by show t.val - 1 = n; omega) Y hl
      rw [e', this]
      rfl

/-- The prompt's head weights and keys are the reference's. -/
theorem final_rows (r : PUnit.{1} × MemSt nD τ sig (Elt Ideal)) (h : RDat.FramePost cfg0 (rdat (F := Ideal) m) (V m) r) :
    r.2.mem ((c : Thread nD τ).loc main_v2_0) = WkRef.rows (X0 m c) (X2 m c) := by
  obtain ⟨after, hl, ha⟩ := RDat.FramePost.exists_exact h c
  refine (ha 2).trans (((rdat (F := Ideal) m c).withAfter after).arrAt_eq_of_covers 2 _ (by decide +kernel) fun t hf y => ?_)
  have ht := lt_of_lt_of_eq t.isLt N_0
  have e : after 2 t = rowsOut m c t := by obtain ⟨Y, _, e⟩ := hl 2 t hf; exact e
  blk_simp
  rw [RDat.withAfter_after, e]
  have y0 : (y 0).val < 1024 := (y 0).isLt
  have y1 : (y 1).val < 256 := (y 1).isLt
  refine (congrArg (rowsOut m c t) (Idealize.ShloMosaic.eq_ix2 (n0 := 1024) (n1 := 256) y)).trans ?_
  refine (prompt_at m c t (y 0) (y 1) (by omega)).trans ?_
  have ey : (win0_2.blk t).view.emb y = ix2 (⟨1024 * t.val + (y 0).val, by omega⟩ : Fin 8192) (⟨(y 1).val, y1⟩ : Fin 256) := by
    blk_ext [idx t]
  refine Eq.trans ?_ (congrArg (WkRef.rows (X0 m c) (X2 m c)) ey.symm)
  rfl

/-- The prompt's keys, once more, are the reference's. -/
theorem final_keys (r : PUnit.{1} × MemSt nD τ sig (Elt Ideal)) (h : RDat.FramePost cfg0 (rdat (F := Ideal) m) (V m) r) :
    r.2.mem ((c : Thread nD τ).loc main_v2_1) = WkRef.keys (X0 m c) (X2 m c) := by
  obtain ⟨after, hl, ha⟩ := RDat.FramePost.exists_exact h c
  refine (ha 3).trans (((rdat (F := Ideal) m c).withAfter after).arrAt_eq_of_covers 3 _ (by decide +kernel) fun t hf y => ?_)
  have ht := lt_of_lt_of_eq t.isLt N_0
  have e : after 3 t = keysOut m c t := by obtain ⟨Y, _, e⟩ := hl 3 t hf; exact e
  blk_simp
  rw [RDat.withAfter_after, e]
  have y0 : (y 0).val < 1024 := (y 0).isLt
  have y1 : (y 1).val < 128 := (y 1).isLt
  refine (congrArg (keysOut m c t) (Idealize.ShloMosaic.eq_ix2 (n0 := 1024) (n1 := 128) y)).trans ?_
  refine (key_at m c t (y 0) (y 1) (by omega)).trans ?_
  have ey : (win0_3.blk t).view.emb y = ix2 (⟨1024 * t.val + (y 0).val, by omega⟩ : Fin 8192) (⟨(y 1).val, y1⟩ : Fin 128) := by
    blk_ext [idx t]
  refine Eq.trans ?_ (congrArg (WkRef.keys (X0 m c) (X2 m c)) ey.symm)
  rfl

/-- The sample's head weights and keys are the reference's. -/
theorem final_sample (r : PUnit.{1} × MemSt nD τ sig (Elt Ideal)) (h : RDat.FramePost cfg0 (rdat (F := Ideal) m) (V m) r) :
    r.2.mem ((c : Thread nD τ).loc main_v2_2) = WkRef.sampleRows (X1 m c) (X2 m c) := by
  obtain ⟨after, hl, ha⟩ := RDat.FramePost.exists_exact h c
  refine (ha 4).trans (((rdat (F := Ideal) m c).withAfter after).arrAt_eq_of_covers 4 _ (by decide +kernel) fun t hf y => ?_)
  have ht := lt_of_lt_of_eq t.isLt N_0
  have e := left_sample m c _ t rfl (after 4 t) (hl 4 t hf)
  blk_simp
  rw [RDat.withAfter_after, e]
  have y0 : (y 0).val < 256 := (y 0).isLt
  have y1 : (y 1).val < 256 := (y 1).isLt
  refine (congrArg (k0_pay5 (F := Ideal) (iblk m c 1 t) (narrowAt m c)) (Idealize.ShloMosaic.eq_ix2 (n0 := 256) (n1 := 256) y)).trans ?_
  refine (sample_at m c t (y 0) (y 1)).trans ?_
  have ey : (win0_4.blk t).view.emb y = ix2 (⟨(y 0).val, y0⟩ : Fin 256) (⟨(y 1).val, y1⟩ : Fin 256) := by
    blk_ext [idx t]
  refine Eq.trans ?_ (congrArg (WkRef.sampleRows (X1 m c) (X2 m c)) ey.symm)
  rfl

end Cert.WkValue

end
-- ==== Proof.WkClaim.lean ====
/- The claims about the projection of the normalised rows to the indexer's head weights and keys. -/
module

public import proofs.«01_k».proof.Defs
public import proofs.«01_k».proof.Proof.Gen.Kernel5.Launch
public import proofs.«01_k».proof.Proof.Gen.Reference5Ideal.Run
public import proofs.«01_k».proof.Proof.WkValue

@[expose] public section

noncomputable section

namespace Cert.WkClaim

open Idealize.ShloMosaic Idealize.SL.Sem

variable {F : FTy → Type} [FloatOps F]

/-- The program and its ideal reading call one body. -/
theorem defs₀_eq : (Cert.Kernel5.defs₀ (F := F)) = Cert.Kernel5Ideal.defs₀ (F := F) := by
  unfold Cert.Kernel5.defs₀ Cert.Kernel5Ideal.defs₀
  refine congrArg (Defs.onTc (nD := Cert.Kernel5.nD) (τ := Cert.Kernel5.τ) (sig := Cert.Kernel5.sig) (Val := Elt F) (Λ := Cert.Kernel5.Λ₀)) ?_
  funext l a
  obtain ⟨n, hn⟩ := l
  match n, hn with
  | 0, _ => obtain ⟨t, s⟩ := a; rfl
  | n + 1, h => exact absurd h (Nat.not_lt.2 (Nat.le_add_left _ _))

/-- So their body tables are one. -/
theorem defs_eq : (Cert.Kernel5.defs (F := F)) = Cert.Kernel5Ideal.defs (F := F) := by
  unfold Cert.Kernel5.defs Cert.Kernel5Ideal.defs
  rw [defs₀_eq]; rfl

/-- The program leaves its arguments as launched and every semaphore at zero. -/
theorem frame_kernel : Cert.quiescent_Kernel5 := fun m ρ _ => by
  rw [defs_eq]; exact Cert.Wk.frame (F := Bits) m ρ

/-- The same of its ideal reading. -/
theorem frame_ideal : Cert.quiescent_Kernel5Ideal := fun m ρ _ => Cert.Wk.frame (F := Ideal) m ρ

/-- The reference runs and leaves its arguments as launched; it declares no semaphore. -/
theorem frame_reference : Cert.quiescent_Reference5Ideal := fun m ρ _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m ρ)

/-- Kernel and reference leave the same head weights and keys of the prompt, the same keys of it once more, and the same of the sample. -/
theorem algebraic : Cert.algebraic_Kernel5Ideal_Reference5Ideal := by
  intro m g m' g' _ hargs
  refine ⟨fun c => Cert.WkRef.rows (Cert.WkValue.X0 m c) (Cert.WkValue.X2 m c), fun c => Cert.WkRef.keys (Cert.WkValue.X0 m c) (Cert.WkValue.X2 m c),
    fun c => Cert.WkRef.sampleRows (Cert.WkValue.X1 m c) (Cert.WkValue.X2 m c), ?_, ?_⟩
  · exact (θ_run Cert.Kernel5Ideal.defs _ _).mono (fun r h c => ⟨Cert.WkValue.final_rows m c r h.1, Cert.WkValue.final_keys m c r h.1, Cert.WkValue.final_sample m c r h.1, Cert.Wk.args m c r h.1⟩)
      (Cert.Wk.run (F := Ideal) m g)
  · refine (θ_run Cert.Reference5Ideal.defs _ _).mono (fun r h c => ⟨(h c).1.trans ?_, (h c).2.1.trans ?_, (h c).2.2.1.trans ?_, (h c).2.2.2⟩) (Cert.Reference5Ideal.Value.run (F := Ideal) m' g')
    · refine (Cert.Reference5Ideal.Read.val_main_v13_eq (F := Ideal) _ _).trans ?_
      obtain ⟨e0, e1, e2⟩ := hargs c
      rw [e0, e2]
      exact Cert.WkRef.rows_eq _ _
    · refine (Cert.Reference5Ideal.Read.val_main_v14_eq (F := Ideal) _ _).trans ?_
      obtain ⟨e0, e1, e2⟩ := hargs c
      rw [e0, e2]
      exact Cert.WkRef.keys_eq _ _
    · refine (Cert.Reference5Ideal.Read.val_main_v15_eq (F := Ideal) _ _).trans ?_
      obtain ⟨e0, e1, e2⟩ := hargs c
      rw [e1, e2]
      exact Cert.WkRef.sampleRows_eq _ _

end Cert.WkClaim

end
-- ==== Proof.QRun.lean ====
module

public import proofs.«01_k».proof.Proof.Gen.Kernel7Ideal.Launch
public import proofs.«01_k».proof.Proof.Gen.Kernel7Ideal.Points
public import proofs.«01_k».proof.Proof.Gen.Kernel7Ideal.Skeleton
public import proofs.«01_k».proof.Proof.Gen.Kernel7Ideal.Frame
public import proofs.«01_k».proof.Proof.ProjRun
public import proofs.«01_k».proof.Proof.Heads
public import Idealize.ShloMosaic.Lib.Claim
public import Idealize.ShloMosaic.Lib.WritesUnit
public import Idealize.ShloMosaic.Lib.VecWindow
public import Idealize.ShloMosaic.Lib.Pipeline.ValueKit

@[expose] public section

set_option maxRecDepth 16384

noncomputable section

/-! # The projection to the queries: the body's run at each kind of grid point

A grid point takes one block of the prompt's rows against one tile of 512 weight rows. The tile is copied from the
whole weight by the body itself: the copy of the next tile starts at the second block of rows of a tile and is
waited for at the first block of rows of the next. -/

namespace Cert.Q

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

/-- The scratch a weight tile is copied to. -/
abbrev tileM : Memref sig .tc .vmem S512x4096 .f32 := Memref.whole cc0_scratch0
/-- The scratch that holds the tile rounded. -/
abbrev narrowM : Memref sig .tc .vmem S512x4096 .bf16 := Memref.whole cc0_scratch1
/-- The weight, left in HBM. -/
abbrev weightM : Memref sig .tc .hbm S13472x4096 .f32 := Memref.whole main_v1
/-- The copy's target: the whole of the scratch. -/
abbrev slotM : Memref sig .tc .vmem S512x4096 .f32 :=
  tileM.slice (Rect.unit (s := S512x4096) ![0, 0] S512x4096.size inb_S512x4096_S512x4096_0_0) (fun _ => rfl)
/-- The copy's source: 512 rows of the weight. -/
abbrev rowsM (o : Fin 2 → ℕ) (h : ∀ a, o a + S512x4096.size a ≤ S13472x4096.size a) : Memref sig .tc .hbm S512x4096 .f32 :=
  weightM.slice (Rect.unit (s := S13472x4096) o S512x4096.size h) (fun _ => rfl)
/-- The copy's semaphore. -/
abbrev cellM : DmaSems sig S_ := (cc0_scratch2.slice (Rect.unit (s := S1) ![0] S1.size inb_S1_S1_0)).squeeze S_ squeezes_S1_S_
abbrev cell : SemLoc sig := SemLoc.dma cellM.sem

/-- The contents of a buffer as memref `M` places it on core `c`. -/
abbrev Held (c : Dev nD) {sp : Space} {S : Shape} {e : EltTy} (M : Memref sig .tc sp S e) : Type := Buf (Elt F) (M.view.loc (c : Thread nD τ))

/-- The scratch for the tile, at `f`. -/
abbrev slotAt (c : Dev nD) (f : Held (F := F) c slotM) : sProp 𝕄 := slotM.view.loc (c : Thread nD τ) ↦[slotM.view.set]{fullShare} f
/-- The weight's rows that a copy reads, and the weight without them. -/
abbrev rowsAt (c : Dev nD) (W : Held (F := F) c weightM) (o : Fin 2 → ℕ) (h : ∀ a, o a + S512x4096.size a ≤ S13472x4096.size a) : sProp 𝕄 :=
  (rowsM o h).view.loc (c : Thread nD τ) ↦[(rowsM o h).view.set]{fullShare} W
def restAt (c : Dev nD) (W : Held (F := F) c weightM) (o : Fin 2 → ℕ) (h : ∀ a, o a + S512x4096.size a ≤ S13472x4096.size a) : sProp 𝕄 :=
  ((c : Thread nD τ).loc main_v1) ↦[Finset.univ \ (rowsM o h).view.set]{fullShare} W
/-- The weight whole. -/
abbrev weightAt (c : Dev nD) (W : Held (F := F) c weightM) : sProp 𝕄 := ((c : Thread nD τ).loc main_v1) ↦[Finset.univ]{fullShare} W
/-- The scratch once the rows are copied over `f`. -/
abbrev landed (c : Dev nD) (W : Held (F := F) c weightM) (o : Fin 2 → ℕ) (h : ∀ a, o a + S512x4096.size a ≤ S13472x4096.size a) (f : Held (F := F) c slotM) : Held (F := F) c slotM :=
  slotM.view.writes (Elt F) f [⟨Rect.whole S512x4096, ReadAs.same.apply ((rowsM o h).view.read (Elt F) W)⟩]
/-- A copy under way: it will hand over the scratch filled and give back the rows. -/
abbrev flying (c : Dev nD) (W : Held (F := F) c weightM) (o : Fin 2 → ℕ) (h : ∀ a, o a + S512x4096.size a ≤ S13472x4096.size a) (f : Held (F := F) c slotM) : sProp 𝕄 :=
  Transfers.Flight countersEmb (c : Thread nD τ) cell default (slotM.view.amount cell) iprop(slotAt c (landed c W o h f) ∗ rowsAt c W o h)

theorem weight_split (c : Dev nD) (W : Held (F := F) c weightM) (o : Fin 2 → ℕ) (h : ∀ a, o a + S512x4096.size a ≤ S13472x4096.size a) : weightAt c W ⊣⊢ iprop(rowsAt c W o h ∗ restAt c W o h) := by
  unfold restAt; exact pointsTo_split_subset (Finset.subset_univ _)

/-- No copy under way: the scratch, the semaphore and the whole weight. -/
def still (c : Dev nD) (W : Held (F := F) c weightM) : sProp 𝕄 := iprop((∃ f, slotAt c f) ∗ semVal ((c : Thread nD τ), cell) 0 ∗ weightAt c W)
/-- The copy of the rows at `o` under way. -/
def moving (c : Dev nD) (W : Held (F := F) c weightM) (o : Fin 2 → ℕ) (h : ∀ a, o a + S512x4096.size a ≤ S13472x4096.size a) : sProp 𝕄 := iprop((∃ f, flying c W o h f) ∗ restAt c W o h)

/-- The rows copied, rounded. -/
def narrow (c : Dev nD) (W : Held (F := F) c weightM) (o : Fin 2 → ℕ) (h : ∀ a, o a + S512x4096.size a ≤ S13472x4096.size a) : Vec F S512x4096 .bf16 := k0_pay8 ((rowsM o h).view.read (Elt F) W)

/-- The scratch read after a copy over the whole of it is what was copied. -/
theorem read_landed (c : Dev nD) (f : Held (F := F) c slotM) (x : Vec F S512x4096 .f32) :
    tileM.view.readAt (Elt F) (Rect.unit (s := S512x4096) ![0, 0] S512x4096.size inb_S512x4096_S512x4096_0_0).toLoadRect
      (slotM.view.writes (Elt F) f [⟨Rect.whole S512x4096, x⟩]) = x :=
  View.read_writes_whole slotM.view f x

section Runs

open Cert.ProjU (ld_whole)
open Cert.Heads (slabsOf)

variable (c : Dev nD) (i : grid0.Coords) (arg2 : Memref sig .tc .vmem S2048x4096 .bf16) (harg2 : arg2.IsWhole) (arg3 : Memref sig .tc .vmem S256x4096 .bf16) (harg3 : arg3.IsWhole)
  (arg5 : Memref sig .tc .vmem S4x2048x128 .bf16) (harg5 : arg5.IsWhole) (arg6 : Memref sig .tc .vmem S4x256x128 .f32) (harg6 : arg6.IsWhole)
  (x0 : Vec F S2048x4096 .bf16) (x1 : Vec F S256x4096 .bf16) (d : Vec F S512x4096 .bf16) (y2 : Vec F S4x2048x128 .bf16) (y3 : Vec F S4x256x128 .f32)
  (V : Held (F := F) c weightM)

/-- What a point stores: the scaled products head after head, the prompt's rounded. -/
def queryHeads (x0 : Vec F S2048x4096 .bf16) (d : Vec F S512x4096 .bf16) : Vec F S4x2048x128 .bf16 := fun y => FloatOps.truncf .bf16 bitsLt_bf16_f32 (slabsOf (k0_pay9 x0 d) y)
def querySample (x1 : Vec F S256x4096 .bf16) (d : Vec F S512x4096 .bf16) : Vec F S4x256x128 .f32 := slabsOf (k0_pay3 x1 d)

/-- The stores of a point, read back. -/
theorem read_queryHeads (v : View sig .tc .vmem S4x2048x128 .bf16) (f : v.ty.Contents (Elt F)) (h0) (h1) (h2) (h3) :
    v.read (Elt F) (v.writes (Elt F) f [⟨Rect.unit ![3, 0, 0] S1x2048x128.size h3, k0_pay2 (k0_pay9 x0 d)⟩, ⟨Rect.unit ![2, 0, 0] S1x2048x128.size h2, k0_pay1 (k0_pay12 x0 d)⟩,
      ⟨Rect.unit ![1, 0, 0] S1x2048x128.size h1, k0_pay11 x0 d⟩, ⟨Rect.unit ![0, 0, 0] S1x2048x128.size h0, k0_pay10 x0 d⟩]) = queryHeads x0 d :=
  Cert.Heads.read_slabsOf v f (k0_pay9 x0 d) h0 h1 h2 h3 slices_S2048x512_o0_0_S2048x128 slices_S2048x512_o0_128_S2048x128 slices_S2048x512_o0_256_S2048x128 slices_S2048x512_o0_384_S2048x128 shapeCasts_S2048x128_S1x2048x128 bitsLt_bf16_f32
theorem sample_slices : ∀ g : Fin 4, S256x512.Slices ![0, 128 * g.val] S256x128 := fun g => by
  fin_cases g
  exacts [slices_S256x512_o0_0_S256x128, slices_S256x512_o0_128_S256x128, slices_S256x512_o0_256_S256x128, slices_S256x512_o0_384_S256x128]
theorem read_querySample (v : View sig .tc .vmem S4x256x128 .f32) (f : v.ty.Contents (Elt F)) (h0) (h1) (h2) (h3) :
    v.read (Elt F) (v.writes (Elt F) f [⟨Rect.unit ![3, 0, 0] S1x256x128.size h3, k0_pay7 x1 d⟩, ⟨Rect.unit ![2, 0, 0] S1x256x128.size h2, k0_pay6 x1 d⟩,
      ⟨Rect.unit ![1, 0, 0] S1x256x128.size h1, k0_pay5 x1 d⟩, ⟨Rect.unit ![0, 0, 0] S1x256x128.size h0, k0_pay4 x1 d⟩]) = querySample x1 d :=
  Cert.Heads.read_slabsPlain v f (k0_pay3 x1 d) h0 h1 h2 h3 sample_slices shapeCasts_S256x128_S1x256x128 (![k0_pay4 x1 d, k0_pay5 x1 d, k0_pay6 x1 d, k0_pay7 x1 d]) fun g => by
    fin_cases g <;> rfl

/-- The body on these buffers. -/
abbrev body : Prog (TpuEff nD τ sig (Elt F) Λ₀ .tc) PUnit :=
  cc0_proj_q i arg2 harg2 arg3 harg3 weightM (Memref.isWhole_whole _) arg5 harg5 arg6 harg6 tileM (Memref.isWhole_whole _) narrowM (Memref.isWhole_whole _) cc0_scratch2

set_option maxHeartbeats 1000000 in
/-- A block of rows against the tile held. -/
theorem run_plain (c1 : ¬ (k0_cond1 i = 1#1)) (c2 : ¬ (k0_cond2 i = 1#1)) (c3 : ¬ (k0_cond3 i = 1#1)) (c4 : ¬ (k0_cond4 i = 1#1)) (K : PUnit → sProp 𝕄) :
    iprop(owns (c : Thread nD τ) arg2 fullShare x0 ∗ owns (c : Thread nD τ) arg5 fullShare y2 ∗ owns (c : Thread nD τ) narrowM fullShare d
        ∗ (iprop(owns (c : Thread nD τ) arg2 fullShare x0 ∗ owns (c : Thread nD τ) arg5 fullShare (queryHeads x0 d) ∗ owns (c : Thread nD τ) narrowM fullShare d) -∗ K ⟨⟩))
      ⊢ wp frame (wpE (defs₀ (F := F)) Variants.none c none) Set.univ (body (F := F) i arg2 harg2 arg3 harg3 arg5 harg5 arg6 harg6) K := by
  unfold body
  simp only [cc0_proj_q_eq_skeleton]; unfold cc0_proj_q_skel
  simp only [k0_part1_eq_skeleton]; unfold k0_part1_skel
  unfold owns
  iintro ⟨⟨%f0, %hf0, H0⟩, ⟨%f2, %hf2, H2⟩, ⟨%fd, %hfd, HD⟩, Hk⟩
  obtain rfl := harg2.eq_unread hf0
  obtain rfl := harg5.eq_unread hf2
  sl_exec (disch := first | sl_exact c1 | sl_exact c2 | sl_exact c3 | sl_exact c4)
  sl_step
  iapply Hk
  isplitl [H0]
  · iexists _; isplitr; · ipureintro; exact harg2.read_unread _
    iexact H0
  isplitl [H2]
  · iexists _; isplitr; swap; · iexact H2
    ipureintro
    sl_unfold_words
    rw [View.readAt_eq_ld, View.readAt_eq_ld, harg2.read_unread, hfd, ld_whole, ld_whole]
    exact read_queryHeads x0 d _ _ _ _ _ _
  iexists _; isplitr; · ipureintro; exact hfd
  iexact HD

set_option maxHeartbeats 1000000 in
/-- The second block of rows of a tile, another tile to come: its copy starts. -/
theorem run_start (c1 : ¬ (k0_cond1 i = 1#1)) (c2 : ¬ (k0_cond2 i = 1#1)) (c3 : k0_cond3 i = 1#1) (c4 : ¬ (k0_cond4 i = 1#1)) (W : Waits sig Unit) (K : PUnit → sProp 𝕄) :
    iprop(owns (c : Thread nD τ) arg2 fullShare x0 ∗ owns (c : Thread nD τ) arg5 fullShare y2 ∗ owns (c : Thread nD τ) narrowM fullShare d ∗ still c V ∗ owes (c : Thread nD τ) 0 W
        ∗ (iprop(owns (c : Thread nD τ) arg2 fullShare x0 ∗ owns (c : Thread nD τ) arg5 fullShare (queryHeads x0 d) ∗ owns (c : Thread nD τ) narrowM fullShare d
          ∗ moving c V (k0_off2 i) (k0_off2_inb i c3) ∗ (∃ W', owes (c : Thread nD τ) 0 W')) -∗ K ⟨⟩))
      ⊢ wp frame (wpE (defs₀ (F := F)) Variants.none c none) Set.univ (body (F := F) i arg2 harg2 arg3 harg3 arg5 harg5 arg6 harg6) K := by
  unfold body
  simp only [cc0_proj_q_eq_skeleton]; unfold cc0_proj_q_skel
  simp only [k0_part1_eq_skeleton]; unfold k0_part1_skel
  unfold owns still
  iintro ⟨⟨%f0, %hf0, H0⟩, ⟨%f2, %hf2, H2⟩, ⟨%fd, %hfd, HD⟩, ⟨⟨%f, HS⟩, Hc, HV⟩, HW, Hk⟩
  ihave Hs := (weight_split c V (k0_off2 i) (k0_off2_inb i c3)).1 $$ HV
  icases Hs with ⟨HR, HX⟩
  obtain rfl := harg2.eq_unread hf0
  obtain rfl := harg5.eq_unread hf2
  sl_exec (disch := first | sl_exact c1 | sl_exact c2 | sl_exact c3 | sl_exact c4)
  sl_step
  iapply Hk
  isplitl [H0]
  · iexists _; isplitr; · ipureintro; exact harg2.read_unread _
    iexact H0
  isplitl [H2]
  · iexists _; isplitr; swap; · iexact H2
    ipureintro
    sl_unfold_words
    rw [View.readAt_eq_ld, View.readAt_eq_ld, harg2.read_unread, hfd, ld_whole, ld_whole]
    exact read_queryHeads x0 d _ _ _ _ _ _
  isplitl [HD]
  · iexists _; isplitr; · ipureintro; exact hfd
    iexact HD
  isplitl [Hc HX]
  · unfold moving
    isplitl [Hc]
    · iexists _; iexact Hc
    iexact HX
  iexists _; iexact HW

set_option maxHeartbeats 1000000 in
/-- The first block of rows of a tile whose copy is under way: the copy is waited for, the tile rounded, and both products stored. -/
theorem run_land (c1 : ¬ (k0_cond1 i = 1#1)) (c2 : k0_cond2 i = 1#1) (c3 : ¬ (k0_cond3 i = 1#1)) (c4 : k0_cond4 i = 1#1) (W : Waits sig Unit) (K : PUnit → sProp 𝕄) :
    iprop(owns (c : Thread nD τ) arg2 fullShare x0 ∗ owns (c : Thread nD τ) arg3 fullShare x1 ∗ owns (c : Thread nD τ) arg5 fullShare y2 ∗ owns (c : Thread nD τ) arg6 fullShare y3
        ∗ owns (c : Thread nD τ) narrowM fullShare d ∗ moving c V (k0_off1 i) (k0_off1_inb i c2) ∗ owes (c : Thread nD τ) 0 W
        ∗ (iprop(owns (c : Thread nD τ) arg2 fullShare x0 ∗ owns (c : Thread nD τ) arg3 fullShare x1 ∗ owns (c : Thread nD τ) arg5 fullShare (queryHeads x0 (narrow c V (k0_off1 i) (k0_off1_inb i c2)))
          ∗ owns (c : Thread nD τ) arg6 fullShare (querySample x1 (narrow c V (k0_off1 i) (k0_off1_inb i c2)))
          ∗ owns (c : Thread nD τ) narrowM fullShare (narrow c V (k0_off1 i) (k0_off1_inb i c2)) ∗ still c V ∗ (∃ W', owes (c : Thread nD τ) 0 W')) -∗ K ⟨⟩))
      ⊢ wp frame (wpE (defs₀ (F := F)) Variants.none c none) Set.univ (body (F := F) i arg2 harg2 arg3 harg3 arg5 harg5 arg6 harg6) K := by
  unfold body
  simp only [cc0_proj_q_eq_skeleton]; unfold cc0_proj_q_skel
  simp only [k0_part1_eq_skeleton]; unfold k0_part1_skel
  unfold owns moving
  iintro ⟨⟨%f0, %hf0, H0⟩, ⟨%f1, %hf1, H1⟩, ⟨%f2, %hf2, H2⟩, ⟨%f3, %hf3, H3⟩, ⟨%fd, %hfd, HD⟩, ⟨⟨%f, Hf⟩, HX⟩, HW, Hk⟩
  obtain rfl := harg2.eq_unread hf0
  obtain rfl := harg3.eq_unread hf1
  obtain rfl := harg5.eq_unread hf2
  obtain rfl := harg6.eq_unread hf3
  sl_exec (disch := first | sl_exact c1 | sl_exact c2 | sl_exact c3 | sl_exact c4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [View.readAt_eq_ld arg2.view, harg2.read_unread, ld_whole]
    refine (read_queryHeads x0 _ _ _ _ _ _ _).trans (congrArg (queryHeads x0) ((View.readCov_full _ _ _ _ _).trans (congrArg k0_pay8 (read_landed c _ _))))
  isplitl [H3]
  · iexists _; isplitr; swap; · iexact H3
    ipureintro
    sl_unfold_words
    rw [View.readAt_eq_ld arg3.view, harg3.read_unread, ld_whole]
    refine (read_querySample x1 _ _ _ _ _ _ _).trans (congrArg (querySample x1) ((View.readCov_full _ _ _ _ _).trans (congrArg k0_pay8 (read_landed c _ _))))
  isplitl [HD]
  · iexists _; isplitr; swap; · iexact HD
    ipureintro
    sl_unfold_words
    exact (View.read_writes_full narrowM.view fd _ _ []).trans (congrArg k0_pay8 (read_landed c _ _))
  isplitl [Hf_dst Hf_src Hf HX]
  · unfold still
    isplitl [Hf_dst]
    · iexists _; iexact Hf_dst
    isplitl [Hf]; · iexact Hf
    iapply (weight_split c V (k0_off1 i) (k0_off1_inb i c2)).2
    isplitl [Hf_src]; · iexact Hf_src
    iexact HX
  iexists _; iexact HW

set_option maxHeartbeats 1000000 in
/-- The first point: the first tile's copy is started and waited for at once. -/
theorem run_first (c1 : k0_cond1 i = 1#1) (c2 : k0_cond2 i = 1#1) (c3 : ¬ (k0_cond3 i = 1#1)) (c4 : k0_cond4 i = 1#1) (W : Waits sig Unit) (K : PUnit → sProp 𝕄) :
    iprop(owns (c : Thread nD τ) arg2 fullShare x0 ∗ owns (c : Thread nD τ) arg3 fullShare x1 ∗ owns (c : Thread nD τ) arg5 fullShare y2 ∗ owns (c : Thread nD τ) arg6 fullShare y3
        ∗ owns (c : Thread nD τ) narrowM fullShare d ∗ still c V ∗ owes (c : Thread nD τ) 0 W
        ∗ (iprop(owns (c : Thread nD τ) arg2 fullShare x0 ∗ owns (c : Thread nD τ) arg3 fullShare x1 ∗ owns (c : Thread nD τ) arg5 fullShare (queryHeads x0 (narrow c V ![0, 0] inb_S13472x4096_S512x4096_0_0))
          ∗ owns (c : Thread nD τ) arg6 fullShare (querySample x1 (narrow c V ![0, 0] inb_S13472x4096_S512x4096_0_0))
          ∗ owns (c : Thread nD τ) narrowM fullShare (narrow c V ![0, 0] inb_S13472x4096_S512x4096_0_0) ∗ still c V ∗ (∃ W', owes (c : Thread nD τ) 0 W')) -∗ K ⟨⟩))
      ⊢ wp frame (wpE (defs₀ (F := F)) Variants.none c none) Set.univ (body (F := F) i arg2 harg2 arg3 harg3 arg5 harg5 arg6 harg6) K := by
  unfold body
  simp only [cc0_proj_q_eq_skeleton]; unfold cc0_proj_q_skel
  simp only [k0_part1_eq_skeleton]; unfold k0_part1_skel
  unfold owns still
  iintro ⟨⟨%f0, %hf0, H0⟩, ⟨%f1, %hf1, H1⟩, ⟨%f2, %hf2, H2⟩, ⟨%f3, %hf3, H3⟩, ⟨%fd, %hfd, HD⟩, ⟨⟨%f, HS⟩, Hc, HV⟩, HW, Hk⟩
  ihave Hs := (weight_split c V ![0, 0] inb_S13472x4096_S512x4096_0_0).1 $$ HV
  icases Hs with ⟨HR, HX⟩
  obtain rfl := harg2.eq_unread hf0
  obtain rfl := harg3.eq_unread hf1
  obtain rfl := harg5.eq_unread hf2
  obtain rfl := harg6.eq_unread hf3
  sl_exec (disch := first | sl_exact c1 | sl_exact c2 | sl_exact c3 | sl_exact c4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [View.readAt_eq_ld arg2.view, harg2.read_unread, ld_whole]
    refine (read_queryHeads x0 _ _ _ _ _ _ _).trans (congrArg (queryHeads x0) ((View.readCov_full _ _ _ _ _).trans (congrArg k0_pay8 (read_landed c _ _))))
  isplitl [H3]
  · iexists _; isplitr; swap; · iexact H3
    ipureintro
    sl_unfold_words
    rw [View.readAt_eq_ld arg3.view, harg3.read_unread, ld_whole]
    refine (read_querySample x1 _ _ _ _ _ _ _).trans (congrArg (querySample x1) ((View.readCov_full _ _ _ _ _).trans (congrArg k0_pay8 (read_landed c _ _))))
  isplitl [HD]
  · iexists _; isplitr; swap; · iexact HD
    ipureintro
    sl_unfold_words
    exact (View.read_writes_full narrowM.view fd _ _ []).trans (congrArg k0_pay8 (read_landed c _ _))
  isplitl [HS HR Hc HX]
  · isplitl [HS]
    · iexists _; iexact HS
    isplitl [Hc]; · iexact Hc
    iapply (weight_split c V ![0, 0] inb_S13472x4096_S512x4096_0_0).2
    isplitl [HR]; · iexact HR
    iexact HX
  iexists _; iexact HW

end Runs

end Cert.Q
end
-- ==== Proof.QFrame.lean ====
module

public import proofs.«01_k».proof.Proof.QRun
public import Idealize.ShloMosaic.Lib.Pipeline.ArrRel

@[expose] public section

set_option maxRecDepth 16384

noncomputable section

/-! # The projection to the queries: what every point leaves, and the run -/

namespace Cert.Q

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch hands over -/

/-- The program up to the region. -/
theorem main_runs (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own semaphore. -/
abbrev ownSem : Fin 1 → SemLoc sig := fun j => (![SemLoc.dma 7] : Fin 1 → SemLoc sig) j
theorem ownSem_facts : Pipeline.OwnSemFacts spec0 ownSem := by decide
theorem cell_eq : cell = SemLoc.dma 7 := by decide

theorem ownSems_eq (c : Dev nD) :
    (Pipeline.ownSems0 (Ix := Unit) (Name := ℕ) (U := Pipeline.UD sig nD τ) (Lvl := ℕ) (Val := Elt F) (τ := τ) ownSem c : sProp 𝕄) = semVal ((c : Thread nD τ), SemLoc.dma 7) 0 := by
  rw [Pipeline.ownSems0_eq_of_list c ownSem [0] (by decide) (by decide)]; rfl

/-- The buffers the body copies from. -/
def copied : Finset (Ref sig .tc) := {main_v1}
theorem copied_sub : copied ⊆ Pipeline.restRefs sig spec0 := by decide
theorem copied_eq (c : Dev nD) : (bigSep copied (fun b => ((c : Thread nD τ).loc b) ↦{fullShare} V m c b) : sProp 𝕄) = weightAt c (V m c main_v1) := by
  rw [BI.bigSep_eq_bigSepL_of_eq [main_v1] (by decide) (by decide)]; rfl

/-- The invariant's pieces at launch: the two scratch buffers, the generator's register, the semaphore at zero and the weight. -/
theorem PhiD_eq (c : Dev nD) : (Pipeline.ΦD ownSem spec0 copied (V m) c : sProp 𝕄)
    = iprop(iprop((∃ d, owns (c : Thread nD τ) tileM fullShare d) ∗ (∃ d, owns (c : Thread nD τ) narrowM fullShare d)) ∗ (∃ r, prngReg c r)
        ∗ semVal ((c : Thread nD τ), SemLoc.dma 7) 0 ∗ weightAt c (V m c main_v1)) := by
  rw [Pipeline.ΦD_eq, scopedRest0_eq, ownSems_eq, copied_eq]
  simp only [tileM, narrowM, owns_whole]
  try rfl

/-- The copy's target is the whole scratch. -/
theorem slot_set : slotM.view.set = Finset.univ := by
  refine (View.set_slice_whole _ _).trans (Finset.eq_univ_iff_forall.mpr fun y => ?_)
  exact View.mem_set_unit_zero (by funext a; fin_cases a <;> rfl) _ y

theorem slotAt_eq (c : Dev nD) (f : Held (F := F) c slotM) : slotAt c f = (((c : Thread nD τ).loc cc0_scratch0) ↦[Finset.univ]{fullShare} f : sProp 𝕄) := by
  unfold slotAt; rw [slot_set]

theorem slot_in (c : Dev nD) : iprop(∃ d, owns (c : Thread nD τ) tileM fullShare d) ⊢ (iprop(∃ f, slotAt c f) : sProp 𝕄) := by
  simp only [tileM, owns_whole, slotAt_eq]
  iintro ⟨%d, H⟩
  iexists d
  iexact H
theorem slot_out (c : Dev nD) : (iprop(∃ f, slotAt c f) : sProp 𝕄) ⊢ iprop(∃ d, owns (c : Thread nD τ) tileM fullShare d) := by
  simp only [tileM, owns_whole, slotAt_eq]
  iintro ⟨%d, H⟩
  iexists d
  iexact H

/-! ## The points -/

/-- The body table's row is the body. -/
theorem defs₀_row (t : Fin cfg0.N) : defs₀ (F := F) .tc cfg0.body (cfg0.bodyArgs t (cfg0.slots t)) = bodyAt0 t := by
  unfold defs₀
  rw [Defs.onTc_tc]

/-- Where tile `b` lies in the weight. -/
def off (b : ℕ) : Fin 2 → ℕ := ![512 * (b % 4) + 0, 0]
theorem off_inb (b : ℕ) : ∀ a, off b a + S512x4096.size a ≤ S13472x4096.size a := by
  have : b % 4 < 4 := Nat.mod_lt _ (by decide)
  intro a
  fin_cases a
  · show 512 * (b % 4) + 0 + 512 ≤ 13472; omega
  · show 0 + 4096 ≤ 4096; omega

theorem moving_congr (c : Dev nD) (W : Held (F := F) c weightM) {o o' : Fin 2 → ℕ} (e : o = o') (h : ∀ a, o a + S512x4096.size a ≤ S13472x4096.size a) (h' : ∀ a, o' a + S512x4096.size a ≤ S13472x4096.size a) : moving c W o h = moving c W o' h' := by subst e; rfl
theorem narrow_congr (c : Dev nD) (W : Held (F := F) c weightM) {o o' : Fin 2 → ℕ} (e : o = o') (h : ∀ a, o a + S512x4096.size a ≤ S13472x4096.size a) (h' : ∀ a, o' a + S512x4096.size a ≤ S13472x4096.size a) : narrow c W o h = narrow c W o' h' := by subst e; rfl

/-- Which of the body's branches a point takes, and where its copies read. -/
theorem branches : ∀ t : Fin grid0.N, (k0_cond1 (grid0.coords t) = 1#1 ↔ t.val = 0) ∧ (k0_cond2 (grid0.coords t) = 1#1 ↔ t.val % 4 = 0)
    ∧ (k0_cond3 (grid0.coords t) = 1#1 ↔ t.val % 4 = 1 ∧ t.val < 12) ∧ (k0_cond4 (grid0.coords t) = 1#1 ↔ t.val % 4 = 0)
    ∧ k0_off1 (grid0.coords t) = off (t.val / 4) ∧ k0_off2 (grid0.coords t) = ![512 * (t.val / 4 + 1) + 0, 0] := by decide +kernel

/-- Tile `b`, rounded. -/
def narrowAt (c : Dev nD) (b : ℕ) : Vec F S512x4096 .bf16 := narrow c (V m c main_v1) (off b) (off_inb b)

/-- The copy between points: from the second block of rows of a tile to the last, the next tile's is under way. -/
def copyAt (c : Dev nD) (k : ℕ) : sProp 𝕄 :=
  if k % 4 ≠ 1 ∧ 2 ≤ k ∧ k < 14 then moving c (V m c main_v1) (off ((k + 2) / 4)) (off_inb _) else still c (V m c main_v1)

/-- What holds between points: past a tile's first block of rows, the second scratch holds the tile rounded. -/
def between (c : Dev nD) (k : ℕ) : sProp 𝕄 :=
  iprop(iprop(∃ d, ⌜k % 4 ≠ 0 → d = narrowAt m c (k / 4)⌝ ∗ owns (c : Thread nD τ) narrowM fullShare d) ∗ (∃ r, prngReg c r) ∗ copyAt m c k)

/-- The products a point stores. -/
def rowsOut (c : Dev nD) (t : Fin cfg0.N) : Vec F S4x2048x128 .bf16 := queryHeads (iblk m c 0 t) (narrowAt m c (t.val / 4))
def sampleOut (c : Dev nD) (t : Fin cfg0.N) (Y : Vec F S4x256x128 .f32) : Vec F S4x256x128 .f32 :=
  if t.val % 4 = 0 then querySample (iblk m c 1 t) (narrowAt m c (t.val / 4)) else Y

/-- What a point leaves in each window's buffer, of what it finds there. -/
def left (c : Dev nD) : (w : Fin cfg0.W) → Fin cfg0.N → (Y X : (cfg0.win w).block.Idx → Elt F (cfg0.win w).elt) → Prop
  | 0 => fun _ Y X => X = Y
  | 1 => fun _ Y X => X = Y
  | 2 => fun t _ X => X = rowsOut m c t
  | 3 => fun t Y X => X = sampleOut m c t Y

/-- The proof's data. -/
def rdat (c : Dev nD) : RDat τ (Elt F) Unit ℕ (Pipeline.UD sig nD τ) ℕ cfg0 c where
  A w := V m c (Pipeline.arrRef spec0 w)
  after := left m c
  Φ k := between m c k.val
  q _ := fullShare
  owed _ := 0

/-- A window that is only read holds its block wherever the body finds it. -/
theorem finds_block0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rfl
theorem finds_block1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rfl

set_option maxHeartbeats 1000000 in
/-- One point: it stores the products of its rows with its tile, and moves the copies on. -/
theorem sound_point (c : Dev nD) (t : Fin cfg0.N) (Y2 : Vec F S4x2048x128 .bf16) (Y3 : Vec F S4x256x128 .f32) :
    iprop(between m c t.val ∗ (∃ W, owes (c : Thread nD τ) 0 W) ∗ owns (c : Thread nD τ) (st0_0 t) fullShare (iblk m c 0 t) ∗ owns (c : Thread nD τ) (st0_1 t) fullShare (iblk m c 1 t)
        ∗ owns (c : Thread nD τ) (st0_2 t) fullShare Y2 ∗ owns (c : Thread nD τ) (st0_3 t) fullShare Y3)
      ⊢ wp frame (wpE (defs₀ (F := F)) Variants.none c none) Set.univ (bodyAt0 t) fun _ =>
        iprop(between m c (t.val + 1) ∗ (∃ W, owes (c : Thread nD τ) 0 W) ∗ owns (c : Thread nD τ) (st0_0 t) fullShare (iblk m c 0 t) ∗ owns (c : Thread nD τ) (st0_1 t) fullShare (iblk m c 1 t)
        ∗ owns (c : Thread nD τ) (st0_2 t) fullShare (rowsOut m c t) ∗ owns (c : Thread nD τ) (st0_3 t) fullShare (sampleOut m c t Y3)) := by
  obtain ⟨h1, h2, h3, h4, o1, o2⟩ := branches t
  have hN : t.val < 16 := lt_of_lt_of_eq t.isLt N_0
  unfold between
  by_cases hi : t.val % 4 = 0
  · have eo : sampleOut m c t Y3 = querySample (iblk m c 1 t) (narrowAt m c (t.val / 4)) := if_pos hi
    have en : copyAt m c (t.val + 1) = still c (V m c main_v1) := if_neg (by omega)
    have ed : (t.val + 1) / 4 = t.val / 4 := by omega
    rw [eo, en, ed]
    unfold rowsOut narrowAt
    by_cases h0 : t.val = 0
    · have ec : copyAt m c t.val = still c (V m c main_v1) := if_neg (by omega)
      have e0 : (![0, 0] : Fin 2 → ℕ) = off (t.val / 4) := by rw [h0]; rfl
      rw [ec, ← narrow_congr c (V m c main_v1) e0 inb_S13472x4096_S512x4096_0_0 (off_inb (t.val / 4))]
      iintro ⟨⟨⟨%d, %hd, HD⟩, Hp, HC⟩, ⟨%W, HW⟩, H0, H1, H2, H3⟩
      iapply (run_first (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (iblk m c 1 t) d Y2 Y3 (V m c main_v1) (h1.2 h0) (h2.2 hi) (fun h => by have := h3.1 h; omega) (h4.2 hi) W _)
      isplitl [H0]; · iexact H0
      isplitl [H1]; · iexact H1
      isplitl [H2]; · iexact H2
      isplitl [H3]; · iexact H3
      isplitl [HD]; · iexact HD
      isplitl [HC]; · iexact HC
      isplitl [HW]; · iexact HW
      iintro ⟨H0, H1, H2, H3, HD, HC, HW⟩
      isplitl [HD Hp HC]
      · isplitl [HD]
        · iexists _; isplitr; swap; · iexact HD
          ipureintro; exact fun _ => rfl
        isplitl [Hp]; · iexact Hp
        iexact HC
      isplitl [HW]; · iexact HW
      isplitl [H0]; · iexact H0
      isplitl [H1]; · iexact H1
      isplitl [H2]; · iexact H2
      iexact H3
    · have ec : copyAt m c t.val = moving c (V m c main_v1) (off ((t.val + 2) / 4)) (off_inb _) := if_pos (by omega)
      have e6 : (t.val + 2) / 4 = t.val / 4 := by omega
      rw [ec, e6, ← narrow_congr c (V m c main_v1) o1 (k0_off1_inb _ (h2.2 hi)) (off_inb (t.val / 4)), ← moving_congr c (V m c main_v1) o1 (k0_off1_inb _ (h2.2 hi)) (off_inb (t.val / 4))]
      iintro ⟨⟨⟨%d, %hd, HD⟩, Hp, HC⟩, ⟨%W, HW⟩, H0, H1, H2, H3⟩
      iapply (run_land (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (iblk m c 1 t) d Y2 Y3 (V m c main_v1) (fun h => h0 (h1.1 h)) (h2.2 hi) (fun h => by have := h3.1 h; omega) (h4.2 hi) W _)
      isplitl [H0]; · iexact H0
      isplitl [H1]; · iexact H1
      isplitl [H2]; · iexact H2
      isplitl [H3]; · iexact H3
      isplitl [HD]; · iexact HD
      isplitl [HC]; · iexact HC
      isplitl [HW]; · iexact HW
      iintro ⟨H0, H1, H2, H3, HD, HC, HW⟩
      isplitl [HD Hp HC]
      · isplitl [HD]
        · iexists _; isplitr; swap; · iexact HD
          ipureintro; exact fun _ => rfl
        isplitl [Hp]; · iexact Hp
        iexact HC
      isplitl [HW]; · iexact HW
      isplitl [H0]; · iexact H0
      isplitl [H1]; · iexact H1
      isplitl [H2]; · iexact H2
      iexact H3
  · have eo : sampleOut m c t Y3 = Y3 := if_neg hi
    have keep : (t.val + 1) % 4 ≠ 0 → narrowAt m c (t.val / 4) = narrowAt m c ((t.val + 1) / 4) := fun h => by
      have e : (t.val + 1) / 4 = t.val / 4 := by omega
      rw [e]
    rw [eo]
    unfold rowsOut
    by_cases hs : t.val % 4 = 1 ∧ t.val < 12
    · have ec : copyAt m c t.val = still c (V m c main_v1) := if_neg (by omega)
      have en : copyAt m c (t.val + 1) = moving c (V m c main_v1) (off ((t.val + 1 + 2) / 4)) (off_inb _) := if_pos (by omega)
      have e2 : k0_off2 (grid0.coords t) = off ((t.val + 1 + 2) / 4) := by
        rw [o2]; unfold off
        have e : (t.val + 1 + 2) / 4 % 4 = t.val / 4 + 1 := by omega
        rw [e]
      rw [ec, en, ← moving_congr c (V m c main_v1) e2 (k0_off2_inb _ (h3.2 hs)) (off_inb _)]
      iintro ⟨⟨⟨%d, %hd, HD⟩, Hp, HC⟩, ⟨%W, HW⟩, H0, H1, H2, H3⟩
      obtain rfl := hd hi
      iapply (run_start (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (narrowAt m c (t.val / 4)) Y2 (V m c main_v1) (fun h => by have := h1.1 h; omega) (fun h => hi (h2.1 h)) (h3.2 hs) (fun h => hi (h4.1 h)) W _)
      isplitl [H0]; · iexact H0
      isplitl [H2]; · iexact H2
      isplitl [HD]; · iexact HD
      isplitl [HC]; · iexact HC
      isplitl [HW]; · iexact HW
      iintro ⟨H0, H2, HD, HC, HW⟩
      isplitl [HD Hp HC]
      · isplitl [HD]
        · iexists _; isplitr; swap; · iexact HD
          ipureintro; exact keep
        isplitl [Hp]; · iexact Hp
        iexact HC
      isplitl [HW]; · iexact HW
      isplitl [H0]; · iexact H0
      isplitl [H1]; · iexact H1
      isplitl [H2]; · iexact H2
      iexact H3
    · have ec : copyAt m c (t.val + 1) = copyAt m c t.val := by
        unfold copyAt
        by_cases hk : t.val % 4 ≠ 1 ∧ 2 ≤ t.val ∧ t.val < 14
        · by_cases hk' : t.val + 1 < 14
          · have e : (t.val + 1 + 2) / 4 = (t.val + 2) / 4 := by omega
            rw [if_pos hk, if_pos (by omega)]
            exact moving_congr c _ (congrArg off e) _ _
          · omega
        · rw [if_neg hk, if_neg (by omega)]
      rw [ec]
      iintro ⟨⟨⟨%d, %hd, HD⟩, Hp, HC⟩, ⟨%W, HW⟩, H0, H1, H2, H3⟩
      obtain rfl := hd hi
      iapply (run_plain (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (narrowAt m c (t.val / 4)) Y2 (fun h => by have := h1.1 h; omega) (fun h => hi (h2.1 h)) (fun h => hs (h3.1 h)) (fun h => hi (h4.1 h)) _)
      isplitl [H0]; · iexact H0
      isplitl [H2]; · iexact H2
      isplitl [HD]; · iexact HD
      iintro ⟨H0, H2, HD⟩
      isplitl [HD Hp HC]
      · isplitl [HD]
        · iexists _; isplitr; swap; · iexact HD
          ipureintro; exact keep
        isplitl [Hp]; · iexact Hp
        iexact HC
      isplitl [HW]; · iexists _; iexact HW
      isplitl [H0]; · iexact H0
      isplitl [H1]; · iexact H1
      isplitl [H2]; · iexact H2
      iexact H3

/-- The waits recorded so far are bounded by nothing. -/
theorem owes_in (c : Dev nD) (k : Fin (cfg0.N + 1)) : (rdat (F := F) m c).owesAt () k ⊢ iprop(∃ W, owes (c : Thread nD τ) 0 W) := by
  unfold RDat.owesAt Pipeline.owesWithin
  iintro ⟨%W, -, H⟩
  iexists W; iexact H
theorem owes_out (c : Dev nD) (k : Fin (cfg0.N + 1)) : iprop(∃ W, owes (c : Thread nD τ) 0 W) ⊢ (rdat (F := F) m c).owesAt () k := by
  unfold RDat.owesAt Pipeline.owesWithin
  iintro ⟨%W, H⟩
  iexists W; isplitr; · ipureintro; exact fun _ _ => Or.inl trivial
  iexact H

/-- The body's obligation at every point. -/
theorem body_obligation (c : Dev nD) : (rdat (F := F) m c).BodyObligation (defs₀ (F := F)) Variants.none () Set.univ := fun t Y hY => by
  rw [bigSep_W0, bigSep_W0, defs₀_row]
  rw [finds_block0 m c t _ (hY 0), finds_block1 m c t _ (hY 1)]
  refine triple_restated (sound_point m c t (Y 2) (Y 3)) rfl ?_ fun _ => ?_
  · iintro ⟨HΦ, Ho, H⟩
    isplitl [HΦ]; · iapply (show (rdat (F := F) m c).Φ t.castSucc ⊢ between m c t.val from .rfl); iexact HΦ
    isplitl [Ho]; · iapply (owes_in m c t.castSucc); iexact Ho
    iexact H
  show _ ⊢ iprop(between m c (t.val + 1) ∗ (rdat (F := F) m c).owesAt () t.succ ∗ _)
  iintro ⟨HΦ, Ho, H0, H1, H2, H3⟩
  isplitl [HΦ]; · iexact HΦ
  isplitl [Ho]; · iapply (owes_out m c t.succ); iexact Ho
  isplitl [H0]; · iexists _; isplitr; swap; · iexact H0
                  ipureintro; exact rfl
  isplitl [H1]; · iexists _; isplitr; swap; · iexact H1
                  ipureintro; exact rfl
  isplitl [H2]; · iexists _; isplitr; swap; · iexact H2
                  ipureintro; exact rfl
  iexists _; isplitr; swap; · iexact H3
  ipureintro; exact rfl

set_option backward.isDefEq.respectTransparency.types false in
/-- The run: every core's arrays hold what the data say, the rest is as the region found it, and no semaphore is up. -/
theorem run : θ_run defs (onTc (τ := τ) (main (F := F))) (s₀ m ρ) (fun r => RDat.FramePost cfg0 (rdat (F := F) m) (V m) r ∧ r.2.sem = fun _ => 0) :=
  RDat.θ_run_frame_dma (Q' := _) cfgs (0 : Fin 1) launch0 ownSem defs₀ Variants.none (rdat m) ownSem_facts copied copied_sub m ρ main
    (hbody := body_obligation m) (hshare := fun _ => RDat.share_full _ fun _ => rfl) (howed := fun _ _ => rfl) (V := V m) (hmain := main_runs m Variants.none) (hA := fun _ _ => rfl)
    (hin := fun c => by
      rw [PhiD_eq]
      show _ ⊢ between m c 0
      unfold between
      rw [show copyAt m c 0 = still c (V m c main_v1) from if_neg (by decide)]
      unfold still
      iintro ⟨⟨HS, ⟨%d, HD⟩⟩, Hp, Hc, HV⟩
      isplitl [HD]
      · iexists _; isplitr; swap; · iexact HD
        ipureintro
        intro h; exact absurd rfl h
      isplitl [Hp]; · iexact Hp
      isplitl [HS]; · iapply (slot_in c); iexact HS
      isplitl [Hc]; · rw [cell_eq]; iexact Hc
      iexact HV)
    (hout := fun c => by
      rw [PhiD_eq]
      show between m c (Fin.last cfg0.N).val ⊢ _
      unfold between
      rw [show copyAt m c (Fin.last cfg0.N).val = still c (V m c main_v1) from if_neg (by rw [show (Fin.last cfg0.N).val = 16 from N_0]; decide)]
      unfold still
      iintro ⟨⟨%d, %_, HD⟩, Hp, HS, Hc, HV⟩
      isplitl [HS HD]
      · isplitl [HS]; · iapply (slot_out c); iexact HS
        iexists _; iexact HD
      isplitl [Hp]; · iexact Hp
      isplitl [Hc]; · rw [← cell_eq]; iexact Hc
      iexact HV)

/-- The arguments are untouched. -/
theorem args (c : Dev nD) (r : PUnit.{1} × MemSt nD τ sig (Elt F)) (h : RDat.FramePost cfg0 (rdat (F := F) m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(RDat.FramePost.arr_in h c 0 rfl).trans (V_main_arg0 m c),
    (RDat.FramePost.arr_in h c 1 rfl).trans (V_main_arg1 m c),
    ((h c).2 main_arg2 (Pipeline.mem_restRefs_of main_arg2 (by decide) (by decide))).trans (V_main_arg2 m c)⟩

/-- The arguments are untouched and no semaphore is up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => args m c r h.1, h.2⟩) (run m ρ)

end Cert.Q

end
-- ==== Proof.QRef.lean ====
/- The projection of the normalised rows to the queries, as the reference states it, read at an index. -/
module

public import proofs.«01_k».proof.Proof.Gen.Reference7Ideal.Read
public import Idealize.ShloMosaic.Lib.Pipeline.ValueKit

@[expose] public section

set_option maxRecDepth 16384

noncomputable section

namespace Cert.QRef

open Idealize.ShloMosaic Cert.Reference7Ideal Cert.Reference7Ideal.Read

variable (x0 : FVec Ideal S8192x4096 .bf16) (x1 : FVec Ideal S256x4096 .bf16) (x2 : FVec Ideal S1x4096x13472 .f32)

/-- The factors the queries are scaled by, the prompt's and the sample's. -/
def scale : Ideal .f32 := FloatOps.ofBits .f32 0x3E0293EE#32
def sampleScale : Ideal .f32 := FloatOps.ofBits .f32 0x3DB504F3#32

/-- A row times a column of the weight's slice for the queries. -/
def promptDot (r : Fin 8192) (q : Fin 2048) : Ideal .f32 := ∑ k : Fin 4096, x0 (ix2 r k) * x2 (ix3 (0 : Fin 1) k (⟨0 + q.val, by omega⟩ : Fin 13472))
def sampleDot (r : Fin 256) (q : Fin 2048) : Ideal .f32 := ∑ k : Fin 4096, x1 (ix2 r k) * x2 (ix3 (0 : Fin 1) k (⟨0 + q.val, by omega⟩ : Fin 13472))

theorem promptDot_at (r : Fin 8192) (q : Fin 2048) : val_main_v5 (F := Ideal) x0 x2 (ix2 r q) = promptDot x0 x2 r q := by
  pointwise [val_main_v5, val_main_v2, val_main_v1, val_main_v0, promptDot]
theorem sampleDot_at (r : Fin 256) (q : Fin 2048) : val_main_v9 (F := Ideal) x1 x2 (ix2 r q) = sampleDot x1 x2 r q := by
  pointwise [val_main_v9, val_main_v4, val_main_v3, val_main_v0, sampleDot]

/-- The same scaled. -/
def prompt (r : Fin 8192) (q : Fin 2048) : Ideal .f32 := FloatOps.mulf (promptDot x0 x2 r q) scale
def sample (r : Fin 256) (q : Fin 2048) : Ideal .f32 := FloatOps.mulf (sampleDot x1 x2 r q) sampleScale

/-- Head `g` of a row, the prompt's and the sample's. -/
theorem promptHead_at (r : Fin 8192) (g : Fin 16) (l : Fin 128) : val_main_v8 (F := Ideal) x0 x2 (ix3 r g l) = prompt x0 x2 r (⟨128 * g.val + l.val, by omega⟩ : Fin 2048) := by
  rw [val_main_v8_apply, val_main_v6_apply, val_main_v7_apply, val_main_cst_apply]
  unfold prompt
  rw [← promptDot_at]
  refine congrArg (fun v => FloatOps.mulf v _) (congrArg _ ?_)
  funext a
  fin_cases a
  · exact Fin.ext (by show ((r.val * 16 + g.val) * 128 + l.val) / 2048 = r.val; omega)
  · exact Fin.ext (by show ((r.val * 16 + g.val) * 128 + l.val) % 2048 = 128 * g.val + l.val; omega)
theorem sampleHead_at (r : Fin 256) (g : Fin 16) (l : Fin 128) : val_main_v12 (F := Ideal) x1 x2 (ix3 r g l) = sample x1 x2 r (⟨128 * g.val + l.val, by omega⟩ : Fin 2048) := by
  rw [val_main_v12_apply, val_main_v10_apply, val_main_v11_apply, val_main_cst_0_apply]
  unfold sample
  rw [← sampleDot_at]
  refine congrArg (fun v => FloatOps.mulf v _) (congrArg _ ?_)
  funext a
  fin_cases a
  · exact Fin.ext (by show ((r.val * 16 + g.val) * 128 + l.val) / 2048 = r.val; omega)
  · exact Fin.ext (by show ((r.val * 16 + g.val) * 128 + l.val) % 2048 = 128 * g.val + l.val; omega)

/-- The results, head after head. -/
def heads : S16x8192x128.Idx → EReal := fun p =>
  have h0 : (p 0).val < 16 := (p 0).isLt
  have h2 : (p 2).val < 128 := (p 2).isLt
  prompt x0 x2 (⟨(p 1).val, (p 1).isLt⟩ : Fin 8192) (⟨128 * (p 0).val + (p 2).val, by omega⟩ : Fin 2048)
def sampleHeads : S16x256x128.Idx → EReal := fun p =>
  have h0 : (p 0).val < 16 := (p 0).isLt
  have h2 : (p 2).val < 128 := (p 2).isLt
  sample x1 x2 (⟨(p 1).val, (p 1).isLt⟩ : Fin 256) (⟨128 * (p 0).val + (p 2).val, by omega⟩ : Fin 2048)

theorem heads_eq : val_main_v14 (F := Ideal) x0 x2 = heads x0 x2 := by
  funext p
  rw [val_main_v14_apply, val_main_v13_apply]
  have e : idx_main_v14 p = ix3 (⟨(p 1).val, (p 1).isLt⟩ : Fin 8192) (⟨(p 0).val, (p 0).isLt⟩ : Fin 16) (⟨(p 2).val, (p 2).isLt⟩ : Fin 128) := by
    funext a; fin_cases a <;> rfl
  rw [e, promptHead_at]
  rfl
theorem sampleHeads_eq : val_main_v15 (F := Ideal) x1 x2 = sampleHeads x1 x2 := by
  funext p
  rw [val_main_v15_apply]
  have e : idx_main_v15 p = ix3 (⟨(p 1).val, (p 1).isLt⟩ : Fin 256) (⟨(p 0).val, (p 0).isLt⟩ : Fin 16) (⟨(p 2).val, (p 2).isLt⟩ : Fin 128) := by
    funext a; fin_cases a <;> rfl
  rw [e, sampleHead_at]
  rfl

end Cert.QRef

end
-- ==== Proof.QValue.lean ====
/- The queries that the run of their projection leaves, read at an index. -/
module

public import proofs.«01_k».proof.Proof.QFrame
public import proofs.«01_k».proof.Proof.QRef

@[expose] public section

set_option maxRecDepth 16384

noncomputable section

namespace Cert.QValue

open Idealize.ShloMosaic Idealize.ShloMosaic.TcCoe Idealize.SL.Sem Cert.Kernel7Ideal Cert.Kernel7Ideal.Gen Cert.Q
open Idealize.ShloMosaic.Pipeline (RDat)

/-- The block of every window at a grid point. -/
theorem idx : ∀ t : Fin cfg0.N, win0_0.index t = ![t.val % 4, 0] ∧ win0_1.index t = ![0, 0] ∧ win0_2.index t = ![t.val / 4, t.val % 4, 0]
    ∧ win0_3.index t = ![t.val / 4, 0, 0] :=
  (by decide +kernel : ∀ t : Fin grid0.N, _)

variable (m : (ℓ : Loc nD τ sig) → Buf (Elt Ideal) ℓ) (c : Dev nD)

/-- The arguments. -/
abbrev X0 : FVec Ideal S8192x4096 .bf16 := m ((c : Thread nD τ).loc main_arg0)
abbrev X1 : FVec Ideal S256x4096 .bf16 := m ((c : Thread nD τ).loc main_arg1)
abbrev X2 : FVec Ideal S1x4096x13472 .f32 := m ((c : Thread nD τ).loc main_arg2)

/-- A product scaled, read at an index. -/
theorem pay9_at (x : FVec Ideal S2048x4096 .bf16) (w : FVec Ideal S512x4096 .bf16) (p : Fin 2048) (q : Fin 512) :
    k0_pay9 (F := Ideal) x w (ix2 p q) = FloatOps.mulf (F := Ideal) (φ := .f32) (∑ k : Fin 4096, x (ix2 p k) * w (ix2 q k)) QRef.scale := by
  pointwise [k0_pay9, QRef.scale]
theorem pay3_at (x : FVec Ideal S256x4096 .bf16) (w : FVec Ideal S512x4096 .bf16) (p : Fin 256) (q : Fin 512) :
    k0_pay3 (F := Ideal) x w (ix2 p q) = FloatOps.mulf (F := Ideal) (φ := .f32) (∑ k : Fin 4096, x (ix2 p k) * w (ix2 q k)) QRef.sampleScale := by
  pointwise [k0_pay3, QRef.sampleScale]
theorem pay8_at (x : FVec Ideal S512x4096 .f32) (q : Fin 512) (k : Fin 4096) : k0_pay8 (F := Ideal) x (ix2 q k) = x (ix2 q k) := by
  pointwise [k0_pay8]

/-- The weight as the region finds it: transposed. -/
theorem weight_at (r : Fin 13472) (k : Fin 4096) : (V m c main_v1 : FVec Ideal S13472x4096 .f32) (ix2 r k) = X2 m c (ix3 (0 : Fin 1) k r) := by
  have e : (V m c main_v1 : FVec Ideal S13472x4096 .f32)
      = transpose S13472x4096 [1, 0] (shapeCast S4096x13472 (X2 m c) shapeCasts_S1x4096x13472_S4096x13472) transposes_S4096x13472_S13472x4096_1_0 := by
    after_results <;> rfl
  rw [e]
  pointwise []

/-- A rounded tile, read at an index. -/
theorem narrowAt_at (b : ℕ) (hb : b < 4) (q : Fin 512) (k : Fin 4096) :
    narrowAt m c b (ix2 q k) = X2 m c (ix3 (0 : Fin 1) k (⟨0 + (512 * b + q.val), by omega⟩ : Fin 13472)) := by
  unfold narrowAt narrow
  rw [pay8_at, ← weight_at]
  refine congrArg (V m c main_v1 : FVec Ideal S13472x4096 .f32) ?_
  funext a
  fin_cases a
  · exact Fin.ext (by show 512 * (b % 4) + 0 + 1 * q.val = 0 + (512 * b + q.val); omega)
  · exact Fin.ext (by show 0 + 1 * k.val = k.val; omega)

/-- A scaled product of a block of the prompt's rows with a tile. -/
theorem prompt_at (t : Fin cfg0.N) (p : Fin 2048) (q : Fin 512) (h : 2048 * (t.val % 4) + p.val < 8192) (h' : 512 * (t.val / 4) + q.val < 2048) :
    k0_pay9 (F := Ideal) (iblk m c 0 t) (narrowAt m c (t.val / 4)) (ix2 p q) = QRef.prompt (X0 m c) (X2 m c) ⟨2048 * (t.val % 4) + p.val, h⟩ ⟨512 * (t.val / 4) + q.val, h'⟩ := by
  have ht := lt_of_lt_of_eq t.isLt N_0
  unfold QRef.prompt QRef.promptDot
  rw [pay9_at]
  refine congrArg (fun v : Ideal .f32 => FloatOps.mulf v QRef.scale) (Finset.sum_congr rfl fun k _ => ?_)
  rw [narrowAt_at m c _ (by omega)]
  refine congrArg (· * _) ?_
  blk_point [iblk, V, idx t]
/-- A scaled product of the sample's rows with a tile. -/
theorem sample_at (t : Fin cfg0.N) (p : Fin 256) (q : Fin 512) (h' : 512 * (t.val / 4) + q.val < 2048) :
    k0_pay3 (F := Ideal) (iblk m c 1 t) (narrowAt m c (t.val / 4)) (ix2 p q) = QRef.sample (X1 m c) (X2 m c) p ⟨512 * (t.val / 4) + q.val, h'⟩ := by
  have ht := lt_of_lt_of_eq t.isLt N_0
  unfold QRef.sample QRef.sampleDot
  rw [pay3_at]
  refine congrArg (fun v : Ideal .f32 => FloatOps.mulf v QRef.sampleScale) (Finset.sum_congr rfl fun k _ => ?_)
  rw [narrowAt_at m c _ (by omega)]
  refine congrArg (· * _) ?_
  blk_point [iblk, V, idx t]

/-- What a tile's points leave of the sample's queries: the first stores them, the others leave them. -/
theorem left_sample : ∀ (n : ℕ) (t : Fin cfg0.N), t.val % 4 = n → ∀ X, (rdat (F := Ideal) m c).Leaves 3 t X →
    X = querySample (iblk m c 1 t) (narrowAt m c (t.val / 4))
  | 0, t, h, X, hX => by
    obtain ⟨Y, _, e⟩ := hX
    exact (show X = sampleOut m c t Y from e).trans (if_pos h)
  | n + 1, t, h, X, hX => by
    obtain ⟨Y, hY, e⟩ := hX
    have e' : X = Y := (show X = sampleOut m c t Y from e).trans (if_neg (by omega))
    rcases ((rdat (F := Ideal) m c).finds_of_pos ((cfg0.win 3).fetch_out rfl t) (by omega) Y).mp hY with hf | hl
    · have := (flush0_3 _).mp hf
      have e3 : (t.val - 1) % 4 = 3 := this
      omega
    · have := left_sample n ⟨t.val - 1, Nat.lt_of_le_of_lt (Nat.sub_le _ _) t.isLt⟩ (by show (t.val - 1) % 4 = n; omega) Y hl
      rw [e', this]
      have e4 : (t.val - 1) / 4 = t.val / 4 := by omega
      refine congrArg₂ querySample rfl ?_
      exact congrArg (narrowAt m c) e4

/-- The prompt's queries are the reference's. -/
theorem final_prompt (r : PUnit.{1} × MemSt nD τ sig (Elt Ideal)) (h : RDat.FramePost cfg0 (rdat (F := Ideal) m) (V m) r) :
    r.2.mem ((c : Thread nD τ).loc main_v2_0) = QRef.heads (X0 m c) (X2 m c) := by
  obtain ⟨after, hl, ha⟩ := RDat.FramePost.exists_exact h c
  refine (ha 2).trans (((rdat (F := Ideal) m c).withAfter after).arrAt_eq_of_covers 2 _ (by decide +kernel) fun t hf y => ?_)
  have ht := lt_of_lt_of_eq t.isLt N_0
  have e : after 2 t = rowsOut m c t := by obtain ⟨Y, _, e⟩ := hl 2 t hf; exact e
  blk_simp
  rw [RDat.withAfter_after, e]
  have y0 : (y 0).val < 4 := (y 0).isLt
  have y1 : (y 1).val < 2048 := (y 1).isLt
  have y2 : (y 2).val < 128 := (y 2).isLt
  refine (prompt_at m c t (⟨(y 1).val, y1⟩ : Fin 2048) (⟨128 * (y 0).val + (y 2).val, by omega⟩ : Fin 512) (by show 2048 * (t.val % 4) + (y 1).val < 8192; omega)
    (by show 512 * (t.val / 4) + (128 * (y 0).val + (y 2).val) < 2048; omega)).trans ?_
  have ey : (win0_2.blk t).view.emb y = ix3 (⟨4 * (t.val / 4) + (y 0).val, by omega⟩ : Fin 16) (⟨2048 * (t.val % 4) + (y 1).val, by omega⟩ : Fin 8192) (⟨(y 2).val, y2⟩ : Fin 128) := by
    blk_ext [idx t]
  refine Eq.trans ?_ (congrArg (QRef.heads (X0 m c) (X2 m c)) ey.symm)
  refine congrArg (QRef.prompt (X0 m c) (X2 m c) _) (Fin.ext ?_)
  show 512 * (t.val / 4) + (128 * (y 0).val + (y 2).val) = 128 * (4 * (t.val / 4) + (y 0).val) + (y 2).val
  omega
/-- The sample's queries are the reference's. -/
theorem final_sample (r : PUnit.{1} × MemSt nD τ sig (Elt Ideal)) (h : RDat.FramePost cfg0 (rdat (F := Ideal) m) (V m) r) :
    r.2.mem ((c : Thread nD τ).loc main_v2_1) = QRef.sampleHeads (X1 m c) (X2 m c) := by
  obtain ⟨after, hl, ha⟩ := RDat.FramePost.exists_exact h c
  refine (ha 3).trans (((rdat (F := Ideal) m c).withAfter after).arrAt_eq_of_covers 3 _ (by decide +kernel) fun t hf y => ?_)
  have ht := lt_of_lt_of_eq t.isLt N_0
  have e := left_sample m c _ t rfl (after 3 t) (hl 3 t hf)
  blk_simp
  rw [RDat.withAfter_after, e]
  have y0 : (y 0).val < 4 := (y 0).isLt
  have y1 : (y 1).val < 256 := (y 1).isLt
  have y2 : (y 2).val < 128 := (y 2).isLt
  refine (sample_at m c t (⟨(y 1).val, y1⟩ : Fin 256) (⟨128 * (y 0).val + (y 2).val, by omega⟩ : Fin 512)
    (by show 512 * (t.val / 4) + (128 * (y 0).val + (y 2).val) < 2048; omega)).trans ?_
  have ey : (win0_3.blk t).view.emb y = ix3 (⟨4 * (t.val / 4) + (y 0).val, by omega⟩ : Fin 16) (⟨(y 1).val, y1⟩ : Fin 256) (⟨(y 2).val, y2⟩ : Fin 128) := by
    blk_ext [idx t]
  refine Eq.trans ?_ (congrArg (QRef.sampleHeads (X1 m c) (X2 m c)) ey.symm)
  refine congrArg (QRef.sample (X1 m c) (X2 m c) _) (Fin.ext ?_)
  show 512 * (t.val / 4) + (128 * (y 0).val + (y 2).val) = 128 * (4 * (t.val / 4) + (y 0).val) + (y 2).val
  omega

end Cert.QValue

end
-- ==== Proof.QClaim.lean ====
/- The claims about the projection of the normalised rows to the queries. -/
module

public import proofs.«01_k».proof.Defs
public import proofs.«01_k».proof.Proof.Gen.Kernel7.Launch
public import proofs.«01_k».proof.Proof.Gen.Reference7Ideal.Run
public import proofs.«01_k».proof.Proof.QValue

@[expose] public section

noncomputable section

namespace Cert.QClaim

open Idealize.ShloMosaic Idealize.SL.Sem

variable {F : FTy → Type} [FloatOps F]

/-- The program and its ideal reading call one body. -/
theorem defs₀_eq : (Cert.Kernel7.defs₀ (F := F)) = Cert.Kernel7Ideal.defs₀ (F := F) := by
  unfold Cert.Kernel7.defs₀ Cert.Kernel7Ideal.defs₀
  refine congrArg (Defs.onTc (nD := Cert.Kernel7.nD) (τ := Cert.Kernel7.τ) (sig := Cert.Kernel7.sig) (Val := Elt F) (Λ := Cert.Kernel7.Λ₀)) ?_
  funext l a
  obtain ⟨n, hn⟩ := l
  match n, hn with
  | 0, _ => obtain ⟨t, s⟩ := a; rfl
  | n + 1, h => exact absurd h (Nat.not_lt.2 (Nat.le_add_left _ _))

/-- So their body tables are one. -/
theorem defs_eq : (Cert.Kernel7.defs (F := F)) = Cert.Kernel7Ideal.defs (F := F) := by
  unfold Cert.Kernel7.defs Cert.Kernel7Ideal.defs
  rw [defs₀_eq]; rfl

/-- The program leaves its arguments as launched and every semaphore at zero. -/
theorem frame_kernel : Cert.quiescent_Kernel7 := fun m ρ _ => by
  rw [defs_eq]; exact Cert.Q.frame (F := Bits) m ρ

/-- The same of its ideal reading. -/
theorem frame_ideal : Cert.quiescent_Kernel7Ideal := fun m ρ _ => Cert.Q.frame (F := Ideal) m ρ

/-- The reference runs and leaves its arguments as launched; it declares no semaphore. -/
theorem frame_reference : Cert.quiescent_Reference7Ideal := fun m ρ _ =>
  (θ_run Cert.Reference7Ideal.defs _ _).mono (fun r h => ⟨fun c => (h c).2.2, Idealize.ShloMosaic.sem_eq_zero_of_no_sems (by decide) r.2⟩)
    (Cert.Reference7Ideal.Value.run (F := Ideal) m ρ)

/-- Kernel and reference leave the same queries of the prompt and of the sample. -/
theorem algebraic : Cert.algebraic_Kernel7Ideal_Reference7Ideal := by
  intro m g m' g' _ hargs
  refine ⟨fun c => Cert.QRef.heads (Cert.QValue.X0 m c) (Cert.QValue.X2 m c), fun c => Cert.QRef.sampleHeads (Cert.QValue.X1 m c) (Cert.QValue.X2 m c), ?_, ?_⟩
  · exact (θ_run Cert.Kernel7Ideal.defs _ _).mono (fun r h c => ⟨Cert.QValue.final_prompt m c r h.1, Cert.QValue.final_sample m c r h.1, Cert.Q.args m c r h.1⟩) (Cert.Q.run (F := Ideal) m g)
  · refine (θ_run Cert.Reference7Ideal.defs _ _).mono (fun r h c => ⟨(h c).1.trans ?_, (h c).2.1.trans ?_, (h c).2.2⟩) (Cert.Reference7Ideal.Value.run (F := Ideal) m' g')
    · refine (Cert.Reference7Ideal.Read.val_main_v14_eq (F := Ideal) _ _).trans ?_
      obtain ⟨e0, e1, e2⟩ := hargs c
      rw [e0, e2]
      exact Cert.QRef.heads_eq _ _
    · refine (Cert.Reference7Ideal.Read.val_main_v15_eq (F := Ideal) _ _).trans ?_
      obtain ⟨e0, e1, e2⟩ := hargs c
      rw [e1, e2]
      exact Cert.QRef.sampleHeads_eq _ _

end Cert.QClaim

end
-- ==== Proof.GaRun.lean ====
module

public import proofs.«01_k».proof.Proof.Gen.Kernel8Ideal.Launch
public import proofs.«01_k».proof.Proof.Gen.Kernel8Ideal.Points
public import proofs.«01_k».proof.Proof.Gen.Kernel8Ideal.Skeleton
public import proofs.«01_k».proof.Proof.Gen.Kernel8Ideal.Frame
public import proofs.«01_k».proof.Proof.ProjRun
public import proofs.«01_k».proof.Proof.Heads
public import Idealize.ShloMosaic.Lib.Claim
public import Idealize.ShloMosaic.Lib.WritesUnit
public import Idealize.ShloMosaic.Lib.VecWindow
public import Idealize.ShloMosaic.Lib.Pipeline.ValueKit

@[expose] public section

set_option maxRecDepth 16384

noncomputable section

/-! # The projection to the first branch's gates: the body's run at each kind of grid point

A grid point takes one block of the prompt's rows against one tile of 512 weight rows. The tile is copied from the
whole weight by the body itself: the copy of the next tile starts at the second block of rows of a tile and is
waited for at the first block of rows of the next. -/

namespace Cert.Ga

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

/-- The scratch a weight tile is copied to. -/
abbrev tileM : Memref sig .tc .vmem S512x4096 .f32 := Memref.whole cc0_scratch0
/-- The scratch that holds the tile rounded. -/
abbrev narrowM : Memref sig .tc .vmem S512x4096 .bf16 := Memref.whole cc0_scratch1
/-- The weight, left in HBM. -/
abbrev weightM : Memref sig .tc .hbm S13472x4096 .f32 := Memref.whole main_v1
/-- The copy's target: the whole of the scratch. -/
abbrev slotM : Memref sig .tc .vmem S512x4096 .f32 :=
  tileM.slice (Rect.unit (s := S512x4096) ![0, 0] S512x4096.size inb_S512x4096_S512x4096_0_0) (fun _ => rfl)
/-- The copy's source: 512 rows of the weight. -/
abbrev rowsM (o : Fin 2 → ℕ) (h : ∀ a, o a + S512x4096.size a ≤ S13472x4096.size a) : Memref sig .tc .hbm S512x4096 .f32 :=
  weightM.slice (Rect.unit (s := S13472x4096) o S512x4096.size h) (fun _ => rfl)
/-- The copy's semaphore. -/
abbrev cellM : DmaSems sig S_ := (cc0_scratch2.slice (Rect.unit (s := S1) ![0] S1.size inb_S1_S1_0)).squeeze S_ squeezes_S1_S_
abbrev cell : SemLoc sig := SemLoc.dma cellM.sem

/-- The contents of a buffer as memref `M` places it on core `c`. -/
abbrev Held (c : Dev nD) {sp : Space} {S : Shape} {e : EltTy} (M : Memref sig .tc sp S e) : Type := Buf (Elt F) (M.view.loc (c : Thread nD τ))

/-- The scratch for the tile, at `f`. -/
abbrev slotAt (c : Dev nD) (f : Held (F := F) c slotM) : sProp 𝕄 := slotM.view.loc (c : Thread nD τ) ↦[slotM.view.set]{fullShare} f
/-- The weight's rows that a copy reads, and the weight without them. -/
abbrev rowsAt (c : Dev nD) (W : Held (F := F) c weightM) (o : Fin 2 → ℕ) (h : ∀ a, o a + S512x4096.size a ≤ S13472x4096.size a) : sProp 𝕄 :=
  (rowsM o h).view.loc (c : Thread nD τ) ↦[(rowsM o h).view.set]{fullShare} W
def restAt (c : Dev nD) (W : Held (F := F) c weightM) (o : Fin 2 → ℕ) (h : ∀ a, o a + S512x4096.size a ≤ S13472x4096.size a) : sProp 𝕄 :=
  ((c : Thread nD τ).loc main_v1) ↦[Finset.univ \ (rowsM o h).view.set]{fullShare} W
/-- The weight whole. -/
abbrev weightAt (c : Dev nD) (W : Held (F := F) c weightM) : sProp 𝕄 := ((c : Thread nD τ).loc main_v1) ↦[Finset.univ]{fullShare} W
/-- The scratch once the rows are copied over `f`. -/
abbrev landed (c : Dev nD) (W : Held (F := F) c weightM) (o : Fin 2 → ℕ) (h : ∀ a, o a + S512x4096.size a ≤ S13472x4096.size a) (f : Held (F := F) c slotM) : Held (F := F) c slotM :=
  slotM.view.writes (Elt F) f [⟨Rect.whole S512x4096, ReadAs.same.apply ((rowsM o h).view.read (Elt F) W)⟩]
/-- A copy under way: it will hand over the scratch filled and give back the rows. -/
abbrev flying (c : Dev nD) (W : Held (F := F) c weightM) (o : Fin 2 → ℕ) (h : ∀ a, o a + S512x4096.size a ≤ S13472x4096.size a) (f : Held (F := F) c slotM) : sProp 𝕄 :=
  Transfers.Flight countersEmb (c : Thread nD τ) cell default (slotM.view.amount cell) iprop(slotAt c (landed c W o h f) ∗ rowsAt c W o h)

theorem weight_split (c : Dev nD) (W : Held (F := F) c weightM) (o : Fin 2 → ℕ) (h : ∀ a, o a + S512x4096.size a ≤ S13472x4096.size a) : weightAt c W ⊣⊢ iprop(rowsAt c W o h ∗ restAt c W o h) := by
  unfold restAt; exact pointsTo_split_subset (Finset.subset_univ _)

/-- No copy under way: the scratch, the semaphore and the whole weight. -/
def still (c : Dev nD) (W : Held (F := F) c weightM) : sProp 𝕄 := iprop((∃ f, slotAt c f) ∗ semVal ((c : Thread nD τ), cell) 0 ∗ weightAt c W)
/-- The copy of the rows at `o` under way. -/
def moving (c : Dev nD) (W : Held (F := F) c weightM) (o : Fin 2 → ℕ) (h : ∀ a, o a + S512x4096.size a ≤ S13472x4096.size a) : sProp 𝕄 := iprop((∃ f, flying c W o h f) ∗ restAt c W o h)

/-- The rows copied, rounded. -/
def narrow (c : Dev nD) (W : Held (F := F) c weightM) (o : Fin 2 → ℕ) (h : ∀ a, o a + S512x4096.size a ≤ S13472x4096.size a) : Vec F S512x4096 .bf16 := k0_pay8 ((rowsM o h).view.read (Elt F) W)

/-- The scratch read after a copy over the whole of it is what was copied. -/
theorem read_landed (c : Dev nD) (f : Held (F := F) c slotM) (x : Vec F S512x4096 .f32) :
    tileM.view.readAt (Elt F) (Rect.unit (s := S512x4096) ![0, 0] S512x4096.size inb_S512x4096_S512x4096_0_0).toLoadRect
      (slotM.view.writes (Elt F) f [⟨Rect.whole S512x4096, x⟩]) = x :=
  View.read_writes_whole slotM.view f x

section Runs

open Cert.ProjU (ld_whole)
open Cert.Heads (slabsOf)

variable (c : Dev nD) (i : grid0.Coords) (arg2 : Memref sig .tc .vmem S2048x4096 .bf16) (harg2 : arg2.IsWhole) (arg3 : Memref sig .tc .vmem S256x4096 .bf16) (harg3 : arg3.IsWhole)
  (arg5 : Memref sig .tc .vmem S4x2048x128 .bf16) (harg5 : arg5.IsWhole) (arg6 : Memref sig .tc .vmem S4x256x128 .f32) (harg6 : arg6.IsWhole)
  (x0 : Vec F S2048x4096 .bf16) (x1 : Vec F S256x4096 .bf16) (d : Vec F S512x4096 .bf16) (y2 : Vec F S4x2048x128 .bf16) (y3 : Vec F S4x256x128 .f32)
  (V : Held (F := F) c weightM)

/-- What a point stores: the gated products head after head, the prompt's rounded. -/
def gateHeads (x0 : Vec F S2048x4096 .bf16) (d : Vec F S512x4096 .bf16) : Vec F S4x2048x128 .bf16 := fun y => FloatOps.truncf .bf16 bitsLt_bf16_f32 (slabsOf (k0_pay9 x0 d) y)
def gateSample (x1 : Vec F S256x4096 .bf16) (d : Vec F S512x4096 .bf16) : Vec F S4x256x128 .f32 := slabsOf (k0_pay3 x1 d)

/-- The stores of a point, read back. -/
theorem read_gateHeads (v : View sig .tc .vmem S4x2048x128 .bf16) (f : v.ty.Contents (Elt F)) (h0) (h1) (h2) (h3) :
    v.read (Elt F) (v.writes (Elt F) f [⟨Rect.unit ![3, 0, 0] S1x2048x128.size h3, k0_pay2 (k0_pay9 x0 d)⟩, ⟨Rect.unit ![2, 0, 0] S1x2048x128.size h2, k0_pay1 (k0_pay12 x0 d)⟩,
      ⟨Rect.unit ![1, 0, 0] S1x2048x128.size h1, k0_pay11 x0 d⟩, ⟨Rect.unit ![0, 0, 0] S1x2048x128.size h0, k0_pay10 x0 d⟩]) = gateHeads x0 d :=
  Cert.Heads.read_slabsOf v f (k0_pay9 x0 d) h0 h1 h2 h3 slices_S2048x512_o0_0_S2048x128 slices_S2048x512_o0_128_S2048x128 slices_S2048x512_o0_256_S2048x128 slices_S2048x512_o0_384_S2048x128 shapeCasts_S2048x128_S1x2048x128 bitsLt_bf16_f32
theorem sample_slices : ∀ g : Fin 4, S256x512.Slices ![0, 128 * g.val] S256x128 := fun g => by
  fin_cases g
  exacts [slices_S256x512_o0_0_S256x128, slices_S256x512_o0_128_S256x128, slices_S256x512_o0_256_S256x128, slices_S256x512_o0_384_S256x128]
theorem read_gateSample (v : View sig .tc .vmem S4x256x128 .f32) (f : v.ty.Contents (Elt F)) (h0) (h1) (h2) (h3) :
    v.read (Elt F) (v.writes (Elt F) f [⟨Rect.unit ![3, 0, 0] S1x256x128.size h3, k0_pay7 x1 d⟩, ⟨Rect.unit ![2, 0, 0] S1x256x128.size h2, k0_pay6 x1 d⟩,
      ⟨Rect.unit ![1, 0, 0] S1x256x128.size h1, k0_pay5 x1 d⟩, ⟨Rect.unit ![0, 0, 0] S1x256x128.size h0, k0_pay4 x1 d⟩]) = gateSample x1 d :=
  Cert.Heads.read_slabsPlain v f (k0_pay3 x1 d) h0 h1 h2 h3 sample_slices shapeCasts_S256x128_S1x256x128 (![k0_pay4 x1 d, k0_pay5 x1 d, k0_pay6 x1 d, k0_pay7 x1 d]) fun g => by
    fin_cases g <;> rfl

/-- The body on these buffers. -/
abbrev body : Prog (TpuEff nD τ sig (Elt F) Λ₀ .tc) PUnit :=
  cc0_proj_ga i arg2 harg2 arg3 harg3 weightM (Memref.isWhole_whole _) arg5 harg5 arg6 harg6 tileM (Memref.isWhole_whole _) narrowM (Memref.isWhole_whole _) cc0_scratch2

set_option maxHeartbeats 1000000 in
/-- A block of rows against the tile held. -/
theorem run_plain (c1 : ¬ (k0_cond1 i = 1#1)) (c2 : ¬ (k0_cond2 i = 1#1)) (c3 : ¬ (k0_cond3 i = 1#1)) (c4 : ¬ (k0_cond4 i = 1#1)) (K : PUnit → sProp 𝕄) :
    iprop(owns (c : Thread nD τ) arg2 fullShare x0 ∗ owns (c : Thread nD τ) arg5 fullShare y2 ∗ owns (c : Thread nD τ) narrowM fullShare d
        ∗ (iprop(owns (c : Thread nD τ) arg2 fullShare x0 ∗ owns (c : Thread nD τ) arg5 fullShare (gateHeads x0 d) ∗ owns (c : Thread nD τ) narrowM fullShare d) -∗ K ⟨⟩))
      ⊢ wp frame (wpE (defs₀ (F := F)) Variants.none c none) Set.univ (body (F := F) i arg2 harg2 arg3 harg3 arg5 harg5 arg6 harg6) K := by
  unfold body
  simp only [cc0_proj_ga_eq_skeleton]; unfold cc0_proj_ga_skel
  simp only [k0_part1_eq_skeleton]; unfold k0_part1_skel
  unfold owns
  iintro ⟨⟨%f0, %hf0, H0⟩, ⟨%f2, %hf2, H2⟩, ⟨%fd, %hfd, HD⟩, Hk⟩
  obtain rfl := harg2.eq_unread hf0
  obtain rfl := harg5.eq_unread hf2
  sl_exec (disch := first | sl_exact c1 | sl_exact c2 | sl_exact c3 | sl_exact c4)
  sl_step
  iapply Hk
  isplitl [H0]
  · iexists _; isplitr; · ipureintro; exact harg2.read_unread _
    iexact H0
  isplitl [H2]
  · iexists _; isplitr; swap; · iexact H2
    ipureintro
    sl_unfold_words
    rw [View.readAt_eq_ld, View.readAt_eq_ld, harg2.read_unread, hfd, ld_whole, ld_whole]
    exact read_gateHeads x0 d _ _ _ _ _ _
  iexists _; isplitr; · ipureintro; exact hfd
  iexact HD

set_option maxHeartbeats 1000000 in
/-- The second block of rows of a tile, another tile to come: its copy starts. -/
theorem run_start (c1 : ¬ (k0_cond1 i = 1#1)) (c2 : ¬ (k0_cond2 i = 1#1)) (c3 : k0_cond3 i = 1#1) (c4 : ¬ (k0_cond4 i = 1#1)) (W : Waits sig Unit) (K : PUnit → sProp 𝕄) :
    iprop(owns (c : Thread nD τ) arg2 fullShare x0 ∗ owns (c : Thread nD τ) arg5 fullShare y2 ∗ owns (c : Thread nD τ) narrowM fullShare d ∗ still c V ∗ owes (c : Thread nD τ) 0 W
        ∗ (iprop(owns (c : Thread nD τ) arg2 fullShare x0 ∗ owns (c : Thread nD τ) arg5 fullShare (gateHeads x0 d) ∗ owns (c : Thread nD τ) narrowM fullShare d
          ∗ moving c V (k0_off2 i) (k0_off2_inb i c3) ∗ (∃ W', owes (c : Thread nD τ) 0 W')) -∗ K ⟨⟩))
      ⊢ wp frame (wpE (defs₀ (F := F)) Variants.none c none) Set.univ (body (F := F) i arg2 harg2 arg3 harg3 arg5 harg5 arg6 harg6) K := by
  unfold body
  simp only [cc0_proj_ga_eq_skeleton]; unfold cc0_proj_ga_skel
  simp only [k0_part1_eq_skeleton]; unfold k0_part1_skel
  unfold owns still
  iintro ⟨⟨%f0, %hf0, H0⟩, ⟨%f2, %hf2, H2⟩, ⟨%fd, %hfd, HD⟩, ⟨⟨%f, HS⟩, Hc, HV⟩, HW, Hk⟩
  ihave Hs := (weight_split c V (k0_off2 i) (k0_off2_inb i c3)).1 $$ HV
  icases Hs with ⟨HR, HX⟩
  obtain rfl := harg2.eq_unread hf0
  obtain rfl := harg5.eq_unread hf2
  sl_exec (disch := first | sl_exact c1 | sl_exact c2 | sl_exact c3 | sl_exact c4)
  sl_step
  iapply Hk
  isplitl [H0]
  · iexists _; isplitr; · ipureintro; exact harg2.read_unread _
    iexact H0
  isplitl [H2]
  · iexists _; isplitr; swap; · iexact H2
    ipureintro
    sl_unfold_words
    rw [View.readAt_eq_ld, View.readAt_eq_ld, harg2.read_unread, hfd, ld_whole, ld_whole]
    exact read_gateHeads x0 d _ _ _ _ _ _
  isplitl [HD]
  · iexists _; isplitr; · ipureintro; exact hfd
    iexact HD
  isplitl [Hc HX]
  · unfold moving
    isplitl [Hc]
    · iexists _; iexact Hc
    iexact HX
  iexists _; iexact HW

set_option maxHeartbeats 1000000 in
/-- The first block of rows of a tile whose copy is under way: the copy is waited for, the tile rounded, and both products stored. -/
theorem run_land (c1 : ¬ (k0_cond1 i = 1#1)) (c2 : k0_cond2 i = 1#1) (c3 : ¬ (k0_cond3 i = 1#1)) (c4 : k0_cond4 i = 1#1) (W : Waits sig Unit) (K : PUnit → sProp 𝕄) :
    iprop(owns (c : Thread nD τ) arg2 fullShare x0 ∗ owns (c : Thread nD τ) arg3 fullShare x1 ∗ owns (c : Thread nD τ) arg5 fullShare y2 ∗ owns (c : Thread nD τ) arg6 fullShare y3
        ∗ owns (c : Thread nD τ) narrowM fullShare d ∗ moving c V (k0_off1 i) (k0_off1_inb i c2) ∗ owes (c : Thread nD τ) 0 W
        ∗ (iprop(owns (c : Thread nD τ) arg2 fullShare x0 ∗ owns (c : Thread nD τ) arg3 fullShare x1 ∗ owns (c : Thread nD τ) arg5 fullShare (gateHeads x0 (narrow c V (k0_off1 i) (k0_off1_inb i c2)))
          ∗ owns (c : Thread nD τ) arg6 fullShare (gateSample x1 (narrow c V (k0_off1 i) (k0_off1_inb i c2)))
          ∗ owns (c : Thread nD τ) narrowM fullShare (narrow c V (k0_off1 i) (k0_off1_inb i c2)) ∗ still c V ∗ (∃ W', owes (c : Thread nD τ) 0 W')) -∗ K ⟨⟩))
      ⊢ wp frame (wpE (defs₀ (F := F)) Variants.none c none) Set.univ (body (F := F) i arg2 harg2 arg3 harg3 arg5 harg5 arg6 harg6) K := by
  unfold body
  simp only [cc0_proj_ga_eq_skeleton]; unfold cc0_proj_ga_skel
  simp only [k0_part1_eq_skeleton]; unfold k0_part1_skel
  unfold owns moving
  iintro ⟨⟨%f0, %hf0, H0⟩, ⟨%f1, %hf1, H1⟩, ⟨%f2, %hf2, H2⟩, ⟨%f3, %hf3, H3⟩, ⟨%fd, %hfd, HD⟩, ⟨⟨%f, Hf⟩, HX⟩, HW, Hk⟩
  obtain rfl := harg2.eq_unread hf0
  obtain rfl := harg3.eq_unread hf1
  obtain rfl := harg5.eq_unread hf2
  obtain rfl := harg6.eq_unread hf3
  sl_exec (disch := first | sl_exact c1 | sl_exact c2 | sl_exact c3 | sl_exact c4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [View.readAt_eq_ld arg2.view, harg2.read_unread, ld_whole]
    refine (read_gateHeads x0 _ _ _ _ _ _ _).trans (congrArg (gateHeads x0) ((View.readCov_full _ _ _ _ _).trans (congrArg k0_pay8 (read_landed c _ _))))
  isplitl [H3]
  · iexists _; isplitr; swap; · iexact H3
    ipureintro
    sl_unfold_words
    rw [View.readAt_eq_ld arg3.view, harg3.read_unread, ld_whole]
    refine (read_gateSample x1 _ _ _ _ _ _ _).trans (congrArg (gateSample x1) ((View.readCov_full _ _ _ _ _).trans (congrArg k0_pay8 (read_landed c _ _))))
  isplitl [HD]
  · iexists _; isplitr; swap; · iexact HD
    ipureintro
    sl_unfold_words
    exact (View.read_writes_full narrowM.view fd _ _ []).trans (congrArg k0_pay8 (read_landed c _ _))
  isplitl [Hf_dst Hf_src Hf HX]
  · unfold still
    isplitl [Hf_dst]
    · iexists _; iexact Hf_dst
    isplitl [Hf]; · iexact Hf
    iapply (weight_split c V (k0_off1 i) (k0_off1_inb i c2)).2
    isplitl [Hf_src]; · iexact Hf_src
    iexact HX
  iexists _; iexact HW

set_option maxHeartbeats 1000000 in
/-- The first point: the first tile's copy is started and waited for at once. -/
theorem run_first (c1 : k0_cond1 i = 1#1) (c2 : k0_cond2 i = 1#1) (c3 : ¬ (k0_cond3 i = 1#1)) (c4 : k0_cond4 i = 1#1) (W : Waits sig Unit) (K : PUnit → sProp 𝕄) :
    iprop(owns (c : Thread nD τ) arg2 fullShare x0 ∗ owns (c : Thread nD τ) arg3 fullShare x1 ∗ owns (c : Thread nD τ) arg5 fullShare y2 ∗ owns (c : Thread nD τ) arg6 fullShare y3
        ∗ owns (c : Thread nD τ) narrowM fullShare d ∗ still c V ∗ owes (c : Thread nD τ) 0 W
        ∗ (iprop(owns (c : Thread nD τ) arg2 fullShare x0 ∗ owns (c : Thread nD τ) arg3 fullShare x1 ∗ owns (c : Thread nD τ) arg5 fullShare (gateHeads x0 (narrow c V ![3072, 0] inb_S13472x4096_S512x4096_3072_0))
          ∗ owns (c : Thread nD τ) arg6 fullShare (gateSample x1 (narrow c V ![3072, 0] inb_S13472x4096_S512x4096_3072_0))
          ∗ owns (c : Thread nD τ) narrowM fullShare (narrow c V ![3072, 0] inb_S13472x4096_S512x4096_3072_0) ∗ still c V ∗ (∃ W', owes (c : Thread nD τ) 0 W')) -∗ K ⟨⟩))
      ⊢ wp frame (wpE (defs₀ (F := F)) Variants.none c none) Set.univ (body (F := F) i arg2 harg2 arg3 harg3 arg5 harg5 arg6 harg6) K := by
  unfold body
  simp only [cc0_proj_ga_eq_skeleton]; unfold cc0_proj_ga_skel
  simp only [k0_part1_eq_skeleton]; unfold k0_part1_skel
  unfold owns still
  iintro ⟨⟨%f0, %hf0, H0⟩, ⟨%f1, %hf1, H1⟩, ⟨%f2, %hf2, H2⟩, ⟨%f3, %hf3, H3⟩, ⟨%fd, %hfd, HD⟩, ⟨⟨%f, HS⟩, Hc, HV⟩, HW, Hk⟩
  ihave Hs := (weight_split c V ![3072, 0] inb_S13472x4096_S512x4096_3072_0).1 $$ HV
  icases Hs with ⟨HR, HX⟩
  obtain rfl := harg2.eq_unread hf0
  obtain rfl := harg3.eq_unread hf1
  obtain rfl := harg5.eq_unread hf2
  obtain rfl := harg6.eq_unread hf3
  sl_exec (disch := first | sl_exact c1 | sl_exact c2 | sl_exact c3 | sl_exact c4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [View.readAt_eq_ld arg2.view, harg2.read_unread, ld_whole]
    refine (read_gateHeads x0 _ _ _ _ _ _ _).trans (congrArg (gateHeads x0) ((View.readCov_full _ _ _ _ _).trans (congrArg k0_pay8 (read_landed c _ _))))
  isplitl [H3]
  · iexists _; isplitr; swap; · iexact H3
    ipureintro
    sl_unfold_words
    rw [View.readAt_eq_ld arg3.view, harg3.read_unread, ld_whole]
    refine (read_gateSample x1 _ _ _ _ _ _ _).trans (congrArg (gateSample x1) ((View.readCov_full _ _ _ _ _).trans (congrArg k0_pay8 (read_landed c _ _))))
  isplitl [HD]
  · iexists _; isplitr; swap; · iexact HD
    ipureintro
    sl_unfold_words
    exact (View.read_writes_full narrowM.view fd _ _ []).trans (congrArg k0_pay8 (read_landed c _ _))
  isplitl [HS HR Hc HX]
  · isplitl [HS]
    · iexists _; iexact HS
    isplitl [Hc]; · iexact Hc
    iapply (weight_split c V ![3072, 0] inb_S13472x4096_S512x4096_3072_0).2
    isplitl [HR]; · iexact HR
    iexact HX
  iexists _; iexact HW

end Runs

end Cert.Ga
end
-- ==== Proof.GaFrame.lean ====
module

public import proofs.«01_k».proof.Proof.GaRun
public import Idealize.ShloMosaic.Lib.Pipeline.ArrRel

@[expose] public section

set_option maxRecDepth 16384

noncomputable section

/-! # The projection to the first branch's gates: what every point leaves, and the run -/

namespace Cert.Ga

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch hands over -/

/-- The program up to the region. -/
theorem main_runs (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own semaphore. -/
abbrev ownSem : Fin 1 → SemLoc sig := fun j => (![SemLoc.dma 7] : Fin 1 → SemLoc sig) j
theorem ownSem_facts : Pipeline.OwnSemFacts spec0 ownSem := by decide
theorem cell_eq : cell = SemLoc.dma 7 := by decide

theorem ownSems_eq (c : Dev nD) :
    (Pipeline.ownSems0 (Ix := Unit) (Name := ℕ) (U := Pipeline.UD sig nD τ) (Lvl := ℕ) (Val := Elt F) (τ := τ) ownSem c : sProp 𝕄) = semVal ((c : Thread nD τ), SemLoc.dma 7) 0 := by
  rw [Pipeline.ownSems0_eq_of_list c ownSem [0] (by decide) (by decide)]; rfl

/-- The buffers the body copies from. -/
def copied : Finset (Ref sig .tc) := {main_v1}
theorem copied_sub : copied ⊆ Pipeline.restRefs sig spec0 := by decide
theorem copied_eq (c : Dev nD) : (bigSep copied (fun b => ((c : Thread nD τ).loc b) ↦{fullShare} V m c b) : sProp 𝕄) = weightAt c (V m c main_v1) := by
  rw [BI.bigSep_eq_bigSepL_of_eq [main_v1] (by decide) (by decide)]; rfl

/-- The invariant's pieces at launch: the two scratch buffers, the generator's register, the semaphore at zero and the weight. -/
theorem PhiD_eq (c : Dev nD) : (Pipeline.ΦD ownSem spec0 copied (V m) c : sProp 𝕄)
    = iprop(iprop((∃ d, owns (c : Thread nD τ) tileM fullShare d) ∗ (∃ d, owns (c : Thread nD τ) narrowM fullShare d)) ∗ (∃ r, prngReg c r)
        ∗ semVal ((c : Thread nD τ), SemLoc.dma 7) 0 ∗ weightAt c (V m c main_v1)) := by
  rw [Pipeline.ΦD_eq, scopedRest0_eq, ownSems_eq, copied_eq]
  simp only [tileM, narrowM, owns_whole]
  try rfl

/-- The copy's target is the whole scratch. -/
theorem slot_set : slotM.view.set = Finset.univ := by
  refine (View.set_slice_whole _ _).trans (Finset.eq_univ_iff_forall.mpr fun y => ?_)
  exact View.mem_set_unit_zero (by funext a; fin_cases a <;> rfl) _ y

theorem slotAt_eq (c : Dev nD) (f : Held (F := F) c slotM) : slotAt c f = (((c : Thread nD τ).loc cc0_scratch0) ↦[Finset.univ]{fullShare} f : sProp 𝕄) := by
  unfold slotAt; rw [slot_set]

theorem slot_in (c : Dev nD) : iprop(∃ d, owns (c : Thread nD τ) tileM fullShare d) ⊢ (iprop(∃ f, slotAt c f) : sProp 𝕄) := by
  simp only [tileM, owns_whole, slotAt_eq]
  iintro ⟨%d, H⟩
  iexists d
  iexact H
theorem slot_out (c : Dev nD) : (iprop(∃ f, slotAt c f) : sProp 𝕄) ⊢ iprop(∃ d, owns (c : Thread nD τ) tileM fullShare d) := by
  simp only [tileM, owns_whole, slotAt_eq]
  iintro ⟨%d, H⟩
  iexists d
  iexact H

/-! ## The points -/

/-- The body table's row is the body. -/
theorem defs₀_row (t : Fin cfg0.N) : defs₀ (F := F) .tc cfg0.body (cfg0.bodyArgs t (cfg0.slots t)) = bodyAt0 t := by
  unfold defs₀
  rw [Defs.onTc_tc]

/-- Where tile `b` lies in the weight. -/
def off (b : ℕ) : Fin 2 → ℕ := ![512 * (b % 4) + 3072, 0]
theorem off_inb (b : ℕ) : ∀ a, off b a + S512x4096.size a ≤ S13472x4096.size a := by
  have : b % 4 < 4 := Nat.mod_lt _ (by decide)
  intro a
  fin_cases a
  · show 512 * (b % 4) + 3072 + 512 ≤ 13472; omega
  · show 0 + 4096 ≤ 4096; omega

theorem moving_congr (c : Dev nD) (W : Held (F := F) c weightM) {o o' : Fin 2 → ℕ} (e : o = o') (h : ∀ a, o a + S512x4096.size a ≤ S13472x4096.size a) (h' : ∀ a, o' a + S512x4096.size a ≤ S13472x4096.size a) : moving c W o h = moving c W o' h' := by subst e; rfl
theorem narrow_congr (c : Dev nD) (W : Held (F := F) c weightM) {o o' : Fin 2 → ℕ} (e : o = o') (h : ∀ a, o a + S512x4096.size a ≤ S13472x4096.size a) (h' : ∀ a, o' a + S512x4096.size a ≤ S13472x4096.size a) : narrow c W o h = narrow c W o' h' := by subst e; rfl

/-- Which of the body's branches a point takes, and where its copies read. -/
theorem branches : ∀ t : Fin grid0.N, (k0_cond1 (grid0.coords t) = 1#1 ↔ t.val = 0) ∧ (k0_cond2 (grid0.coords t) = 1#1 ↔ t.val % 4 = 0)
    ∧ (k0_cond3 (grid0.coords t) = 1#1 ↔ t.val % 4 = 1 ∧ t.val < 12) ∧ (k0_cond4 (grid0.coords t) = 1#1 ↔ t.val % 4 = 0)
    ∧ k0_off1 (grid0.coords t) = off (t.val / 4) ∧ k0_off2 (grid0.coords t) = ![512 * (t.val / 4 + 1) + 3072, 0] := by decide +kernel

/-- Tile `b`, rounded. -/
def narrowAt (c : Dev nD) (b : ℕ) : Vec F S512x4096 .bf16 := narrow c (V m c main_v1) (off b) (off_inb b)

/-- The copy between points: from the second block of rows of a tile to the last, the next tile's is under way. -/
def copyAt (c : Dev nD) (k : ℕ) : sProp 𝕄 :=
  if k % 4 ≠ 1 ∧ 2 ≤ k ∧ k < 14 then moving c (V m c main_v1) (off ((k + 2) / 4)) (off_inb _) else still c (V m c main_v1)

/-- What holds between points: past a tile's first block of rows, the second scratch holds the tile rounded. -/
def between (c : Dev nD) (k : ℕ) : sProp 𝕄 :=
  iprop(iprop(∃ d, ⌜k % 4 ≠ 0 → d = narrowAt m c (k / 4)⌝ ∗ owns (c : Thread nD τ) narrowM fullShare d) ∗ (∃ r, prngReg c r) ∗ copyAt m c k)

/-- The products a point stores. -/
def rowsOut (c : Dev nD) (t : Fin cfg0.N) : Vec F S4x2048x128 .bf16 := gateHeads (iblk m c 0 t) (narrowAt m c (t.val / 4))
def sampleOut (c : Dev nD) (t : Fin cfg0.N) (Y : Vec F S4x256x128 .f32) : Vec F S4x256x128 .f32 :=
  if t.val % 4 = 0 then gateSample (iblk m c 1 t) (narrowAt m c (t.val / 4)) else Y

/-- What a point leaves in each window's buffer, of what it finds there. -/
def left (c : Dev nD) : (w : Fin cfg0.W) → Fin cfg0.N → (Y X : (cfg0.win w).block.Idx → Elt F (cfg0.win w).elt) → Prop
  | 0 => fun _ Y X => X = Y
  | 1 => fun _ Y X => X = Y
  | 2 => fun t _ X => X = rowsOut m c t
  | 3 => fun t Y X => X = sampleOut m c t Y

/-- The proof's data. -/
def rdat (c : Dev nD) : RDat τ (Elt F) Unit ℕ (Pipeline.UD sig nD τ) ℕ cfg0 c where
  A w := V m c (Pipeline.arrRef spec0 w)
  after := left m c
  Φ k := between m c k.val
  q _ := fullShare
  owed _ := 0

/-- A window that is only read holds its block wherever the body finds it. -/
theorem finds_block0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rfl
theorem finds_block1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rfl

set_option maxHeartbeats 1000000 in
/-- One point: it stores the products of its rows with its tile, and moves the copies on. -/
theorem sound_point (c : Dev nD) (t : Fin cfg0.N) (Y2 : Vec F S4x2048x128 .bf16) (Y3 : Vec F S4x256x128 .f32) :
    iprop(between m c t.val ∗ (∃ W, owes (c : Thread nD τ) 0 W) ∗ owns (c : Thread nD τ) (st0_0 t) fullShare (iblk m c 0 t) ∗ owns (c : Thread nD τ) (st0_1 t) fullShare (iblk m c 1 t)
        ∗ owns (c : Thread nD τ) (st0_2 t) fullShare Y2 ∗ owns (c : Thread nD τ) (st0_3 t) fullShare Y3)
      ⊢ wp frame (wpE (defs₀ (F := F)) Variants.none c none) Set.univ (bodyAt0 t) fun _ =>
        iprop(between m c (t.val + 1) ∗ (∃ W, owes (c : Thread nD τ) 0 W) ∗ owns (c : Thread nD τ) (st0_0 t) fullShare (iblk m c 0 t) ∗ owns (c : Thread nD τ) (st0_1 t) fullShare (iblk m c 1 t)
        ∗ owns (c : Thread nD τ) (st0_2 t) fullShare (rowsOut m c t) ∗ owns (c : Thread nD τ) (st0_3 t) fullShare (sampleOut m c t Y3)) := by
  obtain ⟨h1, h2, h3, h4, o1, o2⟩ := branches t
  have hN : t.val < 16 := lt_of_lt_of_eq t.isLt N_0
  unfold between
  by_cases hi : t.val % 4 = 0
  · have eo : sampleOut m c t Y3 = gateSample (iblk m c 1 t) (narrowAt m c (t.val / 4)) := if_pos hi
    have en : copyAt m c (t.val + 1) = still c (V m c main_v1) := if_neg (by omega)
    have ed : (t.val + 1) / 4 = t.val / 4 := by omega
    rw [eo, en, ed]
    unfold rowsOut narrowAt
    by_cases h0 : t.val = 0
    · have ec : copyAt m c t.val = still c (V m c main_v1) := if_neg (by omega)
      have e0 : (![3072, 0] : Fin 2 → ℕ) = off (t.val / 4) := by rw [h0]; rfl
      rw [ec, ← narrow_congr c (V m c main_v1) e0 inb_S13472x4096_S512x4096_3072_0 (off_inb (t.val / 4))]
      iintro ⟨⟨⟨%d, %hd, HD⟩, Hp, HC⟩, ⟨%W, HW⟩, H0, H1, H2, H3⟩
      iapply (run_first (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (iblk m c 1 t) d Y2 Y3 (V m c main_v1) (h1.2 h0) (h2.2 hi) (fun h => by have := h3.1 h; omega) (h4.2 hi) W _)
      isplitl [H0]; · iexact H0
      isplitl [H1]; · iexact H1
      isplitl [H2]; · iexact H2
      isplitl [H3]; · iexact H3
      isplitl [HD]; · iexact HD
      isplitl [HC]; · iexact HC
      isplitl [HW]; · iexact HW
      iintro ⟨H0, H1, H2, H3, HD, HC, HW⟩
      isplitl [HD Hp HC]
      · isplitl [HD]
        · iexists _; isplitr; swap; · iexact HD
          ipureintro; exact fun _ => rfl
        isplitl [Hp]; · iexact Hp
        iexact HC
      isplitl [HW]; · iexact HW
      isplitl [H0]; · iexact H0
      isplitl [H1]; · iexact H1
      isplitl [H2]; · iexact H2
      iexact H3
    · have ec : copyAt m c t.val = moving c (V m c main_v1) (off ((t.val + 2) / 4)) (off_inb _) := if_pos (by omega)
      have e6 : (t.val + 2) / 4 = t.val / 4 := by omega
      rw [ec, e6, ← narrow_congr c (V m c main_v1) o1 (k0_off1_inb _ (h2.2 hi)) (off_inb (t.val / 4)), ← moving_congr c (V m c main_v1) o1 (k0_off1_inb _ (h2.2 hi)) (off_inb (t.val / 4))]
      iintro ⟨⟨⟨%d, %hd, HD⟩, Hp, HC⟩, ⟨%W, HW⟩, H0, H1, H2, H3⟩
      iapply (run_land (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (iblk m c 1 t) d Y2 Y3 (V m c main_v1) (fun h => h0 (h1.1 h)) (h2.2 hi) (fun h => by have := h3.1 h; omega) (h4.2 hi) W _)
      isplitl [H0]; · iexact H0
      isplitl [H1]; · iexact H1
      isplitl [H2]; · iexact H2
      isplitl [H3]; · iexact H3
      isplitl [HD]; · iexact HD
      isplitl [HC]; · iexact HC
      isplitl [HW]; · iexact HW
      iintro ⟨H0, H1, H2, H3, HD, HC, HW⟩
      isplitl [HD Hp HC]
      · isplitl [HD]
        · iexists _; isplitr; swap; · iexact HD
          ipureintro; exact fun _ => rfl
        isplitl [Hp]; · iexact Hp
        iexact HC
      isplitl [HW]; · iexact HW
      isplitl [H0]; · iexact H0
      isplitl [H1]; · iexact H1
      isplitl [H2]; · iexact H2
      iexact H3
  · have eo : sampleOut m c t Y3 = Y3 := if_neg hi
    have keep : (t.val + 1) % 4 ≠ 0 → narrowAt m c (t.val / 4) = narrowAt m c ((t.val + 1) / 4) := fun h => by
      have e : (t.val + 1) / 4 = t.val / 4 := by omega
      rw [e]
    rw [eo]
    unfold rowsOut
    by_cases hs : t.val % 4 = 1 ∧ t.val < 12
    · have ec : copyAt m c t.val = still c (V m c main_v1) := if_neg (by omega)
      have en : copyAt m c (t.val + 1) = moving c (V m c main_v1) (off ((t.val + 1 + 2) / 4)) (off_inb _) := if_pos (by omega)
      have e2 : k0_off2 (grid0.coords t) = off ((t.val + 1 + 2) / 4) := by
        rw [o2]; unfold off
        have e : (t.val + 1 + 2) / 4 % 4 = t.val / 4 + 1 := by omega
        rw [e]
      rw [ec, en, ← moving_congr c (V m c main_v1) e2 (k0_off2_inb _ (h3.2 hs)) (off_inb _)]
      iintro ⟨⟨⟨%d, %hd, HD⟩, Hp, HC⟩, ⟨%W, HW⟩, H0, H1, H2, H3⟩
      obtain rfl := hd hi
      iapply (run_start (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (narrowAt m c (t.val / 4)) Y2 (V m c main_v1) (fun h => by have := h1.1 h; omega) (fun h => hi (h2.1 h)) (h3.2 hs) (fun h => hi (h4.1 h)) W _)
      isplitl [H0]; · iexact H0
      isplitl [H2]; · iexact H2
      isplitl [HD]; · iexact HD
      isplitl [HC]; · iexact HC
      isplitl [HW]; · iexact HW
      iintro ⟨H0, H2, HD, HC, HW⟩
      isplitl [HD Hp HC]
      · isplitl [HD]
        · iexists _; isplitr; swap; · iexact HD
          ipureintro; exact keep
        isplitl [Hp]; · iexact Hp
        iexact HC
      isplitl [HW]; · iexact HW
      isplitl [H0]; · iexact H0
      isplitl [H1]; · iexact H1
      isplitl [H2]; · iexact H2
      iexact H3
    · have ec : copyAt m c (t.val + 1) = copyAt m c t.val := by
        unfold copyAt
        by_cases hk : t.val % 4 ≠ 1 ∧ 2 ≤ t.val ∧ t.val < 14
        · by_cases hk' : t.val + 1 < 14
          · have e : (t.val + 1 + 2) / 4 = (t.val + 2) / 4 := by omega
            rw [if_pos hk, if_pos (by omega)]
            exact moving_congr c _ (congrArg off e) _ _
          · omega
        · rw [if_neg hk, if_neg (by omega)]
      rw [ec]
      iintro ⟨⟨⟨%d, %hd, HD⟩, Hp, HC⟩, ⟨%W, HW⟩, H0, H1, H2, H3⟩
      obtain rfl := hd hi
      iapply (run_plain (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (narrowAt m c (t.val / 4)) Y2 (fun h => by have := h1.1 h; omega) (fun h => hi (h2.1 h)) (fun h => hs (h3.1 h)) (fun h => hi (h4.1 h)) _)
      isplitl [H0]; · iexact H0
      isplitl [H2]; · iexact H2
      isplitl [HD]; · iexact HD
      iintro ⟨H0, H2, HD⟩
      isplitl [HD Hp HC]
      · isplitl [HD]
        · iexists _; isplitr; swap; · iexact HD
          ipureintro; exact keep
        isplitl [Hp]; · iexact Hp
        iexact HC
      isplitl [HW]; · iexists _; iexact HW
      isplitl [H0]; · iexact H0
      isplitl [H1]; · iexact H1
      isplitl [H2]; · iexact H2
      iexact H3

/-- The waits recorded so far are bounded by nothing. -/
theorem owes_in (c : Dev nD) (k : Fin (cfg0.N + 1)) : (rdat (F := F) m c).owesAt () k ⊢ iprop(∃ W, owes (c : Thread nD τ) 0 W) := by
  unfold RDat.owesAt Pipeline.owesWithin
  iintro ⟨%W, -, H⟩
  iexists W; iexact H
theorem owes_out (c : Dev nD) (k : Fin (cfg0.N + 1)) : iprop(∃ W, owes (c : Thread nD τ) 0 W) ⊢ (rdat (F := F) m c).owesAt () k := by
  unfold RDat.owesAt Pipeline.owesWithin
  iintro ⟨%W, H⟩
  iexists W; isplitr; · ipureintro; exact fun _ _ => Or.inl trivial
  iexact H

/-- The body's obligation at every point. -/
theorem body_obligation (c : Dev nD) : (rdat (F := F) m c).BodyObligation (defs₀ (F := F)) Variants.none () Set.univ := fun t Y hY => by
  rw [bigSep_W0, bigSep_W0, defs₀_row]
  rw [finds_block0 m c t _ (hY 0), finds_block1 m c t _ (hY 1)]
  refine triple_restated (sound_point m c t (Y 2) (Y 3)) rfl ?_ fun _ => ?_
  · iintro ⟨HΦ, Ho, H⟩
    isplitl [HΦ]; · iapply (show (rdat (F := F) m c).Φ t.castSucc ⊢ between m c t.val from .rfl); iexact HΦ
    isplitl [Ho]; · iapply (owes_in m c t.castSucc); iexact Ho
    iexact H
  show _ ⊢ iprop(between m c (t.val + 1) ∗ (rdat (F := F) m c).owesAt () t.succ ∗ _)
  iintro ⟨HΦ, Ho, H0, H1, H2, H3⟩
  isplitl [HΦ]; · iexact HΦ
  isplitl [Ho]; · iapply (owes_out m c t.succ); iexact Ho
  isplitl [H0]; · iexists _; isplitr; swap; · iexact H0
                  ipureintro; exact rfl
  isplitl [H1]; · iexists _; isplitr; swap; · iexact H1
                  ipureintro; exact rfl
  isplitl [H2]; · iexists _; isplitr; swap; · iexact H2
                  ipureintro; exact rfl
  iexists _; isplitr; swap; · iexact H3
  ipureintro; exact rfl

set_option backward.isDefEq.respectTransparency.types false in
/-- The run: every core's arrays hold what the data say, the rest is as the region found it, and no semaphore is up. -/
theorem run : θ_run defs (onTc (τ := τ) (main (F := F))) (s₀ m ρ) (fun r => RDat.FramePost cfg0 (rdat (F := F) m) (V m) r ∧ r.2.sem = fun _ => 0) :=
  RDat.θ_run_frame_dma (Q' := _) cfgs (0 : Fin 1) launch0 ownSem defs₀ Variants.none (rdat m) ownSem_facts copied copied_sub m ρ main
    (hbody := body_obligation m) (hshare := fun _ => RDat.share_full _ fun _ => rfl) (howed := fun _ _ => rfl) (V := V m) (hmain := main_runs m Variants.none) (hA := fun _ _ => rfl)
    (hin := fun c => by
      rw [PhiD_eq]
      show _ ⊢ between m c 0
      unfold between
      rw [show copyAt m c 0 = still c (V m c main_v1) from if_neg (by decide)]
      unfold still
      iintro ⟨⟨HS, ⟨%d, HD⟩⟩, Hp, Hc, HV⟩
      isplitl [HD]
      · iexists _; isplitr; swap; · iexact HD
        ipureintro
        intro h; exact absurd rfl h
      isplitl [Hp]; · iexact Hp
      isplitl [HS]; · iapply (slot_in c); iexact HS
      isplitl [Hc]; · rw [cell_eq]; iexact Hc
      iexact HV)
    (hout := fun c => by
      rw [PhiD_eq]
      show between m c (Fin.last cfg0.N).val ⊢ _
      unfold between
      rw [show copyAt m c (Fin.last cfg0.N).val = still c (V m c main_v1) from if_neg (by rw [show (Fin.last cfg0.N).val = 16 from N_0]; decide)]
      unfold still
      iintro ⟨⟨%d, %_, HD⟩, Hp, HS, Hc, HV⟩
      isplitl [HS HD]
      · isplitl [HS]; · iapply (slot_out c); iexact HS
        iexists _; iexact HD
      isplitl [Hp]; · iexact Hp
      isplitl [Hc]; · rw [← cell_eq]; iexact Hc
      iexact HV)

/-- The arguments are untouched. -/
theorem args (c : Dev nD) (r : PUnit.{1} × MemSt nD τ sig (Elt F)) (h : RDat.FramePost cfg0 (rdat (F := F) m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(RDat.FramePost.arr_in h c 0 rfl).trans (V_main_arg0 m c),
    (RDat.FramePost.arr_in h c 1 rfl).trans (V_main_arg1 m c),
    ((h c).2 main_arg2 (Pipeline.mem_restRefs_of main_arg2 (by decide) (by decide))).trans (V_main_arg2 m c)⟩

/-- The arguments are untouched and no semaphore is up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => args m c r h.1, h.2⟩) (run m ρ)

end Cert.Ga

end
-- ==== Proof.GaRef.lean ====
/- The projection of the normalised rows to the first branch's gates, as the reference states it, read at an index. -/
module

public import proofs.«01_k».proof.Proof.Gen.Reference8Ideal.Read
public import Idealize.ShloMosaic.Lib.Pipeline.ValueKit

@[expose] public section

set_option maxRecDepth 16384

noncomputable section

namespace Cert.GaRef

open Idealize.ShloMosaic Cert.Reference8Ideal Cert.Reference8Ideal.Read

variable (x0 : FVec Ideal S8192x4096 .bf16) (x1 : FVec Ideal S256x4096 .bf16) (x2 : FVec Ideal S1x4096x13472 .f32)

/-- A number times its logistic. -/
def gate (a : Ideal .f32) : Ideal .f32 := FloatOps.mulf a (FloatOps.logistic a)

/-- The same with the logistic spelt out, as the reference has it. -/
theorem gate_eq (a : Ideal .f32) : FloatOps.mulf a (FloatOps.hostDivf (FloatOps.ofBits .f32 0x3F800000#32)
    (FloatOps.addf (FloatOps.ofBits .f32 0x3F800000#32) (FloatOps.hostUnary .exp (FloatOps.hostNegf a)))) = gate a := by
  pointwise [gate]
  rfl

/-- A row times a column of the weight's slice for the first branch's gates. -/
def promptDot (r : Fin 8192) (q : Fin 2048) : Ideal .f32 := ∑ k : Fin 4096, x0 (ix2 r k) * x2 (ix3 (0 : Fin 1) k (⟨3072 + q.val, by omega⟩ : Fin 13472))
def sampleDot (r : Fin 256) (q : Fin 2048) : Ideal .f32 := ∑ k : Fin 4096, x1 (ix2 r k) * x2 (ix3 (0 : Fin 1) k (⟨3072 + q.val, by omega⟩ : Fin 13472))

theorem promptDot_at (r : Fin 8192) (q : Fin 2048) : val_main_v5 (F := Ideal) x0 x2 (ix2 r q) = promptDot x0 x2 r q := by
  pointwise [val_main_v5, val_main_v2, val_main_v1, val_main_v0, promptDot]
theorem sampleDot_at (r : Fin 256) (q : Fin 2048) : val_main_v8 (F := Ideal) x1 x2 (ix2 r q) = sampleDot x1 x2 r q := by
  pointwise [val_main_v8, val_main_v4, val_main_v3, val_main_v0, sampleDot]

/-- The same gated. -/
def prompt (r : Fin 8192) (q : Fin 2048) : Ideal .f32 := gate (promptDot x0 x2 r q)
def sample (r : Fin 256) (q : Fin 2048) : Ideal .f32 := gate (sampleDot x1 x2 r q)

theorem prompt_at (i : S8192x2048.Idx) : val_main_v6 (F := Ideal) x0 x2 i = gate (val_main_v5 (F := Ideal) x0 x2 i) := gate_eq _
theorem sample_at (i : S256x2048.Idx) : val_main_v9 (F := Ideal) x1 x2 i = gate (val_main_v8 (F := Ideal) x1 x2 i) := gate_eq _

/-- Head `g` of a row, the prompt's and the sample's. -/
theorem promptHead_at (r : Fin 8192) (g : Fin 16) (l : Fin 128) : val_main_v7 (F := Ideal) x0 x2 (ix3 r g l) = prompt x0 x2 r (⟨128 * g.val + l.val, by omega⟩ : Fin 2048) := by
  rw [val_main_v7_apply, prompt_at]
  unfold prompt
  rw [← promptDot_at]
  refine congrArg gate (congrArg _ ?_)
  funext a
  fin_cases a
  · exact Fin.ext (by show ((r.val * 16 + g.val) * 128 + l.val) / 2048 = r.val; omega)
  · exact Fin.ext (by show ((r.val * 16 + g.val) * 128 + l.val) % 2048 = 128 * g.val + l.val; omega)
theorem sampleHead_at (r : Fin 256) (g : Fin 16) (l : Fin 128) : val_main_v10 (F := Ideal) x1 x2 (ix3 r g l) = sample x1 x2 r (⟨128 * g.val + l.val, by omega⟩ : Fin 2048) := by
  rw [val_main_v10_apply, sample_at]
  unfold sample
  rw [← sampleDot_at]
  refine congrArg gate (congrArg _ ?_)
  funext a
  fin_cases a
  · exact Fin.ext (by show ((r.val * 16 + g.val) * 128 + l.val) / 2048 = r.val; omega)
  · exact Fin.ext (by show ((r.val * 16 + g.val) * 128 + l.val) % 2048 = 128 * g.val + l.val; omega)

/-- The results, head after head. -/
def heads : S16x8192x128.Idx → EReal := fun p =>
  have h0 : (p 0).val < 16 := (p 0).isLt
  have h2 : (p 2).val < 128 := (p 2).isLt
  prompt x0 x2 (⟨(p 1).val, (p 1).isLt⟩ : Fin 8192) (⟨128 * (p 0).val + (p 2).val, by omega⟩ : Fin 2048)
def sampleHeads : S16x256x128.Idx → EReal := fun p =>
  have h0 : (p 0).val < 16 := (p 0).isLt
  have h2 : (p 2).val < 128 := (p 2).isLt
  sample x1 x2 (⟨(p 1).val, (p 1).isLt⟩ : Fin 256) (⟨128 * (p 0).val + (p 2).val, by omega⟩ : Fin 2048)

theorem heads_eq : val_main_v12 (F := Ideal) x0 x2 = heads x0 x2 := by
  funext p
  rw [val_main_v12_apply, val_main_v11_apply]
  have e : idx_main_v12 p = ix3 (⟨(p 1).val, (p 1).isLt⟩ : Fin 8192) (⟨(p 0).val, (p 0).isLt⟩ : Fin 16) (⟨(p 2).val, (p 2).isLt⟩ : Fin 128) := by
    funext a; fin_cases a <;> rfl
  rw [e, promptHead_at]
  rfl
theorem sampleHeads_eq : val_main_v13 (F := Ideal) x1 x2 = sampleHeads x1 x2 := by
  funext p
  rw [val_main_v13_apply]
  have e : idx_main_v13 p = ix3 (⟨(p 1).val, (p 1).isLt⟩ : Fin 256) (⟨(p 0).val, (p 0).isLt⟩ : Fin 16) (⟨(p 2).val, (p 2).isLt⟩ : Fin 128) := by
    funext a; fin_cases a <;> rfl
  rw [e, sampleHead_at]
  rfl

end Cert.GaRef

end
-- ==== Proof.GaValue.lean ====
/- The gates that the run of the projection to the first branch's gates leaves, read at an index. -/
module

public import proofs.«01_k».proof.Proof.GaFrame
public import proofs.«01_k».proof.Proof.GaRef

@[expose] public section

set_option maxRecDepth 16384

noncomputable section

namespace Cert.GaValue

open Idealize.ShloMosaic Idealize.ShloMosaic.TcCoe Idealize.SL.Sem Cert.Kernel8Ideal Cert.Kernel8Ideal.Gen Cert.Ga
open Idealize.ShloMosaic.Pipeline (RDat)

/-- The block of every window at a grid point. -/
theorem idx : ∀ t : Fin cfg0.N, win0_0.index t = ![t.val % 4, 0] ∧ win0_1.index t = ![0, 0] ∧ win0_2.index t = ![t.val / 4, t.val % 4, 0]
    ∧ win0_3.index t = ![t.val / 4, 0, 0] :=
  (by decide +kernel : ∀ t : Fin grid0.N, _)

variable (m : (ℓ : Loc nD τ sig) → Buf (Elt Ideal) ℓ) (c : Dev nD)

/-- The arguments. -/
abbrev X0 : FVec Ideal S8192x4096 .bf16 := m ((c : Thread nD τ).loc main_arg0)
abbrev X1 : FVec Ideal S256x4096 .bf16 := m ((c : Thread nD τ).loc main_arg1)
abbrev X2 : FVec Ideal S1x4096x13472 .f32 := m ((c : Thread nD τ).loc main_arg2)

/-- A product gated, read at an index. -/
theorem pay9_at (x : FVec Ideal S2048x4096 .bf16) (w : FVec Ideal S512x4096 .bf16) (p : Fin 2048) (q : Fin 512) :
    k0_pay9 (F := Ideal) x w (ix2 p q) = GaRef.gate (∑ k : Fin 4096, x (ix2 p k) * w (ix2 q k)) := by
  pointwise [k0_pay9, GaRef.gate]
theorem pay3_at (x : FVec Ideal S256x4096 .bf16) (w : FVec Ideal S512x4096 .bf16) (p : Fin 256) (q : Fin 512) :
    k0_pay3 (F := Ideal) x w (ix2 p q) = GaRef.gate (∑ k : Fin 4096, x (ix2 p k) * w (ix2 q k)) := by
  pointwise [k0_pay3, GaRef.gate]
theorem pay8_at (x : FVec Ideal S512x4096 .f32) (q : Fin 512) (k : Fin 4096) : k0_pay8 (F := Ideal) x (ix2 q k) = x (ix2 q k) := by
  pointwise [k0_pay8]

/-- The weight as the region finds it: transposed. -/
theorem weight_at (r : Fin 13472) (k : Fin 4096) : (V m c main_v1 : FVec Ideal S13472x4096 .f32) (ix2 r k) = X2 m c (ix3 (0 : Fin 1) k r) := by
  have e : (V m c main_v1 : FVec Ideal S13472x4096 .f32)
      = transpose S13472x4096 [1, 0] (shapeCast S4096x13472 (X2 m c) shapeCasts_S1x4096x13472_S4096x13472) transposes_S4096x13472_S13472x4096_1_0 := by
    after_results <;> rfl
  rw [e]
  pointwise []

/-- A rounded tile, read at an index. -/
theorem narrowAt_at (b : ℕ) (hb : b < 4) (q : Fin 512) (k : Fin 4096) :
    narrowAt m c b (ix2 q k) = X2 m c (ix3 (0 : Fin 1) k (⟨3072 + (512 * b + q.val), by omega⟩ : Fin 13472)) := by
  unfold narrowAt narrow
  rw [pay8_at, ← weight_at]
  refine congrArg (V m c main_v1 : FVec Ideal S13472x4096 .f32) ?_
  funext a
  fin_cases a
  · exact Fin.ext (by show 512 * (b % 4) + 3072 + 1 * q.val = 3072 + (512 * b + q.val); omega)
  · exact Fin.ext (by show 0 + 1 * k.val = k.val; omega)

/-- A gated product of a block of the prompt's rows with a tile. -/
theorem prompt_at (t : Fin cfg0.N) (p : Fin 2048) (q : Fin 512) (h : 2048 * (t.val % 4) + p.val < 8192) (h' : 512 * (t.val / 4) + q.val < 2048) :
    k0_pay9 (F := Ideal) (iblk m c 0 t) (narrowAt m c (t.val / 4)) (ix2 p q) = GaRef.prompt (X0 m c) (X2 m c) ⟨2048 * (t.val % 4) + p.val, h⟩ ⟨512 * (t.val / 4) + q.val, h'⟩ := by
  have ht := lt_of_lt_of_eq t.isLt N_0
  unfold GaRef.prompt GaRef.promptDot
  rw [pay9_at]
  refine congrArg GaRef.gate (Finset.sum_congr rfl fun k _ => ?_)
  rw [narrowAt_at m c _ (by omega)]
  refine congrArg (· * _) ?_
  blk_point [iblk, V, idx t]
/-- A gated product of the sample's rows with a tile. -/
theorem sample_at (t : Fin cfg0.N) (p : Fin 256) (q : Fin 512) (h' : 512 * (t.val / 4) + q.val < 2048) :
    k0_pay3 (F := Ideal) (iblk m c 1 t) (narrowAt m c (t.val / 4)) (ix2 p q) = GaRef.sample (X1 m c) (X2 m c) p ⟨512 * (t.val / 4) + q.val, h'⟩ := by
  have ht := lt_of_lt_of_eq t.isLt N_0
  unfold GaRef.sample GaRef.sampleDot
  rw [pay3_at]
  refine congrArg GaRef.gate (Finset.sum_congr rfl fun k _ => ?_)
  rw [narrowAt_at m c _ (by omega)]
  refine congrArg (· * _) ?_
  blk_point [iblk, V, idx t]

/-- What a tile's points leave of the sample's gates: the first stores them, the others leave them. -/
theorem left_sample : ∀ (n : ℕ) (t : Fin cfg0.N), t.val % 4 = n → ∀ X, (rdat (F := Ideal) m c).Leaves 3 t X →
    X = gateSample (iblk m c 1 t) (narrowAt m c (t.val / 4))
  | 0, t, h, X, hX => by
    obtain ⟨Y, _, e⟩ := hX
    exact (show X = sampleOut m c t Y from e).trans (if_pos h)
  | n + 1, t, h, X, hX => by
    obtain ⟨Y, hY, e⟩ := hX
    have e' : X = Y := (show X = sampleOut m c t Y from e).trans (if_neg (by omega))
    rcases ((rdat (F := Ideal) m c).finds_of_pos ((cfg0.win 3).fetch_out rfl t) (by omega) Y).mp hY with hf | hl
    · have := (flush0_3 _).mp hf
      have e3 : (t.val - 1) % 4 = 3 := this
      omega
    · have := left_sample n ⟨t.val - 1, Nat.lt_of_le_of_lt (Nat.sub_le _ _) t.isLt⟩ (by show (t.val - 1) % 4 = n; omega) Y hl
      rw [e', this]
      have e4 : (t.val - 1) / 4 = t.val / 4 := by omega
      refine congrArg₂ gateSample rfl ?_
      exact congrArg (narrowAt m c) e4

/-- The prompt's gates are the reference's. -/
theorem final_prompt (r : PUnit.{1} × MemSt nD τ sig (Elt Ideal)) (h : RDat.FramePost cfg0 (rdat (F := Ideal) m) (V m) r) :
    r.2.mem ((c : Thread nD τ).loc main_v2_0) = GaRef.heads (X0 m c) (X2 m c) := by
  obtain ⟨after, hl, ha⟩ := RDat.FramePost.exists_exact h c
  refine (ha 2).trans (((rdat (F := Ideal) m c).withAfter after).arrAt_eq_of_covers 2 _ (by decide +kernel) fun t hf y => ?_)
  have ht := lt_of_lt_of_eq t.isLt N_0
  have e : after 2 t = rowsOut m c t := by obtain ⟨Y, _, e⟩ := hl 2 t hf; exact e
  blk_simp
  rw [RDat.withAfter_after, e]
  have y0 : (y 0).val < 4 := (y 0).isLt
  have y1 : (y 1).val < 2048 := (y 1).isLt
  have y2 : (y 2).val < 128 := (y 2).isLt
  refine (prompt_at m c t (⟨(y 1).val, y1⟩ : Fin 2048) (⟨128 * (y 0).val + (y 2).val, by omega⟩ : Fin 512) (by show 2048 * (t.val % 4) + (y 1).val < 8192; omega)
    (by show 512 * (t.val / 4) + (128 * (y 0).val + (y 2).val) < 2048; omega)).trans ?_
  have ey : (win0_2.blk t).view.emb y = ix3 (⟨4 * (t.val / 4) + (y 0).val, by omega⟩ : Fin 16) (⟨2048 * (t.val % 4) + (y 1).val, by omega⟩ : Fin 8192) (⟨(y 2).val, y2⟩ : Fin 128) := by
    blk_ext [idx t]
  refine Eq.trans ?_ (congrArg (GaRef.heads (X0 m c) (X2 m c)) ey.symm)
  refine congrArg (GaRef.prompt (X0 m c) (X2 m c) _) (Fin.ext ?_)
  show 512 * (t.val / 4) + (128 * (y 0).val + (y 2).val) = 128 * (4 * (t.val / 4) + (y 0).val) + (y 2).val
  omega
/-- The sample's gates are the reference's. -/
theorem final_sample (r : PUnit.{1} × MemSt nD τ sig (Elt Ideal)) (h : RDat.FramePost cfg0 (rdat (F := Ideal) m) (V m) r) :
    r.2.mem ((c : Thread nD τ).loc main_v2_1) = GaRef.sampleHeads (X1 m c) (X2 m c) := by
  obtain ⟨after, hl, ha⟩ := RDat.FramePost.exists_exact h c
  refine (ha 3).trans (((rdat (F := Ideal) m c).withAfter after).arrAt_eq_of_covers 3 _ (by decide +kernel) fun t hf y => ?_)
  have ht := lt_of_lt_of_eq t.isLt N_0
  have e := left_sample m c _ t rfl (after 3 t) (hl 3 t hf)
  blk_simp
  rw [RDat.withAfter_after, e]
  have y0 : (y 0).val < 4 := (y 0).isLt
  have y1 : (y 1).val < 256 := (y 1).isLt
  have y2 : (y 2).val < 128 := (y 2).isLt
  refine (sample_at m c t (⟨(y 1).val, y1⟩ : Fin 256) (⟨128 * (y 0).val + (y 2).val, by omega⟩ : Fin 512)
    (by show 512 * (t.val / 4) + (128 * (y 0).val + (y 2).val) < 2048; omega)).trans ?_
  have ey : (win0_3.blk t).view.emb y = ix3 (⟨4 * (t.val / 4) + (y 0).val, by omega⟩ : Fin 16) (⟨(y 1).val, y1⟩ : Fin 256) (⟨(y 2).val, y2⟩ : Fin 128) := by
    blk_ext [idx t]
  refine Eq.trans ?_ (congrArg (GaRef.sampleHeads (X1 m c) (X2 m c)) ey.symm)
  refine congrArg (GaRef.sample (X1 m c) (X2 m c) _) (Fin.ext ?_)
  show 512 * (t.val / 4) + (128 * (y 0).val + (y 2).val) = 128 * (4 * (t.val / 4) + (y 0).val) + (y 2).val
  omega

end Cert.GaValue

end
-- ==== Proof.GaClaim.lean ====
/- The claims about the projection of the normalised rows to the first branch's gates. -/
module

public import proofs.«01_k».proof.Defs
public import proofs.«01_k».proof.Proof.Gen.Kernel8.Launch
public import proofs.«01_k».proof.Proof.Gen.Reference8Ideal.Run
public import proofs.«01_k».proof.Proof.GaValue

@[expose] public section

noncomputable section

namespace Cert.GaClaim

open Idealize.ShloMosaic Idealize.SL.Sem

variable {F : FTy → Type} [FloatOps F]

/-- The program and its ideal reading call one body. -/
theorem defs₀_eq : (Cert.Kernel8.defs₀ (F := F)) = Cert.Kernel8Ideal.defs₀ (F := F) := by
  unfold Cert.Kernel8.defs₀ Cert.Kernel8Ideal.defs₀
  refine congrArg (Defs.onTc (nD := Cert.Kernel8.nD) (τ := Cert.Kernel8.τ) (sig := Cert.Kernel8.sig) (Val := Elt F) (Λ := Cert.Kernel8.Λ₀)) ?_
  funext l a
  obtain ⟨n, hn⟩ := l
  match n, hn with
  | 0, _ => obtain ⟨t, s⟩ := a; rfl
  | n + 1, h => exact absurd h (Nat.not_lt.2 (Nat.le_add_left _ _))

/-- So their body tables are one. -/
theorem defs_eq : (Cert.Kernel8.defs (F := F)) = Cert.Kernel8Ideal.defs (F := F) := by
  unfold Cert.Kernel8.defs Cert.Kernel8Ideal.defs
  rw [defs₀_eq]; rfl

/-- The program leaves its arguments as launched and every semaphore at zero. -/
theorem frame_kernel : Cert.quiescent_Kernel8 := fun m ρ _ => by
  rw [defs_eq]; exact Cert.Ga.frame (F := Bits) m ρ

/-- The same of its ideal reading. -/
theorem frame_ideal : Cert.quiescent_Kernel8Ideal := fun m ρ _ => Cert.Ga.frame (F := Ideal) m ρ

/-- The reference runs and leaves its arguments as launched; it declares no semaphore. -/
theorem frame_reference : Cert.quiescent_Reference8Ideal := fun m ρ _ =>
  (θ_run Cert.Reference8Ideal.defs _ _).mono (fun r h => ⟨fun c => (h c).2.2, Idealize.ShloMosaic.sem_eq_zero_of_no_sems (by decide) r.2⟩)
    (Cert.Reference8Ideal.Value.run (F := Ideal) m ρ)

/-- Kernel and reference leave the same gates of the first branch, those of the prompt and of the sample. -/
theorem algebraic : Cert.algebraic_Kernel8Ideal_Reference8Ideal := by
  intro m g m' g' _ hargs
  refine ⟨fun c => Cert.GaRef.heads (Cert.GaValue.X0 m c) (Cert.GaValue.X2 m c), fun c => Cert.GaRef.sampleHeads (Cert.GaValue.X1 m c) (Cert.GaValue.X2 m c), ?_, ?_⟩
  · exact (θ_run Cert.Kernel8Ideal.defs _ _).mono (fun r h c => ⟨Cert.GaValue.final_prompt m c r h.1, Cert.GaValue.final_sample m c r h.1, Cert.Ga.args m c r h.1⟩) (Cert.Ga.run (F := Ideal) m g)
  · refine (θ_run Cert.Reference8Ideal.defs _ _).mono (fun r h c => ⟨(h c).1.trans ?_, (h c).2.1.trans ?_, (h c).2.2⟩) (Cert.Reference8Ideal.Value.run (F := Ideal) m' g')
    · refine (Cert.Reference8Ideal.Read.val_main_v12_eq (F := Ideal) _ _).trans ?_
      obtain ⟨e0, e1, e2⟩ := hargs c
      rw [e0, e2]
      exact Cert.GaRef.heads_eq _ _
    · refine (Cert.Reference8Ideal.Read.val_main_v13_eq (F := Ideal) _ _).trans ?_
      obtain ⟨e0, e1, e2⟩ := hargs c
      rw [e1, e2]
      exact Cert.GaRef.sampleHeads_eq _ _

end Cert.GaClaim

end
-- ==== Proof.GbRun.lean ====
module

public import proofs.«01_k».proof.Proof.Gen.Kernel9Ideal.Launch
public import proofs.«01_k».proof.Proof.Gen.Kernel9Ideal.Points
public import proofs.«01_k».proof.Proof.Gen.Kernel9Ideal.Skeleton
public import proofs.«01_k».proof.Proof.Gen.Kernel9Ideal.Frame
public import proofs.«01_k».proof.Proof.ProjRun
public import Idealize.ShloMosaic.Lib.Claim
public import Idealize.ShloMosaic.Lib.WritesUnit
public import Idealize.ShloMosaic.Lib.VecWindow
public import Idealize.ShloMosaic.Lib.Pipeline.ValueKit

@[expose] public section

set_option maxRecDepth 16384

noncomputable section

/-! # The projection to the second branch's gates: the body's run at each kind of grid point

A grid point takes one block of the prompt's rows against one tile of 512 weight rows. The tile is copied from the
whole weight by the body itself: the copy of the next tile starts at the second block of rows of a tile and is
waited for at the first block of rows of the next. -/

namespace Cert.Gb

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

/-- The scratch a weight tile is copied to. -/
abbrev tileM : Memref sig .tc .vmem S512x4096 .f32 := Memref.whole cc0_scratch0
/-- The scratch that holds the tile rounded. -/
abbrev narrowM : Memref sig .tc .vmem S512x4096 .bf16 := Memref.whole cc0_scratch1
/-- The weight, left in HBM. -/
abbrev weightM : Memref sig .tc .hbm S13472x4096 .f32 := Memref.whole main_v1
/-- The copy's target: the whole of the scratch. -/
abbrev slotM : Memref sig .tc .vmem S512x4096 .f32 :=
  tileM.slice (Rect.unit (s := S512x4096) ![0, 0] S512x4096.size inb_S512x4096_S512x4096_0_0) (fun _ => rfl)
/-- The copy's source: 512 rows of the weight. -/
abbrev rowsM (o : Fin 2 → ℕ) (h : ∀ a, o a + S512x4096.size a ≤ S13472x4096.size a) : Memref sig .tc .hbm S512x4096 .f32 :=
  weightM.slice (Rect.unit (s := S13472x4096) o S512x4096.size h) (fun _ => rfl)
/-- The copy's semaphore. -/
abbrev cellM : DmaSems sig S_ := (cc0_scratch2.slice (Rect.unit (s := S1) ![0] S1.size inb_S1_S1_0)).squeeze S_ squeezes_S1_S_
abbrev cell : SemLoc sig := SemLoc.dma cellM.sem

/-- The contents of a buffer as memref `M` places it on core `c`. -/
abbrev Held (c : Dev nD) {sp : Space} {S : Shape} {e : EltTy} (M : Memref sig .tc sp S e) : Type := Buf (Elt F) (M.view.loc (c : Thread nD τ))

/-- The scratch for the tile, at `f`. -/
abbrev slotAt (c : Dev nD) (f : Held (F := F) c slotM) : sProp 𝕄 := slotM.view.loc (c : Thread nD τ) ↦[slotM.view.set]{fullShare} f
/-- The weight's rows that a copy reads, and the weight without them. -/
abbrev rowsAt (c : Dev nD) (W : Held (F := F) c weightM) (o : Fin 2 → ℕ) (h : ∀ a, o a + S512x4096.size a ≤ S13472x4096.size a) : sProp 𝕄 :=
  (rowsM o h).view.loc (c : Thread nD τ) ↦[(rowsM o h).view.set]{fullShare} W
def restAt (c : Dev nD) (W : Held (F := F) c weightM) (o : Fin 2 → ℕ) (h : ∀ a, o a + S512x4096.size a ≤ S13472x4096.size a) : sProp 𝕄 :=
  ((c : Thread nD τ).loc main_v1) ↦[Finset.univ \ (rowsM o h).view.set]{fullShare} W
/-- The weight whole. -/
abbrev weightAt (c : Dev nD) (W : Held (F := F) c weightM) : sProp 𝕄 := ((c : Thread nD τ).loc main_v1) ↦[Finset.univ]{fullShare} W
/-- The scratch once the rows are copied over `f`. -/
abbrev landed (c : Dev nD) (W : Held (F := F) c weightM) (o : Fin 2 → ℕ) (h : ∀ a, o a + S512x4096.size a ≤ S13472x4096.size a) (f : Held (F := F) c slotM) : Held (F := F) c slotM :=
  slotM.view.writes (Elt F) f [⟨Rect.whole S512x4096, ReadAs.same.apply ((rowsM o h).view.read (Elt F) W)⟩]
/-- A copy under way: it will hand over the scratch filled and give back the rows. -/
abbrev flying (c : Dev nD) (W : Held (F := F) c weightM) (o : Fin 2 → ℕ) (h : ∀ a, o a + S512x4096.size a ≤ S13472x4096.size a) (f : Held (F := F) c slotM) : sProp 𝕄 :=
  Transfers.Flight countersEmb (c : Thread nD τ) cell default (slotM.view.amount cell) iprop(slotAt c (landed c W o h f) ∗ rowsAt c W o h)

theorem weight_split (c : Dev nD) (W : Held (F := F) c weightM) (o : Fin 2 → ℕ) (h : ∀ a, o a + S512x4096.size a ≤ S13472x4096.size a) : weightAt c W ⊣⊢ iprop(rowsAt c W o h ∗ restAt c W o h) := by
  unfold restAt; exact pointsTo_split_subset (Finset.subset_univ _)

/-- No copy under way: the scratch, the semaphore and the whole weight. -/
def still (c : Dev nD) (W : Held (F := F) c weightM) : sProp 𝕄 := iprop((∃ f, slotAt c f) ∗ semVal ((c : Thread nD τ), cell) 0 ∗ weightAt c W)
/-- The copy of the rows at `o` under way. -/
def moving (c : Dev nD) (W : Held (F := F) c weightM) (o : Fin 2 → ℕ) (h : ∀ a, o a + S512x4096.size a ≤ S13472x4096.size a) : sProp 𝕄 := iprop((∃ f, flying c W o h f) ∗ restAt c W o h)

/-- The rows copied, rounded. -/
def narrow (c : Dev nD) (W : Held (F := F) c weightM) (o : Fin 2 → ℕ) (h : ∀ a, o a + S512x4096.size a ≤ S13472x4096.size a) : Vec F S512x4096 .bf16 := k0_pay1 ((rowsM o h).view.read (Elt F) W)

/-- A store over the whole of a rank-2 buffer leaves what was stored. -/
theorem read_store {a b : ℕ} {e : EltTy} {sp : Space} (v : View sig .tc sp (⟨2, ![a, b]⟩ : Shape) e) (f : v.ty.Contents (Elt F)) (x : (⟨2, ![a, b]⟩ : Shape).Idx → Elt F e)
    (inb : ∀ i, (![0, 0] : Fin 2 → ℕ) i + (![a, b] : Fin 2 → ℕ) i ≤ (⟨2, ![a, b]⟩ : Shape).size i) :
    v.read (Elt F) (v.writes (Elt F) f [⟨Rect.unit ![0, 0] ![a, b] inb, x⟩]) = x :=
  View.read_writes_full v f inb x []

/-- The scratch read after a copy over the whole of it is what was copied. -/
theorem read_landed (c : Dev nD) (f : Held (F := F) c slotM) (x : Vec F S512x4096 .f32) :
    tileM.view.readAt (Elt F) (Rect.unit (s := S512x4096) ![0, 0] S512x4096.size inb_S512x4096_S512x4096_0_0).toLoadRect
      (slotM.view.writes (Elt F) f [⟨Rect.whole S512x4096, x⟩]) = x :=
  View.read_writes_whole slotM.view f x

section Runs

open Cert.ProjU (ld_whole)

variable (c : Dev nD) (i : grid0.Coords) (arg2 : Memref sig .tc .vmem S2048x4096 .bf16) (harg2 : arg2.IsWhole) (arg3 : Memref sig .tc .vmem S256x4096 .bf16) (harg3 : arg3.IsWhole)
  (arg5 : Memref sig .tc .vmem S2048x512 .bf16) (harg5 : arg5.IsWhole) (arg6 : Memref sig .tc .vmem S256x512 .f32) (harg6 : arg6.IsWhole)
  (x0 : Vec F S2048x4096 .bf16) (x1 : Vec F S256x4096 .bf16) (d : Vec F S512x4096 .bf16) (y2 : Vec F S2048x512 .bf16) (y3 : Vec F S256x512 .f32)
  (V : Held (F := F) c weightM)

/-- The body on these buffers. -/
abbrev body : Prog (TpuEff nD τ sig (Elt F) Λ₀ .tc) PUnit :=
  cc0_proj_gb i arg2 harg2 arg3 harg3 weightM (Memref.isWhole_whole _) arg5 harg5 arg6 harg6 tileM (Memref.isWhole_whole _) narrowM (Memref.isWhole_whole _) cc0_scratch2

set_option maxHeartbeats 1000000 in
/-- A block of rows against the tile held. -/
theorem run_plain (c1 : ¬ (k0_cond1 i = 1#1)) (c2 : ¬ (k0_cond2 i = 1#1)) (c3 : ¬ (k0_cond3 i = 1#1)) (c4 : ¬ (k0_cond4 i = 1#1)) (K : PUnit → sProp 𝕄) :
    iprop(owns (c : Thread nD τ) arg2 fullShare x0 ∗ owns (c : Thread nD τ) arg5 fullShare y2 ∗ owns (c : Thread nD τ) narrowM fullShare d
        ∗ (iprop(owns (c : Thread nD τ) arg2 fullShare x0 ∗ owns (c : Thread nD τ) arg5 fullShare (k0_pay2 x0 d) ∗ owns (c : Thread nD τ) narrowM fullShare d) -∗ K ⟨⟩))
      ⊢ wp frame (wpE (defs₀ (F := F)) Variants.none c none) Set.univ (body (F := F) i arg2 harg2 arg3 harg3 arg5 harg5 arg6 harg6) K := by
  unfold body
  simp only [cc0_proj_gb_eq_skeleton]; unfold cc0_proj_gb_skel
  unfold owns
  iintro ⟨⟨%f0, %hf0, H0⟩, ⟨%f2, %hf2, H2⟩, ⟨%fd, %hfd, HD⟩, Hk⟩
  obtain rfl := harg2.eq_unread hf0
  obtain rfl := harg5.eq_unread hf2
  sl_exec (disch := first | sl_exact c1 | sl_exact c2 | sl_exact c3 | sl_exact c4)
  sl_step
  iapply Hk
  isplitl [H0]
  · iexists _; isplitr; · ipureintro; exact harg2.read_unread _
    iexact H0
  isplitl [H2]
  · iexists _; isplitr; swap; · iexact H2
    ipureintro
    sl_unfold_words
    rw [read_store, View.readAt_eq_ld, View.readAt_eq_ld, harg2.read_unread, hfd, ld_whole, ld_whole]
  iexists _; isplitr; · ipureintro; exact hfd
  iexact HD

set_option maxHeartbeats 1000000 in
/-- The second block of rows of a tile, another tile to come: its copy starts. -/
theorem run_start (c1 : ¬ (k0_cond1 i = 1#1)) (c2 : ¬ (k0_cond2 i = 1#1)) (c3 : k0_cond3 i = 1#1) (c4 : ¬ (k0_cond4 i = 1#1)) (W : Waits sig Unit) (K : PUnit → sProp 𝕄) :
    iprop(owns (c : Thread nD τ) arg2 fullShare x0 ∗ owns (c : Thread nD τ) arg5 fullShare y2 ∗ owns (c : Thread nD τ) narrowM fullShare d ∗ still c V ∗ owes (c : Thread nD τ) 0 W
        ∗ (iprop(owns (c : Thread nD τ) arg2 fullShare x0 ∗ owns (c : Thread nD τ) arg5 fullShare (k0_pay2 x0 d) ∗ owns (c : Thread nD τ) narrowM fullShare d
          ∗ moving c V (k0_off2 i) (k0_off2_inb i c3) ∗ (∃ W', owes (c : Thread nD τ) 0 W')) -∗ K ⟨⟩))
      ⊢ wp frame (wpE (defs₀ (F := F)) Variants.none c none) Set.univ (body (F := F) i arg2 harg2 arg3 harg3 arg5 harg5 arg6 harg6) K := by
  unfold body
  simp only [cc0_proj_gb_eq_skeleton]; unfold cc0_proj_gb_skel
  unfold owns still
  iintro ⟨⟨%f0, %hf0, H0⟩, ⟨%f2, %hf2, H2⟩, ⟨%fd, %hfd, HD⟩, ⟨⟨%f, HS⟩, Hc, HV⟩, HW, Hk⟩
  ihave Hs := (weight_split c V (k0_off2 i) (k0_off2_inb i c3)).1 $$ HV
  icases Hs with ⟨HR, HX⟩
  obtain rfl := harg2.eq_unread hf0
  obtain rfl := harg5.eq_unread hf2
  sl_exec (disch := first | sl_exact c1 | sl_exact c2 | sl_exact c3 | sl_exact c4)
  sl_step
  iapply Hk
  isplitl [H0]
  · iexists _; isplitr; · ipureintro; exact harg2.read_unread _
    iexact H0
  isplitl [H2]
  · iexists _; isplitr; swap; · iexact H2
    ipureintro
    sl_unfold_words
    rw [read_store, View.readAt_eq_ld, View.readAt_eq_ld, harg2.read_unread, hfd, ld_whole, ld_whole]
  isplitl [HD]
  · iexists _; isplitr; · ipureintro; exact hfd
    iexact HD
  isplitl [Hc HX]
  · unfold moving
    isplitl [Hc]
    · iexists _; iexact Hc
    iexact HX
  iexists _; iexact HW

set_option maxHeartbeats 1000000 in
/-- The first block of rows of a tile whose copy is under way: the copy is waited for, the tile rounded, and both products stored. -/
theorem run_land (c1 : ¬ (k0_cond1 i = 1#1)) (c2 : k0_cond2 i = 1#1) (c3 : ¬ (k0_cond3 i = 1#1)) (c4 : k0_cond4 i = 1#1) (W : Waits sig Unit) (K : PUnit → sProp 𝕄) :
    iprop(owns (c : Thread nD τ) arg2 fullShare x0 ∗ owns (c : Thread nD τ) arg3 fullShare x1 ∗ owns (c : Thread nD τ) arg5 fullShare y2 ∗ owns (c : Thread nD τ) arg6 fullShare y3
        ∗ owns (c : Thread nD τ) narrowM fullShare d ∗ moving c V (k0_off1 i) (k0_off1_inb i c2) ∗ owes (c : Thread nD τ) 0 W
        ∗ (iprop(owns (c : Thread nD τ) arg2 fullShare x0 ∗ owns (c : Thread nD τ) arg3 fullShare x1 ∗ owns (c : Thread nD τ) arg5 fullShare (k0_pay2 x0 (narrow c V (k0_off1 i) (k0_off1_inb i c2)))
          ∗ owns (c : Thread nD τ) arg6 fullShare (k0_pay3 x1 (narrow c V (k0_off1 i) (k0_off1_inb i c2)))
          ∗ owns (c : Thread nD τ) narrowM fullShare (narrow c V (k0_off1 i) (k0_off1_inb i c2)) ∗ still c V ∗ (∃ W', owes (c : Thread nD τ) 0 W')) -∗ K ⟨⟩))
      ⊢ wp frame (wpE (defs₀ (F := F)) Variants.none c none) Set.univ (body (F := F) i arg2 harg2 arg3 harg3 arg5 harg5 arg6 harg6) K := by
  unfold body
  simp only [cc0_proj_gb_eq_skeleton]; unfold cc0_proj_gb_skel
  unfold owns moving
  iintro ⟨⟨%f0, %hf0, H0⟩, ⟨%f1, %hf1, H1⟩, ⟨%f2, %hf2, H2⟩, ⟨%f3, %hf3, H3⟩, ⟨%fd, %hfd, HD⟩, ⟨⟨%f, Hf⟩, HX⟩, HW, Hk⟩
  obtain rfl := harg2.eq_unread hf0
  obtain rfl := harg3.eq_unread hf1
  obtain rfl := harg5.eq_unread hf2
  obtain rfl := harg6.eq_unread hf3
  sl_exec (disch := first | sl_exact c1 | sl_exact c2 | sl_exact c3 | sl_exact c4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [read_store, View.readAt_eq_ld, harg2.read_unread, ld_whole]
    exact congrArg (k0_pay2 x0) ((View.readCov_full _ _ _ _ _).trans (congrArg k0_pay1 (read_landed c _ _)))
  isplitl [H3]
  · iexists _; isplitr; swap; · iexact H3
    ipureintro
    sl_unfold_words
    rw [read_store, View.readAt_eq_ld, harg3.read_unread, ld_whole]
    exact congrArg (k0_pay3 x1) ((View.readCov_full _ _ _ _ _).trans (congrArg k0_pay1 (read_landed c _ _)))
  isplitl [HD]
  · iexists _; isplitr; swap; · iexact HD
    ipureintro
    sl_unfold_words
    rw [read_store]
    exact congrArg k0_pay1 (read_landed c _ _)
  isplitl [Hf_dst Hf_src Hf HX]
  · unfold still
    isplitl [Hf_dst]
    · iexists _; iexact Hf_dst
    isplitl [Hf]; · iexact Hf
    iapply (weight_split c V (k0_off1 i) (k0_off1_inb i c2)).2
    isplitl [Hf_src]; · iexact Hf_src
    iexact HX
  iexists _; iexact HW

set_option maxHeartbeats 1000000 in
/-- The first point: the first tile's copy is started and waited for at once. -/
theorem run_first (c1 : k0_cond1 i = 1#1) (c2 : k0_cond2 i = 1#1) (c3 : ¬ (k0_cond3 i = 1#1)) (c4 : k0_cond4 i = 1#1) (W : Waits sig Unit) (K : PUnit → sProp 𝕄) :
    iprop(owns (c : Thread nD τ) arg2 fullShare x0 ∗ owns (c : Thread nD τ) arg3 fullShare x1 ∗ owns (c : Thread nD τ) arg5 fullShare y2 ∗ owns (c : Thread nD τ) arg6 fullShare y3
        ∗ owns (c : Thread nD τ) narrowM fullShare d ∗ still c V ∗ owes (c : Thread nD τ) 0 W
        ∗ (iprop(owns (c : Thread nD τ) arg2 fullShare x0 ∗ owns (c : Thread nD τ) arg3 fullShare x1 ∗ owns (c : Thread nD τ) arg5 fullShare (k0_pay2 x0 (narrow c V ![11424, 0] inb_S13472x4096_S512x4096_11424_0))
          ∗ owns (c : Thread nD τ) arg6 fullShare (k0_pay3 x1 (narrow c V ![11424, 0] inb_S13472x4096_S512x4096_11424_0))
          ∗ owns (c : Thread nD τ) narrowM fullShare (narrow c V ![11424, 0] inb_S13472x4096_S512x4096_11424_0) ∗ still c V ∗ (∃ W', owes (c : Thread nD τ) 0 W')) -∗ K ⟨⟩))
      ⊢ wp frame (wpE (defs₀ (F := F)) Variants.none c none) Set.univ (body (F := F) i arg2 harg2 arg3 harg3 arg5 harg5 arg6 harg6) K := by
  unfold body
  simp only [cc0_proj_gb_eq_skeleton]; unfold cc0_proj_gb_skel
  unfold owns still
  iintro ⟨⟨%f0, %hf0, H0⟩, ⟨%f1, %hf1, H1⟩, ⟨%f2, %hf2, H2⟩, ⟨%f3, %hf3, H3⟩, ⟨%fd, %hfd, HD⟩, ⟨⟨%f, HS⟩, Hc, HV⟩, HW, Hk⟩
  ihave Hs := (weight_split c V ![11424, 0] inb_S13472x4096_S512x4096_11424_0).1 $$ HV
  icases Hs with ⟨HR, HX⟩
  obtain rfl := harg2.eq_unread hf0
  obtain rfl := harg3.eq_unread hf1
  obtain rfl := harg5.eq_unread hf2
  obtain rfl := harg6.eq_unread hf3
  sl_exec (disch := first | sl_exact c1 | sl_exact c2 | sl_exact c3 | sl_exact c4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [read_store, View.readAt_eq_ld, harg2.read_unread, ld_whole]
    exact congrArg (k0_pay2 x0) ((View.readCov_full _ _ _ _ _).trans (congrArg k0_pay1 (read_landed c _ _)))
  isplitl [H3]
  · iexists _; isplitr; swap; · iexact H3
    ipureintro
    sl_unfold_words
    rw [read_store, View.readAt_eq_ld, harg3.read_unread, ld_whole]
    exact congrArg (k0_pay3 x1) ((View.readCov_full _ _ _ _ _).trans (congrArg k0_pay1 (read_landed c _ _)))
  isplitl [HD]
  · iexists _; isplitr; swap; · iexact HD
    ipureintro
    sl_unfold_words
    rw [read_store]
    exact congrArg k0_pay1 (read_landed c _ _)
  isplitl [HS HR Hc HX]
  · isplitl [HS]
    · iexists _; iexact HS
    isplitl [Hc]; · iexact Hc
    iapply (weight_split c V ![11424, 0] inb_S13472x4096_S512x4096_11424_0).2
    isplitl [HR]; · iexact HR
    iexact HX
  iexists _; iexact HW

end Runs

end Cert.Gb
end
-- ==== Proof.GbFrame.lean ====
module

public import proofs.«01_k».proof.Proof.GbRun
public import Idealize.ShloMosaic.Lib.Pipeline.ArrRel

@[expose] public section

set_option maxRecDepth 16384

noncomputable section

/-! # The projection to the second branch's gates: what every point leaves, and the run -/

namespace Cert.Gb

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch hands over -/

/-- The program up to the region. -/
theorem main_runs (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own semaphore. -/
abbrev ownSem : Fin 1 → SemLoc sig := fun j => (![SemLoc.dma 7] : Fin 1 → SemLoc sig) j
theorem ownSem_facts : Pipeline.OwnSemFacts spec0 ownSem := by decide
theorem cell_eq : cell = SemLoc.dma 7 := by decide

theorem ownSems_eq (c : Dev nD) :
    (Pipeline.ownSems0 (Ix := Unit) (Name := ℕ) (U := Pipeline.UD sig nD τ) (Lvl := ℕ) (Val := Elt F) (τ := τ) ownSem c : sProp 𝕄) = semVal ((c : Thread nD τ), SemLoc.dma 7) 0 := by
  rw [Pipeline.ownSems0_eq_of_list c ownSem [0] (by decide) (by decide)]; rfl

/-- The buffers the body copies from. -/
def copied : Finset (Ref sig .tc) := {main_v1}
theorem copied_sub : copied ⊆ Pipeline.restRefs sig spec0 := by decide
theorem copied_eq (c : Dev nD) : (bigSep copied (fun b => ((c : Thread nD τ).loc b) ↦{fullShare} V m c b) : sProp 𝕄) = weightAt c (V m c main_v1) := by
  rw [BI.bigSep_eq_bigSepL_of_eq [main_v1] (by decide) (by decide)]; rfl

/-- The invariant's pieces at launch: the two scratch buffers, the generator's register, the semaphore at zero and the weight. -/
theorem PhiD_eq (c : Dev nD) : (Pipeline.ΦD ownSem spec0 copied (V m) c : sProp 𝕄)
    = iprop(iprop((∃ d, owns (c : Thread nD τ) tileM fullShare d) ∗ (∃ d, owns (c : Thread nD τ) narrowM fullShare d)) ∗ (∃ r, prngReg c r)
        ∗ semVal ((c : Thread nD τ), SemLoc.dma 7) 0 ∗ weightAt c (V m c main_v1)) := by
  rw [Pipeline.ΦD_eq, scopedRest0_eq, ownSems_eq, copied_eq]
  simp only [tileM, narrowM, owns_whole]
  try rfl

/-- The copy's target is the whole scratch. -/
theorem slot_set : slotM.view.set = Finset.univ := by
  refine (View.set_slice_whole _ _).trans (Finset.eq_univ_iff_forall.mpr fun y => ?_)
  exact View.mem_set_unit_zero (by funext a; fin_cases a <;> rfl) _ y

theorem slotAt_eq (c : Dev nD) (f : Held (F := F) c slotM) : slotAt c f = (((c : Thread nD τ).loc cc0_scratch0) ↦[Finset.univ]{fullShare} f : sProp 𝕄) := by
  unfold slotAt; rw [slot_set]

theorem slot_in (c : Dev nD) : iprop(∃ d, owns (c : Thread nD τ) tileM fullShare d) ⊢ (iprop(∃ f, slotAt c f) : sProp 𝕄) := by
  simp only [tileM, owns_whole, slotAt_eq]
  iintro ⟨%d, H⟩
  iexists d
  iexact H
theorem slot_out (c : Dev nD) : (iprop(∃ f, slotAt c f) : sProp 𝕄) ⊢ iprop(∃ d, owns (c : Thread nD τ) tileM fullShare d) := by
  simp only [tileM, owns_whole, slotAt_eq]
  iintro ⟨%d, H⟩
  iexists d
  iexact H

/-! ## The points -/

/-- The body table's row is the body. -/
theorem defs₀_row (t : Fin cfg0.N) : defs₀ (F := F) .tc cfg0.body (cfg0.bodyArgs t (cfg0.slots t)) = bodyAt0 t := by
  unfold defs₀
  rw [Defs.onTc_tc]

/-- Where tile `b` lies in the weight. -/
def off (b : ℕ) : Fin 2 → ℕ := ![512 * (b % 4) + 11424, 0]
theorem off_inb (b : ℕ) : ∀ a, off b a + S512x4096.size a ≤ S13472x4096.size a := by
  have : b % 4 < 4 := Nat.mod_lt _ (by decide)
  intro a
  fin_cases a
  · show 512 * (b % 4) + 11424 + 512 ≤ 13472; omega
  · show 0 + 4096 ≤ 4096; omega

theorem moving_congr (c : Dev nD) (W : Held (F := F) c weightM) {o o' : Fin 2 → ℕ} (e : o = o') (h : ∀ a, o a + S512x4096.size a ≤ S13472x4096.size a) (h' : ∀ a, o' a + S512x4096.size a ≤ S13472x4096.size a) : moving c W o h = moving c W o' h' := by subst e; rfl
theorem narrow_congr (c : Dev nD) (W : Held (F := F) c weightM) {o o' : Fin 2 → ℕ} (e : o = o') (h : ∀ a, o a + S512x4096.size a ≤ S13472x4096.size a) (h' : ∀ a, o' a + S512x4096.size a ≤ S13472x4096.size a) : narrow c W o h = narrow c W o' h' := by subst e; rfl

/-- Which of the body's branches a point takes, and where its copies read. -/
theorem branches : ∀ t : Fin grid0.N, (k0_cond1 (grid0.coords t) = 1#1 ↔ t.val = 0) ∧ (k0_cond2 (grid0.coords t) = 1#1 ↔ t.val % 4 = 0)
    ∧ (k0_cond3 (grid0.coords t) = 1#1 ↔ t.val % 4 = 1 ∧ t.val < 12) ∧ (k0_cond4 (grid0.coords t) = 1#1 ↔ t.val % 4 = 0)
    ∧ k0_off1 (grid0.coords t) = off (t.val / 4) ∧ k0_off2 (grid0.coords t) = ![512 * (t.val / 4 + 1) + 11424, 0] := by decide +kernel

/-- Tile `b`, rounded. -/
def narrowAt (c : Dev nD) (b : ℕ) : Vec F S512x4096 .bf16 := narrow c (V m c main_v1) (off b) (off_inb b)

/-- The copy between points: from the second block of rows of a tile to the last, the next tile's is under way. -/
def copyAt (c : Dev nD) (k : ℕ) : sProp 𝕄 :=
  if k % 4 ≠ 1 ∧ 2 ≤ k ∧ k < 14 then moving c (V m c main_v1) (off ((k + 2) / 4)) (off_inb _) else still c (V m c main_v1)

/-- What holds between points: past a tile's first block of rows, the second scratch holds the tile rounded. -/
def between (c : Dev nD) (k : ℕ) : sProp 𝕄 :=
  iprop(iprop(∃ d, ⌜k % 4 ≠ 0 → d = narrowAt m c (k / 4)⌝ ∗ owns (c : Thread nD τ) narrowM fullShare d) ∗ (∃ r, prngReg c r) ∗ copyAt m c k)

/-- The products a point stores. -/
def rowsOut (c : Dev nD) (t : Fin cfg0.N) : Vec F S2048x512 .bf16 := k0_pay2 (iblk m c 0 t) (narrowAt m c (t.val / 4))
def sampleOut (c : Dev nD) (t : Fin cfg0.N) (Y : Vec F S256x512 .f32) : Vec F S256x512 .f32 :=
  if t.val % 4 = 0 then k0_pay3 (iblk m c 1 t) (narrowAt m c (t.val / 4)) else Y

/-- What a point leaves in each window's buffer, of what it finds there. -/
def left (c : Dev nD) : (w : Fin cfg0.W) → Fin cfg0.N → (Y X : (cfg0.win w).block.Idx → Elt F (cfg0.win w).elt) → Prop
  | 0 => fun _ Y X => X = Y
  | 1 => fun _ Y X => X = Y
  | 2 => fun t _ X => X = rowsOut m c t
  | 3 => fun t Y X => X = sampleOut m c t Y

/-- The proof's data. -/
def rdat (c : Dev nD) : RDat τ (Elt F) Unit ℕ (Pipeline.UD sig nD τ) ℕ cfg0 c where
  A w := V m c (Pipeline.arrRef spec0 w)
  after := left m c
  Φ k := between m c k.val
  q _ := fullShare
  owed _ := 0

/-- A window that is only read holds its block wherever the body finds it. -/
theorem finds_block0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rfl
theorem finds_block1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rfl

set_option maxHeartbeats 1000000 in
/-- One point: it stores the products of its rows with its tile, and moves the copies on. -/
theorem sound_point (c : Dev nD) (t : Fin cfg0.N) (Y2 : Vec F S2048x512 .bf16) (Y3 : Vec F S256x512 .f32) :
    iprop(between m c t.val ∗ (∃ W, owes (c : Thread nD τ) 0 W) ∗ owns (c : Thread nD τ) (st0_0 t) fullShare (iblk m c 0 t) ∗ owns (c : Thread nD τ) (st0_1 t) fullShare (iblk m c 1 t)
        ∗ owns (c : Thread nD τ) (st0_2 t) fullShare Y2 ∗ owns (c : Thread nD τ) (st0_3 t) fullShare Y3)
      ⊢ wp frame (wpE (defs₀ (F := F)) Variants.none c none) Set.univ (bodyAt0 t) fun _ =>
        iprop(between m c (t.val + 1) ∗ (∃ W, owes (c : Thread nD τ) 0 W) ∗ owns (c : Thread nD τ) (st0_0 t) fullShare (iblk m c 0 t) ∗ owns (c : Thread nD τ) (st0_1 t) fullShare (iblk m c 1 t)
        ∗ owns (c : Thread nD τ) (st0_2 t) fullShare (rowsOut m c t) ∗ owns (c : Thread nD τ) (st0_3 t) fullShare (sampleOut m c t Y3)) := by
  obtain ⟨h1, h2, h3, h4, o1, o2⟩ := branches t
  have hN : t.val < 16 := lt_of_lt_of_eq t.isLt N_0
  unfold between
  by_cases hi : t.val % 4 = 0
  · have eo : sampleOut m c t Y3 = k0_pay3 (iblk m c 1 t) (narrowAt m c (t.val / 4)) := if_pos hi
    have en : copyAt m c (t.val + 1) = still c (V m c main_v1) := if_neg (by omega)
    have ed : (t.val + 1) / 4 = t.val / 4 := by omega
    rw [eo, en, ed]
    unfold rowsOut narrowAt
    by_cases h0 : t.val = 0
    · have ec : copyAt m c t.val = still c (V m c main_v1) := if_neg (by omega)
      have e0 : (![11424, 0] : Fin 2 → ℕ) = off (t.val / 4) := by rw [h0]; rfl
      rw [ec, ← narrow_congr c (V m c main_v1) e0 inb_S13472x4096_S512x4096_11424_0 (off_inb (t.val / 4))]
      iintro ⟨⟨⟨%d, %hd, HD⟩, Hp, HC⟩, ⟨%W, HW⟩, H0, H1, H2, H3⟩
      iapply (run_first (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (iblk m c 1 t) d Y2 Y3 (V m c main_v1) (h1.2 h0) (h2.2 hi) (fun h => by have := h3.1 h; omega) (h4.2 hi) W _)
      isplitl [H0]; · iexact H0
      isplitl [H1]; · iexact H1
      isplitl [H2]; · iexact H2
      isplitl [H3]; · iexact H3
      isplitl [HD]; · iexact HD
      isplitl [HC]; · iexact HC
      isplitl [HW]; · iexact HW
      iintro ⟨H0, H1, H2, H3, HD, HC, HW⟩
      isplitl [HD Hp HC]
      · isplitl [HD]
        · iexists _; isplitr; swap; · iexact HD
          ipureintro; exact fun _ => rfl
        isplitl [Hp]; · iexact Hp
        iexact HC
      isplitl [HW]; · iexact HW
      isplitl [H0]; · iexact H0
      isplitl [H1]; · iexact H1
      isplitl [H2]; · iexact H2
      iexact H3
    · have ec : copyAt m c t.val = moving c (V m c main_v1) (off ((t.val + 2) / 4)) (off_inb _) := if_pos (by omega)
      have e6 : (t.val + 2) / 4 = t.val / 4 := by omega
      rw [ec, e6, ← narrow_congr c (V m c main_v1) o1 (k0_off1_inb _ (h2.2 hi)) (off_inb (t.val / 4)), ← moving_congr c (V m c main_v1) o1 (k0_off1_inb _ (h2.2 hi)) (off_inb (t.val / 4))]
      iintro ⟨⟨⟨%d, %hd, HD⟩, Hp, HC⟩, ⟨%W, HW⟩, H0, H1, H2, H3⟩
      iapply (run_land (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (iblk m c 1 t) d Y2 Y3 (V m c main_v1) (fun h => h0 (h1.1 h)) (h2.2 hi) (fun h => by have := h3.1 h; omega) (h4.2 hi) W _)
      isplitl [H0]; · iexact H0
      isplitl [H1]; · iexact H1
      isplitl [H2]; · iexact H2
      isplitl [H3]; · iexact H3
      isplitl [HD]; · iexact HD
      isplitl [HC]; · iexact HC
      isplitl [HW]; · iexact HW
      iintro ⟨H0, H1, H2, H3, HD, HC, HW⟩
      isplitl [HD Hp HC]
      · isplitl [HD]
        · iexists _; isplitr; swap; · iexact HD
          ipureintro; exact fun _ => rfl
        isplitl [Hp]; · iexact Hp
        iexact HC
      isplitl [HW]; · iexact HW
      isplitl [H0]; · iexact H0
      isplitl [H1]; · iexact H1
      isplitl [H2]; · iexact H2
      iexact H3
  · have eo : sampleOut m c t Y3 = Y3 := if_neg hi
    have keep : (t.val + 1) % 4 ≠ 0 → narrowAt m c (t.val / 4) = narrowAt m c ((t.val + 1) / 4) := fun h => by
      have e : (t.val + 1) / 4 = t.val / 4 := by omega
      rw [e]
    rw [eo]
    unfold rowsOut
    by_cases hs : t.val % 4 = 1 ∧ t.val < 12
    · have ec : copyAt m c t.val = still c (V m c main_v1) := if_neg (by omega)
      have en : copyAt m c (t.val + 1) = moving c (V m c main_v1) (off ((t.val + 1 + 2) / 4)) (off_inb _) := if_pos (by omega)
      have e2 : k0_off2 (grid0.coords t) = off ((t.val + 1 + 2) / 4) := by
        rw [o2]; unfold off
        have e : (t.val + 1 + 2) / 4 % 4 = t.val / 4 + 1 := by omega
        rw [e]
      rw [ec, en, ← moving_congr c (V m c main_v1) e2 (k0_off2_inb _ (h3.2 hs)) (off_inb _)]
      iintro ⟨⟨⟨%d, %hd, HD⟩, Hp, HC⟩, ⟨%W, HW⟩, H0, H1, H2, H3⟩
      obtain rfl := hd hi
      iapply (run_start (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (narrowAt m c (t.val / 4)) Y2 (V m c main_v1) (fun h => by have := h1.1 h; omega) (fun h => hi (h2.1 h)) (h3.2 hs) (fun h => hi (h4.1 h)) W _)
      isplitl [H0]; · iexact H0
      isplitl [H2]; · iexact H2
      isplitl [HD]; · iexact HD
      isplitl [HC]; · iexact HC
      isplitl [HW]; · iexact HW
      iintro ⟨H0, H2, HD, HC, HW⟩
      isplitl [HD Hp HC]
      · isplitl [HD]
        · iexists _; isplitr; swap; · iexact HD
          ipureintro; exact keep
        isplitl [Hp]; · iexact Hp
        iexact HC
      isplitl [HW]; · iexact HW
      isplitl [H0]; · iexact H0
      isplitl [H1]; · iexact H1
      isplitl [H2]; · iexact H2
      iexact H3
    · have ec : copyAt m c (t.val + 1) = copyAt m c t.val := by
        unfold copyAt
        by_cases hk : t.val % 4 ≠ 1 ∧ 2 ≤ t.val ∧ t.val < 14
        · by_cases hk' : t.val + 1 < 14
          · have e : (t.val + 1 + 2) / 4 = (t.val + 2) / 4 := by omega
            rw [if_pos hk, if_pos (by omega)]
            exact moving_congr c _ (congrArg off e) _ _
          · omega
        · rw [if_neg hk, if_neg (by omega)]
      rw [ec]
      iintro ⟨⟨⟨%d, %hd, HD⟩, Hp, HC⟩, ⟨%W, HW⟩, H0, H1, H2, H3⟩
      obtain rfl := hd hi
      iapply (run_plain (F := F) c (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3))
        (iblk m c 0 t) (narrowAt m c (t.val / 4)) Y2 (fun h => by have := h1.1 h; omega) (fun h => hi (h2.1 h)) (fun h => hs (h3.1 h)) (fun h => hi (h4.1 h)) _)
      isplitl [H0]; · iexact H0
      isplitl [H2]; · iexact H2
      isplitl [HD]; · iexact HD
      iintro ⟨H0, H2, HD⟩
      isplitl [HD Hp HC]
      · isplitl [HD]
        · iexists _; isplitr; swap; · iexact HD
          ipureintro; exact keep
        isplitl [Hp]; · iexact Hp
        iexact HC
      isplitl [HW]; · iexists _; iexact HW
      isplitl [H0]; · iexact H0
      isplitl [H1]; · iexact H1
      isplitl [H2]; · iexact H2
      iexact H3

/-- The waits recorded so far are bounded by nothing. -/
theorem owes_in (c : Dev nD) (k : Fin (cfg0.N + 1)) : (rdat (F := F) m c).owesAt () k ⊢ iprop(∃ W, owes (c : Thread nD τ) 0 W) := by
  unfold RDat.owesAt Pipeline.owesWithin
  iintro ⟨%W, -, H⟩
  iexists W; iexact H
theorem owes_out (c : Dev nD) (k : Fin (cfg0.N + 1)) : iprop(∃ W, owes (c : Thread nD τ) 0 W) ⊢ (rdat (F := F) m c).owesAt () k := by
  unfold RDat.owesAt Pipeline.owesWithin
  iintro ⟨%W, H⟩
  iexists W; isplitr; · ipureintro; exact fun _ _ => Or.inl trivial
  iexact H

/-- The body's obligation at every point. -/
theorem body_obligation (c : Dev nD) : (rdat (F := F) m c).BodyObligation (defs₀ (F := F)) Variants.none () Set.univ := fun t Y hY => by
  rw [bigSep_W0, bigSep_W0, defs₀_row]
  rw [finds_block0 m c t _ (hY 0), finds_block1 m c t _ (hY 1)]
  refine triple_restated (sound_point m c t (Y 2) (Y 3)) rfl ?_ fun _ => ?_
  · iintro ⟨HΦ, Ho, H⟩
    isplitl [HΦ]; · iapply (show (rdat (F := F) m c).Φ t.castSucc ⊢ between m c t.val from .rfl); iexact HΦ
    isplitl [Ho]; · iapply (owes_in m c t.castSucc); iexact Ho
    iexact H
  show _ ⊢ iprop(between m c (t.val + 1) ∗ (rdat (F := F) m c).owesAt () t.succ ∗ _)
  iintro ⟨HΦ, Ho, H0, H1, H2, H3⟩
  isplitl [HΦ]; · iexact HΦ
  isplitl [Ho]; · iapply (owes_out m c t.succ); iexact Ho
  isplitl [H0]; · iexists _; isplitr; swap; · iexact H0
                  ipureintro; exact rfl
  isplitl [H1]; · iexists _; isplitr; swap; · iexact H1
                  ipureintro; exact rfl
  isplitl [H2]; · iexists _; isplitr; swap; · iexact H2
                  ipureintro; exact rfl
  iexists _; isplitr; swap; · iexact H3
  ipureintro; exact rfl

set_option backward.isDefEq.respectTransparency.types false in
/-- The run: every core's arrays hold what the data say, the rest is as the region found it, and no semaphore is up. -/
theorem run : θ_run defs (onTc (τ := τ) (main (F := F))) (s₀ m ρ) (fun r => RDat.FramePost cfg0 (rdat (F := F) m) (V m) r ∧ r.2.sem = fun _ => 0) :=
  RDat.θ_run_frame_dma (Q' := _) cfgs (0 : Fin 1) launch0 ownSem defs₀ Variants.none (rdat m) ownSem_facts copied copied_sub m ρ main
    (hbody := body_obligation m) (hshare := fun _ => RDat.share_full _ fun _ => rfl) (howed := fun _ _ => rfl) (V := V m) (hmain := main_runs m Variants.none) (hA := fun _ _ => rfl)
    (hin := fun c => by
      rw [PhiD_eq]
      show _ ⊢ between m c 0
      unfold between
      rw [show copyAt m c 0 = still c (V m c main_v1) from if_neg (by decide)]
      unfold still
      iintro ⟨⟨HS, ⟨%d, HD⟩⟩, Hp, Hc, HV⟩
      isplitl [HD]
      · iexists _; isplitr; swap; · iexact HD
        ipureintro
        intro h; exact absurd rfl h
      isplitl [Hp]; · iexact Hp
      isplitl [HS]; · iapply (slot_in c); iexact HS
      isplitl [Hc]; · rw [cell_eq]; iexact Hc
      iexact HV)
    (hout := fun c => by
      rw [PhiD_eq]
      show between m c (Fin.last cfg0.N).val ⊢ _
      unfold between
      rw [show copyAt m c (Fin.last cfg0.N).val = still c (V m c main_v1) from if_neg (by rw [show (Fin.last cfg0.N).val = 16 from N_0]; decide)]
      unfold still
      iintro ⟨⟨%d, %_, HD⟩, Hp, HS, Hc, HV⟩
      isplitl [HS HD]
      · isplitl [HS]; · iapply (slot_out c); iexact HS
        iexists _; iexact HD
      isplitl [Hp]; · iexact Hp
      isplitl [Hc]; · rw [← cell_eq]; iexact Hc
      iexact HV)

/-- The arguments are untouched. -/
theorem args (c : Dev nD) (r : PUnit.{1} × MemSt nD τ sig (Elt F)) (h : RDat.FramePost cfg0 (rdat (F := F) m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(RDat.FramePost.arr_in h c 0 rfl).trans (V_main_arg0 m c),
    (RDat.FramePost.arr_in h c 1 rfl).trans (V_main_arg1 m c),
    ((h c).2 main_arg2 (Pipeline.mem_restRefs_of main_arg2 (by decide) (by decide))).trans (V_main_arg2 m c)⟩

/-- The arguments are untouched and no semaphore is up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => args m c r h.1, h.2⟩) (run m ρ)

end Cert.Gb

end
-- ==== Proof.GbRef.lean ====
/- The projection of the normalised rows to the second branch's gates, as the reference states it, read at an index. -/
module

public import proofs.«01_k».proof.Proof.Gen.Reference9Ideal.Read
public import proofs.«01_k».proof.Proof.GaRef
public import Idealize.ShloMosaic.Lib.Pipeline.ValueKit

@[expose] public section

set_option maxRecDepth 16384

noncomputable section

namespace Cert.GbRef

open Cert.GaRef (gate gate_eq)
open Idealize.ShloMosaic Cert.Reference9Ideal Cert.Reference9Ideal.Read

variable (x0 : FVec Ideal S8192x4096 .bf16) (x1 : FVec Ideal S256x4096 .bf16) (x2 : FVec Ideal S1x4096x13472 .f32)

/-- A row times a column of the weight's slice for the second branch's gates. -/
def promptDot (r : Fin 8192) (q : Fin 2048) : Ideal .f32 := ∑ k : Fin 4096, x0 (ix2 r k) * x2 (ix3 (0 : Fin 1) k (⟨11424 + q.val, by omega⟩ : Fin 13472))
def sampleDot (r : Fin 256) (q : Fin 2048) : Ideal .f32 := ∑ k : Fin 4096, x1 (ix2 r k) * x2 (ix3 (0 : Fin 1) k (⟨11424 + q.val, by omega⟩ : Fin 13472))

theorem promptDot_at (r : Fin 8192) (q : Fin 2048) : val_main_v5 (F := Ideal) x0 x2 (ix2 r q) = promptDot x0 x2 r q := by
  pointwise [val_main_v5, val_main_v2, val_main_v1, val_main_v0, promptDot]
theorem sampleDot_at (r : Fin 256) (q : Fin 2048) : val_main_v8 (F := Ideal) x1 x2 (ix2 r q) = sampleDot x1 x2 r q := by
  pointwise [val_main_v8, val_main_v4, val_main_v3, val_main_v0, sampleDot]

/-- The same gated. -/
def prompt (r : Fin 8192) (q : Fin 2048) : Ideal .f32 := gate (promptDot x0 x2 r q)
def sample (r : Fin 256) (q : Fin 2048) : Ideal .f32 := gate (sampleDot x1 x2 r q)

theorem prompt_at (r : Fin 8192) (q : Fin 2048) : val_main_v7 (F := Ideal) x0 x2 (ix2 r q) = prompt x0 x2 r q :=
  (gate_eq (val_main_v5 (F := Ideal) x0 x2 (ix2 r q))).trans (congrArg gate (promptDot_at x0 x2 r q))
theorem sample_at (r : Fin 256) (q : Fin 2048) : val_main_v9 (F := Ideal) x1 x2 (ix2 r q) = sample x1 x2 r q :=
  (gate_eq (val_main_v8 (F := Ideal) x1 x2 (ix2 r q))).trans (congrArg gate (sampleDot_at x1 x2 r q))

end Cert.GbRef

end
-- ==== Proof.GbValue.lean ====
/- The products that the run of the projection to the second branch's gates leaves, read at an index. -/
module

public import proofs.«01_k».proof.Proof.GbFrame
public import proofs.«01_k».proof.Proof.GbRef

@[expose] public section

set_option maxRecDepth 16384

noncomputable section

namespace Cert.GbValue

open Idealize.ShloMosaic Idealize.ShloMosaic.TcCoe Idealize.SL.Sem Cert.Kernel9Ideal Cert.Kernel9Ideal.Gen Cert.Gb
open Idealize.ShloMosaic.Pipeline (RDat)

/-- The block of every window at a grid point. -/
theorem idx : ∀ t : Fin cfg0.N, win0_0.index t = ![t.val % 4, 0] ∧ win0_1.index t = ![0, 0] ∧ win0_2.index t = ![t.val % 4, t.val / 4]
    ∧ win0_3.index t = ![0, t.val / 4] :=
  (by decide +kernel : ∀ t : Fin grid0.N, _)

variable (m : (ℓ : Loc nD τ sig) → Buf (Elt Ideal) ℓ) (c : Dev nD)

/-- The arguments. -/
abbrev X0 : FVec Ideal S8192x4096 .bf16 := m ((c : Thread nD τ).loc main_arg0)
abbrev X1 : FVec Ideal S256x4096 .bf16 := m ((c : Thread nD τ).loc main_arg1)
abbrev X2 : FVec Ideal S1x4096x13472 .f32 := m ((c : Thread nD τ).loc main_arg2)

/-- What the reference leaves. -/
def REF0 : S8192x2048.Idx → EReal := fun p => GbRef.prompt (X0 m c) (X2 m c) (⟨(p 0).val, (p 0).isLt⟩ : Fin 8192) (⟨(p 1).val, (p 1).isLt⟩ : Fin 2048)
def REF1 : S256x2048.Idx → EReal := fun p => GbRef.sample (X1 m c) (X2 m c) (⟨(p 0).val, (p 0).isLt⟩ : Fin 256) (⟨(p 1).val, (p 1).isLt⟩ : Fin 2048)

/-- A product gated, read at an index. -/
theorem pay2_at (x : FVec Ideal S2048x4096 .bf16) (w : FVec Ideal S512x4096 .bf16) (p : Fin 2048) (q : Fin 512) :
    k0_pay2 (F := Ideal) x w (ix2 p q) = GaRef.gate (∑ k : Fin 4096, x (ix2 p k) * w (ix2 q k)) := by
  pointwise [k0_pay2, GaRef.gate]
theorem pay3_at (x : FVec Ideal S256x4096 .bf16) (w : FVec Ideal S512x4096 .bf16) (p : Fin 256) (q : Fin 512) :
    k0_pay3 (F := Ideal) x w (ix2 p q) = GaRef.gate (∑ k : Fin 4096, x (ix2 p k) * w (ix2 q k)) := by
  pointwise [k0_pay3, GaRef.gate]
theorem pay1_at (x : FVec Ideal S512x4096 .f32) (q : Fin 512) (k : Fin 4096) : k0_pay1 (F := Ideal) x (ix2 q k) = x (ix2 q k) := by
  pointwise [k0_pay1]

/-- The weight as the region finds it: transposed. -/
theorem weight_at (r : Fin 13472) (k : Fin 4096) : (V m c main_v1 : FVec Ideal S13472x4096 .f32) (ix2 r k) = X2 m c (ix3 (0 : Fin 1) k r) := by
  have e : (V m c main_v1 : FVec Ideal S13472x4096 .f32)
      = transpose S13472x4096 [1, 0] (shapeCast S4096x13472 (X2 m c) shapeCasts_S1x4096x13472_S4096x13472) transposes_S4096x13472_S13472x4096_1_0 := by
    after_results <;> rfl
  rw [e]
  pointwise []

/-- A rounded tile, read at an index. -/
theorem narrowAt_at (b : ℕ) (hb : b < 4) (q : Fin 512) (k : Fin 4096) :
    narrowAt m c b (ix2 q k) = X2 m c (ix3 (0 : Fin 1) k (⟨11424 + (512 * b + q.val), by omega⟩ : Fin 13472)) := by
  unfold narrowAt narrow
  rw [pay1_at, ← weight_at]
  refine congrArg (V m c main_v1 : FVec Ideal S13472x4096 .f32) ?_
  funext a
  fin_cases a
  · exact Fin.ext (by show 512 * (b % 4) + 11424 + 1 * q.val = 11424 + (512 * b + q.val); omega)
  · exact Fin.ext (by show 0 + 1 * k.val = k.val; omega)

/-- What a point stores of the prompt's rows. -/
theorem rowsOut_at (t : Fin cfg0.N) (p : Fin 2048) (q : Fin 512) (h : 2048 * (t.val % 4) + p.val < 8192) (h' : 512 * (t.val / 4) + q.val < 2048) :
    rowsOut m c t (ix2 p q) = GbRef.prompt (X0 m c) (X2 m c) ⟨2048 * (t.val % 4) + p.val, h⟩ ⟨512 * (t.val / 4) + q.val, h'⟩ := by
  have ht := lt_of_lt_of_eq t.isLt N_0
  unfold rowsOut GbRef.prompt GbRef.promptDot
  rw [pay2_at]
  refine congrArg GaRef.gate (Finset.sum_congr rfl fun k _ => ?_)
  rw [narrowAt_at m c _ (by omega)]
  refine congrArg (· * _) ?_
  blk_point [iblk, V, idx t]

/-- What a tile's points leave of the sample's rows: the first stores it, the others leave it. -/
theorem left_sample : ∀ (n : ℕ) (t : Fin cfg0.N), t.val % 4 = n → ∀ X, (rdat (F := Ideal) m c).Leaves 3 t X →
    X = k0_pay3 (iblk m c 1 t) (narrowAt m c (t.val / 4))
  | 0, t, h, X, hX => by
    obtain ⟨Y, _, e⟩ := hX
    exact (show X = sampleOut m c t Y from e).trans (if_pos h)
  | n + 1, t, h, X, hX => by
    obtain ⟨Y, hY, e⟩ := hX
    have e' : X = Y := (show X = sampleOut m c t Y from e).trans (if_neg (by omega))
    rcases ((rdat (F := Ideal) m c).finds_of_pos ((cfg0.win 3).fetch_out rfl t) (by omega) Y).mp hY with hf | hl
    · have := (flush0_3 _).mp hf
      have e7 : (t.val - 1) % 4 = 3 := this
      omega
    · have := left_sample n ⟨t.val - 1, Nat.lt_of_le_of_lt (Nat.sub_le _ _) t.isLt⟩ (by show (t.val - 1) % 4 = n; omega) Y hl
      rw [e', this]
      have e8 : (t.val - 1) / 4 = t.val / 4 := by omega
      refine congrArg₂ k0_pay3 rfl ?_
      exact congrArg (narrowAt m c) e8

theorem sample_at (t : Fin cfg0.N) (p : Fin 256) (q : Fin 512) (h' : 512 * (t.val / 4) + q.val < 2048) :
    k0_pay3 (F := Ideal) (iblk m c 1 t) (narrowAt m c (t.val / 4)) (ix2 p q) = GbRef.sample (X1 m c) (X2 m c) p ⟨512 * (t.val / 4) + q.val, h'⟩ := by
  have ht := lt_of_lt_of_eq t.isLt N_0
  unfold GbRef.sample GbRef.sampleDot
  rw [pay3_at]
  refine congrArg GaRef.gate (Finset.sum_congr rfl fun k _ => ?_)
  rw [narrowAt_at m c _ (by omega)]
  refine congrArg (· * _) ?_
  blk_point [iblk, V, idx t]

/-- The prompt's array is the reference's. -/
theorem final_prompt (r : PUnit.{1} × MemSt nD τ sig (Elt Ideal)) (h : RDat.FramePost cfg0 (rdat (F := Ideal) m) (V m) r) :
    r.2.mem ((c : Thread nD τ).loc main_v2_0) = REF0 m c := by
  obtain ⟨after, hl, ha⟩ := RDat.FramePost.exists_exact h c
  refine (ha 2).trans (((rdat (F := Ideal) m c).withAfter after).arrAt_eq_of_covers 2 _ (by decide +kernel) fun t hf y => ?_)
  have ht := lt_of_lt_of_eq t.isLt N_0
  have e : after 2 t = rowsOut m c t := by obtain ⟨Y, _, e⟩ := hl 2 t hf; exact e
  blk_simp
  rw [RDat.withAfter_after, e]
  have y0 : (y 0).val < 2048 := (y 0).isLt
  have y1 : (y 1).val < 512 := (y 1).isLt
  have ey : y = (ix2 (⟨(y 0).val, (y 0).isLt⟩ : Fin 2048) (⟨(y 1).val, (y 1).isLt⟩ : Fin 512) : S2048x512.Idx) := by
    funext a; fin_cases a <;> rfl
  refine (congrArg (rowsOut m c t) ey).trans ((rowsOut_at m c t _ _ (by show 2048 * (t.val % 4) + (y 0).val < 8192; omega) (by show 512 * (t.val / 4) + (y 1).val < 2048; omega)).trans ?_)
  unfold REF0
  blk_point [idx t]
  · exact Fin.ext (by show 2048 * (t.val % 4) + (y 0).val = t.val % 4 * 2048 + (y 0).val; omega)
  · exact Fin.ext (by show 512 * (t.val / 4) + (y 1).val = t.val / 4 * 512 + (y 1).val; omega)

/-- The sample's array is the reference's. -/
theorem final_sample (r : PUnit.{1} × MemSt nD τ sig (Elt Ideal)) (h : RDat.FramePost cfg0 (rdat (F := Ideal) m) (V m) r) :
    r.2.mem ((c : Thread nD τ).loc main_v2_1) = REF1 m c := by
  obtain ⟨after, hl, ha⟩ := RDat.FramePost.exists_exact h c
  refine (ha 3).trans (((rdat (F := Ideal) m c).withAfter after).arrAt_eq_of_covers 3 _ (by decide +kernel) fun t hf y => ?_)
  have ht := lt_of_lt_of_eq t.isLt N_0
  have e := left_sample m c _ t rfl (after 3 t) (hl 3 t hf)
  blk_simp
  rw [RDat.withAfter_after, e]
  have y1 : (y 1).val < 512 := (y 1).isLt
  have ey : y = (ix2 (⟨(y 0).val, (y 0).isLt⟩ : Fin 256) (⟨(y 1).val, (y 1).isLt⟩ : Fin 512) : S256x512.Idx) := by
    funext a; fin_cases a <;> rfl
  refine (congrArg (k0_pay3 (F := Ideal) (iblk m c 1 t) (narrowAt m c (t.val / 4))) ey).trans ((sample_at m c t _ _ (by show 512 * (t.val / 4) + (y 1).val < 2048; omega)).trans ?_)
  unfold REF1
  blk_point [idx t]
  exact Fin.ext (by show 512 * (t.val / 4) + (y 1).val = t.val / 4 * 512 + (y 1).val; omega)

end Cert.GbValue

end
-- ==== Proof.GbClaim.lean ====
/- The claims about the projection of the normalised rows to the second branch's gates. -/
module

public import proofs.«01_k».proof.Defs
public import proofs.«01_k».proof.Proof.Gen.Kernel9.Launch
public import proofs.«01_k».proof.Proof.Gen.Reference9Ideal.Run
public import proofs.«01_k».proof.Proof.GbValue

@[expose] public section

noncomputable section

namespace Cert.GbClaim

open Idealize.ShloMosaic Idealize.SL.Sem

variable {F : FTy → Type} [FloatOps F]

/-- The program and its ideal reading call one body. -/
theorem defs₀_eq : (Cert.Kernel9.defs₀ (F := F)) = Cert.Kernel9Ideal.defs₀ (F := F) := by
  unfold Cert.Kernel9.defs₀ Cert.Kernel9Ideal.defs₀
  refine congrArg (Defs.onTc (nD := Cert.Kernel9.nD) (τ := Cert.Kernel9.τ) (sig := Cert.Kernel9.sig) (Val := Elt F) (Λ := Cert.Kernel9.Λ₀)) ?_
  funext l a
  obtain ⟨n, hn⟩ := l
  match n, hn with
  | 0, _ => obtain ⟨t, s⟩ := a; rfl
  | n + 1, h => exact absurd h (Nat.not_lt.2 (Nat.le_add_left _ _))

/-- So their body tables are one. -/
theorem defs_eq : (Cert.Kernel9.defs (F := F)) = Cert.Kernel9Ideal.defs (F := F) := by
  unfold Cert.Kernel9.defs Cert.Kernel9Ideal.defs
  rw [defs₀_eq]; rfl

/-- The program leaves its arguments as launched and every semaphore at zero. -/
theorem frame_kernel : Cert.quiescent_Kernel9 := fun m ρ _ => by
  rw [defs_eq]; exact Cert.Gb.frame (F := Bits) m ρ

/-- The same of its ideal reading. -/
theorem frame_ideal : Cert.quiescent_Kernel9Ideal := fun m ρ _ => Cert.Gb.frame (F := Ideal) m ρ

/-- The reference runs and leaves its arguments as launched; it declares no semaphore. -/
theorem frame_reference : Cert.quiescent_Reference9Ideal := fun m ρ _ =>
  (θ_run Cert.Reference9Ideal.defs _ _).mono (fun r h => ⟨fun c => (h c).2.2, Idealize.ShloMosaic.sem_eq_zero_of_no_sems (by decide) r.2⟩)
    (Cert.Reference9Ideal.Value.run (F := Ideal) m ρ)

/-- Kernel and reference leave the same gates of the prompt and of the sample. -/
theorem algebraic : Cert.algebraic_Kernel9Ideal_Reference9Ideal := by
  intro m g m' g' _ hargs
  refine ⟨fun c => Cert.GbValue.REF0 m c, fun c => Cert.GbValue.REF1 m c, ?_, ?_⟩
  · exact (θ_run Cert.Kernel9Ideal.defs _ _).mono (fun r h c => ⟨Cert.GbValue.final_prompt m c r h.1, Cert.GbValue.final_sample m c r h.1, Cert.Gb.args m c r h.1⟩) (Cert.Gb.run (F := Ideal) m g)
  · refine (θ_run Cert.Reference9Ideal.defs _ _).mono (fun r h c => ⟨(h c).1.trans ?_, (h c).2.1.trans ?_, (h c).2.2⟩) (Cert.Reference9Ideal.Value.run (F := Ideal) m' g')
    · refine (Cert.Reference9Ideal.Read.val_main_v7_eq (F := Ideal) _ _).trans ?_
      obtain ⟨e0, e1, e2⟩ := hargs c
      rw [e0, e2]
      funext p
      have ep : p = (ix2 (⟨(p 0).val, (p 0).isLt⟩ : Fin 8192) (⟨(p 1).val, (p 1).isLt⟩ : Fin 2048) : Cert.Reference9Ideal.S8192x2048.Idx) := by
        funext a; fin_cases a <;> rfl
      exact (congrArg _ ep).trans (Cert.GbRef.prompt_at _ _ _ _)
    · refine (Cert.Reference9Ideal.Read.val_main_v9_eq (F := Ideal) _ _).trans ?_
      obtain ⟨e0, e1, e2⟩ := hargs c
      rw [e1, e2]
      funext p
      have ep : p = (ix2 (⟨(p 0).val, (p 0).isLt⟩ : Fin 256) (⟨(p 1).val, (p 1).isLt⟩ : Fin 2048) : Cert.Reference9Ideal.S256x2048.Idx) := by
        funext a; fin_cases a <;> rfl
      exact (congrArg _ ep).trans (Cert.GbRef.sample_at _ _ _ _)

end Cert.GbClaim

end
-- ==== Proof.MsRun.lean ====
module

public import proofs.«01_k».proof.Proof.Gen.Kernel10Ideal.Launch
public import proofs.«01_k».proof.Proof.Gen.Kernel10Ideal.Points
public import proofs.«01_k».proof.Proof.Gen.Kernel10Ideal.Skeleton
public import proofs.«01_k».proof.Proof.Gen.Kernel10Ideal.Frame
public import Idealize.ShloMosaic.Lib.Claim
public import Idealize.ShloMosaic.Lib.WritesUnit
public import Idealize.ShloMosaic.Lib.Pipeline.ValueKit

@[expose] public section

set_option maxRecDepth 16384

noncomputable section

namespace Cert.Ms

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- Columns `1024 k` to `1024 k + 1023` of a block of rows. -/
def cols (k : Fin 4) (y : Vec F S256x4096 .f32) : Vec F S256x1024 .f32 := fun z =>
  y (ix2 (⟨(z 0).val, (z 0).isLt⟩ : Fin 256) (⟨1024 * k.val + (z 1).val, by have h : (z 1).val < 1024 := (z 1).isLt; omega⟩ : Fin 4096))

/-- A block of rows with its `k`-th 1024 columns replaced. -/
def put (k : ℕ) (h : Vec F S256x1024 .f32) (y : Vec F S256x4096 .f32) : Vec F S256x4096 .f32 := fun p =>
  if (p 1).val / 1024 = k then h (ix2 (⟨(p 0).val, (p 0).isLt⟩ : Fin 256) (⟨(p 1).val % 1024, Nat.mod_lt _ (by decide)⟩ : Fin 1024)) else y p

/-- The sixteen heads side by side, then the pooled columns, rounded to sixteen bits. -/
def mix (x : Vec F S16x256x128 .f32) (b : Vec F S256x2048 .f32) : Vec F S256x4096 .bf16 := fun p =>
  FloatOps.truncf .bf16 bitsLt_bf16_f32 (if h : (p 1).val < 2048 then x (ix3 (⟨(p 1).val / 128, by omega⟩ : Fin 16) (⟨(p 0).val, (p 0).isLt⟩ : Fin 256) (⟨(p 1).val % 128, Nat.mod_lt _ (by decide)⟩ : Fin 128))
  else b (ix2 (⟨(p 0).val, (p 0).isLt⟩ : Fin 256) (⟨(p 1).val - 2048, by have h' : (p 1).val < 4096 := (p 1).isLt; omega⟩ : Fin 2048)))

/-- A block of rows divided by its root mean square row by row, times the scale of each column. -/
def norm (y : Vec F S256x4096 .f32) (g : Vec F S1x4096 .f32) : Vec F S256x4096 .f32 := fun p =>
  FloatOps.mulf (FloatOps.mulf (y p) (k0_pay22 (cols 0 y) (cols 1 y) (cols 2 y) (cols 3 y) (ix2 (⟨(p 0).val, (p 0).isLt⟩ : Fin 256) (0 : Fin 1))))
    (g (ix2 (0 : Fin 1) (⟨(p 1).val, (p 1).isLt⟩ : Fin 4096)))

theorem pay4_at (i : Vec F S256x1 .f32) (a : Vec F S256x1024 .f32) (g : Vec F S1x1024 .f32) (r : Fin 256) (k : Fin 1024) :
    k0_pay4 i a g (ix2 r k) = FloatOps.mulf (FloatOps.mulf (a (ix2 r k)) (i (ix2 r (0 : Fin 1)))) (g (ix2 (0 : Fin 1) k)) := by
  pointwise [k0_pay4]
theorem pay5_eq (i : Vec F S256x1 .f32) (a : Vec F S256x1024 .f32) (g : Vec F S1x1024 .f32) : k0_pay5 i a g = k0_pay4 i a g := rfl
theorem pay6_eq (i : Vec F S256x1 .f32) (a : Vec F S256x1024 .f32) (g : Vec F S1x1024 .f32) : k0_pay6 i a g = k0_pay4 i a g := rfl
theorem pay23_eq (a b c d y : Vec F S256x1024 .f32) (g : Vec F S1x1024 .f32) : k0_pay23 a b c d y g = k0_pay4 (k0_pay22 a b c d) y g := rfl

/-- The store of head `h` into the 128 columns from `o`. -/
abbrev head (x : Vec F S16x256x128 .f32) (h o : ℕ) (inb : ∀ a, (![h, 0, 0] : Fin 3 → ℕ) a + (![1, 256, 128] : Fin 3 → ℕ) a ≤ S16x256x128.size a)
    (inb' : ∀ a, (![0, o] : Fin 2 → ℕ) a + (![256, 128] : Fin 2 → ℕ) a ≤ S256x4096.size a) : View.Piece (Elt F) S256x4096 .bf16 :=
  ⟨Rect.unit ![0, o] ![256, 128] inb', k0_pay7 (View.ld (Val := Elt F) (e' := .f32) x (Rect.unit ![h, 0, 0] ![1, 256, 128] inb))⟩

/-- The stores that lay the heads and the pooled columns side by side, the last first. -/
abbrev laid (x : Vec F S16x256x128 .f32) (b : Vec F S256x2048 .f32) : List (View.Piece (Elt F) S256x4096 .bf16) :=
  [⟨Rect.unit ![0, 2048] ![256, 2048] inb_S256x4096_S256x2048_0_2048, k0_pay2 b⟩,
    head x 15 1920 inb_S16x256x128_S1x256x128_15_0_0 inb_S256x4096_S256x128_0_1920,
    head x 14 1792 inb_S16x256x128_S1x256x128_14_0_0 inb_S256x4096_S256x128_0_1792,
    head x 13 1664 inb_S16x256x128_S1x256x128_13_0_0 inb_S256x4096_S256x128_0_1664,
    head x 12 1536 inb_S16x256x128_S1x256x128_12_0_0 inb_S256x4096_S256x128_0_1536,
    head x 11 1408 inb_S16x256x128_S1x256x128_11_0_0 inb_S256x4096_S256x128_0_1408,
    head x 10 1280 inb_S16x256x128_S1x256x128_10_0_0 inb_S256x4096_S256x128_0_1280,
    head x 9 1152 inb_S16x256x128_S1x256x128_9_0_0 inb_S256x4096_S256x128_0_1152,
    head x 8 1024 inb_S16x256x128_S1x256x128_8_0_0 inb_S256x4096_S256x128_0_1024,
    head x 7 896 inb_S16x256x128_S1x256x128_7_0_0 inb_S256x4096_S256x128_0_896,
    head x 6 768 inb_S16x256x128_S1x256x128_6_0_0 inb_S256x4096_S256x128_0_768,
    head x 5 640 inb_S16x256x128_S1x256x128_5_0_0 inb_S256x4096_S256x128_0_640,
    head x 4 512 inb_S16x256x128_S1x256x128_4_0_0 inb_S256x4096_S256x128_0_512,
    head x 3 384 inb_S16x256x128_S1x256x128_3_0_0 inb_S256x4096_S256x128_0_384,
    head x 2 256 inb_S16x256x128_S1x256x128_2_0_0 inb_S256x4096_S256x128_0_256,
    head x 1 128 inb_S16x256x128_S1x256x128_1_0_0 inb_S256x4096_S256x128_0_128,
    head x 0 0 inb_S16x256x128_S1x256x128_0_0_0 inb_S256x4096_S256x128_0_0]

/-- A head's rows and columns as loaded. -/
theorem head_ld (x : Vec F S16x256x128 .f32) (h : ℕ) (hh : h < 16) (inb : ∀ a, (![h, 0, 0] : Fin 3 → ℕ) a + (![1, 256, 128] : Fin 3 → ℕ) a ≤ S16x256x128.size a)
    (r : Fin 256) (q : Fin 128) :
    k0_pay7 (View.ld (Val := Elt F) (e' := .f32) x (Rect.unit ![h, 0, 0] ![1, 256, 128] inb)) (ix2 r q) = FloatOps.truncf .bf16 bitsLt_bf16_f32 (x (ix3 (⟨h, hh⟩ : Fin 16) r q)) := by
  pointwise [k0_pay7]

/-- The pooled columns as loaded. -/
theorem pool_ld (b : Vec F S256x2048 .f32) (r : Fin 256) (q : Fin 2048) : k0_pay2 b (ix2 r q) = FloatOps.truncf .bf16 bitsLt_bf16_f32 (b (ix2 r q)) := by
  pointwise [k0_pay2]

/-- A head's store is the mixed row's columns there. -/
theorem head_at (x : Vec F S16x256x128 .f32) (b : Vec F S256x2048 .f32) (h o : ℕ) (hh : h < 16) (ho : o = 128 * h) (inb inb')
    (z : S256x128.Idx) : (head x h o inb inb').2 z = mix x b ((head x h o inb inb').1.emb z) := by
  subst ho
  have h0 : (z 0).val < 256 := (z 0).isLt
  have h1 : (z 1).val < 128 := (z 1).isLt
  have e0 : (((head x h (128 * h) inb inb').1.emb z) 0).val = (z 0).val := by show 0 + 1 * (z 0).val = _; omega
  have e1 : (((head x h (128 * h) inb inb').1.emb z) 1).val = 128 * h + (z 1).val := by show 128 * h + 1 * (z 1).val = _; omega
  unfold mix
  rw [dif_pos (by rw [e1]; omega)]
  have ez : z = ix2 (⟨(z 0).val, h0⟩ : Fin 256) (⟨(z 1).val, h1⟩ : Fin 128) := by
    funext a; fin_cases a <;> rfl
  have hp : (head x h (128 * h) inb inb').2 z = FloatOps.truncf .bf16 bitsLt_bf16_f32 (x (ix3 (⟨h, hh⟩ : Fin 16) (⟨(z 0).val, h0⟩ : Fin 256) (⟨(z 1).val, h1⟩ : Fin 128))) := by
    exact (congrArg _ ez).trans (head_ld x h hh inb _ _)
  rw [hp]
  refine congrArg (fun i => FloatOps.truncf .bf16 bitsLt_bf16_f32 (x i)) (funext fun a => Fin.ext ?_)
  fin_cases a
  · show h = (((head x h (128 * h) inb inb').1.emb z) 1).val / 128; rw [e1]; omega
  · exact e0.symm
  · show (z 1).val = (((head x h (128 * h) inb inb').1.emb z) 1).val % 128; rw [e1]; omega

/-- What the stores leave, whatever was there before. -/
theorem read_laid {κ : Kind} {sp : Space} (v : View sig κ sp S256x4096 .bf16) (f : v.ty.Contents (Elt F)) (x : Vec F S16x256x128 .f32) (b : Vec F S256x2048 .f32) :
    v.read (Elt F) (v.writes (Elt F) f (laid x b)) = mix x b := by
  funext p
  refine View.read_writes_apply_of_pieces v f (mix x b) (laid x b) ?_ p ?_
  · intro pc hpc z
    simp only [laid, List.mem_cons, List.mem_nil_iff, or_false] at hpc
    rcases hpc with rfl | hpc
    · have h0 : (z 0).val < 256 := (z 0).isLt
      have h1 : (z 1).val < 2048 := (z 1).isLt
      have e1 : (((Rect.unit (s := S256x4096) ![0, 2048] ![256, 2048] inb_S256x4096_S256x2048_0_2048).emb z) 1).val = 2048 + (z 1).val := by
        show 2048 + 1 * (z 1).val = _; omega
      show k0_pay2 b z = mix x b ((Rect.unit (s := S256x4096) ![0, 2048] ![256, 2048] inb_S256x4096_S256x2048_0_2048).emb z)
      unfold mix
      rw [dif_neg (by rw [e1]; omega)]
      have hb : k0_pay2 b z = FloatOps.truncf .bf16 bitsLt_bf16_f32 (b z) := by
        have ez : z = ix2 (⟨(z 0).val, h0⟩ : Fin 256) (⟨(z 1).val, h1⟩ : Fin 2048) := by
          funext a; fin_cases a <;> rfl
        exact (congrArg (k0_pay2 b) ez).trans ((pool_ld b _ _).trans (congrArg (fun i => FloatOps.truncf .bf16 bitsLt_bf16_f32 (b i)) ez).symm)
      rw [hb]
      refine congrArg (fun i => FloatOps.truncf .bf16 bitsLt_bf16_f32 (b i)) (funext fun a => Fin.ext ?_)
      fin_cases a
      · show (z 0).val = 0 + 1 * (z 0).val; omega
      · show (z 1).val = (((Rect.unit (s := S256x4096) ![0, 2048] ![256, 2048] inb_S256x4096_S256x2048_0_2048).emb z) 1).val - 2048; rw [e1]; omega
    · rcases hpc with rfl | rfl | rfl | rfl | rfl | rfl | rfl | rfl | rfl | rfl | rfl | rfl | rfl | rfl | rfl | rfl
      all_goals exact head_at x b _ _ (by decide) rfl _ _ z
  · have h0 : (p 0).val < 256 := (p 0).isLt
    have h1 : (p 1).val < 4096 := (p 1).isLt
    simp only [laid, List.exists_mem_cons_iff, Rect.mem_set_unit, Fin.forall_fin_succ]
    simp
    omega

/-- A store into the `k`-th 1024 columns of a block of rows replaces them. -/
theorem read_put {κ : Kind} {sp : Space} (v : View sig κ sp S256x4096 .f32) (f : v.ty.Contents (Elt F)) (o k : ℕ) (ho : o = 1024 * k)
    (inb : ∀ a, (![0, o] : Fin 2 → ℕ) a + (![256, 1024] : Fin 2 → ℕ) a ≤ S256x4096.size a) (w : Vec F S256x1024 .f32) (L : List (View.Piece (Elt F) S256x4096 .f32)) :
    v.read (Elt F) (v.writes (Elt F) f (⟨Rect.unit ![0, o] ![256, 1024] inb, w⟩ :: L)) = put k w (v.read (Elt F) (v.writes (Elt F) f L)) := by
  funext p
  have h0 : (p 0).val < 256 := (p 0).isLt
  have h1 : (p 1).val < 4096 := (p 1).isLt
  unfold put
  split
  · next h =>
    refine View.read_writes_cons_unit_of_mem v f inb w L p _ rfl fun a => ?_
    fin_cases a
    · show (p 0).val = 0 + (p 0).val; omega
    · show (p 1).val = o + (p 1).val % 1024; omega
  · next h =>
    refine View.read_writes_cons_unit_of_not_mem v f inb w L p rfl (1 : Fin 2) ?_
    show (p 1).val < o ∨ o + 1024 ≤ (p 1).val; omega

/-- A load of the `k`-th 1024 columns. -/
theorem ld_cols (y : Vec F S256x4096 .f32) (o : ℕ) (k : Fin 4) (ho : o = 1024 * k.val)
    (inb : ∀ a, (![0, o] : Fin 2 → ℕ) a + (![256, 1024] : Fin 2 → ℕ) a ≤ S256x4096.size a) :
    View.ld (Val := Elt F) (e' := .f32) y (Rect.unit ![0, o] ![256, 1024] inb) = cols k y := by
  subst ho
  funext z
  refine congrArg y (funext fun a => Fin.ext ?_)
  fin_cases a
  · show 0 + 1 * (z 0).val = (z 0).val; omega
  · show 1024 * k.val + 1 * (z 1).val = 1024 * k.val + (z 1).val; omega

/-- Columns not replaced are as they were; columns replaced are the new ones. -/
theorem cols_put_ne (j : Fin 4) (k : ℕ) (h : j.val ≠ k) (w : Vec F S256x1024 .f32) (y : Vec F S256x4096 .f32) : cols j (put k w y) = cols j y := by
  funext z
  have h1 : (z 1).val < 1024 := (z 1).isLt
  unfold cols put
  rw [if_neg]
  show ¬ (1024 * j.val + (z 1).val) / 1024 = k
  omega
theorem cols_put (j : Fin 4) (w : Vec F S256x1024 .f32) (y : Vec F S256x4096 .f32) : cols j (put j.val w y) = w := by
  funext z
  have h1 : (z 1).val < 1024 := (z 1).isLt
  unfold cols put
  rw [if_pos (by show (1024 * j.val + (z 1).val) / 1024 = j.val; omega)]
  refine congrArg w (funext fun a => Fin.ext ?_)
  fin_cases a
  · rfl
  · show (1024 * j.val + (z 1).val) % 1024 = (z 1).val; omega

/-- The four column blocks scaled one after the other are the scaled rows. -/
theorem norm_eq (z : Vec F S256x4096 .f32) (g : Vec F S1x4096 .f32) (g' : Fin 4 → Vec F S1x1024 .f32)
    (hg : ∀ k (q : Fin 1024), g' k (ix2 (0 : Fin 1) q) = g (ix2 (0 : Fin 1) (⟨1024 * k.val + q.val, by omega⟩ : Fin 4096))) :
    put 3 (k0_pay4 (k0_pay22 (cols 0 z) (cols 1 z) (cols 2 z) (cols 3 z)) (cols 3 z) (g' 3))
      (put 2 (k0_pay4 (k0_pay22 (cols 0 z) (cols 1 z) (cols 2 z) (cols 3 z)) (cols 2 z) (g' 2))
        (put 1 (k0_pay4 (k0_pay22 (cols 0 z) (cols 1 z) (cols 2 z) (cols 3 z)) (cols 1 z) (g' 1))
          (put 0 (k0_pay4 (k0_pay22 (cols 0 z) (cols 1 z) (cols 2 z) (cols 3 z)) (cols 0 z) (g' 0)) z))) = norm z g := by
  have key : ∀ (k : Fin 4) (p : S256x4096.Idx), (p 1).val / 1024 = k.val →
      k0_pay4 (k0_pay22 (cols 0 z) (cols 1 z) (cols 2 z) (cols 3 z)) (cols k z) (g' k)
        (ix2 (⟨(p 0).val, (p 0).isLt⟩ : Fin 256) (⟨(p 1).val % 1024, Nat.mod_lt _ (by decide)⟩ : Fin 1024)) = norm z g p := by
    intro k p hp
    rw [pay4_at, hg]
    unfold norm
    have e1 : cols k z (ix2 (⟨(p 0).val, (p 0).isLt⟩ : Fin 256) (⟨(p 1).val % 1024, Nat.mod_lt _ (by decide)⟩ : Fin 1024)) = z p := by
      refine congrArg z (funext fun a => Fin.ext ?_)
      fin_cases a
      · rfl
      · show 1024 * k.val + (p 1).val % 1024 = (p 1).val; omega
    rw [e1]
    have e2 : (⟨1024 * k.val + (p 1).val % 1024, by omega⟩ : Fin 4096) = ⟨(p 1).val, (p 1).isLt⟩ := Fin.ext (by show 1024 * k.val + (p 1).val % 1024 = (p 1).val; omega)
    rw [← e2]
  funext p
  have h1 : (p 1).val < 4096 := (p 1).isLt
  simp only [put]
  obtain h | h | h | h : (p 1).val / 1024 = 0 ∨ (p 1).val / 1024 = 1 ∨ (p 1).val / 1024 = 2 ∨ (p 1).val / 1024 = 3 := by omega
  · rw [if_neg (by omega), if_neg (by omega), if_neg (by omega), if_pos h]; exact key 0 p h
  · rw [if_neg (by omega), if_neg (by omega), if_pos h]; exact key 1 p h
  · rw [if_neg (by omega), if_pos h]; exact key 2 p h
  · rw [if_pos h]; exact key 3 p h

/-- A load of the whole of a rank-2 buffer reads its contents. -/
theorem ld_whole {a b : ℕ} {e : EltTy} (x : (⟨2, ![a, b]⟩ : Shape).Idx → Elt F e)
    (inb : ∀ i, (![0, 0] : Fin 2 → ℕ) i + (![a, b] : Fin 2 → ℕ) i ≤ (⟨2, ![a, b]⟩ : Shape).size i) :
    View.ld (Val := Elt F) (S := ⟨2, ![a, b]⟩) (e' := e) x (Rect.unit ![0, 0] ![a, b] inb) = x :=
  View.ld_unit_zero (S := ⟨2, ![a, b]⟩) (by funext i; fin_cases i <;> rfl) inb x

theorem cols_inb (k : Fin 4) : ∀ a, (![0, 1024 * k.val] : Fin 2 → ℕ) a + (![1, 1024] : Fin 2 → ℕ) a ≤ S1x4096.size a := by
  intro a
  fin_cases a
  · show 0 + 1 ≤ 1; omega
  · show 1024 * k.val + 1024 ≤ 4096; omega

/-- A load of the `k`-th 1024 scales. -/
theorem scale_ld (g : Vec F S1x4096 .f32) (k : Fin 4) (q : Fin 1024) :
    View.ld (Val := Elt F) (e' := .f32) g (Rect.unit ![0, 1024 * k.val] ![1, 1024] (cols_inb k)) (ix2 (0 : Fin 1) q) = g (ix2 (0 : Fin 1) (⟨1024 * k.val + q.val, by omega⟩ : Fin 4096)) := by
  refine congrArg g (funext fun a => Fin.ext ?_)
  fin_cases a
  · rfl
  · show 1024 * k.val + 1 * q.val = 1024 * k.val + q.val; omega

/-- What was stored last over a block of columns is what is loaded from them. -/
theorem canon_last (w : Vec F S256x1024 .f32) :
    (fun j => View.canon (Val := Elt F) (e := .f32) [⟨Rect.unit (s := S256x4096) ![0, 3072] ![256, 1024] inb_S256x4096_S256x1024_0_3072, w⟩]
      ((Rect.unit (s := S256x4096) ![0, 3072] ![256, 1024] inb_S256x4096_S256x1024_0_3072).toLoadRect.idx j)) = w :=
  funext fun j => View.canon_cons_emb (Rect.unit (s := S256x4096) ![0, 3072] ![256, 1024] inb_S256x4096_S256x1024_0_3072) w [] j

/-- Stores over other columns change nothing of it. -/
theorem canon_kept (w₂ w₁ w₀ w : Vec F S256x1024 .f32) :
    (fun j => View.canon (Val := Elt F) (e := .f32) [⟨Rect.unit (s := S256x4096) ![0, 2048] ![256, 1024] inb_S256x4096_S256x1024_0_2048, w₂⟩,
        ⟨Rect.unit (s := S256x4096) ![0, 1024] ![256, 1024] inb_S256x4096_S256x1024_0_1024, w₁⟩, ⟨Rect.unit (s := S256x4096) ![0, 0] ![256, 1024] inb_S256x4096_S256x1024_0_0, w₀⟩,
        ⟨Rect.unit (s := S256x4096) ![0, 3072] ![256, 1024] inb_S256x4096_S256x1024_0_3072, w⟩]
      ((Rect.unit (s := S256x4096) ![0, 3072] ![256, 1024] inb_S256x4096_S256x1024_0_3072).toLoadRect.idx j)) = w := by
  funext j
  have out : ∀ (o : ℕ) (inb : ∀ a, (![0, o] : Fin 2 → ℕ) a + (![256, 1024] : Fin 2 → ℕ) a ≤ S256x4096.size a) (v : Vec F S256x1024 .f32) (L : List (View.Piece (Elt F) S256x4096 .f32)),
      o + 1024 ≤ 3072 →
      View.canon (Val := Elt F) (e := .f32) (⟨Rect.unit (s := S256x4096) ![0, o] ![256, 1024] inb, v⟩ :: L)
        ((Rect.unit (s := S256x4096) ![0, 3072] ![256, 1024] inb_S256x4096_S256x1024_0_3072).toLoadRect.idx j)
      = View.canon (Val := Elt F) (e := .f32) L ((Rect.unit (s := S256x4096) ![0, 3072] ![256, 1024] inb_S256x4096_S256x1024_0_3072).toLoadRect.idx j) := by
    intro o inb v L ho
    refine View.canon_cons_of_not_mem (⟨Rect.unit (s := S256x4096) ![0, o] ![256, 1024] inb, v⟩ : View.Piece (Elt F) S256x4096 .f32) L ?_
    intro h
    have h1 : 3072 + 1 * (j 1).val < o + 1024 := ((Rect.mem_set_unit (inb := inb)).1 h 1).2
    omega
  exact (out 2048 _ w₂ _ (by omega)).trans ((out 1024 _ w₁ _ (by omega)).trans ((out 0 _ w₀ _ (by omega)).trans (congrFun (canon_last w) j)))

section Runs

variable (c : Dev nD) (i : grid0.Coords) (arg2 : Memref sig .tc .vmem S16x256x128 .f32) (harg2 : arg2.IsWhole) (arg3 : Memref sig .tc .vmem S256x2048 .f32) (harg3 : arg3.IsWhole)
  (arg4 : Memref sig .tc .vmem S4096x1024 .bf16) (harg4 : arg4.IsWhole) (arg5 : Memref sig .tc .vmem S256x1024 .f32) (harg5 : arg5.IsWhole)
  (arg6 : Memref sig .tc .vmem S1x4096 .f32) (harg6 : arg6.IsWhole) (arg7 : Memref sig .tc .vmem S256x4096 .f32) (harg7 : arg7.IsWhole)
  (arg8 : Memref sig .tc .vmem S256x4096 .bf16) (harg8 : arg8.IsWhole)
  (x0 : Vec F S16x256x128 .f32) (x1 : Vec F S256x2048 .f32) (x2 : Vec F S4096x1024 .bf16) (x3 : Vec F S256x1024 .f32) (x4 : Vec F S1x4096 .f32)
  (y : Vec F S256x4096 .f32) (d : Vec F S256x4096 .bf16)

set_option maxHeartbeats 1000000 in
/-- The body at the second and third column blocks: the block goes to its columns of the rows. -/
theorem run_mid (hi : (i 1).val = 1 ∨ (i 1).val = 2) (K : PUnit → sProp 𝕄) :
    iprop(owns (c : Thread nD τ) arg4 fullShare x2 ∗ owns (c : Thread nD τ) arg5 fullShare x3 ∗ owns (c : Thread nD τ) arg7 fullShare y ∗ owns (c : Thread nD τ) arg8 fullShare d
        ∗ (iprop(owns (c : Thread nD τ) arg4 fullShare x2 ∗ owns (c : Thread nD τ) arg5 fullShare x3 ∗ owns (c : Thread nD τ) arg7 fullShare (put (i 1).val (k0_pay3 x3 d x2) y)
          ∗ owns (c : Thread nD τ) arg8 fullShare d) -∗ K ⟨⟩))
      ⊢ wp frame (wpE (defs₀ (F := F)) Variants.none c none) Set.univ (cc0_merge i arg2 harg2 arg3 harg3 arg4 harg4 arg5 harg5 arg6 harg6 arg7 harg7 arg8 harg8) K := by
  simp only [cc0_merge_eq_skeleton]; unfold cc0_merge_skel
  simp only [k0_part4_eq_skeleton]
  unfold owns
  iintro ⟨⟨%f2, %hf2, H2⟩, ⟨%f3, %hf3, H3⟩, ⟨%f5, %hf5, H5⟩, ⟨%f6, %hf6, H6⟩, Hk⟩
  obtain rfl := harg4.eq_unread hf2
  obtain rfl := harg5.eq_unread hf3
  obtain rfl := harg7.eq_unread hf5
  obtain rfl := harg8.eq_unread hf6
  have c1 : ¬ (Scalar.cmpi .ne (Scalar.extui (Scalar.cmpi .eq (BitVec.ofNat 32 (i 1).val) 0#32)) 0#32 = 1#1) := by rcases hi with hi | hi <;> rw [hi] <;> decide
  have c2 : ¬ (k0_cond2 i = 1#1) := by unfold k0_cond2; rcases hi with hi | hi <;> rw [hi] <;> decide
  have c5 : ¬ (k0_cond5 i = 1#1) := by unfold k0_cond5; rcases hi with hi | hi <;> rw [hi] <;> decide
  have c6 : ¬ (k0_cond6 i = 1#1) := by unfold k0_cond6; rcases hi with hi | hi <;> rw [hi] <;> decide
  rcases hi with hi | hi
  all_goals
    have c3 : k0_cond3 i = 1#1 ∨ ¬ (k0_cond3 i = 1#1) := Classical.em _
    have c4 : k0_cond4 i = 1#1 ∨ ¬ (k0_cond4 i = 1#1) := Classical.em _
    first
    | (replace c3 : k0_cond3 i = 1#1 := by unfold k0_cond3; rw [hi]; decide
       replace c4 : ¬ (k0_cond4 i = 1#1) := by unfold k0_cond4; rw [hi]; decide)
    | (replace c3 : ¬ (k0_cond3 i = 1#1) := by unfold k0_cond3; rw [hi]; decide
       replace c4 : k0_cond4 i = 1#1 := by unfold k0_cond4; rw [hi]; decide)
    sl_exec (disch := first | sl_exact c1 | sl_exact c2 | sl_exact c3 | sl_exact c4 | sl_exact c5 | sl_exact c6)
    sl_step
    iapply Hk
    isplitl [H2]
    · iexists _; isplitr; · ipureintro; exact harg4.read_unread _
      iexact H2
    isplitl [H3]
    · iexists _; isplitr; · ipureintro; exact harg5.read_unread _
      iexact H3
    isplitl [H5]
    · iexists _; isplitr; swap; · iexact H5
      ipureintro
      sl_unfold_words
      simp only [View.readAt_eq_ld, harg4.read_unread, harg5.read_unread, harg8.read_unread]
      refine (read_put arg7.view _ _ (i 1).val (by rw [hi]) _ _ _).trans ?_
      rw [View.writes_nil, harg7.read_unread, ld_whole, ld_whole, ld_whole]
    iexists _; isplitr; · ipureintro; exact harg8.read_unread _
    iexact H6

set_option maxHeartbeats 1000000 in
/-- The body at the last column block: the block goes to its columns of the rows, and the rows are scaled. -/
theorem run_last (hi : (i 1).val = 3) (K : PUnit → sProp 𝕄) :
    iprop(owns (c : Thread nD τ) arg4 fullShare x2 ∗ owns (c : Thread nD τ) arg5 fullShare x3 ∗ owns (c : Thread nD τ) arg6 fullShare x4 ∗ owns (c : Thread nD τ) arg7 fullShare y ∗ owns (c : Thread nD τ) arg8 fullShare d
        ∗ (iprop(owns (c : Thread nD τ) arg4 fullShare x2 ∗ owns (c : Thread nD τ) arg5 fullShare x3 ∗ owns (c : Thread nD τ) arg6 fullShare x4
          ∗ owns (c : Thread nD τ) arg7 fullShare (norm (put 3 (k0_pay3 x3 d x2) y) x4) ∗ owns (c : Thread nD τ) arg8 fullShare d) -∗ K ⟨⟩))
      ⊢ wp frame (wpE (defs₀ (F := F)) Variants.none c none) Set.univ (cc0_merge i arg2 harg2 arg3 harg3 arg4 harg4 arg5 harg5 arg6 harg6 arg7 harg7 arg8 harg8) K := by
  have c1 : ¬ (Scalar.cmpi .ne (Scalar.extui (Scalar.cmpi .eq (BitVec.ofNat 32 (i 1).val) 0#32)) 0#32 = 1#1) := by rw [hi]; decide
  have c2 : ¬ (k0_cond2 i = 1#1) := by unfold k0_cond2; rw [hi]; decide
  have c3 : ¬ (k0_cond3 i = 1#1) := by unfold k0_cond3; rw [hi]; decide
  have c4 : ¬ (k0_cond4 i = 1#1) := by unfold k0_cond4; rw [hi]; decide
  have c5 : k0_cond5 i = 1#1 := by unfold k0_cond5; rw [hi]; decide
  have c6 : k0_cond6 i = 1#1 := by unfold k0_cond6; rw [hi]; decide
  simp only [cc0_merge_eq_skeleton]; unfold cc0_merge_skel
  simp only [k0_part4_eq_skeleton]
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := harg4.eq_unread hf2
  obtain rfl := harg5.eq_unread hf3
  obtain rfl := harg6.eq_unread hf4
  obtain rfl := harg7.eq_unread hf5
  obtain rfl := harg8.eq_unread hf6
  sl_exec (disch := first | sl_exact c1 | sl_exact c2 | sl_exact c3 | sl_exact c4 | sl_exact c5 | sl_exact c6)
  sl_step
  iapply Hk
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_words
    simp only [View.readAt_eq_ld, harg4.read_unread, harg5.read_unread, harg6.read_unread, harg7.read_unread, harg8.read_unread, pay5_eq, pay6_eq, pay23_eq]
    rw [read_put arg7.view _ 3072 3 rfl, read_put arg7.view _ 2048 2 rfl, read_put arg7.view _ 1024 1 rfl, read_put arg7.view _ 0 0 rfl, read_put arg7.view _ 3072 3 rfl,
      View.writes_nil, harg7.read_unread]
    simp only [View.readCov_eq_canon', ld_whole]
    refine Eq.trans ?_ (norm_eq (put 3 (k0_pay3 x3 d x2) y) x4 (fun k => View.ld (Val := Elt F) (e' := .f32) x4 (Rect.unit ![0, 1024 * k.val] ![1, 1024] (cols_inb k))) (scale_ld x4))
    rw [ld_cols y 0 0 rfl, ld_cols y 1024 1 rfl, ld_cols y 2048 2 rfl, cols_put_ne 0 3 (by decide), cols_put_ne 1 3 (by decide), cols_put_ne 2 3 (by decide),
      show cols 3 (put 3 (k0_pay3 x3 d x2) y) = k0_pay3 x3 d x2 from cols_put 3 _ _]
    rw [canon_last, canon_kept]
    rfl
  iexists _; isplitr; · ipureintro; exact harg8.read_unread _
  iexact H6

set_option maxHeartbeats 1000000 in
/-- The body at the first column block: the mixed columns are laid side by side, then the block goes to its columns of the rows. -/
theorem run_first (hi : (i 1).val = 0) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg7 fullShare y ∗ owns (c : Thread nD τ) arg8 fullShare d
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg7 fullShare (put 0 (k0_pay3 x3 (mix x0 x1) x2) y) ∗ owns (c : Thread nD τ) arg8 fullShare (mix x0 x1)) -∗ K ⟨⟩))
      ⊢ wp frame (wpE (defs₀ (F := F)) Variants.none c none) Set.univ (cc0_merge i arg2 harg2 arg3 harg3 arg4 harg4 arg5 harg5 arg6 harg6 arg7 harg7 arg8 harg8) K := by
  have c1 : Scalar.cmpi .ne (Scalar.extui (Scalar.cmpi .eq (BitVec.ofNat 32 (i 1).val) 0#32)) 0#32 = 1#1 := by rw [hi]; decide
  have c2 : k0_cond2 i = 1#1 := by unfold k0_cond2; rw [hi]; decide
  have c3 : ¬ (k0_cond3 i = 1#1) := by unfold k0_cond3; rw [hi]; decide
  have c4 : ¬ (k0_cond4 i = 1#1) := by unfold k0_cond4; rw [hi]; decide
  have c5 : ¬ (k0_cond5 i = 1#1) := by unfold k0_cond5; rw [hi]; decide
  have c6 : ¬ (k0_cond6 i = 1#1) := by unfold k0_cond6; rw [hi]; decide
  simp only [cc0_merge_eq_skeleton]; unfold cc0_merge_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, Hk⟩
  obtain rfl := harg2.eq_unread hf0
  obtain rfl := harg3.eq_unread hf1
  obtain rfl := harg4.eq_unread hf2
  obtain rfl := harg5.eq_unread hf3
  obtain rfl := harg7.eq_unread hf5
  obtain rfl := harg8.eq_unread hf6
  sl_exec (disch := first | sl_exact c1 | sl_exact c2 | sl_exact c3 | sl_exact c4 | sl_exact c5 | sl_exact c6)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H5]
  · iexists _; isplitr; swap; · iexact H5
    ipureintro
    sl_unfold_words
    simp only [View.readAt_eq_ld, harg2.read_unread, harg3.read_unread, harg4.read_unread, harg5.read_unread, harg8.read_unread]
    refine (read_put arg7.view _ _ 0 rfl _ _ _).trans ?_
    rw [View.writes_nil, harg7.read_unread, ld_whole, ld_whole, ld_whole]
    have e : arg8.view.readCov (Val := Elt F) (laid x0 x1) (Rect.unit (s := S256x4096) ![0, 0] ![256, 4096] inb_S256x4096_S256x4096_0_0).toLoadRect = mix x0 x1 :=
      (congrArg (fun X => View.ld (Val := Elt F) (e' := .bf16) X (Rect.unit (s := S256x4096) ![0, 0] ![256, 4096] inb_S256x4096_S256x4096_0_0)) (read_laid arg8.view _ x0 x1)).trans (ld_whole _ _)
    exact congrArg (fun X => put 0 (k0_pay3 x3 X x2) y) e
  iexists _; isplitr; swap; · iexact H6
  ipureintro
  sl_unfold_words
  simp only [View.readAt_eq_ld, harg2.read_unread, harg3.read_unread, ld_whole]
  exact read_laid arg8.view _ x0 x1

end Runs

end Cert.Ms
end
-- ==== Proof.MsFrame.lean ====
module

public import proofs.«01_k».proof.Proof.MsRun
public import Idealize.ShloMosaic.Lib.Pipeline.ArrRel

@[expose] public section

set_option maxRecDepth 16384

noncomputable section

/-! # The output projection with its residual sum and final scaling: what every point leaves, and the run -/

namespace Cert.Ms

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch that holds the mixed columns. -/
abbrev scM : Memref sig .tc .vmem S256x4096 .bf16 := Memref.whole cc0_scratch0

/-- The scoped buffers that the pipeline does not stage: the scratch, and the generator's register. -/
theorem PhiA_eq (c : Dev nD) : (Pipeline.ΦA spec0 c : sProp 𝕄) = iprop(iprop(∃ d, owns (c : Thread nD τ) scM fullShare d) ∗ (∃ r, prngReg c r)) := by
  unfold Pipeline.ΦA
  rw [scopedRest0_eq]
  simp only [scM, owns_whole]
  try rfl

/-- The body table's row is the body. -/
theorem defs₀_row (t : Fin cfg0.N) : defs₀ (F := F) .tc cfg0.body (cfg0.bodyArgs t (cfg0.slots t)) = bodyAt0 t := by
  unfold defs₀
  rw [Defs.onTc_tc]

/-- The coordinates of a point: the row block and the column block. -/
theorem coords_eq : ∀ t : Fin grid0.N, ((grid0.coords t) 0).val = t.val / 4 ∧ ((grid0.coords t) 1).val = t.val % 4 := by decide +kernel

/-- The first point of the row block that point `k` works on. -/
def first (k : ℕ) : Fin cfg0.N := ⟨4 * (k / 4) % 4, lt_of_lt_of_eq (Nat.mod_lt _ (by decide)) N_0.symm⟩

theorem first_self (t : Fin cfg0.N) (h : t.val % 4 = 0) : first t.val = t := by
  have : t.val < 4 := lt_of_lt_of_eq t.isLt N_0
  refine Fin.ext ?_
  show 4 * (t.val / 4) % 4 = t.val
  omega

theorem first_succ (k : ℕ) (h : (k + 1) % 4 ≠ 0) : first (k + 1) = first k := by
  refine Fin.ext ?_
  show 4 * ((k + 1) / 4) % 4 = 4 * (k / 4) % 4
  omega

/-- The mixed columns of the row block that point `k` works on. -/
def mixAt (c : Dev nD) (k : ℕ) : Vec F S256x4096 .bf16 := mix (iblk m c 0 (first k)) (iblk m c 1 (first k))

/-- The column block that point `t` computes: the residual's block plus the product. -/
def blockAt (c : Dev nD) (t : Fin cfg0.N) : Vec F S256x1024 .f32 := k0_pay3 (iblk m c 3 t) (mixAt m c t.val) (iblk m c 2 t)

/-- What point `t` makes of the rows it finds. -/
def step (c : Dev nD) (t : Fin cfg0.N) (Y : Vec F S256x4096 .f32) : Vec F S256x4096 .f32 :=
  if t.val % 4 = 3 then norm (put 3 (blockAt m c t) Y) (iblk m c 4 t) else put (t.val % 4) (blockAt m c t) Y

/-- What a point leaves in each window's buffer, of what it finds there. -/
def left (c : Dev nD) : (w : Fin cfg0.W) → Fin cfg0.N → (Y X : (cfg0.win w).block.Idx → Elt F (cfg0.win w).elt) → Prop
  | 0 => fun _ Y X => X = Y
  | 1 => fun _ Y X => X = Y
  | 2 => fun _ Y X => X = Y
  | 3 => fun _ Y X => X = Y
  | 4 => fun _ Y X => X = Y
  | 5 => fun t Y X => X = step m c t Y

/-- What holds between points: past the first column block the scratch holds the mixed columns. -/
def between (c : Dev nD) (k : ℕ) : sProp 𝕄 :=
  iprop(iprop(∃ d, ⌜k % 4 ≠ 0 → d = mixAt m c k⌝ ∗ owns (c : Thread nD τ) scM fullShare d) ∗ (∃ r, prngReg c r))

/-- The proof's data. -/
def rdat (c : Dev nD) : RDat τ (Elt F) Unit ℕ (UR sig nD τ) ℕ cfg0 c where
  A w := V m c (Pipeline.arrRef spec0 w)
  after := left m c
  Φ k := between m c k.val
  q _ := fullShare
  owed _ := 0

/-- A window that is only read holds its block wherever the body finds it. -/
theorem finds_block0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rfl
theorem finds_block1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rfl
theorem finds_block2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rfl
theorem finds_block3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rfl
theorem finds_block4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk; rfl

/-- One point: whatever the rows' buffer holds, the point makes of it what `step` says. -/
theorem sound_point (c : Dev nD) (t : Fin cfg0.N) (Y : Vec F S256x4096 .f32) (R : sProp 𝕄) :
    iprop(between m c t.val ∗ R ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare Y)
      ⊢ wp frame (wpE (defs₀ (F := F)) Variants.none c none) Set.univ (bodyAt0 t) fun _ =>
        iprop(between m c (t.val + 1) ∗ R ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (step m c t Y)) := by
  have hc : ((grid0.coords t) 1).val = t.val % 4 := (coords_eq t).2
  unfold between
  iintro ⟨⟨⟨%d, %hd, HS⟩, Hp⟩, HR, H0, H1, H2, H3, H4, H5⟩
  obtain h | h | h : t.val % 4 = 0 ∨ (t.val % 4 = 1 ∨ t.val % 4 = 2) ∨ t.val % 4 = 3 := by omega
  · iapply (run_first (F := F) c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) scM (Memref.isWhole_whole _)
      (iblk m c 0 t) (iblk m c 1 t) (iblk m c 2 t) (iblk m c 3 t) Y d (hc.trans h) _)
    have e : mix (iblk m c 0 t) (iblk m c 1 t) = mixAt m c t.val := by unfold mixAt; rw [first_self t h]
    have es : step m c t Y = put 0 (k0_pay3 (iblk m c 3 t) (mix (iblk m c 0 t) (iblk m c 1 t)) (iblk m c 2 t)) Y := by
      unfold step blockAt; rw [if_neg (by omega), h, e]
    rw [es]
    isplitl [H0]; · iexact H0
    isplitl [H1]; · iexact H1
    isplitl [H2]; · iexact H2
    isplitl [H3]; · iexact H3
    isplitl [H5]; · iexact H5
    isplitl [HS]; · iexact HS
    iintro ⟨H0, H1, H2, H3, H5, HS⟩
    isplitl [HS Hp]
    · isplitl [HS]
      · iexists _
        isplitr; swap; · iexact HS
        ipureintro
        intro h'
        rw [e]; unfold mixAt; rw [first_succ _ h']
      iexact Hp
    isplitl [HR]; · iexact HR
    isplitl [H0]; · iexact H0
    isplitl [H1]; · iexact H1
    isplitl [H2]; · iexact H2
    isplitl [H3]; · iexact H3
    isplitl [H4]; · iexact H4
    iexact H5
  · obtain rfl := hd (by omega)
    iapply (run_mid (F := F) c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) scM (Memref.isWhole_whole _)
      (iblk m c 2 t) (iblk m c 3 t) Y (mixAt m c t.val) (by rw [hc]; exact h) _)
    have es : step m c t Y = put ((grid0.coords t) 1).val (k0_pay3 (iblk m c 3 t) (mixAt m c t.val) (iblk m c 2 t)) Y := by
      unfold step blockAt; rw [if_neg (by omega), hc]
    rw [es]
    isplitl [H2]; · iexact H2
    isplitl [H3]; · iexact H3
    isplitl [H5]; · iexact H5
    isplitl [HS]; · iexact HS
    iintro ⟨H2, H3, H5, HS⟩
    isplitl [HS Hp]
    · isplitl [HS]
      · iexists _
        isplitr; swap; · iexact HS
        ipureintro
        intro h'
        unfold mixAt; rw [first_succ _ h']
      iexact Hp
    isplitl [HR]; · iexact HR
    isplitl [H0]; · iexact H0
    isplitl [H1]; · iexact H1
    isplitl [H2]; · iexact H2
    isplitl [H3]; · iexact H3
    isplitl [H4]; · iexact H4
    iexact H5
  · obtain rfl := hd (by omega)
    iapply (run_last (F := F) c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) scM (Memref.isWhole_whole _)
      (iblk m c 2 t) (iblk m c 3 t) (iblk m c 4 t) Y (mixAt m c t.val) (hc.trans h) _)
    have es : step m c t Y = norm (put 3 (k0_pay3 (iblk m c 3 t) (mixAt m c t.val) (iblk m c 2 t)) Y) (iblk m c 4 t) := by
      unfold step blockAt; rw [if_pos h]
    rw [es]
    isplitl [H2]; · iexact H2
    isplitl [H3]; · iexact H3
    isplitl [H4]; · iexact H4
    isplitl [H5]; · iexact H5
    isplitl [HS]; · iexact HS
    iintro ⟨H2, H3, H4, H5, HS⟩
    isplitl [HS Hp]
    · isplitl [HS]
      · iexists _
        isplitr; swap; · iexact HS
        ipureintro
        intro h'
        omega
      iexact Hp
    isplitl [HR]; · iexact HR
    isplitl [H0]; · iexact H0
    isplitl [H1]; · iexact H1
    isplitl [H2]; · iexact H2
    isplitl [H3]; · iexact H3
    isplitl [H4]; · iexact H4
    iexact H5

/-- The body's obligation at every point. -/
theorem body_obligation (c : Dev nD) : (rdat (F := F) m c).BodyObligation (defs₀ (F := F)) Variants.none () Set.univ := fun t Y hY => by
  rw [bigSep_W0, bigSep_W0, defs₀_row]
  rw [finds_block0 m c t _ (hY 0), finds_block1 m c t _ (hY 1), finds_block2 m c t _ (hY 2), finds_block3 m c t _ (hY 3), finds_block4 m c t _ (hY 4)]
  refine triple_restated (sound_point m c t (Y 5) ((rdat (F := F) m c).owesAt () t.castSucc)) rfl .rfl fun _ => ?_
  show _ ⊢ iprop(between m c (t.val + 1) ∗ (rdat (F := F) m c).owesAt () t.castSucc ∗ _)
  iintro ⟨HΦ, Ho, H0, H1, H2, H3, H4, H5⟩
  isplitl [HΦ]; · iexact HΦ
  isplitl [Ho]; · iexact Ho
  isplitl [H0]; · iexists _; isplitr; swap; · iexact H0
                  ipureintro; exact rfl
  isplitl [H1]; · iexists _; isplitr; swap; · iexact H1
                  ipureintro; exact rfl
  isplitl [H2]; · iexists _; isplitr; swap; · iexact H2
                  ipureintro; exact rfl
  isplitl [H3]; · iexists _; isplitr; swap; · iexact H3
                  ipureintro; exact rfl
  isplitl [H4]; · iexists _; isplitr; swap; · iexact H4
                  ipureintro; exact rfl
  iexists _; isplitr; swap; · iexact H5
  ipureintro; exact rfl

set_option backward.isDefEq.respectTransparency.types false in
/-- The run: every core's arrays hold what the data say, the rest is as the region found it, and no semaphore is up. -/
theorem run : θ_run defs (onTc (τ := τ) (main (F := F))) (s₀ m ρ) (fun r => RDat.FramePost cfg0 (rdat (F := F) m) (V m) r ∧ r.2.sem = fun _ => 0) :=
  RDat.θ_run_frame_track cfgs 0 launch0 defs₀ Variants.none (rdat m) m ρ main (body_obligation m) (fun _ => RDat.share_full _ fun _ => rfl) (fun _ _ => rfl) (V m)
    (hmain m Variants.none) (fun _ _ => rfl)
    (fun c => by
      rw [PhiA_eq]
      show _ ⊢ between m c 0
      unfold between
      iintro ⟨⟨%d, H⟩, Hp⟩
      isplitl [H]
      · iexists _; isplitr; swap; · iexact H
        ipureintro
        intro h; exact absurd rfl h
      iexact Hp)
    (fun c => by
      rw [PhiA_eq]
      show between m c (Fin.last cfg0.N).val ⊢ _
      unfold between
      iintro ⟨⟨%d, %_, H⟩, Hp⟩
      isplitl [H]
      · iexists _; iexact H
      iexact Hp)
    _ (fun _ h => h)

/-- The arguments are untouched. -/
theorem args (c : Dev nD) (r : PUnit.{1} × MemSt nD τ sig (Elt F)) (h : RDat.FramePost cfg0 (rdat (F := F) m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(RDat.FramePost.arr_in h c 0 rfl).trans (V_main_arg0 m c),
    (RDat.FramePost.arr_in h c 1 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The arguments are untouched and no semaphore is up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => args m c r h.1, h.2⟩) (run m ρ)

end Cert.Ms

end
-- ==== Proof.MsRef.lean ====
/- The final scaling of the residual sum with the projected mixed columns, as the reference states it, read at an index. -/
module

public import proofs.«01_k».proof.Proof.Gen.Reference10Ideal.Read
public import Idealize.ShloMosaic.Lib.Pipeline.ValueKit

@[expose] public section

set_option maxRecDepth 16384

noncomputable section

namespace Cert.MsRef

open Idealize.ShloMosaic Cert.Reference10Ideal Cert.Reference10Ideal.Read

variable (x0 : FVec Ideal S16x256x128 .f32) (x1 : FVec Ideal S256x2048 .f32) (x2 : FVec Ideal S1x4096x4096 .f32) (x3 : FVec Ideal S32x8x4096 .f32) (x4 : FVec Ideal S4096 .f32)

/-- Column `k` of a row's mixed columns: a head's column, or a pooled one. -/
def mixed (r : Fin 256) (k : Fin 4096) : EReal :=
  if h : k.val < 2048 then x0 (ix3 (⟨k.val / 128, by omega⟩ : Fin 16) r (⟨k.val % 128, Nat.mod_lt _ (by decide)⟩ : Fin 128))
  else x1 (ix2 r (⟨k.val - 2048, by omega⟩ : Fin 2048))

/-- The residual plus the projected mixed columns. -/
def hidden (r : Fin 256) (q : Fin 4096) : EReal :=
  x3 (ix3 (⟨r.val / 8, by omega⟩ : Fin 32) (⟨r.val % 8, Nat.mod_lt _ (by decide)⟩ : Fin 8) q) + ∑ k : Fin 4096, mixed x0 x1 r k * x2 (ix3 (0 : Fin 1) k q)

/-- The row divided by its root mean square, times the column's scale. -/
def scaled (r : Fin 256) (q : Fin 4096) : EReal :=
  hidden x0 x1 x2 x3 r q
    * Ideal.rsqrt (Ideal.div (∑ k : Fin 4096, hidden x0 x1 x2 x3 r k * hidden x0 x1 x2 x3 r k) (FloatOps.ofBits (F := Ideal) .f32 0x45800000#32) + FloatOps.ofBits (F := Ideal) .f32 0x358637BD#32)
    * x4 (ix1 q)

/-- The reference's sum before scaling. -/
theorem hidden_at (r : Fin 256) (q : Fin 4096) :
    val_main_v6 (F := Ideal) x0 x1 x2 x3 (ix3 (⟨r.val / 8, by omega⟩ : Fin 32) (⟨r.val % 8, Nat.mod_lt _ (by decide)⟩ : Fin 8) q) = hidden x0 x1 x2 x3 r q := by
  pointwise [val_main_v6, val_main_v5, val_main_v4, val_main_v3, val_main_v2, val_main_v1, val_main_v0, hidden, mixed]

theorem scaled_at (r : Fin 256) (q : Fin 4096) : val_main_v20 (F := Ideal) x0 x1 x2 x3 x4 (ix2 r q) = scaled x0 x1 x2 x3 x4 r q := by
  pointwise [val_main_v20, val_main_v19, val_main_v18, val_main_v17, val_main_v16, val_main_v15, val_main_v14, val_main_v13, val_main_v12, val_main_v11, val_main_v10, val_main_v9, val_main_v8, val_main_v7, val_main_cst, val_main_cst_0, val_main_cst_1, scaled]
  simp only [hidden_at]

end Cert.MsRef

end
-- ==== Proof.MsValue.lean ====
/- The projected and scaled rows that the run leaves, read at an index. -/
module

public import proofs.«01_k».proof.Proof.MsFrame
public import proofs.«01_k».proof.Proof.MsRef

@[expose] public section

set_option maxRecDepth 16384

noncomputable section

namespace Cert.MsValue

open Idealize.ShloMosaic Idealize.ShloMosaic.TcCoe Idealize.SL.Sem Cert.Kernel10Ideal Cert.Kernel10Ideal.Gen Cert.Ms Cert.MsRef
open Idealize.ShloMosaic.Pipeline (RDat)

/-- The block of every window at a grid point. -/
theorem idx : ∀ t : Fin cfg0.N, win0_0.index t = ![0, t.val / 4, 0] ∧ win0_1.index t = ![t.val / 4, 0] ∧ win0_2.index t = ![0, t.val % 4]
    ∧ win0_3.index t = ![t.val / 4, t.val % 4] ∧ win0_4.index t = ![0, 0] ∧ win0_5.index t = ![t.val / 4, 0] :=
  (by decide +kernel : ∀ t : Fin grid0.N, _)

variable (m : (ℓ : Loc nD τ sig) → Buf (Elt Ideal) ℓ) (c : Dev nD)

/-- The arguments. -/
abbrev X0 : FVec Ideal S16x256x128 .f32 := m ((c : Thread nD τ).loc main_arg0)
abbrev X1 : FVec Ideal S256x2048 .f32 := m ((c : Thread nD τ).loc main_arg1)
abbrev X2 : FVec Ideal S1x4096x4096 .f32 := m ((c : Thread nD τ).loc main_arg2)
abbrev X3 : FVec Ideal S32x8x4096 .f32 := m ((c : Thread nD τ).loc main_arg3)
abbrev X4 : FVec Ideal S4096 .f32 := m ((c : Thread nD τ).loc main_arg4)

/-- A row's sum before scaling, and after. -/
abbrev HID (r : Fin 256) (q : Fin 4096) : EReal := hidden (X0 m c) (X1 m c) (X2 m c) (X3 m c) r q
def REF : S256x4096.Idx → EReal := fun p =>
  scaled (X0 m c) (X1 m c) (X2 m c) (X3 m c) (X4 m c) (⟨(p 0).val, (p 0).isLt⟩ : Fin 256) (⟨(p 1).val, (p 1).isLt⟩ : Fin 4096)

/-- The row of the array that row `p` of the block at point `t` is. -/
def row (t : Fin cfg0.N) (p : Fin 256) : Fin 256 := ⟨256 * (t.val / 4) + p.val, by have := lt_of_lt_of_eq t.isLt N_0; omega⟩

/-- A column block, read at an index. -/
theorem pay3_at (x : FVec Ideal S256x1024 .f32) (d : FVec Ideal S256x4096 .bf16) (w : FVec Ideal S4096x1024 .bf16) (p : Fin 256) (q : Fin 1024) :
    k0_pay3 (F := Ideal) x d w (ix2 p q) = x (ix2 p q) + ∑ k : Fin 4096, d (ix2 p k) * w (ix2 k q) := by
  pointwise [k0_pay3]

/-- The reciprocal root mean square of a row from its four column blocks. -/
theorem pay22_at (a b e f : FVec Ideal S256x1024 .f32) (p : Fin 256) :
    k0_pay22 (F := Ideal) a b e f (ix2 p (0 : Fin 1)) = Ideal.rsqrt (Ideal.div ((∑ k : Fin 1024, a (ix2 p k) * a (ix2 p k)) + (∑ k : Fin 1024, b (ix2 p k) * b (ix2 p k))
      + (∑ k : Fin 1024, e (ix2 p k) * e (ix2 p k)) + (∑ k : Fin 1024, f (ix2 p k) * f (ix2 p k))) (FloatOps.ofBits (F := Ideal) .f32 0x45800000#32) + FloatOps.ofBits (F := Ideal) .f32 0x358637BD#32) := by
  pointwise [k0_pay22]

/-- A sum over the columns is the sum over the four column blocks. -/
theorem sum_blocks (f : Fin 4096 → EReal) (S : Fin 4 → EReal) (hS : ∀ j : Fin 4, S j = ∑ q : Fin 1024, f (⟨1024 * j.val + q.val, by omega⟩)) :
    S 0 + S 1 + S 2 + S 3 = ∑ k : Fin 4096, f k := by
  rw [← Fin.sum_univ_four, ← (finProdFinEquiv (m := 4) (n := 1024)).sum_comp f, Fintype.sum_prod_type]
  refine Finset.sum_congr rfl fun j _ => (hS j).trans (Finset.sum_congr rfl fun q _ => congrArg f (Fin.ext ?_))
  simp [finProdFinEquiv]; omega

/-- The mixed columns at a point. -/
theorem mixAt_at (t : Fin cfg0.N) (p : Fin 256) (k : Fin 4096) : mixAt m c t.val (ix2 p k) = mixed (X0 m c) (X1 m c) (row t p) k := by
  have ht := lt_of_lt_of_eq t.isLt N_0
  have hf : (first t.val).val / 4 = t.val / 4 := by show (4 * (t.val / 4) % 4) / 4 = _; omega
  unfold mixAt mix mixed row
  by_cases h : k.val < 2048
  · refine (dif_pos (show ((ix2 p k : S256x4096.Idx) 1).val < 2048 from h)).trans ?_
    rw [dif_pos h]
    blk_point [iblk, V, idx (first t.val)]
  · refine (dif_neg (show ¬ ((ix2 p k : S256x4096.Idx) 1).val < 2048 from h)).trans ?_
    rw [dif_neg h]
    blk_point [iblk, V, idx (first t.val)]

/-- The column block at a point. -/
theorem blockAt_at (t : Fin cfg0.N) (p : Fin 256) (q : Fin 1024) :
    blockAt m c t (ix2 p q) = HID m c (row t p) ⟨1024 * (t.val % 4) + q.val, by omega⟩ := by
  have ht := lt_of_lt_of_eq t.isLt N_0
  unfold blockAt
  rw [pay3_at]
  simp only [mixAt_at]
  unfold HID Cert.MsRef.hidden
  congr 1
  · unfold row
    blk_point [iblk, V, idx t]
  · refine Finset.sum_congr rfl fun k _ => congrArg _ ?_
    blk_point [iblk, V, idx t]

/-- The scale of a column. -/
theorem scale_at (t : Fin cfg0.N) (q : Fin 4096) : iblk m c 4 t (ix2 (0 : Fin 1) q) = X4 m c (ix1 q) := by
  have ht := lt_of_lt_of_eq t.isLt N_0
  blk_point [iblk, V, idx t]

/-- Scaling, read at an index: the sum of squares runs over the whole row. -/
theorem norm_at (y : FVec Ideal S256x4096 .f32) (g : FVec Ideal S1x4096 .f32) (p : Fin 256) (q : Fin 4096) :
    norm (F := Ideal) y g (ix2 p q) = y (ix2 p q) * Ideal.rsqrt (Ideal.div (∑ k : Fin 4096, y (ix2 p k) * y (ix2 p k)) (FloatOps.ofBits (F := Ideal) .f32 0x45800000#32)
      + FloatOps.ofBits (F := Ideal) .f32 0x358637BD#32) * g (ix2 (0 : Fin 1) q) := by
  have h := pay22_at (cols (F := Ideal) 0 y) (cols (F := Ideal) 1 y) (cols (F := Ideal) 2 y) (cols (F := Ideal) 3 y) p
  have hs := sum_blocks (fun k => y (ix2 p k) * y (ix2 p k)) (fun j => ∑ q : Fin 1024, cols (F := Ideal) j y (ix2 p q) * cols (F := Ideal) j y (ix2 p q)) (fun _ => rfl)
  rw [hs] at h
  exact congrArg (fun z => y (ix2 p q) * z * g (ix2 (0 : Fin 1) q)) h

/-- The point `j` column blocks before `t`. -/
def back (t : Fin cfg0.N) (j : ℕ) : Fin cfg0.N := ⟨t.val - j, Nat.lt_of_le_of_lt (Nat.sub_le _ _) t.isLt⟩

/-- Past the first column block the rows found are what the point before made. -/
theorem found (t : Fin cfg0.N) (h : t.val % 4 ≠ 0) (Y) (hY : (rdat (F := Ideal) m c).Finds 5 t Y) :
    ∃ Y', (rdat (F := Ideal) m c).Finds 5 (back t 1) Y' ∧ Y = step m c (back t 1) Y' := by
  rcases ((rdat (F := Ideal) m c).finds_of_pos ((cfg0.win 5).fetch_out rfl t) (by omega) Y).mp hY with hf | ⟨Y', hY', hs⟩
  · have := (flush0_5 _).mp hf
    have e : (t.val - 1) % 4 = 3 := this
    omega
  · exact ⟨Y', hY', hs⟩

/-- What the last point of a row block leaves is the block's rows of the reference. -/
theorem left_rows (t : Fin cfg0.N) (h : t.val % 4 = 3) (X : FVec Ideal S256x4096 .f32) (hX : (rdat (F := Ideal) m c).Leaves 5 t X) (p : Fin 256) (q : Fin 4096) :
    X (ix2 p q) = scaled (X0 m c) (X1 m c) (X2 m c) (X3 m c) (X4 m c) (row t p) q := by
  obtain ⟨Y₂, h₂, e₃⟩ := hX
  obtain ⟨Y₁, h₁, e₂⟩ := found m c t (by omega) Y₂ h₂
  obtain ⟨Y₀, h₀, e₁⟩ := found m c (back t 1) (by show (t.val - 1) % 4 ≠ 0; omega) Y₁ h₁
  obtain ⟨Y, _, e₀⟩ := found m c (back (back t 1) 1) (by show (t.val - 1 - 1) % 4 ≠ 0; omega) Y₀ h₀
  have v₃ : (t.val - 1 - 1 - 1) % 4 = 0 := by omega
  have v₂ : (t.val - 1 - 1) % 4 = 1 := by omega
  have v₁ : (t.val - 1) % 4 = 2 := by omega
  have s₀ : Y₀ = put 0 (blockAt m c (back (back (back t 1) 1) 1)) Y := e₀.trans ((if_neg (show ¬ (t.val - 1 - 1 - 1) % 4 = 3 by omega)).trans (congrArg (fun n => put n _ _) v₃))
  have s₁ : Y₁ = put 1 (blockAt m c (back (back t 1) 1)) Y₀ := e₁.trans ((if_neg (show ¬ (t.val - 1 - 1) % 4 = 3 by omega)).trans (congrArg (fun n => put n _ _) v₂))
  have s₂ : Y₂ = put 2 (blockAt m c (back t 1)) Y₁ := e₂.trans ((if_neg (show ¬ (t.val - 1) % 4 = 3 by omega)).trans (congrArg (fun n => put n _ _) v₁))
  have s₃ : X = norm (put 3 (blockAt m c t) Y₂) (iblk m c 4 t) := (show X = step m c t Y₂ from e₃).trans (if_pos h)
  have rows : ∀ k : Fin 4096, (put 3 (blockAt m c t) Y₂ : FVec Ideal S256x4096 .f32) (ix2 p k) = HID m c (row t p) k := by
    intro k
    rw [s₂, s₁, s₀]
    have at_ : ∀ (u : Fin cfg0.N), u.val / 4 = t.val / 4 → u.val % 4 = k.val / 1024 →
        blockAt m c u (ix2 p (⟨k.val % 1024, Nat.mod_lt _ (by decide)⟩ : Fin 1024)) = HID m c (row t p) k := by
      intro u hu hk
      rw [blockAt_at]
      refine congrArg₂ (HID m c) (Fin.ext ?_) (Fin.ext ?_)
      · show 256 * (u.val / 4) + p.val = 256 * (t.val / 4) + p.val; rw [hu]
      · show 1024 * (u.val % 4) + k.val % 1024 = k.val; omega
    have hk := k.isLt
    obtain e | e | e | e : k.val / 1024 = 3 ∨ k.val / 1024 = 2 ∨ k.val / 1024 = 1 ∨ k.val / 1024 = 0 := by omega
    · exact (if_pos e).trans (at_ t rfl (by omega))
    · exact (if_neg (show ¬ k.val / 1024 = 3 by omega)).trans ((if_pos e).trans (at_ (back t 1) (by show (t.val - 1) / 4 = _; omega) (by show (t.val - 1) % 4 = _; omega)))
    · exact (if_neg (show ¬ k.val / 1024 = 3 by omega)).trans ((if_neg (show ¬ k.val / 1024 = 2 by omega)).trans ((if_pos e).trans
        (at_ (back (back t 1) 1) (by show (t.val - 1 - 1) / 4 = _; omega) (by show (t.val - 1 - 1) % 4 = _; omega))))
    · exact (if_neg (show ¬ k.val / 1024 = 3 by omega)).trans ((if_neg (show ¬ k.val / 1024 = 2 by omega)).trans ((if_neg (show ¬ k.val / 1024 = 1 by omega)).trans ((if_pos e).trans
        (at_ (back (back (back t 1) 1) 1) (by show (t.val - 1 - 1 - 1) / 4 = _; omega) (by show (t.val - 1 - 1 - 1) % 4 = _; omega)))))
  rw [s₃, norm_at, scale_at, rows]
  simp only [rows]
  rfl

/-- The array the run leaves is the reference's. -/
theorem final (r : PUnit.{1} × MemSt nD τ sig (Elt Ideal)) (h : RDat.FramePost cfg0 (rdat (F := Ideal) m) (V m) r) :
    r.2.mem ((c : Thread nD τ).loc main_v4) = REF m c := by
  obtain ⟨after, hl, ha⟩ := RDat.FramePost.exists_exact h c
  refine (ha 5).trans (((rdat (F := Ideal) m c).withAfter after).arrAt_eq_of_covers 5 _ (by decide +kernel) fun t hf y => ?_)
  have h3 := (flush0_5 t).mp hf
  have e := left_rows m c t h3 (after 5 t) (hl 5 t hf)
  blk_simp
  rw [RDat.withAfter_after]
  have ey : y = (ix2 (⟨(y 0).val, (y 0).isLt⟩ : Fin 256) (⟨(y 1).val, (y 1).isLt⟩ : Fin 4096) : S256x4096.Idx) := by
    funext a; fin_cases a <;> rfl
  refine (congrArg (after 5 t) ey).trans ((e _ _).trans ?_)
  unfold REF row
  blk_point [idx t]
  exact Fin.ext (by show 256 * (t.val / 4) + (y 0).val = t.val / 4 * 256 + (y 0).val; omega)

end Cert.MsValue

end
-- ==== Proof.MsClaim.lean ====
/- The claims about the output projection with its residual sum and final scaling. -/
module

public import proofs.«01_k».proof.Defs
public import proofs.«01_k».proof.Proof.Gen.Kernel10.Launch
public import proofs.«01_k».proof.Proof.Gen.Reference10Ideal.Run
public import proofs.«01_k».proof.Proof.MsValue

@[expose] public section

noncomputable section

namespace Cert.MsClaim

open Idealize.ShloMosaic Idealize.SL.Sem

variable {F : FTy → Type} [FloatOps F]

/-- The program and its ideal reading call one body. -/
theorem defs₀_eq : (Cert.Kernel10.defs₀ (F := F)) = Cert.Kernel10Ideal.defs₀ (F := F) := by
  unfold Cert.Kernel10.defs₀ Cert.Kernel10Ideal.defs₀
  refine congrArg (Defs.onTc (nD := Cert.Kernel10.nD) (τ := Cert.Kernel10.τ) (sig := Cert.Kernel10.sig) (Val := Elt F) (Λ := Cert.Kernel10.Λ₀)) ?_
  funext l a
  obtain ⟨n, hn⟩ := l
  match n, hn with
  | 0, _ => obtain ⟨t, s⟩ := a; rfl
  | n + 1, h => exact absurd h (Nat.not_lt.2 (Nat.le_add_left _ _))

/-- So their body tables are one. -/
theorem defs_eq : (Cert.Kernel10.defs (F := F)) = Cert.Kernel10Ideal.defs (F := F) := by
  unfold Cert.Kernel10.defs Cert.Kernel10Ideal.defs
  rw [defs₀_eq]; rfl

/-- The program leaves its arguments as launched and every semaphore at zero. -/
theorem frame_kernel : Cert.quiescent_Kernel10 := fun m ρ _ => by
  rw [defs_eq]; exact Cert.Ms.frame (F := Bits) m ρ

/-- The same of its ideal reading. -/
theorem frame_ideal : Cert.quiescent_Kernel10Ideal := fun m ρ _ => Cert.Ms.frame (F := Ideal) m ρ

/-- The reference runs and leaves its arguments as launched; it declares no semaphore. -/
theorem frame_reference : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- Kernel and reference leave the same rows. -/
theorem algebraic : Cert.algebraic_Kernel10Ideal_Reference10Ideal := by
  intro m g m' g' _ hargs
  refine ⟨fun c => Cert.MsValue.REF m c, ?_, ?_⟩
  · refine (θ_run Cert.Kernel10Ideal.defs _ _).mono (fun r h c => ⟨Cert.MsValue.final m c r h.1, Cert.Ms.args m c r h.1⟩) (Cert.Ms.run (F := Ideal) m g)
  · refine (θ_run Cert.Reference10Ideal.defs _ _).mono (fun r h c => ⟨(h c).1.trans ?_, (h c).2⟩) (Cert.Reference10Ideal.Value.run (F := Ideal) m' g')
    refine (Cert.Reference10Ideal.Read.val_main_v20_eq (F := Ideal) _ _ _ _ _).trans ?_
    obtain ⟨e0, e1, e2, e3, e4⟩ := hargs c
    rw [e0, e1, e2, e3, e4]
    funext p
    have ep : p = (ix2 (⟨(p 0).val, (p 0).isLt⟩ : Fin 256) (⟨(p 1).val, (p 1).isLt⟩ : Fin 4096) : Cert.Reference10Ideal.S256x4096.Idx) := by
      funext a; fin_cases a <;> rfl
    exact (congrArg _ ep).trans (Cert.MsRef.scaled_at _ _ _ _ _ _ _)

end Cert.MsClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_u
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.KValue
public import proofs.«01_k».proof.Proof.Finite
public import proofs.«01_k».proof.Proof.MergeClaim
public import proofs.«01_k».proof.Proof.ProjClaim
public import proofs.«01_k».proof.Proof.KvClaim
public import proofs.«01_k».proof.Proof.QiClaim
public import proofs.«01_k».proof.Proof.WkClaim
public import proofs.«01_k».proof.Proof.QClaim
public import proofs.«01_k».proof.Proof.GaClaim
public import proofs.«01_k».proof.Proof.GbClaim
public import proofs.«01_k».proof.Proof.MsClaim

@[expose] public section

noncomputable section

namespace Cert.Proof

open Idealize.ShloMosaic Idealize.SL.Sem Cert.Kernel

/-- The reference runs and leaves its arguments as launched; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same under the precondition. -/
theorem frame_reference_pre : Cert.quiescent_ReferenceIdeal_pre_finite_u := fun m ρ _ => frame_reference m ρ trivial

/-- The pooled mixing of kernel and reference agree where every entry of the pooled array is finite. -/
theorem algebraic : Cert.algebraic_KernelIdeal_ReferenceIdeal_pre_finite_u := by
  intro m g m' g' hpre hargs
  refine ⟨fun c => Cert.KValue.REF m c, ?_, ?_⟩
  · refine (θ_run Cert.KernelIdeal.defs _ _).mono (fun r h c => ⟨(h c).1.trans ?_, (h c).2⟩) (Cert.KernelIdeal.Value.run_blocks (F := Ideal) m g)
    exact Cert.KValue.final m c (Cert.Finite.of_pre _ _ _ _ (hpre c))
  · refine (θ_run Cert.ReferenceIdeal.defs _ _).mono (fun r h c => ⟨(h c).1.trans ?_, (h c).2⟩) (Cert.ReferenceIdeal.Value.run (F := Ideal) m' g')
    refine (Cert.ReferenceIdeal.Read.val_main_v176_eq (F := Ideal) _).trans ?_
    obtain ⟨e0, e1, e2, e3⟩ := hargs c
    dsimp only [Cert.KValue.REF, Cert.KValue.U]
    rw [← e0, ← e1, ← e2, ← e3]

/-- Everything the certificate claims. -/
theorem claim : Cert.Claim :=
  ⟨Cert.Kernel.Gen.facts, Cert.KernelIdeal.Gen.facts, Cert.ReferenceIdeal.Gen.facts, Cert.Kernel3.Gen.facts, Cert.Kernel3Ideal.Gen.facts, Cert.Reference3Ideal.Gen.facts,
    Cert.Kernel2.Gen.facts, Cert.Kernel2Ideal.Gen.facts, Cert.Reference2Ideal.Gen.facts, Cert.Kernel4.Gen.facts, Cert.Kernel4Ideal.Gen.facts, Cert.Reference4Ideal.Gen.facts,
    Cert.Kernel6.Gen.facts, Cert.Kernel6Ideal.Gen.facts, Cert.Reference6Ideal.Gen.facts,
    Cert.Kernel5.Gen.facts, Cert.Kernel5Ideal.Gen.facts, Cert.Reference5Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.Pre_finite_u.Gen.facts,
    fun m ρ _ => Cert.Kernel.Gen.frame m ρ, fun m ρ _ => Cert.KernelIdeal.Gen.frame m ρ, fun m ρ _ => Cert.KernelIdeal.Gen.frame m ρ,
    frame_reference, frame_reference_pre, MergeClaim.frame_kernel, MergeClaim.frame_ideal, MergeClaim.frame_reference,
    ProjClaim.frame_kernel, ProjClaim.frame_ideal, ProjClaim.frame_reference,
    KvClaim.frame_kernel, KvClaim.frame_ideal, KvClaim.frame_reference,
    QiClaim.frame_kernel, QiClaim.frame_ideal, QiClaim.frame_reference,
    WkClaim.frame_kernel, WkClaim.frame_ideal, WkClaim.frame_reference,
    QClaim.frame_kernel, QClaim.frame_ideal, QClaim.frame_reference,
    GaClaim.frame_kernel, GaClaim.frame_ideal, GaClaim.frame_reference,
    GbClaim.frame_kernel, GbClaim.frame_ideal, GbClaim.frame_reference,
    MsClaim.frame_kernel, MsClaim.frame_ideal, MsClaim.frame_reference,
    trivial, algebraic, trivial, MergeClaim.algebraic, trivial, ProjClaim.algebraic, trivial, KvClaim.algebraic, trivial, QiClaim.algebraic,
    trivial, WkClaim.algebraic, trivial, QClaim.algebraic, trivial, GaClaim.algebraic, trivial, GbClaim.algebraic, trivial, MsClaim.algebraic⟩

end Cert.Proof

end
